-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_forward [hPre_finite_forward : Cert.Pre_finite_forward.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_forward.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_forward [hPre_finite_forward : Cert.Pre_finite_forward.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_forward.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_forward [hKernel2Ideal : Cert.Kernel2Ideal.Facts] [hPre_finite_forward : Cert.Pre_finite_forward.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_forward m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_forward [hReference2Ideal : Cert.Reference2Ideal.Facts] [hPre_finite_forward : Cert.Pre_finite_forward.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_forward m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def preserves_Kernel_KernelIdeal : Prop :=
  IdealRules.named_const.Statement Cert.KernelIdeal.κ "scale2" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "scale2" .f32 0x3DD53B95#32 (((Real.sqrt 192)⁻¹ * (Real.log 2)⁻¹ : ℝ) : EReal)
  ∧ IdealRules.named_const.Statement Cert.Kernel2Ideal.κ "log2e" .f32 0x3FB8AA3B#32 (((Real.log 2)⁻¹ : ℝ) : EReal)

def algebraic_Kernel2Ideal_Reference2Ideal_pre_finite_forward [hKernel2Ideal : Cert.Kernel2Ideal.Facts] [hReference2Ideal : Cert.Reference2Ideal.Facts] [hPre_finite_forward : Cert.Pre_finite_forward.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_forward m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v14) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v38) = v0 c
          ∧ r.2.mem ((c.tc : Thread Cert.Reference10Ideal.nD Cert.Reference10Ideal.τ).loc Cert.Reference10Ideal.main_v21) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v49) = v0 c
          ∧ r.2.mem ((c.tc : Thread Cert.Reference11Ideal.nD Cert.Reference11Ideal.τ).loc Cert.Reference11Ideal.main_v32) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v34) = v0 c
          ∧ r.2.mem ((c.tc : Thread Cert.Reference12Ideal.nD Cert.Reference12Ideal.τ).loc Cert.Reference12Ideal.main_v35) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v51) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite_forward : Cert.Pre_finite_forward.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_forward (hKernel2Ideal := hKernel2Ideal) (hPre_finite_forward := hPre_finite_forward)
    ∧ quiescent_Reference2Ideal (hReference2Ideal := hReference2Ideal)
    ∧ quiescent_Reference2Ideal_pre_finite_forward (hReference2Ideal := hReference2Ideal) (hPre_finite_forward := hPre_finite_forward)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_forward (hKernel2Ideal := hKernel2Ideal) (hReference2Ideal := hReference2Ideal) (hPre_finite_forward := hPre_finite_forward)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S8x8192x256 : Shape := ⟨3, ![8, 8192, 256]⟩
abbrev S8192x1024 : Shape := ⟨2, ![8192, 1024]⟩
abbrev S_ : Shape := ⟨0, ![]⟩
abbrev S8x8192x128 : Shape := ⟨3, ![8, 8192, 128]⟩

class Facts : Prop where
  bitsLt_bf16_f32 : FTy.bits .bf16 < FTy.bits .f32
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel
  slices_S8x8192x256_S8x8192x128_0_0_0 : S8x8192x256.Slices ![0, 0, 0] S8x8192x128
  bcast_S_S8x8192x128 : S_.BroadcastsInDim S8x8192x128 (![] : Fin 0 → Fin S8x8192x128.rank)
  reducesTo_S8x8192x128_S_d0_1_2 : S8x8192x128.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg3 : FVec F S8192x1024 .bf16) (main_v17 : IVec S_ 1) : IVec S_ 1 :=
  let main_v18 : FVec F S8192x1024 .f32 := (extf .f32 · bitsLt_bf16_f32) main_arg3
  let main_v19 : FVec F S8192x1024 .f32 := Host.absf main_v18
  let main_cst_4 : FVec F S_ .f32 := constant S_ .f32 0x7F800000#32
  let main_v20 : FVec F S8192x1024 .f32 := broadcastInDim S8192x1024 ![] bcast_S_S8192x1024 main_cst_4
  let main_v21 : IVec S8192x1024 1 := cmpf .olt main_v19 main_v20
  let main_c_5 : IVec S_ 1 := constantI S_ 1 1#1
  let main_v22 : IVec S_ 1 := (fun x v => Host.reduce IntOp.andi x v reducesTo_S8192x1024_S_d0_1 h_S_) main_v21 main_c_5
  let main_v23 : IVec S_ 1 := andi main_v17 main_v22
  main_v23

def fn {F : FTy → Type} [FloatOps F] (main_arg0 : FVec F S8x8192x256 .bf16) (main_arg1 : FVec F S8x8192x256 .bf16) (main_arg2 : FVec F S8x8192x256 .bf16) (main_arg3 : FVec F S8192x1024 .bf16) : IVec S_ 1 :=
  let main_v0 : FVec F S8x8192x256 .f32 := (extf .f32 · bitsLt_bf16_f32) main_arg0
  let main_v1 : FVec F S8x8192x256 .f32 := Host.absf main_v0
  let main_cst : FVec F S_ .f32 := constant S_ .f32 0x7F800000#32
  let main_v2 : FVec F S8x8192x256 .f32 := broadcastInDim S8x8192x256 ![] bcast_S_S8x8192x256 main_cst
  let main_v3 : IVec S8x8192x256 1 := cmpf .olt main_v1 main_v2
  let main_c : IVec S_ 1 := constantI S_ 1 1#1
  let main_v4 : IVec S_ 1 := (fun x v => Host.reduce IntOp.andi x v reducesTo_S8x8192x256_S_d0_1_2 h_S_) main_v3 main_c
  let main_v5 : FVec F S8x8192x256 .f32 := (extf .f32 · bitsLt_bf16_f32) main_arg1
  let main_v6 : FVec F S8x8192x256 .f32 := Host.absf main_v5
  let main_cst_0 : FVec F S_ .f32 := constant S_ .f32 0x7F800000#32
  let main_v7 : FVec F S8x8192x256 .f32 := broadcastInDim S8x8192x256 ![] bcast_S_S8x8192x256 main_cst_0
  let main_v8 : IVec S8x8192x256 1 := cmpf .olt main_v6 main_v7
  let main_c_1 : IVec S_ 1 := constantI S_ 1 1#1
  let main_v9 : IVec S_ 1 := (fun x v => Host.reduce IntOp.andi x v reducesTo_S8x8192x256_S_d0_1_2 h_S_) main_v8 main_c_1
  let main_v10 : IVec S_ 1 := andi main_v4 main_v9
  let main_v11 : FVec F S8x8192x128 .bf16 := (extractStridedSlice S8x8192x128 ![0, 0, 0] · slices_S8x8192x256_S8x8192x128_0_0_0) main_arg2
  let main_v12 : FVec F S8x8192x128 .f32 := (extf .f32 · bitsLt_bf16_f32) main_v11
  let main_v13 : FVec F S8x8192x128 .f32 := Host.absf main_v12
  let main_cst_2 : FVec F S_ .f32 := constant S_ .f32 0x7F800000#32
  let main_v14 : FVec F S8x8192x128 .f32 := broadcastInDim S8x8192x128 ![] bcast_S_S8x8192x128 main_cst_2
  let main_v15 : IVec S8x8192x128 1 := cmpf .olt main_v13 main_v14
  let main_c_3 : IVec S_ 1 := constantI S_ 1 1#1
  let main_v16 : IVec S_ 1 := (fun x v => Host.reduce IntOp.andi x v reducesTo_S8x8192x128_S_d0_1_2 h_S_) main_v15 main_c_3
  let main_v17 : IVec S_ 1 := andi main_v10 main_v16
  fn_part1 (F := F) main_arg3 main_v17
-- ==== Pre_finite_forward.lean ====
abbrev S8x8192x256 : Shape := ⟨3, ![8, 8192, 256]⟩
abbrev S8x8192x128 : Shape := ⟨3, ![8, 8192, 128]⟩
abbrev S_ : Shape := ⟨0, ![]⟩

class Facts : Prop where
  bitsLt_bf16_f32 : FTy.bits .bf16 < FTy.bits .f32
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel

variable [Facts]

def fn {F : FTy → Type} [FloatOps F] (main_arg0 : FVec F S8x8192x256 .bf16) (main_arg1 : FVec F S8x8192x256 .bf16) (main_arg2 : FVec F S8x8192x128 .bf16) : IVec S_ 1 :=
  let main_v0 : FVec F S8x8192x256 .f32 := (extf .f32 · bitsLt_bf16_f32) main_arg0
  let main_v1 : FVec F S8x8192x256 .f32 := Host.absf main_v0
  let main_cst : FVec F S_ .f32 := constant S_ .f32 0x7F800000#32
  let main_v2 : FVec F S8x8192x256 .f32 := broadcastInDim S8x8192x256 ![] bcast_S_S8x8192x256 main_cst
  let main_v3 : IVec S8x8192x256 1 := cmpf .olt main_v1 main_v2
  let main_c : IVec S_ 1 := constantI S_ 1 1#1
  let main_v4 : IVec S_ 1 := (fun x v => Host.reduce IntOp.andi x v reducesTo_S8x8192x256_S_d0_1_2 h_S_) main_v3 main_c
  let main_v5 : FVec F S8x8192x256 .f32 := (extf .f32 · bitsLt_bf16_f32) main_arg1
  let main_v6 : FVec F S8x8192x256 .f32 := Host.absf main_v5
  let main_cst_0 : FVec F S_ .f32 := constant S_ .f32 0x7F800000#32
  let main_v7 : FVec F S8x8192x256 .f32 := broadcastInDim S8x8192x256 ![] bcast_S_S8x8192x256 main_cst_0
  let main_v8 : IVec S8x8192x256 1 := cmpf .olt main_v6 main_v7
  let main_c_1 : IVec S_ 1 := constantI S_ 1 1#1
  let main_v9 : IVec S_ 1 := (fun x v => Host.reduce IntOp.andi x v reducesTo_S8x8192x256_S_d0_1_2 h_S_) main_v8 main_c_1
  let main_v10 : IVec S_ 1 := andi main_v4 main_v9
  main_v10
-- ==== Kernel.lean ====
abbrev S8x8192x256 : Shape := ⟨3, ![8, 8192, 256]⟩
abbrev S8192x1024 : Shape := ⟨2, ![8192, 1024]⟩
abbrev S8x8192x128 : Shape := ⟨3, ![8, 8192, 128]⟩
abbrev S8x8192x8192 : Shape := ⟨3, ![8, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S_ : Shape := ⟨0, ![]⟩
abbrev S8x8192 : Shape := ⟨2, ![8, 8192]⟩
abbrev S8x8192x1 : Shape := ⟨3, ![8, 8192, 1]⟩
abbrev S8192x8x128 : Shape := ⟨3, ![8192, 8, 128]⟩
abbrev S8x16x1x512 : Shape := ⟨4, ![8, 16, 1, 512]⟩
abbrev S8x16x8x512 : Shape := ⟨4, ![8, 16, 8, 512]⟩
abbrev S8x16x256x512 : Shape := ⟨4, ![8, 16, 256, 512]⟩
abbrev S1x8192x256 : Shape := ⟨3, ![1, 8192, 256]⟩
abbrev S1x512x256 : Shape := ⟨3, ![1, 512, 256]⟩
abbrev S1x512x128 : Shape := ⟨3, ![1, 512, 128]⟩
abbrev S8192x128 : Shape := ⟨2, ![8192, 128]⟩
abbrev S1x16x8x512 : Shape := ⟨4, ![1, 16, 8, 512]⟩
abbrev S1x16x256x512 : Shape := ⟨4, ![1, 16, 256, 512]⟩
abbrev S512x256 : Shape := ⟨2, ![512, 256]⟩
abbrev S512x128 : Shape := ⟨2, ![512, 128]⟩
abbrev S256x512 : Shape := ⟨2, ![256, 512]⟩
abbrev S512x512 : Shape := ⟨2, ![512, 512]⟩
abbrev S1x1x1x512 : Shape := ⟨4, ![1, 1, 1, 512]⟩
abbrev S1x512 : Shape := ⟨2, ![1, 512]⟩
abbrev S1x1x256x512 : Shape := ⟨4, ![1, 1, 256, 512]⟩

abbrev nBuf : Space → Nat
  | .hbm => 56
  | .vmem => 18
  | .smem => 0
  | _ => 0

abbrev bufTy : (tb : Table) → Fin (tcTables nBuf tb) → BufTy
  | .hbm, ⟨0, _⟩ => ⟨S8x8192x256, .bf16⟩
  | .hbm, ⟨1, _⟩ => ⟨S8x8192x256, .bf16⟩
  | .hbm, ⟨2, _⟩ => ⟨S8x8192x256, .bf16⟩
  | .hbm, ⟨3, _⟩ => ⟨S8192x1024, .bf16⟩
  | .hbm, ⟨4, _⟩ => ⟨S8x8192x256, .f32⟩
  | .hbm, ⟨5, _⟩ => ⟨S8x8192x256, .f32⟩
  | .hbm, ⟨6, _⟩ => ⟨S8x8192x128, .bf16⟩
  | .hbm, ⟨7, _⟩ => ⟨S8x8192x128, .f32⟩
  | .hbm, ⟨8, _⟩ => ⟨S8192x1024, .f32⟩
  | .hbm, ⟨9, _⟩ => ⟨S8x8192x8192, .f32⟩
  | .hbm, ⟨10, _⟩ => ⟨S8192, .i32⟩
  | .hbm, ⟨11, _⟩ => ⟨S8192x1, .i32⟩
  | .hbm, ⟨12, _⟩ => ⟨S1x8192, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S1x8192x8192, .i1⟩
  | .hbm, ⟨17, _⟩ => ⟨S_, .f32⟩
  | .hbm, ⟨18, _⟩ => ⟨S_, .f32⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S_, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S8x8192x1, .f32⟩
  | .hbm, ⟨36, _⟩ => ⟨S8x8192x1, .f32⟩
  | .hbm, ⟨37, _⟩ => ⟨S_, .f32⟩
  | .hbm, ⟨38, _⟩ => ⟨S_, .f32⟩
  | .hbm, ⟨39, _⟩ => ⟨S8x8192x1, .f32⟩
  | .hbm, ⟨40, _⟩ => ⟨S8x8192x1, .f32⟩
  | .hbm, ⟨41, _⟩ => ⟨S8x8192x8192, .f32⟩
  | .hbm, ⟨42, _⟩ => ⟨S8x8192x8192, .f32⟩
  | .hbm, ⟨43, _⟩ => ⟨S8x8192x128, .f32⟩
  | .hbm, ⟨44, _⟩ => ⟨S8192x8x128, .f32⟩
  | .hbm, ⟨45, _⟩ => ⟨S8x8192x128, .f32⟩
  | .hbm, ⟨46, _⟩ => ⟨S8x8192x128, .f32⟩
  | .hbm, ⟨47, _⟩ => ⟨S_, .f32⟩
  | .hbm, ⟨48, _⟩ => ⟨S8x8192, .f32⟩
  | .hbm, ⟨49, _⟩ => ⟨S8x16x1x512, .f32⟩
  | .hbm, ⟨50, _⟩ => ⟨S8x16x8x512, .f32⟩
  | .hbm, ⟨51, _⟩ => ⟨S8x16x1x512, .f32⟩
  | .hbm, ⟨52, _⟩ => ⟨S8x16x8x512, .f32⟩
  | .hbm, ⟨53, _⟩ => ⟨S8x16x256x512, .f32⟩
  | .hbm, ⟨54, _⟩ => ⟨S8x8192x256, .f32⟩
  | .hbm, ⟨55, _⟩ => ⟨S8x8192x128, .f32⟩
  | .local _ .vmem, ⟨0, _⟩ => ⟨S1x8192x256, .bf16⟩
  | .local _ .vmem, ⟨1, _⟩ => ⟨S1x8192x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x128, .bf16⟩
  | .local _ .vmem, ⟨5, _⟩ => ⟨S1x512x128, .bf16⟩
  | .local _ .vmem, ⟨6, _⟩ => ⟨S8192x128, .bf16⟩
  | .local _ .vmem, ⟨7, _⟩ => ⟨S8192x128, .bf16⟩
  | .local _ .vmem, ⟨8, _⟩ => ⟨S1x16x8x512, .f32⟩
  | .local _ .vmem, ⟨9, _⟩ => ⟨S1x16x8x512, .f32⟩
  | .local _ .vmem, ⟨10, _⟩ => ⟨S1x16x8x512, .f32⟩
  | .local _ .vmem, ⟨11, _⟩ => ⟨S1x16x8x512, .f32⟩
  | .local _ .vmem, ⟨12, _⟩ => ⟨S1x16x256x512, .f32⟩
  | .local _ .vmem, ⟨13, _⟩ => ⟨S1x16x256x512, .f32⟩
  | .local _ .vmem, ⟨14, _⟩ => ⟨S1x512x256, .f32⟩
  | .local _ .vmem, ⟨15, _⟩ => ⟨S1x512x256, .f32⟩
  | .local _ .vmem, ⟨16, _⟩ => ⟨S1x512x128, .f32⟩
  | .local _ .vmem, ⟨17, _⟩ => ⟨S1x512x128, .f32⟩
  | _, _ => ⟨S8x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40_0 : Ref sig .tc := ⟨.hbm, 53, rfl⟩
abbrev main_v40_1 : Ref sig .tc := ⟨.hbm, 54, rfl⟩
abbrev main_v40_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v12 : BitVec 32 := Scalar.muli arg1 c512_i32
  v12
def k0_off1 (i : grid0.Coords) : Fin 3 → Nat :=
  let c0_13 : Index := 0#32
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  let c0_14 : Index := 0#32
  ![0, v14.toNat, 0]
def k0_off2 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v17 : Index := Scalar.indexCast v13
  let c0_15 : Index := 0#32
  ![v17.toNat, 0]
def k0_off3 (i : grid0.Coords) : Fin 4 → Nat :=
  let c0_18 : Index := 0#32
  let arg1 : BitVec 32 := BitVec.ofNat 32 (i 1).val
  let v22 : Index := Scalar.indexCast arg1
  let c0_19 : Index := 0#32
  let c0_20 : Index := 0#32
  ![0, v22.toNat, 0, 0]
def k0_off4 (i : grid0.Coords) : Fin 4 → Nat :=
  let c0_41 : Index := 0#32
  let arg1 : BitVec 32 := BitVec.ofNat 32 (i 1).val
  let v58 : Index := Scalar.indexCast arg1
  let c0_42 : Index := 0#32
  let c0_43 : Index := 0#32
  ![0, v58.toNat, 0, 0]
@[reducible] def k0_t1_loop (i : grid0.Coords) : Scf.Loop 32 :=
  let c0_i32_54 : BitVec 32 := 0#32
  let c15_i32 : BitVec 32 := 15#32
  let arg1 : BitVec 32 := BitVec.ofNat 32 (i 1).val
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v85 : BitVec 32 := Scalar.subi v84 c0_i32_54
  let c1_i32_55 : BitVec 32 := 1#32
  let v87 : BitVec 32 := Scalar.divsi v85 c1_i32_55
  let v88 : BitVec 32 := Scalar.muli v87 c1_i32_55
  let v89 : BitVec 32 := Scalar.addi c0_i32_54 v88
  let c1_i32_56 : BitVec 32 := 1#32
  ⟨c0_i32_54, v89, c1_i32_56⟩
def k0_mult2 (i : grid0.Coords) (k0_t1 : Fin (k0_t1_loop i).trips) : BitVec 32 :=
  let arg1 : BitVec 32 := BitVec.ofNat 32 (i 1).val
  let c1_i32_64 : BitVec 32 := 1#32
  let v98 : BitVec 32 := Scalar.addi arg1 c1_i32_64
  let c2_i32_65 : BitVec 32 := 2#32
  let c0_i32_54 : BitVec 32 := 0#32
  let c1_i32_56 : BitVec 32 := 1#32
  let arg11 : BitVec 32 := Scf.iv c0_i32_54 c1_i32_56 k0_t1
  let v99 : BitVec 32 := Scalar.muli c2_i32_65 arg11
  let v100 : BitVec 32 := Scalar.addi v98 v99
  let c512_i32_66 : BitVec 32 := 512#32
  let v101 : BitVec 32 := Scalar.muli v100 c512_i32_66
  v101
def k0_off5 (i : grid0.Coords) (k0_t1 : Fin (k0_t1_loop i).trips) (c1_i32_64 : BitVec 32) : Fin 3 → Nat :=
  let c0_67 : Index := 0#32
  let arg1 : BitVec 32 := BitVec.ofNat 32 (i 1).val
  let v98 : BitVec 32 := Scalar.addi arg1 c1_i32_64
  let c2_i32_65 : BitVec 32 := 2#32
  let c0_i32_54 : BitVec 32 := 0#32
  let c1_i32_56 : BitVec 32 := 1#32
  let arg11 : BitVec 32 := Scf.iv c0_i32_54 c1_i32_56 k0_t1
  let v99 : BitVec 32 := Scalar.muli c2_i32_65 arg11
  let v100 : BitVec 32 := Scalar.addi v98 v99
  let c512_i32_66 : BitVec 32 := 512#32
  let v101 : BitVec 32 := Scalar.muli v100 c512_i32_66
  let v102 : BitVec 32 := v101
  let v103 : Index := Scalar.indexCast v102
  let c0_68 : Index := 0#32
  ![0, v103.toNat, 0]
def k0_off6 (i : grid0.Coords) (k0_t1 : Fin (k0_t1_loop i).trips) (c1_i32_64 : BitVec 32) : Fin 2 → Nat :=
  let arg1 : BitVec 32 := BitVec.ofNat 32 (i 1).val
  let v98 : BitVec 32 := Scalar.addi arg1 c1_i32_64
  let c2_i32_65 : BitVec 32 := 2#32
  let c0_i32_54 : BitVec 32 := 0#32
  let c1_i32_56 : BitVec 32 := 1#32
  let arg11 : BitVec 32 := Scf.iv c0_i32_54 c1_i32_56 k0_t1
  let v99 : BitVec 32 := Scalar.muli c2_i32_65 arg11
  let v100 : BitVec 32 := Scalar.addi v98 v99
  let c512_i32_66 : BitVec 32 := 512#32
  let v101 : BitVec 32 := Scalar.muli v100 c512_i32_66
  let v102 : BitVec 32 := v101
  let v106 : Index := Scalar.indexCast v102
  let c0_69 : Index := 0#32
  ![v106.toNat, 0]
def k0_off7 (i : grid0.Coords) (k0_t1 : Fin (k0_t1_loop i).trips) (c1_i32_64 : BitVec 32) : Fin 4 → Nat :=
  let c0_72 : Index := 0#32
  let arg1 : BitVec 32 := BitVec.ofNat 32 (i 1).val
  let v98 : BitVec 32 := Scalar.addi arg1 c1_i32_64
  let c2_i32_65 : BitVec 32 := 2#32
  let c0_i32_54 : BitVec 32 := 0#32
  let c1_i32_56 : BitVec 32 := 1#32
  let arg11 : BitVec 32 := Scf.iv c0_i32_54 c1_i32_56 k0_t1
  let v99 : BitVec 32 := Scalar.muli c2_i32_65 arg11
  let v100 : BitVec 32 := Scalar.addi v98 v99
  let v111 : Index := Scalar.indexCast v100
  let c0_73 : Index := 0#32
  let c0_74 : Index := 0#32
  ![0, v111.toNat, 0, 0]
def k0_off8 (i : grid0.Coords) (k0_t1 : Fin (k0_t1_loop i).trips) (c1_i32_64 : BitVec 32) : Fin 4 → Nat :=
  let c0_94 : Index := 0#32
  let arg1 : BitVec 32 := BitVec.ofNat 32 (i 1).val
  let v98 : BitVec 32 := Scalar.addi arg1 c1_i32_64
  let c2_i32_65 : BitVec 32 := 2#32
  let c0_i32_54 : BitVec 32 := 0#32
  let c1_i32_56 : BitVec 32 := 1#32
  let arg11 : BitVec 32 := Scf.iv c0_i32_54 c1_i32_56 k0_t1
  let v99 : BitVec 32 := Scalar.muli c2_i32_65 arg11
  let v100 : BitVec 32 := Scalar.addi v98 v99
  let v142 : Index := Scalar.indexCast v100
  let c0_95 : Index := 0#32
  let c0_96 : Index := 0#32
  ![0, v142.toNat, 0, 0]
def k0_mult3 (i : grid0.Coords) (k0_t1 : Fin (k0_t1_loop i).trips) : BitVec 32 :=
  let arg1 : BitVec 32 := BitVec.ofNat 32 (i 1).val
  let c2_i32_101 : BitVec 32 := 2#32
  let v151 : BitVec 32 := Scalar.addi arg1 c2_i32_101
  let c2_i32_102 : BitVec 32 := 2#32
  let c0_i32_54 : BitVec 32 := 0#32
  let c1_i32_56 : BitVec 32 := 1#32
  let arg11 : BitVec 32 := Scf.iv c0_i32_54 c1_i32_56 k0_t1
  let v152 : BitVec 32 := Scalar.muli c2_i32_102 arg11
  let v153 : BitVec 32 := Scalar.addi v151 v152
  let c512_i32_103 : BitVec 32 := 512#32
  let v154 : BitVec 32 := Scalar.muli v153 c512_i32_103
  v154
@[reducible] def k0_t2_loop (i : grid0.Coords) : Scf.Loop 32 :=
  let c0_i32_54 : BitVec 32 := 0#32
  let c15_i32 : BitVec 32 := 15#32
  let arg1 : BitVec 32 := BitVec.ofNat 32 (i 1).val
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v85 : BitVec 32 := Scalar.subi v84 c0_i32_54
  let c1_i32_55 : BitVec 32 := 1#32
  let v87 : BitVec 32 := Scalar.divsi v85 c1_i32_55
  let v88 : BitVec 32 := Scalar.muli v87 c1_i32_55
  let v89 : BitVec 32 := Scalar.addi c0_i32_54 v88
  let v86 : BitVec 32 := Scalar.addi c0_i32_54 v85
  let c1_i32_57 : BitVec 32 := 1#32
  ⟨v89, v86, c1_i32_57⟩
def k0_mult4 (i : grid0.Coords) (k0_t2 : Fin (k0_t2_loop i).trips) : BitVec 32 :=
  let arg1 : BitVec 32 := BitVec.ofNat 32 (i 1).val
  let c1_i32_64 : BitVec 32 := 1#32
  let v98 : BitVec 32 := Scalar.addi arg1 c1_i32_64
  let c2_i32_65 : BitVec 32 := 2#32
  let c0_i32_54 : BitVec 32 := 0#32
  let c15_i32 : BitVec 32 := 15#32
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v85 : BitVec 32 := Scalar.subi v84 c0_i32_54
  let c1_i32_55 : BitVec 32 := 1#32
  let v87 : BitVec 32 := Scalar.divsi v85 c1_i32_55
  let v88 : BitVec 32 := Scalar.muli v87 c1_i32_55
  let v89 : BitVec 32 := Scalar.addi c0_i32_54 v88
  let c1_i32_57 : BitVec 32 := 1#32
  let arg11 : BitVec 32 := Scf.iv v89 c1_i32_57 k0_t2
  let v99 : BitVec 32 := Scalar.muli c2_i32_65 arg11
  let v100 : BitVec 32 := Scalar.addi v98 v99
  let c512_i32_66 : BitVec 32 := 512#32
  let v101 : BitVec 32 := Scalar.muli v100 c512_i32_66
  v101
def k0_off9 (i : grid0.Coords) (k0_t2 : Fin (k0_t2_loop i).trips) (c1_i32_64 : BitVec 32) : Fin 3 → Nat :=
  let c0_67 : Index := 0#32
  let arg1 : BitVec 32 := BitVec.ofNat 32 (i 1).val
  let v98 : BitVec 32 := Scalar.addi arg1 c1_i32_64
  let c2_i32_65 : BitVec 32 := 2#32
  let c0_i32_54 : BitVec 32 := 0#32
  let c15_i32 : BitVec 32 := 15#32
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v85 : BitVec 32 := Scalar.subi v84 c0_i32_54
  let c1_i32_55 : BitVec 32 := 1#32
  let v87 : BitVec 32 := Scalar.divsi v85 c1_i32_55
  let v88 : BitVec 32 := Scalar.muli v87 c1_i32_55
  let v89 : BitVec 32 := Scalar.addi c0_i32_54 v88
  let c1_i32_57 : BitVec 32 := 1#32
  let arg11 : BitVec 32 := Scf.iv v89 c1_i32_57 k0_t2
  let v99 : BitVec 32 := Scalar.muli c2_i32_65 arg11
  let v100 : BitVec 32 := Scalar.addi v98 v99
  let c512_i32_66 : BitVec 32 := 512#32
  let v101 : BitVec 32 := Scalar.muli v100 c512_i32_66
  let v102 : BitVec 32 := v101
  let v103 : Index := Scalar.indexCast v102
  let c0_68 : Index := 0#32
  ![0, v103.toNat, 0]
def k0_off10 (i : grid0.Coords) (k0_t2 : Fin (k0_t2_loop i).trips) (c1_i32_64 : BitVec 32) : Fin 2 → Nat :=
  let arg1 : BitVec 32 := BitVec.ofNat 32 (i 1).val
  let v98 : BitVec 32 := Scalar.addi arg1 c1_i32_64
  let c2_i32_65 : BitVec 32 := 2#32
  let c0_i32_54 : BitVec 32 := 0#32
  let c15_i32 : BitVec 32 := 15#32
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v85 : BitVec 32 := Scalar.subi v84 c0_i32_54
  let c1_i32_55 : BitVec 32 := 1#32
  let v87 : BitVec 32 := Scalar.divsi v85 c1_i32_55
  let v88 : BitVec 32 := Scalar.muli v87 c1_i32_55
  let v89 : BitVec 32 := Scalar.addi c0_i32_54 v88
  let c1_i32_57 : BitVec 32 := 1#32
  let arg11 : BitVec 32 := Scf.iv v89 c1_i32_57 k0_t2
  let v99 : BitVec 32 := Scalar.muli c2_i32_65 arg11
  let v100 : BitVec 32 := Scalar.addi v98 v99
  let c512_i32_66 : BitVec 32 := 512#32
  let v101 : BitVec 32 := Scalar.muli v100 c512_i32_66
  let v102 : BitVec 32 := v101
  let v106 : Index := Scalar.indexCast v102
  let c0_69 : Index := 0#32
  ![v106.toNat, 0]
def k0_off11 (i : grid0.Coords) (k0_t2 : Fin (k0_t2_loop i).trips) (c1_i32_64 : BitVec 32) : Fin 4 → Nat :=
  let c0_72 : Index := 0#32
  let arg1 : BitVec 32 := BitVec.ofNat 32 (i 1).val
  let v98 : BitVec 32 := Scalar.addi arg1 c1_i32_64
  let c2_i32_65 : BitVec 32 := 2#32
  let c0_i32_54 : BitVec 32 := 0#32
  let c15_i32 : BitVec 32 := 15#32
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v85 : BitVec 32 := Scalar.subi v84 c0_i32_54
  let c1_i32_55 : BitVec 32 := 1#32
  let v87 : BitVec 32 := Scalar.divsi v85 c1_i32_55
  let v88 : BitVec 32 := Scalar.muli v87 c1_i32_55
  let v89 : BitVec 32 := Scalar.addi c0_i32_54 v88
  let c1_i32_57 : BitVec 32 := 1#32
  let arg11 : BitVec 32 := Scf.iv v89 c1_i32_57 k0_t2
  let v99 : BitVec 32 := Scalar.muli c2_i32_65 arg11
  let v100 : BitVec 32 := Scalar.addi v98 v99
  let v111 : Index := Scalar.indexCast v100
  let c0_73 : Index := 0#32
  let c0_74 : Index := 0#32
  ![0, v111.toNat, 0, 0]
def k0_off12 (i : grid0.Coords) (k0_t2 : Fin (k0_t2_loop i).trips) (c1_i32_64 : BitVec 32) : Fin 4 → Nat :=
  let c0_94 : Index := 0#32
  let arg1 : BitVec 32 := BitVec.ofNat 32 (i 1).val
  let v98 : BitVec 32 := Scalar.addi arg1 c1_i32_64
  let c2_i32_65 : BitVec 32 := 2#32
  let c0_i32_54 : BitVec 32 := 0#32
  let c15_i32 : BitVec 32 := 15#32
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v85 : BitVec 32 := Scalar.subi v84 c0_i32_54
  let c1_i32_55 : BitVec 32 := 1#32
  let v87 : BitVec 32 := Scalar.divsi v85 c1_i32_55
  let v88 : BitVec 32 := Scalar.muli v87 c1_i32_55
  let v89 : BitVec 32 := Scalar.addi c0_i32_54 v88
  let c1_i32_57 : BitVec 32 := 1#32
  let arg11 : BitVec 32 := Scf.iv v89 c1_i32_57 k0_t2
  let v99 : BitVec 32 := Scalar.muli c2_i32_65 arg11
  let v100 : BitVec 32 := Scalar.addi v98 v99
  let v142 : Index := Scalar.indexCast v100
  let c0_95 : Index := 0#32
  let c0_96 : Index := 0#32
  ![0, v142.toNat, 0, 0]
def k0_mult5 (i : grid0.Coords) (k0_t2 : Fin (k0_t2_loop i).trips) : BitVec 32 :=
  let arg1 : BitVec 32 := BitVec.ofNat 32 (i 1).val
  let c2_i32_101 : BitVec 32 := 2#32
  let v151 : BitVec 32 := Scalar.addi arg1 c2_i32_101
  let c2_i32_102 : BitVec 32 := 2#32
  let c0_i32_54 : BitVec 32 := 0#32
  let c15_i32 : BitVec 32 := 15#32
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v85 : BitVec 32 := Scalar.subi v84 c0_i32_54
  let c1_i32_55 : BitVec 32 := 1#32
  let v87 : BitVec 32 := Scalar.divsi v85 c1_i32_55
  let v88 : BitVec 32 := Scalar.muli v87 c1_i32_55
  let v89 : BitVec 32 := Scalar.addi c0_i32_54 v88
  let c1_i32_57 : BitVec 32 := 1#32
  let arg11 : BitVec 32 := Scf.iv v89 c1_i32_57 k0_t2
  let v152 : BitVec 32 := Scalar.muli c2_i32_102 arg11
  let v153 : BitVec 32 := Scalar.addi v151 v152
  let c512_i32_103 : BitVec 32 := 512#32
  let v154 : BitVec 32 := Scalar.muli v153 c512_i32_103
  v154
@[reducible] def k0_t3_loop (i : grid0.Coords) : Scf.Loop 32 :=
  let arg1 : BitVec 32 := BitVec.ofNat 32 (i 1).val
  let c1_i32_58 : BitVec 32 := 1#32
  let v90 : BitVec 32 := Scalar.addi arg1 c1_i32_58
  let c2_i32_59 : BitVec 32 := 2#32
  let c15_i32 : BitVec 32 := 15#32
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v91 : BitVec 32 := Scalar.muli c2_i32_59 v84
  let v92 : BitVec 32 := Scalar.addi v90 v91
  let c16_i32 : BitVec 32 := 16#32
  let v93 : BitVec 32 := Scalar.subi c16_i32 v92
  let c1_i32_61 : BitVec 32 := 1#32
  let v95 : BitVec 32 := Scalar.divsi v93 c1_i32_61
  let v96 : BitVec 32 := Scalar.muli v95 c1_i32_61
  let v97 : BitVec 32 := Scalar.addi v92 v96
  let c1_i32_62 : BitVec 32 := 1#32
  ⟨v92, v97, c1_i32_62⟩
def k0_mult6 (i : grid0.Coords) (k0_t3 : Fin (k0_t3_loop i).trips) : BitVec 32 :=
  let arg1 : BitVec 32 := BitVec.ofNat 32 (i 1).val
  let c1_i32_58 : BitVec 32 := 1#32
  let v90 : BitVec 32 := Scalar.addi arg1 c1_i32_58
  let c2_i32_59 : BitVec 32 := 2#32
  let c15_i32 : BitVec 32 := 15#32
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v91 : BitVec 32 := Scalar.muli c2_i32_59 v84
  let v92 : BitVec 32 := Scalar.addi v90 v91
  let c1_i32_62 : BitVec 32 := 1#32
  let arg11 : BitVec 32 := Scf.iv v92 c1_i32_62 k0_t3
  let c512_i32_64 : BitVec 32 := 512#32
  let v98 : BitVec 32 := Scalar.muli arg11 c512_i32_64
  v98
def k0_off13 (i : grid0.Coords) (k0_t3 : Fin (k0_t3_loop i).trips) : Fin 3 → Nat :=
  let c0_65 : Index := 0#32
  let arg1 : BitVec 32 := BitVec.ofNat 32 (i 1).val
  let c1_i32_58 : BitVec 32 := 1#32
  let v90 : BitVec 32 := Scalar.addi arg1 c1_i32_58
  let c2_i32_59 : BitVec 32 := 2#32
  let c15_i32 : BitVec 32 := 15#32
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v91 : BitVec 32 := Scalar.muli c2_i32_59 v84
  let v92 : BitVec 32 := Scalar.addi v90 v91
  let c1_i32_62 : BitVec 32 := 1#32
  let arg11 : BitVec 32 := Scf.iv v92 c1_i32_62 k0_t3
  let c512_i32_64 : BitVec 32 := 512#32
  let v98 : BitVec 32 := Scalar.muli arg11 c512_i32_64
  let v99 : BitVec 32 := v98
  let v100 : Index := Scalar.indexCast v99
  let c0_66 : Index := 0#32
  ![0, v100.toNat, 0]
def k0_off14 (i : grid0.Coords) (k0_t3 : Fin (k0_t3_loop i).trips) : Fin 2 → Nat :=
  let arg1 : BitVec 32 := BitVec.ofNat 32 (i 1).val
  let c1_i32_58 : BitVec 32 := 1#32
  let v90 : BitVec 32 := Scalar.addi arg1 c1_i32_58
  let c2_i32_59 : BitVec 32 := 2#32
  let c15_i32 : BitVec 32 := 15#32
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v91 : BitVec 32 := Scalar.muli c2_i32_59 v84
  let v92 : BitVec 32 := Scalar.addi v90 v91
  let c1_i32_62 : BitVec 32 := 1#32
  let arg11 : BitVec 32 := Scf.iv v92 c1_i32_62 k0_t3
  let c512_i32_64 : BitVec 32 := 512#32
  let v98 : BitVec 32 := Scalar.muli arg11 c512_i32_64
  let v99 : BitVec 32 := v98
  let v103 : Index := Scalar.indexCast v99
  let c0_67 : Index := 0#32
  ![v103.toNat, 0]
def k0_off15 (i : grid0.Coords) (k0_t3 : Fin (k0_t3_loop i).trips) : Fin 4 → Nat :=
  let c0_70 : Index := 0#32
  let arg1 : BitVec 32 := BitVec.ofNat 32 (i 1).val
  let c1_i32_58 : BitVec 32 := 1#32
  let v90 : BitVec 32 := Scalar.addi arg1 c1_i32_58
  let c2_i32_59 : BitVec 32 := 2#32
  let c15_i32 : BitVec 32 := 15#32
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v91 : BitVec 32 := Scalar.muli c2_i32_59 v84
  let v92 : BitVec 32 := Scalar.addi v90 v91
  let c1_i32_62 : BitVec 32 := 1#32
  let arg11 : BitVec 32 := Scf.iv v92 c1_i32_62 k0_t3
  let v108 : Index := Scalar.indexCast arg11
  let c0_71 : Index := 0#32
  let c0_72 : Index := 0#32
  ![0, v108.toNat, 0, 0]
def k0_off16 (i : grid0.Coords) (k0_t3 : Fin (k0_t3_loop i).trips) : Fin 4 → Nat :=
  let c0_92 : Index := 0#32
  let arg1 : BitVec 32 := BitVec.ofNat 32 (i 1).val
  let c1_i32_58 : BitVec 32 := 1#32
  let v90 : BitVec 32 := Scalar.addi arg1 c1_i32_58
  let c2_i32_59 : BitVec 32 := 2#32
  let c15_i32 : BitVec 32 := 15#32
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v91 : BitVec 32 := Scalar.muli c2_i32_59 v84
  let v92 : BitVec 32 := Scalar.addi v90 v91
  let c1_i32_62 : BitVec 32 := 1#32
  let arg11 : BitVec 32 := Scf.iv v92 c1_i32_62 k0_t3
  let v139 : Index := Scalar.indexCast arg11
  let c0_93 : Index := 0#32
  let c0_94 : Index := 0#32
  ![0, v139.toNat, 0, 0]
@[reducible] def k0_t4_loop (i : grid0.Coords) : Scf.Loop 32 :=
  let arg1 : BitVec 32 := BitVec.ofNat 32 (i 1).val
  let c1_i32_58 : BitVec 32 := 1#32
  let v90 : BitVec 32 := Scalar.addi arg1 c1_i32_58
  let c2_i32_59 : BitVec 32 := 2#32
  let c15_i32 : BitVec 32 := 15#32
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v91 : BitVec 32 := Scalar.muli c2_i32_59 v84
  let v92 : BitVec 32 := Scalar.addi v90 v91
  let c16_i32 : BitVec 32 := 16#32
  let v93 : BitVec 32 := Scalar.subi c16_i32 v92
  let c1_i32_61 : BitVec 32 := 1#32
  let v95 : BitVec 32 := Scalar.divsi v93 c1_i32_61
  let v96 : BitVec 32 := Scalar.muli v95 c1_i32_61
  let v97 : BitVec 32 := Scalar.addi v92 v96
  let v94 : BitVec 32 := Scalar.addi v92 v93
  let c1_i32_63 : BitVec 32 := 1#32
  ⟨v97, v94, c1_i32_63⟩
def k0_mult7 (i : grid0.Coords) (k0_t4 : Fin (k0_t4_loop i).trips) : BitVec 32 :=
  let arg1 : BitVec 32 := BitVec.ofNat 32 (i 1).val
  let c1_i32_58 : BitVec 32 := 1#32
  let v90 : BitVec 32 := Scalar.addi arg1 c1_i32_58
  let c2_i32_59 : BitVec 32 := 2#32
  let c15_i32 : BitVec 32 := 15#32
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v91 : BitVec 32 := Scalar.muli c2_i32_59 v84
  let v92 : BitVec 32 := Scalar.addi v90 v91
  let c16_i32 : BitVec 32 := 16#32
  let v93 : BitVec 32 := Scalar.subi c16_i32 v92
  let c1_i32_61 : BitVec 32 := 1#32
  let v95 : BitVec 32 := Scalar.divsi v93 c1_i32_61
  let v96 : BitVec 32 := Scalar.muli v95 c1_i32_61
  let v97 : BitVec 32 := Scalar.addi v92 v96
  let c1_i32_63 : BitVec 32 := 1#32
  let arg11 : BitVec 32 := Scf.iv v97 c1_i32_63 k0_t4
  let c512_i32_64 : BitVec 32 := 512#32
  let v98 : BitVec 32 := Scalar.muli arg11 c512_i32_64
  v98
def k0_off17 (i : grid0.Coords) (k0_t4 : Fin (k0_t4_loop i).trips) : Fin 3 → Nat :=
  let c0_65 : Index := 0#32
  let arg1 : BitVec 32 := BitVec.ofNat 32 (i 1).val
  let c1_i32_58 : BitVec 32 := 1#32
  let v90 : BitVec 32 := Scalar.addi arg1 c1_i32_58
  let c2_i32_59 : BitVec 32 := 2#32
  let c15_i32 : BitVec 32 := 15#32
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v91 : BitVec 32 := Scalar.muli c2_i32_59 v84
  let v92 : BitVec 32 := Scalar.addi v90 v91
  let c16_i32 : BitVec 32 := 16#32
  let v93 : BitVec 32 := Scalar.subi c16_i32 v92
  let c1_i32_61 : BitVec 32 := 1#32
  let v95 : BitVec 32 := Scalar.divsi v93 c1_i32_61
  let v96 : BitVec 32 := Scalar.muli v95 c1_i32_61
  let v97 : BitVec 32 := Scalar.addi v92 v96
  let c1_i32_63 : BitVec 32 := 1#32
  let arg11 : BitVec 32 := Scf.iv v97 c1_i32_63 k0_t4
  let c512_i32_64 : BitVec 32 := 512#32
  let v98 : BitVec 32 := Scalar.muli arg11 c512_i32_64
  let v99 : BitVec 32 := v98
  let v100 : Index := Scalar.indexCast v99
  let c0_66 : Index := 0#32
  ![0, v100.toNat, 0]
def k0_off18 (i : grid0.Coords) (k0_t4 : Fin (k0_t4_loop i).trips) : Fin 2 → Nat :=
  let arg1 : BitVec 32 := BitVec.ofNat 32 (i 1).val
  let c1_i32_58 : BitVec 32 := 1#32
  let v90 : BitVec 32 := Scalar.addi arg1 c1_i32_58
  let c2_i32_59 : BitVec 32 := 2#32
  let c15_i32 : BitVec 32 := 15#32
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v91 : BitVec 32 := Scalar.muli c2_i32_59 v84
  let v92 : BitVec 32 := Scalar.addi v90 v91
  let c16_i32 : BitVec 32 := 16#32
  let v93 : BitVec 32 := Scalar.subi c16_i32 v92
  let c1_i32_61 : BitVec 32 := 1#32
  let v95 : BitVec 32 := Scalar.divsi v93 c1_i32_61
  let v96 : BitVec 32 := Scalar.muli v95 c1_i32_61
  let v97 : BitVec 32 := Scalar.addi v92 v96
  let c1_i32_63 : BitVec 32 := 1#32
  let arg11 : BitVec 32 := Scf.iv v97 c1_i32_63 k0_t4
  let c512_i32_64 : BitVec 32 := 512#32
  let v98 : BitVec 32 := Scalar.muli arg11 c512_i32_64
  let v99 : BitVec 32 := v98
  let v103 : Index := Scalar.indexCast v99
  let c0_67 : Index := 0#32
  ![v103.toNat, 0]
def k0_off19 (i : grid0.Coords) (k0_t4 : Fin (k0_t4_loop i).trips) : Fin 4 → Nat :=
  let c0_70 : Index := 0#32
  let arg1 : BitVec 32 := BitVec.ofNat 32 (i 1).val
  let c1_i32_58 : BitVec 32 := 1#32
  let v90 : BitVec 32 := Scalar.addi arg1 c1_i32_58
  let c2_i32_59 : BitVec 32 := 2#32
  let c15_i32 : BitVec 32 := 15#32
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v91 : BitVec 32 := Scalar.muli c2_i32_59 v84
  let v92 : BitVec 32 := Scalar.addi v90 v91
  let c16_i32 : BitVec 32 := 16#32
  let v93 : BitVec 32 := Scalar.subi c16_i32 v92
  let c1_i32_61 : BitVec 32 := 1#32
  let v95 : BitVec 32 := Scalar.divsi v93 c1_i32_61
  let v96 : BitVec 32 := Scalar.muli v95 c1_i32_61
  let v97 : BitVec 32 := Scalar.addi v92 v96
  let c1_i32_63 : BitVec 32 := 1#32
  let arg11 : BitVec 32 := Scf.iv v97 c1_i32_63 k0_t4
  let v108 : Index := Scalar.indexCast arg11
  let c0_71 : Index := 0#32
  let c0_72 : Index := 0#32
  ![0, v108.toNat, 0, 0]
def k0_off20 (i : grid0.Coords) (k0_t4 : Fin (k0_t4_loop i).trips) : Fin 4 → Nat :=
  let c0_92 : Index := 0#32
  let arg1 : BitVec 32 := BitVec.ofNat 32 (i 1).val
  let c1_i32_58 : BitVec 32 := 1#32
  let v90 : BitVec 32 := Scalar.addi arg1 c1_i32_58
  let c2_i32_59 : BitVec 32 := 2#32
  let c15_i32 : BitVec 32 := 15#32
  let v67 : BitVec 32 := Scalar.subi c15_i32 arg1
  let c0_i32_48 : BitVec 32 := 0#32
  let v69 : BitVec 1 := Scalar.cmpi .sgt v67 c0_i32_48
  let v70 : BitVec 32 := Scalar.extui v69
  let c0_i32_49 : BitVec 32 := 0#32
  let v71 : BitVec 1 := Scalar.cmpi .slt v67 c0_i32_49
  let v72 : BitVec 32 := Scalar.extui v71
  let v73 : BitVec 32 := Scalar.subi v70 v72
  let c2_i32 : BitVec 32 := 2#32
  let c0_i32_50 : BitVec 32 := 0#32
  let v74 : BitVec 1 := Scalar.cmpi .sgt c2_i32 c0_i32_50
  let v75 : BitVec 32 := Scalar.extui v74
  let c0_i32_51 : BitVec 32 := 0#32
  let v76 : BitVec 1 := Scalar.cmpi .slt c2_i32 c0_i32_51
  let v77 : BitVec 32 := Scalar.extui v76
  let v78 : BitVec 32 := Scalar.subi v75 v77
  let v79 : BitVec 1 := Scalar.cmpi .ne v73 v78
  let v80 : BitVec 32 := Scalar.remsi v67 c2_i32
  let c0_i32_52 : BitVec 32 := 0#32
  let v81 : BitVec 1 := Scalar.cmpi .ne v80 c0_i32_52
  let v82 : BitVec 1 := Scalar.andi v79 v81
  let v68 : BitVec 32 := Scalar.divsi v67 c2_i32
  let c1_i32 : BitVec 32 := 1#32
  let v83 : BitVec 32 := Scalar.subi v68 c1_i32
  let v84 : BitVec 32 := Scalar.select v82 v83 v68
  let v91 : BitVec 32 := Scalar.muli c2_i32_59 v84
  let v92 : BitVec 32 := Scalar.addi v90 v91
  let c16_i32 : BitVec 32 := 16#32
  let v93 : BitVec 32 := Scalar.subi c16_i32 v92
  let c1_i32_61 : BitVec 32 := 1#32
  let v95 : BitVec 32 := Scalar.divsi v93 c1_i32_61
  let v96 : BitVec 32 := Scalar.muli v95 c1_i32_61
  let v97 : BitVec 32 := Scalar.addi v92 v96
  let c1_i32_63 : BitVec 32 := 1#32
  let arg11 : BitVec 32 := Scf.iv v97 c1_i32_63 k0_t4
  let v139 : Index := Scalar.indexCast arg11
  let c0_93 : Index := 0#32
  let c0_94 : Index := 0#32
  ![0, v139.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "scale" => some (((Real.sqrt 192)⁻¹ : ℝ) : EReal)
  | "scale2" => some (((Real.sqrt 192)⁻¹ * (Real.log 2)⁻¹ : ℝ) : EReal)
  | _ => none
-- ==== ReferenceIdeal.lean ====
abbrev S8x8192x256 : Shape := ⟨3, ![8, 8192, 256]⟩
abbrev S8192x1024 : Shape := ⟨2, ![8192, 1024]⟩
abbrev S8x8192x128 : Shape := ⟨3, ![8, 8192, 128]⟩
abbrev S8x8192x8192 : Shape := ⟨3, ![8, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩
abbrev S8x16x512x256 : Shape := ⟨4, ![8, 16, 512, 256]⟩
abbrev S8x16x256x512 : Shape := ⟨4, ![8, 16, 256, 512]⟩

abbrev nBuf : Space → Nat
  | .hbm => 97
  | .vmem => 0
  | .smem => 0
  | _ => 0

abbrev bufTy : (tb : Table) → Fin (tcTables nBuf tb) → BufTy
  | .hbm, ⟨0, _⟩ => ⟨S8x8192x256, .bf16⟩
  | .hbm, ⟨1, _⟩ => ⟨S8x8192x256, .bf16⟩
  | .hbm, ⟨2, _⟩ => ⟨S8x8192x256, .bf16⟩
  | .hbm, ⟨3, _⟩ => ⟨S8192x1024, .bf16⟩
  | .hbm, ⟨4, _⟩ => ⟨S8x8192x256, .f32⟩
  | .hbm, ⟨5, _⟩ => ⟨S8x8192x256, .f32⟩
  | .hbm, ⟨6, _⟩ => ⟨S8x8192x128, .bf16⟩
  | .hbm, ⟨7, _⟩ => ⟨S8x8192x128, .f32⟩
  | .hbm, ⟨8, _⟩ => ⟨S8x8192x8192, .f32⟩
  | .hbm, ⟨9, _⟩ => ⟨S8192, .i32⟩
  | .hbm, ⟨10, _⟩ => ⟨S8192x1, .i32⟩
  | .hbm, ⟨11, _⟩ => ⟨S1x8192, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S1x8192x8192, .i1⟩
  | .hbm, ⟨16, _⟩ => ⟨S_, .f32⟩
  | .hbm, ⟨17, _⟩ => ⟨S_, .f32⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S_, .f32⟩
  | .hbm, ⟨22, _⟩ => ⟨S8x8192x8192, .i1⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .i1⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S8x8192, .f32⟩
  | .hbm, ⟨38, _⟩ => ⟨S_, .f32⟩
  | .hbm, ⟨39, _⟩ => ⟨S8x8192, .f32⟩
  | .hbm, ⟨40, _⟩ => ⟨S8x8192, .i1⟩
  | .hbm, ⟨41, _⟩ => ⟨S_, .f32⟩
  | .hbm, ⟨42, _⟩ => ⟨S8x8192, .f32⟩
  | .hbm, ⟨43, _⟩ => ⟨S8x8192, .i1⟩
  | .hbm, ⟨44, _⟩ => ⟨S_, .f32⟩
  | .hbm, ⟨45, _⟩ => ⟨S8x8192, .f32⟩
  | .hbm, ⟨46, _⟩ => ⟨S_, .f32⟩
  | .hbm, ⟨47, _⟩ => ⟨S8x8192, .f32⟩
  | .hbm, ⟨48, _⟩ => ⟨S_, .f32⟩
  | .hbm, ⟨49, _⟩ => ⟨S8x8192, .f32⟩
  | .hbm, ⟨50, _⟩ => ⟨S8x8192, .f32⟩
  | .hbm, ⟨51, _⟩ => ⟨S8x8192, .f32⟩
  | .hbm, ⟨52, _⟩ => ⟨S8x8192x1, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S_, .f32⟩
  | .hbm, ⟨57, _⟩ => ⟨S8x8192, .f32⟩
  | .hbm, ⟨58, _⟩ => ⟨S8x8192x1, .f32⟩
  | .hbm, ⟨59, _⟩ => ⟨S8x8192x8192, .f32⟩
  | .hbm, ⟨60, _⟩ => ⟨S8x8192x8192, .f32⟩
  | .hbm, ⟨61, _⟩ => ⟨S8x8192x1, .f32⟩
  | .hbm, ⟨62, _⟩ => ⟨S_, .f32⟩
  | .hbm, ⟨63, _⟩ => ⟨S8x8192x1, .f32⟩
  | .hbm, ⟨64, _⟩ => ⟨S8x8192x1, .f32⟩
  | .hbm, ⟨65, _⟩ => ⟨S8x128x8192, .f32⟩
  | .hbm, ⟨66, _⟩ => ⟨S8192x8x128, .f32⟩
  | .hbm, ⟨67, _⟩ => ⟨S8192x1024, .f32⟩
  | .hbm, ⟨68, _⟩ => ⟨S8192x1024, .f32⟩
  | .hbm, ⟨69, _⟩ => ⟨S8192x8x128, .f32⟩
  | .hbm, ⟨70, _⟩ => ⟨S8x128x8192, .f32⟩
  | .hbm, ⟨71, _⟩ => ⟨S8x8192x8192, .f32⟩
  | .hbm, ⟨72, _⟩ => ⟨S8x128x8192, .f32⟩
  | .hbm, ⟨73, _⟩ => ⟨S8x8192x128, .f32⟩
  | .hbm, ⟨74, _⟩ => ⟨S8x8192x8192, .f32⟩
  | .hbm, ⟨75, _⟩ => ⟨S8x8192x8192, .f32⟩
  | .hbm, ⟨76, _⟩ => ⟨S8x8192x8192, .f32⟩
  | .hbm, ⟨77, _⟩ => ⟨S_, .f32⟩
  | .hbm, ⟨78, _⟩ => ⟨S8x8192, .f32⟩
  | .hbm, ⟨79, _⟩ => ⟨S8x8192x1, .f32⟩
  | .hbm, ⟨80, _⟩ => ⟨S8x8192x1, .f32⟩
  | .hbm, ⟨81, _⟩ => ⟨S8x8192x8192, .f32⟩
  | .hbm, ⟨82, _⟩ => ⟨S8x8192x8192, .f32⟩
  | .hbm, ⟨83, _⟩ => ⟨S_, .f32⟩
  | .hbm, ⟨84, _⟩ => ⟨S8x8192, .f32⟩
  | .hbm, ⟨85, _⟩ => ⟨S8x8192x8192, .f32⟩
  | .hbm, ⟨86, _⟩ => ⟨S8x8192x8192, .f32⟩
  | .hbm, ⟨87, _⟩ => ⟨S8x8192x8192, .f32⟩
  | .hbm, ⟨88, _⟩ => ⟨S_, .f32⟩
  | .hbm, ⟨89, _⟩ => ⟨S8x8192x8192, .f32⟩
  | .hbm, ⟨90, _⟩ => ⟨S8x8192x8192, .f32⟩
  | .hbm, ⟨91, _⟩ => ⟨S8x8192x8192, .f32⟩
  | .hbm, ⟨92, _⟩ => ⟨S8x8192x8192, .f32⟩
  | .hbm, ⟨93, _⟩ => ⟨S8x8192x256, .f32⟩
  | .hbm, ⟨94, _⟩ => ⟨S8x8192x256, .f32⟩
  | .hbm, ⟨95, _⟩ => ⟨S8x16x512x256, .f32⟩
  | .hbm, ⟨96, _⟩ => ⟨S8x16x256x512, .f32⟩
  | _, _ => ⟨S8x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_v15_1 : Ref sig .tc := ⟨.hbm, 22, rfl⟩
abbrev main_call0_v2 : Ref sig .tc := ⟨.hbm, 23, rfl⟩
abbrev main_v15_0 : Ref sig .tc := ⟨.hbm, 24, rfl⟩
abbrev main_call0_cst : Ref sig .tc := ⟨.hbm, 25, rfl⟩
abbrev main_v15_2 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call1_cst : Ref sig .tc := ⟨.hbm, 88, rfl⟩
abbrev main_call1_v0 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== Kernel2.lean ====
abbrev S8x8192x256 : Shape := ⟨3, ![8, 8192, 256]⟩
abbrev S8x8192x128 : Shape := ⟨3, ![8, 8192, 128]⟩
abbrev S_ : Shape := ⟨0, ![]⟩
abbrev S8192x1024 : Shape := ⟨2, ![8192, 1024]⟩
abbrev S8x16x8x512 : Shape := ⟨4, ![8, 16, 8, 512]⟩
abbrev S1x512x256 : Shape := ⟨3, ![1, 512, 256]⟩
abbrev S1x8192x256 : Shape := ⟨3, ![1, 8192, 256]⟩
abbrev S512x128 : Shape := ⟨2, ![512, 128]⟩
abbrev S1x1x8x512 : Shape := ⟨4, ![1, 1, 8, 512]⟩
abbrev S512x512 : Shape := ⟨2, ![512, 512]⟩
abbrev S512x256 : Shape := ⟨2, ![512, 256]⟩
abbrev S512x1 : Shape := ⟨2, ![512, 1]⟩
abbrev S512 : Shape := ⟨1, ![512]⟩
abbrev S128x512 : Shape := ⟨2, ![128, 512]⟩
abbrev S8x512 : Shape := ⟨2, ![8, 512]⟩

abbrev nBuf : Space → Nat
  | .hbm => 8
  | .vmem => 12
  | .smem => 0
  | _ => 0

abbrev bufTy : (tb : Table) → Fin (tcTables nBuf tb) → BufTy
  | .hbm, ⟨0, _⟩ => ⟨S8x8192x256, .bf16⟩
  | .hbm, ⟨1, _⟩ => ⟨S8x8192x256, .bf16⟩
  | .hbm, ⟨2, _⟩ => ⟨S8x8192x128, .bf16⟩
  | .hbm, ⟨3, _⟩ => ⟨S_, .bf16⟩
  | .hbm, ⟨4, _⟩ => ⟨S8x8192x128, .bf16⟩
  | .hbm, ⟨5, _⟩ => ⟨S8x8192x256, .bf16⟩
  | .hbm, ⟨6, _⟩ => ⟨S8192x1024, .f32⟩
  | .hbm, ⟨7, _⟩ => ⟨S8x16x8x512, .f32⟩
  | .local _ .vmem, ⟨0, _⟩ => ⟨S1x512x256, .bf16⟩
  | .local _ .vmem, ⟨1, _⟩ => ⟨S1x512x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S512x128, .f32⟩
  | .local _ .vmem, ⟨7, _⟩ => ⟨S512x128, .f32⟩
  | .local _ .vmem, ⟨8, _⟩ => ⟨S1x1x8x512, .f32⟩
  | .local _ .vmem, ⟨9, _⟩ => ⟨S1x1x8x512, .f32⟩
  | .local _ .vmem, ⟨10, _⟩ => ⟨S512x512, .f32⟩
  | .local _ .vmem, ⟨11, _⟩ => ⟨S512x512, .f32⟩
  | _, _ => ⟨S8x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_mult1 : BitVec 32 :=
  let c0_i32 : BitVec 32 := 0#32
  c0_i32
@[reducible] def k0_t1_loop (i : grid0.Coords) : Scf.Loop 32 :=
  let c0_i32_13 : BitVec 32 := 0#32
  let arg1 : BitVec 32 := BitVec.ofNat 32 (i 1).val
  let c0_i32_8 : BitVec 32 := 0#32
  let v13 : BitVec 1 := Scalar.cmpi .sgt arg1 c0_i32_8
  let v14 : BitVec 32 := Scalar.extui v13
  let c0_i32_9 : BitVec 32 := 0#32
  let v15 : BitVec 1 := Scalar.cmpi .slt arg1 c0_i32_9
  let v16 : BitVec 32 := Scalar.extui v15
  let v17 : BitVec 32 := Scalar.subi v14 v16
  let c2_i32 : BitVec 32 := 2#32
  let c0_i32_10 : BitVec 32 := 0#32
  let v18 : BitVec 1 := Scalar.cmpi .sgt c2_i32 c0_i32_10
  let v19 : BitVec 32 := Scalar.extui v18
  let c0_i32_11 : BitVec 32 := 0#32
  let v20 : BitVec 1 := Scalar.cmpi .slt c2_i32 c0_i32_11
  let v21 : BitVec 32 := Scalar.extui v20
  let v22 : BitVec 32 := Scalar.subi v19 v21
  let v23 : BitVec 1 := Scalar.cmpi .ne v17 v22
  let v24 : BitVec 32 := Scalar.remsi arg1 c2_i32
  let c0_i32_12 : BitVec 32 := 0#32
  let v25 : BitVec 1 := Scalar.cmpi .ne v24 c0_i32_12
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_15 : BitVec 32 := 1#32
  ⟨c0_i32_13, v33, c1_i32_15⟩
def k0_mult2 (i : grid0.Coords) (k0_t1 : Fin (k0_t1_loop i).trips) : BitVec 32 :=
  let c2_i32_33 : BitVec 32 := 2#32
  let c0_i32_13 : BitVec 32 := 0#32
  let c1_i32_15 : BitVec 32 := 1#32
  let arg9 : BitVec 32 := Scf.iv c0_i32_13 c1_i32_15 k0_t1
  let v62 : BitVec 32 := Scalar.muli c2_i32_33 arg9
  let c1_i32_34 : BitVec 32 := 1#32
  let v63 : BitVec 32 := Scalar.addi v62 c1_i32_34
  let c512_i32 : BitVec 32 := 512#32
  let v64 : BitVec 32 := Scalar.muli v63 c512_i32
  v64
def k0_off1 (i : grid0.Coords) (k0_t1 : Fin (k0_t1_loop i).trips) (c1_i32_34 : BitVec 32) : Fin 3 → Nat :=
  let c0_35 : Index := 0#32
  let c2_i32_33 : BitVec 32 := 2#32
  let c0_i32_13 : BitVec 32 := 0#32
  let c1_i32_15 : BitVec 32 := 1#32
  let arg9 : BitVec 32 := Scf.iv c0_i32_13 c1_i32_15 k0_t1
  let v62 : BitVec 32 := Scalar.muli c2_i32_33 arg9
  let v63 : BitVec 32 := Scalar.addi v62 c1_i32_34
  let c512_i32 : BitVec 32 := 512#32
  let v64 : BitVec 32 := Scalar.muli v63 c512_i32
  let v65 : BitVec 32 := v64
  let v66 : Index := Scalar.indexCast v65
  let c0_36 : Index := 0#32
  ![0, v66.toNat, 0]
def k0_mult3 (i : grid0.Coords) (k0_t1 : Fin (k0_t1_loop i).trips) : BitVec 32 :=
  let c2_i32_40 : BitVec 32 := 2#32
  let c0_i32_13 : BitVec 32 := 0#32
  let c1_i32_15 : BitVec 32 := 1#32
  let arg9 : BitVec 32 := Scf.iv c0_i32_13 c1_i32_15 k0_t1
  let v73 : BitVec 32 := Scalar.muli c2_i32_40 arg9
  let c512_i32_46 : BitVec 32 := 512#32
  let v90 : BitVec 32 := Scalar.muli v73 c512_i32_46
  v90
def k0_off2 (i : grid0.Coords) (k0_t1 : Fin (k0_t1_loop i).trips) : Fin 3 → Nat :=
  let c0_47 : Index := 0#32
  let c2_i32_40 : BitVec 32 := 2#32
  let c0_i32_13 : BitVec 32 := 0#32
  let c1_i32_15 : BitVec 32 := 1#32
  let arg9 : BitVec 32 := Scf.iv c0_i32_13 c1_i32_15 k0_t1
  let v73 : BitVec 32 := Scalar.muli c2_i32_40 arg9
  let c512_i32_46 : BitVec 32 := 512#32
  let v90 : BitVec 32 := Scalar.muli v73 c512_i32_46
  let v91 : BitVec 32 := v90
  let v92 : Index := Scalar.indexCast v91
  let c0_48 : Index := 0#32
  ![0, v92.toNat, 0]
def k0_mult4 (i : grid0.Coords) (k0_t1 : Fin (k0_t1_loop i).trips) : BitVec 32 :=
  let c2_i32_50 : BitVec 32 := 2#32
  let c0_i32_13 : BitVec 32 := 0#32
  let c1_i32_15 : BitVec 32 := 1#32
  let arg9 : BitVec 32 := Scf.iv c0_i32_13 c1_i32_15 k0_t1
  let v97 : BitVec 32 := Scalar.muli c2_i32_50 arg9
  let c2_i32_51 : BitVec 32 := 2#32
  let v98 : BitVec 32 := Scalar.addi v97 c2_i32_51
  let c512_i32_52 : BitVec 32 := 512#32
  let v99 : BitVec 32 := Scalar.muli v98 c512_i32_52
  v99
def k0_mult5 (i : grid0.Coords) (k0_t1 : Fin (k0_t1_loop i).trips) : BitVec 32 :=
  let c2_i32_58 : BitVec 32 := 2#32
  let c0_i32_13 : BitVec 32 := 0#32
  let c1_i32_15 : BitVec 32 := 1#32
  let arg9 : BitVec 32 := Scf.iv c0_i32_13 c1_i32_15 k0_t1
  let v108 : BitVec 32 := Scalar.muli c2_i32_58 arg9
  let c1_i32_59 : BitVec 32 := 1#32
  let v109 : BitVec 32 := Scalar.addi v108 c1_i32_59
  let c512_i32_65 : BitVec 32 := 512#32
  let v126 : BitVec 32 := Scalar.muli v109 c512_i32_65
  v126
@[reducible] def k0_t2_loop (i : grid0.Coords) : Scf.Loop 32 :=
  let c0_i32_13 : BitVec 32 := 0#32
  let arg1 : BitVec 32 := BitVec.ofNat 32 (i 1).val
  let c0_i32_8 : BitVec 32 := 0#32
  let v13 : BitVec 1 := Scalar.cmpi .sgt arg1 c0_i32_8
  let v14 : BitVec 32 := Scalar.extui v13
  let c0_i32_9 : BitVec 32 := 0#32
  let v15 : BitVec 1 := Scalar.cmpi .slt arg1 c0_i32_9
  let v16 : BitVec 32 := Scalar.extui v15
  let v17 : BitVec 32 := Scalar.subi v14 v16
  let c2_i32 : BitVec 32 := 2#32
  let c0_i32_10 : BitVec 32 := 0#32
  let v18 : BitVec 1 := Scalar.cmpi .sgt c2_i32 c0_i32_10
  let v19 : BitVec 32 := Scalar.extui v18
  let c0_i32_11 : BitVec 32 := 0#32
  let v20 : BitVec 1 := Scalar.cmpi .slt c2_i32 c0_i32_11
  let v21 : BitVec 32 := Scalar.extui v20
  let v22 : BitVec 32 := Scalar.subi v19 v21
  let v23 : BitVec 1 := Scalar.cmpi .ne v17 v22
  let v24 : BitVec 32 := Scalar.remsi arg1 c2_i32
  let c0_i32_12 : BitVec 32 := 0#32
  let v25 : BitVec 1 := Scalar.cmpi .ne v24 c0_i32_12
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let v30 : BitVec 32 := Scalar.addi c0_i32_13 v29
  let c1_i32_16 : BitVec 32 := 1#32
  ⟨v33, v30, c1_i32_16⟩
def k0_mult6 (i : grid0.Coords) (k0_t2 : Fin (k0_t2_loop i).trips) : BitVec 32 :=
  let c2_i32_33 : BitVec 32 := 2#32
  let c0_i32_13 : BitVec 32 := 0#32
  let arg1 : BitVec 32 := BitVec.ofNat 32 (i 1).val
  let c0_i32_8 : BitVec 32 := 0#32
  let v13 : BitVec 1 := Scalar.cmpi .sgt arg1 c0_i32_8
  let v14 : BitVec 32 := Scalar.extui v13
  let c0_i32_9 : BitVec 32 := 0#32
  let v15 : BitVec 1 := Scalar.cmpi .slt arg1 c0_i32_9
  let v16 : BitVec 32 := Scalar.extui v15
  let v17 : BitVec 32 := Scalar.subi v14 v16
  let c2_i32 : BitVec 32 := 2#32
  let c0_i32_10 : BitVec 32 := 0#32
  let v18 : BitVec 1 := Scalar.cmpi .sgt c2_i32 c0_i32_10
  let v19 : BitVec 32 := Scalar.extui v18
  let c0_i32_11 : BitVec 32 := 0#32
  let v20 : BitVec 1 := Scalar.cmpi .slt c2_i32 c0_i32_11
  let v21 : BitVec 32 := Scalar.extui v20
  let v22 : BitVec 32 := Scalar.subi v19 v21
  let v23 : BitVec 1 := Scalar.cmpi .ne v17 v22
  let v24 : BitVec 32 := Scalar.remsi arg1 c2_i32
  let c0_i32_12 : BitVec 32 := 0#32
  let v25 : BitVec 1 := Scalar.cmpi .ne v24 c0_i32_12
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v62 : BitVec 32 := Scalar.muli c2_i32_33 arg9
  let c1_i32_34 : BitVec 32 := 1#32
  let v63 : BitVec 32 := Scalar.addi v62 c1_i32_34
  let c512_i32 : BitVec 32 := 512#32
  let v64 : BitVec 32 := Scalar.muli v63 c512_i32
  v64
def k0_off3 (i : grid0.Coords) (k0_t2 : Fin (k0_t2_loop i).trips) (c1_i32_34 : BitVec 32) : Fin 3 → Nat :=
  let c0_35 : Index := 0#32
  let c2_i32_33 : BitVec 32 := 2#32
  let c0_i32_13 : BitVec 32 := 0#32
  let arg1 : BitVec 32 := BitVec.ofNat 32 (i 1).val
  let c0_i32_8 : BitVec 32 := 0#32
  let v13 : BitVec 1 := Scalar.cmpi .sgt arg1 c0_i32_8
  let v14 : BitVec 32 := Scalar.extui v13
  let c0_i32_9 : BitVec 32 := 0#32
  let v15 : BitVec 1 := Scalar.cmpi .slt arg1 c0_i32_9
  let v16 : BitVec 32 := Scalar.extui v15
  let v17 : BitVec 32 := Scalar.subi v14 v16
  let c2_i32 : BitVec 32 := 2#32
  let c0_i32_10 : BitVec 32 := 0#32
  let v18 : BitVec 1 := Scalar.cmpi .sgt c2_i32 c0_i32_10
  let v19 : BitVec 32 := Scalar.extui v18
  let c0_i32_11 : BitVec 32 := 0#32
  let v20 : BitVec 1 := Scalar.cmpi .slt c2_i32 c0_i32_11
  let v21 : BitVec 32 := Scalar.extui v20
  let v22 : BitVec 32 := Scalar.subi v19 v21
  let v23 : BitVec 1 := Scalar.cmpi .ne v17 v22
  let v24 : BitVec 32 := Scalar.remsi arg1 c2_i32
  let c0_i32_12 : BitVec 32 := 0#32
  let v25 : BitVec 1 := Scalar.cmpi .ne v24 c0_i32_12
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v62 : BitVec 32 := Scalar.muli c2_i32_33 arg9
  let v63 : BitVec 32 := Scalar.addi v62 c1_i32_34
  let c512_i32 : BitVec 32 := 512#32
  let v64 : BitVec 32 := Scalar.muli v63 c512_i32
  let v65 : BitVec 32 := v64
  let v66 : Index := Scalar.indexCast v65
  let c0_36 : Index := 0#32
  ![0, v66.toNat, 0]
def k0_mult7 (i : grid0.Coords) (k0_t2 : Fin (k0_t2_loop i).trips) : BitVec 32 :=
  let c2_i32_40 : BitVec 32 := 2#32
  let c0_i32_13 : BitVec 32 := 0#32
  let arg1 : BitVec 32 := BitVec.ofNat 32 (i 1).val
  let c0_i32_8 : BitVec 32 := 0#32
  let v13 : BitVec 1 := Scalar.cmpi .sgt arg1 c0_i32_8
  let v14 : BitVec 32 := Scalar.extui v13
  let c0_i32_9 : BitVec 32 := 0#32
  let v15 : BitVec 1 := Scalar.cmpi .slt arg1 c0_i32_9
  let v16 : BitVec 32 := Scalar.extui v15
  let v17 : BitVec 32 := Scalar.subi v14 v16
  let c2_i32 : BitVec 32 := 2#32
  let c0_i32_10 : BitVec 32 := 0#32
  let v18 : BitVec 1 := Scalar.cmpi .sgt c2_i32 c0_i32_10
  let v19 : BitVec 32 := Scalar.extui v18
  let c0_i32_11 : BitVec 32 := 0#32
  let v20 : BitVec 1 := Scalar.cmpi .slt c2_i32 c0_i32_11
  let v21 : BitVec 32 := Scalar.extui v20
  let v22 : BitVec 32 := Scalar.subi v19 v21
  let v23 : BitVec 1 := Scalar.cmpi .ne v17 v22
  let v24 : BitVec 32 := Scalar.remsi arg1 c2_i32
  let c0_i32_12 : BitVec 32 := 0#32
  let v25 : BitVec 1 := Scalar.cmpi .ne v24 c0_i32_12
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v73 : BitVec 32 := Scalar.muli c2_i32_40 arg9
  let c512_i32_46 : BitVec 32 := 512#32
  let v90 : BitVec 32 := Scalar.muli v73 c512_i32_46
  v90
def k0_off4 (i : grid0.Coords) (k0_t2 : Fin (k0_t2_loop i).trips) : Fin 3 → Nat :=
  let c0_47 : Index := 0#32
  let c2_i32_40 : BitVec 32 := 2#32
  let c0_i32_13 : BitVec 32 := 0#32
  let arg1 : BitVec 32 := BitVec.ofNat 32 (i 1).val
  let c0_i32_8 : BitVec 32 := 0#32
  let v13 : BitVec 1 := Scalar.cmpi .sgt arg1 c0_i32_8
  let v14 : BitVec 32 := Scalar.extui v13
  let c0_i32_9 : BitVec 32 := 0#32
  let v15 : BitVec 1 := Scalar.cmpi .slt arg1 c0_i32_9
  let v16 : BitVec 32 := Scalar.extui v15
  let v17 : BitVec 32 := Scalar.subi v14 v16
  let c2_i32 : BitVec 32 := 2#32
  let c0_i32_10 : BitVec 32 := 0#32
  let v18 : BitVec 1 := Scalar.cmpi .sgt c2_i32 c0_i32_10
  let v19 : BitVec 32 := Scalar.extui v18
  let c0_i32_11 : BitVec 32 := 0#32
  let v20 : BitVec 1 := Scalar.cmpi .slt c2_i32 c0_i32_11
  let v21 : BitVec 32 := Scalar.extui v20
  let v22 : BitVec 32 := Scalar.subi v19 v21
  let v23 : BitVec 1 := Scalar.cmpi .ne v17 v22
  let v24 : BitVec 32 := Scalar.remsi arg1 c2_i32
  let c0_i32_12 : BitVec 32 := 0#32
  let v25 : BitVec 1 := Scalar.cmpi .ne v24 c0_i32_12
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v73 : BitVec 32 := Scalar.muli c2_i32_40 arg9
  let c512_i32_46 : BitVec 32 := 512#32
  let v90 : BitVec 32 := Scalar.muli v73 c512_i32_46
  let v91 : BitVec 32 := v90
  let v92 : Index := Scalar.indexCast v91
  let c0_48 : Index := 0#32
  ![0, v92.toNat, 0]
def k0_mult8 (i : grid0.Coords) (k0_t2 : Fin (k0_t2_loop i).trips) : BitVec 32 :=
  let c2_i32_50 : BitVec 32 := 2#32
  let c0_i32_13 : BitVec 32 := 0#32
  let arg1 : BitVec 32 := BitVec.ofNat 32 (i 1).val
  let c0_i32_8 : BitVec 32 := 0#32
  let v13 : BitVec 1 := Scalar.cmpi .sgt arg1 c0_i32_8
  let v14 : BitVec 32 := Scalar.extui v13
  let c0_i32_9 : BitVec 32 := 0#32
  let v15 : BitVec 1 := Scalar.cmpi .slt arg1 c0_i32_9
  let v16 : BitVec 32 := Scalar.extui v15
  let v17 : BitVec 32 := Scalar.subi v14 v16
  let c2_i32 : BitVec 32 := 2#32
  let c0_i32_10 : BitVec 32 := 0#32
  let v18 : BitVec 1 := Scalar.cmpi .sgt c2_i32 c0_i32_10
  let v19 : BitVec 32 := Scalar.extui v18
  let c0_i32_11 : BitVec 32 := 0#32
  let v20 : BitVec 1 := Scalar.cmpi .slt c2_i32 c0_i32_11
  let v21 : BitVec 32 := Scalar.extui v20
  let v22 : BitVec 32 := Scalar.subi v19 v21
  let v23 : BitVec 1 := Scalar.cmpi .ne v17 v22
  let v24 : BitVec 32 := Scalar.remsi arg1 c2_i32
  let c0_i32_12 : BitVec 32 := 0#32
  let v25 : BitVec 1 := Scalar.cmpi .ne v24 c0_i32_12
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v97 : BitVec 32 := Scalar.muli c2_i32_50 arg9
  let c2_i32_51 : BitVec 32 := 2#32
  let v98 : BitVec 32 := Scalar.addi v97 c2_i32_51
  let c512_i32_52 : BitVec 32 := 512#32
  let v99 : BitVec 32 := Scalar.muli v98 c512_i32_52
  v99
def k0_mult9 (i : grid0.Coords) (k0_t2 : Fin (k0_t2_loop i).trips) : BitVec 32 :=
  let c2_i32_58 : BitVec 32 := 2#32
  let c0_i32_13 : BitVec 32 := 0#32
  let arg1 : BitVec 32 := BitVec.ofNat 32 (i 1).val
  let c0_i32_8 : BitVec 32 := 0#32
  let v13 : BitVec 1 := Scalar.cmpi .sgt arg1 c0_i32_8
  let v14 : BitVec 32 := Scalar.extui v13
  let c0_i32_9 : BitVec 32 := 0#32
  let v15 : BitVec 1 := Scalar.cmpi .slt arg1 c0_i32_9
  let v16 : BitVec 32 := Scalar.extui v15
  let v17 : BitVec 32 := Scalar.subi v14 v16
  let c2_i32 : BitVec 32 := 2#32
  let c0_i32_10 : BitVec 32 := 0#32
  let v18 : BitVec 1 := Scalar.cmpi .sgt c2_i32 c0_i32_10
  let v19 : BitVec 32 := Scalar.extui v18
  let c0_i32_11 : BitVec 32 := 0#32
  let v20 : BitVec 1 := Scalar.cmpi .slt c2_i32 c0_i32_11
  let v21 : BitVec 32 := Scalar.extui v20
  let v22 : BitVec 32 := Scalar.subi v19 v21
  let v23 : BitVec 1 := Scalar.cmpi .ne v17 v22
  let v24 : BitVec 32 := Scalar.remsi arg1 c2_i32
  let c0_i32_12 : BitVec 32 := 0#32
  let v25 : BitVec 1 := Scalar.cmpi .ne v24 c0_i32_12
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v108 : BitVec 32 := Scalar.muli c2_i32_58 arg9
  let c1_i32_59 : BitVec 32 := 1#32
  let v109 : BitVec 32 := Scalar.addi v108 c1_i32_59
  let c512_i32_65 : BitVec 32 := 512#32
  let v126 : BitVec 32 := Scalar.muli v109 c512_i32_65
  v126
def k0_cond1 (i : grid0.Coords) : BitVec 1 :=
  let arg1 : BitVec 32 := BitVec.ofNat 32 (i 1).val
  let c2_i32_17 : BitVec 32 := 2#32
  let c0_i32_18 : BitVec 32 := 0#32
  let v36 : BitVec 1 := Scalar.cmpi .eq c2_i32_17 c0_i32_18
  let c1_i32_19 : BitVec 32 := 1#32
  let v37 : BitVec 32 := Scalar.select v36 c1_i32_19 c2_i32_17
  let v38 : BitVec 32 := Scalar.remsi arg1 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_23 : BitVec 32 := 0#32
  let v46 : BitVec 1 := Scalar.cmpi .eq v45 c0_i32_23
  let v47 : BitVec 32 := Scalar.extui v46
  let c0_i32_24 : BitVec 32 := 0#32
  let v48 : BitVec 1 := Scalar.cmpi .ne v47 c0_i32_24
  v48

def k0_mult10 (i : grid0.Coords) : BitVec 32 :=
  let arg1 : BitVec 32 := BitVec.ofNat 32 (i 1).val
  let c512_i32 : BitVec 32 := 512#32
  let v83 : BitVec 32 := Scalar.muli arg1 c512_i32
  v83
def k0_off5 (i : grid0.Coords) : Fin 3 → Nat :=
  let c0_39 : Index := 0#32
  let arg1 : BitVec 32 := BitVec.ofNat 32 (i 1).val
  let c512_i32 : BitVec 32 := 512#32
  let v83 : BitVec 32 := Scalar.muli arg1 c512_i32
  let v84 : BitVec 32 := v83
  let v85 : Index := Scalar.indexCast v84
  let c0_40 : Index := 0#32
  ![0, v85.toNat, 0]
def k0_cond2 (i : grid0.Coords) : BitVec 1 :=
  let arg1 : BitVec 32 := BitVec.ofNat 32 (i 1).val
  let c2_i32_25 : BitVec 32 := 2#32
  let c0_i32_26 : BitVec 32 := 0#32
  let v49 : BitVec 1 := Scalar.cmpi .eq c2_i32_25 c0_i32_26
  let c1_i32_27 : BitVec 32 := 1#32
  let v50 : BitVec 32 := Scalar.select v49 c1_i32_27 c2_i32_25
  let v51 : BitVec 32 := Scalar.remsi arg1 v50
  let c0_i32_29 : BitVec 32 := 0#32
  let v53 : BitVec 1 := Scalar.cmpi .slt v51 c0_i32_29
  let c0_i32_30 : BitVec 32 := 0#32
  let v54 : BitVec 1 := Scalar.cmpi .slt v50 c0_i32_30
  let v55 : BitVec 1 := Scalar.xori v53 v54
  let c0_i32_28 : BitVec 32 := 0#32
  let v52 : BitVec 1 := Scalar.cmpi .ne v51 c0_i32_28
  let v56 : BitVec 1 := Scalar.andi v55 v52
  let v57 : BitVec 32 := Scalar.addi v51 v50
  let v58 : BitVec 32 := Scalar.select v56 v57 v51
  let c1_i32_31 : BitVec 32 := 1#32
  let v59 : BitVec 1 := Scalar.cmpi .eq v58 c1_i32_31
  let v60 : BitVec 32 := Scalar.extui v59
  let c0_i32_32 : BitVec 32 := 0#32
  let v61 : BitVec 1 := Scalar.cmpi .ne v60 c0_i32_32
  v61

def k0_mult11 (i : grid0.Coords) : BitVec 32 :=
  let arg1 : BitVec 32 := BitVec.ofNat 32 (i 1).val
  let c512_i32 : BitVec 32 := 512#32
  let v62 : BitVec 32 := Scalar.muli arg1 c512_i32
  v62
def k0_off6 (i : grid0.Coords) : Fin 3 → Nat :=
  let c0_33 : Index := 0#32
  let arg1 : BitVec 32 := BitVec.ofNat 32 (i 1).val
  let c512_i32 : BitVec 32 := 512#32
  let v62 : BitVec 32 := Scalar.muli arg1 c512_i32
  let v63 : BitVec 32 := v62
  let v64 : Index := Scalar.indexCast v63
  let c0_34 : Index := 0#32
  ![0, v64.toNat, 0]
def k0_mult12 (i : grid0.Coords) : BitVec 32 :=
  let arg1 : BitVec 32 := BitVec.ofNat 32 (i 1).val
  let c1_i32_38 : BitVec 32 := 1#32
  let v71 : BitVec 32 := Scalar.subi arg1 c1_i32_38
  let c512_i32_44 : BitVec 32 := 512#32
  let v88 : BitVec 32 := Scalar.muli v71 c512_i32_44
  v88
def k0_off7 (i : grid0.Coords) : Fin 3 → Nat :=
  let c0_45 : Index := 0#32
  let arg1 : BitVec 32 := BitVec.ofNat 32 (i 1).val
  let c1_i32_38 : BitVec 32 := 1#32
  let v71 : BitVec 32 := Scalar.subi arg1 c1_i32_38
  let c512_i32_44 : BitVec 32 := 512#32
  let v88 : BitVec 32 := Scalar.muli v71 c512_i32_44
  let v89 : BitVec 32 := v88
  let v90 : Index := Scalar.indexCast v89
  let c0_46 : Index := 0#32
  ![0, v90.toNat, 0]
def k0_mult13 (i : grid0.Coords) : BitVec 32 :=
  let arg1 : BitVec 32 := BitVec.ofNat 32 (i 1).val
  let c512_i32_54 : BitVec 32 := 512#32
  let v116 : BitVec 32 := Scalar.muli arg1 c512_i32_54
  v116
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "log2e" => some (((Real.log 2)⁻¹ : ℝ) : EReal)
  | "scale2" => some (((Real.sqrt 192)⁻¹ * (Real.log 2)⁻¹ : ℝ) : EReal)
  | _ => none
-- ==== Reference2Ideal.lean ====
abbrev S8x8192x256 : Shape := ⟨3, ![8, 8192, 256]⟩
abbrev S8x8192x128 : Shape := ⟨3, ![8, 8192, 128]⟩
abbrev S8x8192x8192 : Shape := ⟨3, ![8, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩
abbrev S8192x1024 : Shape := ⟨2, ![8192, 1024]⟩
abbrev S8x16x1x512 : Shape := ⟨4, ![8, 16, 1, 512]⟩
abbrev S8x16x8x512 : Shape := ⟨4, ![8, 16, 8, 512]⟩

abbrev nBuf : Space → Nat
  | .hbm => 74
  | .vmem => 0
  | .smem => 0
  | _ => 0

abbrev bufTy : (tb : Table) → Fin (tcTables nBuf tb) → BufTy
  | .hbm, ⟨0, _⟩ => ⟨S8x8192x256, .bf16⟩
  | .hbm, ⟨1, _⟩ => ⟨S8x8192x256, .bf16⟩
  | .hbm, ⟨2, _⟩ => ⟨S8x8192x128, .bf16⟩
  | .hbm, ⟨3, _⟩ => ⟨S8x8192x256, .f32⟩
  | .hbm, ⟨4, _⟩ => ⟨S8x8192x256, .f32⟩
  | .hbm, ⟨5, _⟩ => ⟨S8x8192x128, .f32⟩
  | .hbm, ⟨6, _⟩ => ⟨S8x8192x8192, .f32⟩
  | .hbm, ⟨7, _⟩ => ⟨S8192, .i32⟩
  | .hbm, ⟨8, _⟩ => ⟨S8192x1, .i32⟩
  | .hbm, ⟨9, _⟩ => ⟨S1x8192, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S1x8192x8192, .i1⟩
  | .hbm, ⟨14, _⟩ => ⟨S_, .f32⟩
  | .hbm, ⟨15, _⟩ => ⟨S_, .f32⟩
  | .hbm, ⟨16, _⟩ => ⟨S8x8192x8192, .f32⟩
  | .hbm, ⟨17, _⟩ => ⟨S8x8192x8192, .f32⟩
  | .hbm, ⟨18, _⟩ => ⟨S_, .f32⟩
  | .hbm, ⟨19, _⟩ => ⟨S_, .f32⟩
  | .hbm, ⟨20, _⟩ => ⟨S8x8192x8192, .i1⟩
  | .hbm, ⟨21, _⟩ => ⟨S8x8192x8192, .f32⟩
  | .hbm, ⟨22, _⟩ => ⟨S8x8192x8192, .f32⟩
  | .hbm, ⟨23, _⟩ => ⟨S_, .f32⟩
  | .hbm, ⟨24, _⟩ => ⟨S8x8192, .f32⟩
  | .hbm, ⟨25, _⟩ => ⟨S8x8192x1, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S8x8192x1, .f32⟩
  | .hbm, ⟨32, _⟩ => ⟨S8x8192x1, .f32⟩
  | .hbm, ⟨33, _⟩ => ⟨S8x8192x1, .f32⟩
  | .hbm, ⟨34, _⟩ => ⟨S_, .f32⟩
  | .hbm, ⟨35, _⟩ => ⟨S_, .f32⟩
  | .hbm, ⟨36, _⟩ => ⟨S8x8192x1, .f32⟩
  | .hbm, ⟨37, _⟩ => ⟨S8x8192x1, .f32⟩
  | .hbm, ⟨38, _⟩ => ⟨S8x8192x8192, .f32⟩
  | .hbm, ⟨39, _⟩ => ⟨S8192, .i32⟩
  | .hbm, ⟨40, _⟩ => ⟨S8192x1, .i32⟩
  | .hbm, ⟨41, _⟩ => ⟨S1x8192, .i32⟩
  | .hbm, ⟨42, _⟩ => ⟨S8192x8192, .i32⟩
  | .hbm, ⟨43, _⟩ => ⟨S8192x8192, .i32⟩
  | .hbm, ⟨44, _⟩ => ⟨S8192x8192, .i1⟩
  | .hbm, ⟨45, _⟩ => ⟨S1x8192x8192, .i1⟩
  | .hbm, ⟨46, _⟩ => ⟨S_, .f32⟩
  | .hbm, ⟨47, _⟩ => ⟨S_, .f32⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S_, .f32⟩
  | .hbm, ⟨52, _⟩ => ⟨S8x8192x8192, .i1⟩
  | .hbm, ⟨53, _⟩ => ⟨S8x8192x8192, .f32⟩
  | .hbm, ⟨54, _⟩ => ⟨S8x8192x8192, .f32⟩
  | .hbm, ⟨55, _⟩ => ⟨S_, .f32⟩
  | .hbm, ⟨56, _⟩ => ⟨S8x8192, .f32⟩
  | .hbm, ⟨57, _⟩ => ⟨S_, .f32⟩
  | .hbm, ⟨58, _⟩ => ⟨S8x8192, .f32⟩
  | .hbm, ⟨59, _⟩ => ⟨S8x8192, .f32⟩
  | .hbm, ⟨60, _⟩ => ⟨S8x8192x1, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S_, .f32⟩
  | .hbm, ⟨65, _⟩ => ⟨S8x8192, .f32⟩
  | .hbm, ⟨66, _⟩ => ⟨S8x8192x1, .f32⟩
  | .hbm, ⟨67, _⟩ => ⟨S8x8192x8192, .f32⟩
  | .hbm, ⟨68, _⟩ => ⟨S8x8192x8192, .f32⟩
  | .hbm, ⟨69, _⟩ => ⟨S8x128x8192, .f32⟩
  | .hbm, ⟨70, _⟩ => ⟨S8192x8x128, .f32⟩
  | .hbm, ⟨71, _⟩ => ⟨S8192x1024, .f32⟩
  | .hbm, ⟨72, _⟩ => ⟨S8x16x1x512, .f32⟩
  | .hbm, ⟨73, _⟩ => ⟨S8x16x8x512, .f32⟩
  | _, _ => ⟨S8x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel3.lean ====
abbrev S8192x1024 : Shape := ⟨2, ![8192, 1024]⟩
abbrev S8192x4096 : Shape := ⟨2, ![8192, 4096]⟩
abbrev S4096x1024 : Shape := ⟨2, ![4096, 1024]⟩
abbrev S256x1024 : Shape := ⟨2, ![256, 1024]⟩
abbrev S256x4096 : Shape := ⟨2, ![256, 4096]⟩
abbrev S512x1024 : Shape := ⟨2, ![512, 1024]⟩
abbrev S256x512 : Shape := ⟨2, ![256, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .bf16⟩
  | .hbm, ⟨3, _⟩ => ⟨S8192x4096, .bf16⟩
  | .local _ .vmem, ⟨0, _⟩ => ⟨S256x1024, .f32⟩
  | .local _ .vmem, ⟨1, _⟩ => ⟨S256x1024, .f32⟩
  | .local _ .vmem, ⟨2, _⟩ => ⟨S256x4096, .f32⟩
  | .local _ .vmem, ⟨3, _⟩ => ⟨S256x4096, .f32⟩
  | .local _ .vmem, ⟨4, _⟩ => ⟨S4096x1024, .bf16⟩
  | .local _ .vmem, ⟨5, _⟩ => ⟨S256x4096, .bf16⟩
  | .local _ .vmem, ⟨6, _⟩ => ⟨S256x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8192x1024 : Shape := ⟨2, ![8192, 1024]⟩
abbrev S8192x4096 : Shape := ⟨2, ![8192, 4096]⟩
abbrev S4096x1024 : Shape := ⟨2, ![4096, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .bf16⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S4096x1024, .f32⟩
  | .hbm, ⟨16, _⟩ => ⟨S8192x1024, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S2x4x512x1024 : Shape := ⟨4, ![2, 4, 512, 1024]⟩
abbrev S512x512 : Shape := ⟨2, ![512, 512]⟩
abbrev S512x1024 : Shape := ⟨2, ![512, 1024]⟩
abbrev S1x1x512x1024 : Shape := ⟨4, ![1, 1, 512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S2x4x512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .f32⟩
  | .local _ .vmem, ⟨4, _⟩ => ⟨S1x1x512x1024, .f32⟩
  | .local _ .vmem, ⟨5, _⟩ => ⟨S1x1x512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S4x2x512x1024 : Shape := ⟨4, ![4, 2, 512, 1024]⟩
abbrev S2x4x512x1024 : Shape := ⟨4, ![2, 4, 512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S1024x4096, .f32⟩
  | .hbm, ⟨7, _⟩ => ⟨S4096x1024, .f32⟩
  | .hbm, ⟨8, _⟩ => ⟨S4x2x512x1024, .f32⟩
  | .hbm, ⟨9, _⟩ => ⟨S2x4x512x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S2x4x512x1024 : Shape := ⟨4, ![2, 4, 512, 1024]⟩
abbrev S512x512 : Shape := ⟨2, ![512, 512]⟩
abbrev S512x1024 : Shape := ⟨2, ![512, 1024]⟩
abbrev S1x1x512x1024 : Shape := ⟨4, ![1, 1, 512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S2x4x512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S1x1x512x1024, .f32⟩
  | .local _ .vmem, ⟨5, _⟩ => ⟨S1x1x512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S2x512x4x1024 : Shape := ⟨4, ![2, 512, 4, 1024]⟩
abbrev S2x4x512x1024 : Shape := ⟨4, ![2, 4, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S2x512x4x1024, .f32⟩
  | .hbm, ⟨10, _⟩ => ⟨S2x4x512x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .bf16⟩
  | .hbm, ⟨3, _⟩ => ⟨S8192x4096, .f32⟩
  | .hbm, ⟨4, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S256x4096, .f32⟩
  | .local _ .vmem, ⟨5, _⟩ => ⟨S256x4096, .f32⟩
  | .local _ .vmem, ⟨6, _⟩ => ⟨S256x1024, .bf16⟩
  | .local _ .vmem, ⟨7, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x4096, .f32⟩
  | .hbm, ⟨19, _⟩ => ⟨S8192x4096, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S8192x3072 : Shape := ⟨2, ![8192, 3072]⟩
abbrev S1024x3072 : Shape := ⟨2, ![1024, 3072]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S8192x640 : Shape := ⟨2, ![8192, 640]⟩
abbrev S1024x640 : Shape := ⟨2, ![1024, 640]⟩
abbrev S512x1024 : Shape := ⟨2, ![512, 1024]⟩
abbrev S512x640 : Shape := ⟨2, ![512, 640]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x640, .bf16⟩
  | .hbm, ⟨2, _⟩ => ⟨S1024x640, .f32⟩
  | .local _ .vmem, ⟨0, _⟩ => ⟨S512x1024, .bf16⟩
  | .local _ .vmem, ⟨1, _⟩ => ⟨S512x1024, .bf16⟩
  | .local _ .vmem, ⟨2, _⟩ => ⟨S512x640, .bf16⟩
  | .local _ .vmem, ⟨3, _⟩ => ⟨S512x640, .bf16⟩
  | .local _ .vmem, ⟨4, _⟩ => ⟨S1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x640 : Shape := ⟨2, ![8192, 640]⟩
abbrev S_ : Shape := ⟨0, ![]⟩
abbrev S1024x640 : Shape := ⟨2, ![1024, 640]⟩
abbrev S640x1024 : Shape := ⟨2, ![640, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x640, .bf16⟩
  | .hbm, ⟨2, _⟩ => ⟨S_, .f32⟩
  | .hbm, ⟨3, _⟩ => ⟨S1024x640, .f32⟩
  | .hbm, ⟨4, _⟩ => ⟨S8192x1024, .f32⟩
  | .hbm, ⟨5, _⟩ => ⟨S8192x640, .f32⟩
  | .hbm, ⟨6, _⟩ => ⟨S8192x640, .f32⟩
  | .hbm, ⟨7, _⟩ => ⟨S640x1024, .f32⟩
  | .hbm, ⟨8, _⟩ => ⟨S1024x640, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x4096 : Shape := ⟨2, ![8192, 4096]⟩
abbrev S8192x1024 : Shape := ⟨2, ![8192, 1024]⟩
abbrev S1024x4096 : Shape := ⟨2, ![1024, 4096]⟩
abbrev S1x1024 : Shape := ⟨2, ![1, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x1024, .f32⟩
  | .hbm, ⟨3, _⟩ => ⟨S1024x4096, .bf16⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S8192x4096 : Shape := ⟨2, ![8192, 4096]⟩
abbrev S8192x1024 : Shape := ⟨2, ![8192, 1024]⟩
abbrev S1024x4096 : Shape := ⟨2, ![1024, 4096]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x1024, .f32⟩
  | .hbm, ⟨3, _⟩ => ⟨S1024x4096, .bf16⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x4096, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel11.lean ====
abbrev S8192x1024 : Shape := ⟨2, ![8192, 1024]⟩
abbrev S8192x3072 : Shape := ⟨2, ![8192, 3072]⟩
abbrev S8192x640 : Shape := ⟨2, ![8192, 640]⟩
abbrev S1024x4736 : Shape := ⟨2, ![1024, 4736]⟩
abbrev S1x1024 : Shape := ⟨2, ![1, 1024]⟩
abbrev S256x1024 : Shape := ⟨2, ![256, 1024]⟩
abbrev S256x3072 : Shape := ⟨2, ![256, 3072]⟩
abbrev S256x640 : Shape := ⟨2, ![256, 640]⟩
abbrev S1024x1024 : Shape := ⟨2, ![1024, 1024]⟩
abbrev S1024x640 : Shape := ⟨2, ![1024, 640]⟩
abbrev S256 : Shape := ⟨1, ![256]⟩
abbrev S256x1 : Shape := ⟨2, ![256, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x3072, .bf16⟩
  | .hbm, ⟨4, _⟩ => ⟨S8192x640, .bf16⟩
  | .hbm, ⟨5, _⟩ => ⟨S1024x4736, .bf16⟩
  | .hbm, ⟨6, _⟩ => ⟨S1x1024, .f32⟩
  | .hbm, ⟨7, _⟩ => ⟨S8192x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x3072, .bf16⟩
  | .local _ .vmem, ⟨7, _⟩ => ⟨S256x3072, .bf16⟩
  | .local _ .vmem, ⟨8, _⟩ => ⟨S256x640, .bf16⟩
  | .local _ .vmem, ⟨9, _⟩ => ⟨S256x640, .bf16⟩
  | .local _ .vmem, ⟨10, _⟩ => ⟨S1024x4736, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x4736 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference11Ideal.lean ====
abbrev S8192x1024 : Shape := ⟨2, ![8192, 1024]⟩
abbrev S8192x3072 : Shape := ⟨2, ![8192, 3072]⟩
abbrev S8192x640 : Shape := ⟨2, ![8192, 640]⟩
abbrev S1024x4736 : Shape := ⟨2, ![1024, 4736]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S1024x3072 : Shape := ⟨2, ![1024, 3072]⟩
abbrev S1024x640 : Shape := ⟨2, ![1024, 640]⟩
abbrev S1024 : Shape := ⟨1, ![1024]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x3072, .bf16⟩
  | .hbm, ⟨4, _⟩ => ⟨S8192x640, .bf16⟩
  | .hbm, ⟨5, _⟩ => ⟨S1024x4736, .bf16⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1024x4736, .f32⟩
  | .hbm, ⟨27, _⟩ => ⟨S1024x1024, .f32⟩
  | .hbm, ⟨28, _⟩ => ⟨S8192x1024, .f32⟩
  | .hbm, ⟨29, _⟩ => ⟨S1024x3072, .f32⟩
  | .hbm, ⟨30, _⟩ => ⟨S8192x3072, .f32⟩
  | .hbm, ⟨31, _⟩ => ⟨S1024x640, .f32⟩
  | .hbm, ⟨32, _⟩ => ⟨S8192x640, .f32⟩
  | .hbm, ⟨33, _⟩ => ⟨S8192x1024, .f32⟩
  | .hbm, ⟨34, _⟩ => ⟨S8192x3072, .f32⟩
  | .hbm, ⟨35, _⟩ => ⟨S8192x640, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Kernel12.lean ====
abbrev S8192x1024 : Shape := ⟨2, ![8192, 1024]⟩
abbrev S8192x3072 : Shape := ⟨2, ![8192, 3072]⟩
abbrev S1024x1024 : Shape := ⟨2, ![1024, 1024]⟩
abbrev S256x1024 : Shape := ⟨2, ![256, 1024]⟩
abbrev S256x3072 : Shape := ⟨2, ![256, 3072]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x3072, .f32⟩
  | .hbm, ⟨3, _⟩ => ⟨S8192x1024, .f32⟩
  | .hbm, ⟨4, _⟩ => ⟨S1024x1024, .bf16⟩
  | .hbm, ⟨5, _⟩ => ⟨S8192x1024, .f32⟩
  | .hbm, ⟨6, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x3072, .f32⟩
  | .local _ .vmem, ⟨5, _⟩ => ⟨S256x3072, .f32⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S8192x1024 : Shape := ⟨2, ![8192, 1024]⟩
abbrev S8192x3072 : Shape := ⟨2, ![8192, 3072]⟩
abbrev S1024x1024 : Shape := ⟨2, ![1024, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x3072, .f32⟩
  | .hbm, ⟨3, _⟩ => ⟨S8192x1024, .f32⟩
  | .hbm, ⟨4, _⟩ => ⟨S1024x1024, .bf16⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1024x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel13.lean ====
abbrev S8192x4096 : Shape := ⟨2, ![8192, 4096]⟩
abbrev S8192x1024 : Shape := ⟨2, ![8192, 1024]⟩
abbrev S4096x1024 : Shape := ⟨2, ![4096, 1024]⟩
abbrev S1x1024 : Shape := ⟨2, ![1, 1024]⟩
abbrev S8x128 : Shape := ⟨2, ![8, 128]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x1024, .f32⟩
  | .hbm, ⟨3, _⟩ => ⟨S4096x1024, .bf16⟩
  | .hbm, ⟨4, _⟩ => ⟨S1x1024, .f32⟩
  | .hbm, ⟨5, _⟩ => ⟨S8192x4096, .bf16⟩
  | .hbm, ⟨6, _⟩ => ⟨S8192x1024, .f32⟩
  | .hbm, ⟨7, _⟩ => ⟨S8x128, .f32⟩
  | .hbm, ⟨8, _⟩ => ⟨S1x1024, .f32⟩
  | .local _ .vmem, ⟨0, _⟩ => ⟨S256x4096, .f32⟩
  | .local _ .vmem, ⟨1, _⟩ => ⟨S256x4096, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S1x1024, .f32⟩
  | .local _ .vmem, ⟨8, _⟩ => ⟨S256x4096, .bf16⟩
  | .local _ .vmem, ⟨9, _⟩ => ⟨S256x4096, .bf16⟩
  | .local _ .vmem, ⟨10, _⟩ => ⟨S256x1024, .f32⟩
  | .local _ .vmem, ⟨11, _⟩ => ⟨S256x1024, .f32⟩
  | .local _ .vmem, ⟨12, _⟩ => ⟨S8x128, .f32⟩
  | .local _ .vmem, ⟨13, _⟩ => ⟨S1x1024, .f32⟩
  | .local _ .vmem, ⟨14, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v63 : BitVec 1 := Scalar.cmpi .eq arg0 c31_i32
  let v64 : BitVec 32 := Scalar.extui v63
  let c0_i32_31 : BitVec 32 := 0#32
  let v65 : BitVec 1 := Scalar.cmpi .ne v64 c0_i32_31
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference13Ideal.lean ====
abbrev S8192x4096 : Shape := ⟨2, ![8192, 4096]⟩
abbrev S8192x1024 : Shape := ⟨2, ![8192, 1024]⟩
abbrev S4096x1024 : Shape := ⟨2, ![4096, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 74
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x1024, .f32⟩
  | .hbm, ⟨3, _⟩ => ⟨S4096x1024, .bf16⟩
  | .hbm, ⟨4, _⟩ => ⟨S1x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | .hbm, ⟨10, _⟩ => ⟨S4096x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_cst_8 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_v44 : Ref sig .tc := ⟨.hbm, 65, rfl⟩
abbrev main_v45 : Ref sig .tc := ⟨.hbm, 66, rfl⟩
abbrev main_cst_13 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Proof.Hand.Put.lean ====
/-
  Overwriting a rectangle of a buffer, and reading it back.
-/
module

public import Idealize.ShloMosaic.Lib.Pipeline.FrameBody
public import Idealize.ShloMosaic.Lib.Pipeline.Value

@[expose] public section

set_option maxRecDepth 16384

noncomputable section

namespace Cert.Proof

open Idealize.ShloMosaic Idealize.ShloMosaic.TcCoe Idealize.ShloMosaic.Tactic

/-! ## Overwriting a rectangle -/

/-- `X` with the rectangle `R` overwritten by `w`. -/
def put {S : Shape} {α : Type} (X : S.Idx → α) (R : Rect S) (w : R.shape.Idx → α) : S.Idx → α := by
  classical exact fun y => if h : ∃ x, R.emb x = y then w h.choose else X y

theorem put_emb {S : Shape} {α : Type} (X : S.Idx → α) (R : Rect S) (w : R.shape.Idx → α) (x : R.shape.Idx) :
    put X R w (R.emb x) = w x := by
  have h : ∃ x', R.emb x' = R.emb x := ⟨x, rfl⟩
  unfold put; rw [dif_pos h]; exact congrArg w (R.emb.injective h.choose_spec)

theorem put_not {S : Shape} {α : Type} (X : S.Idx → α) (R : Rect S) (w : R.shape.Idx → α) (y : S.Idx)
    (h : ¬ ∃ x, R.emb x = y) : put X R w y = X y := by unfold put; rw [dif_neg h]

/-- One store into a rectangle of a buffer, read back whole. -/
theorem read_writes_put {Val : EltTy → Type} {sig : RefSig} {κ : Kind} {sp : Space} {s : Shape} {e : EltTy}
    (v : View sig κ sp s e) (f : v.ty.Contents Val) (R : Rect s) (w : R.shape.Idx → Val e) :
    v.read Val (v.writes Val f [⟨R, w⟩]) = put (v.read Val f) R w := by
  funext y
  by_cases h : ∃ x, R.emb x = y
  · obtain ⟨x, rfl⟩ := h
    rw [put_emb]
    exact View.read_slice_write_emb _ _ _ (Finset.mem_univ _)
  · rw [put_not _ _ _ _ h]
    refine View.read_slice_write_of_not_mem _ _ _ _ ?_
    intro hm
    rw [Finset.mem_map] at hm
    obtain ⟨x, _, hx⟩ := hm
    exact h ⟨x, hx⟩

/-- The last of several stores, read back whole. -/
theorem read_writes_cons_put {Val : EltTy → Type} {sig : RefSig} {κ : Kind} {sp : Space} {s : Shape} {e : EltTy}
    (v : View sig κ sp s e) (f : v.ty.Contents Val) (R : Rect s) (w : R.shape.Idx → Val e) (L : List (View.Piece Val s e)) :
    v.read Val (v.writes Val f (⟨R, w⟩ :: L)) = put (v.read Val (v.writes Val f L)) R w :=
  read_writes_put v (v.writes Val f L) R w

/-- Overwriting everything. -/
theorem put_whole {S : Shape} {α : Type} {off : Fin S.rank → Nat} (h : off = fun _ => 0)
    (inb : ∀ a, off a + S.size a ≤ S.size a) (X w : S.Idx → α) :
    put X (Rect.unit off S.size inb) w = w := by
  subst h; funext y
  have hy : (Rect.unit (fun _ => 0) S.size inb).emb y = y := Rect.emb_whole_apply S y
  have := put_emb X (Rect.unit (fun _ => 0) S.size inb) w y
  rw [hy] at this; exact this

theorem rect_unit_congr {S : Shape} {sz : Fin S.rank → Nat} {off off' : Fin S.rank → Nat} (h : off = off')
    (inb : ∀ a, off a + sz a ≤ S.size a) (inb' : ∀ a, off' a + sz a ≤ S.size a) :
    Rect.unit off sz inb = Rect.unit off' sz inb' := by subst h; rfl

theorem ld_congr {S : Shape} {Val : EltTy → Type} {e : EltTy} {sz : Fin S.rank → Nat} {off off' : Fin S.rank → Nat}
    (h : off = off') (inb : ∀ a, off a + sz a ≤ S.size a) (inb' : ∀ a, off' a + sz a ≤ S.size a) (X : S.Idx → Val e) :
    (View.ld X (Rect.unit off sz inb) : (⟨S.rank, sz⟩ : Shape).Idx → Val e) = View.ld X (Rect.unit off' sz inb') := by
  subst h; rfl

/-- A load at a place equal to another, as a load off what the memref reads. -/
theorem readAt_ld {Val : EltTy → Type} {sig : RefSig} {κ : Kind} {sp : Space} {s : Shape} {e : EltTy}
    (v : View sig κ sp s e) (f : v.ty.Contents Val) {sz off off' : Fin s.rank → Nat} (h : off = off')
    (inb : ∀ a, off a + sz a ≤ s.size a) (inb' : ∀ a, off' a + sz a ≤ s.size a) :
    (v.readAt Val (Rect.unit off sz inb).toLoadRect f : (⟨s.rank, sz⟩ : Shape).Idx → Val e)
      = View.ld (v.read Val f) (Rect.unit off' sz inb') := by
  subst h; rfl

/-- A load of everything. -/
theorem readAt_whole {Val : EltTy → Type} {sig : RefSig} {κ : Kind} {sp : Space} {s : Shape} {e : EltTy}
    (v : View sig κ sp s e) (f : v.ty.Contents Val) {off : Fin s.rank → Nat} (h : off = fun _ => 0)
    (inb : ∀ a, off a + s.size a ≤ s.size a) :
    (v.readAt Val (Rect.unit off s.size inb).toLoadRect f : s.Idx → Val e) = v.read Val f :=
  View.ld_unit_zero h inb (v.read Val f)

theorem put_congr {S : Shape} {α : Type} {sz : Fin S.rank → Nat} {off off' : Fin S.rank → Nat}
    (h : off = off') (inb : ∀ a, off a + sz a ≤ S.size a) (inb' : ∀ a, off' a + sz a ≤ S.size a) (X : S.Idx → α)
    (w : (⟨S.rank, sz⟩ : Shape).Idx → α) :
    put X (Rect.unit off sz inb) w = put X (Rect.unit off' sz inb') w := by
  subst h; rfl

/-- A load of everything after a store of everything. -/
theorem readCov_whole {Val : EltTy → Type} [∀ e, Nonempty (Val e)] {sig : RefSig} {κ : Kind} {sp : Space} {s : Shape} {e : EltTy}
    (v : View sig κ sp s e) {off : Fin s.rank → Nat} (h : off = fun _ => 0)
    (inb inb' : ∀ a, off a + s.size a ≤ s.size a) (w : s.Idx → Val e) (L : List (View.Piece Val s e)) :
    (v.readCov (⟨Rect.unit off s.size inb, w⟩ :: L) (Rect.unit off s.size inb').toLoadRect : s.Idx → Val e) = w := by
  unfold View.readCov
  rw [readAt_whole v _ h, read_writes_cons_put, put_whole h]

/-- A load of a rectangle apart from the one overwritten. -/
theorem ld_put_apart {S : Shape} {Val : EltTy → Type} {e : EltTy} (X : S.Idx → Val e) (R R' : Rect S) (w : R.shape.Idx → Val e)
    (h : ∀ x x', R.emb x ≠ R'.emb x') : View.ld (put X R w) R' = View.ld X R' := by
  funext x'
  exact put_not _ _ _ _ fun ⟨x, hx⟩ => h x x' hx

/-- What a count of trips leaves: what was found, at none. -/
abbrev lv {α : Type} (k : ℕ) (a b : α) : α := match k with | 0 => a | _ + 1 => b

end Cert.Proof
end
-- ==== Proof.Hand.IdealState.lean ====
/-
  What one key block of the backward pass does to its three accumulators, as functions of the blocks it reads:
  the slab of the query gradient, the key gradient, the value gradient. Stated at any value interpretation.
-/
module

public import proofs.«01_k».proof.Proof.Gen.KernelIdeal.Skeleton
public import proofs.«01_k».proof.Proof.Hand.Put
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-! ## The rectangles of query block `j` -/

theorem qR_inb (j : Fin 16) : ∀ a, (![0, 512 * j.val, 0] : Fin S1x8192x256.rank → Nat) a + S1x512x256.size a ≤ S1x8192x256.size a := by revert j; decide
abbrev qR (j : Fin 16) : Rect S1x8192x256 :=
  Rect.unit (s := S1x8192x256) ![0, 512 * j.val, 0] S1x512x256.size (qR_inb j)
theorem oR_inb (j : Fin 16) : ∀ a, (![512 * j.val, 0] : Fin S8192x128.rank → Nat) a + S512x128.size a ≤ S8192x128.size a := by revert j; decide
abbrev oR (j : Fin 16) : Rect S8192x128 :=
  Rect.unit (s := S8192x128) ![512 * j.val, 0] S512x128.size (oR_inb j)
theorem lR_inb (j : Fin 16) : ∀ a, (![0, j.val, 0, 0] : Fin S1x16x8x512.rank → Nat) a + S1x1x1x512.size a ≤ S1x16x8x512.size a := by revert j; decide
abbrev lR (j : Fin 16) : Rect S1x16x8x512 :=
  Rect.unit (s := S1x16x8x512) ![0, j.val, 0, 0] S1x1x1x512.size (lR_inb j)
theorem gR_inb (j : Fin 16) : ∀ a, (![0, j.val, 0, 0] : Fin S1x16x256x512.rank → Nat) a + S1x1x256x512.size a ≤ S1x16x256x512.size a := by revert j; decide
abbrev gR (j : Fin 16) : Rect S1x16x256x512 :=
  Rect.unit (s := S1x16x256x512) ![0, j.val, 0, 0] S1x1x256x512.size (gR_inb j)

/-- A store at block `j`'s slab, wherever its place is printed. -/
theorem put_g {α : Type} {off : Fin S1x16x256x512.rank → Nat} (j : Fin 16) (h : off = ![0, j.val, 0, 0])
    (inb : ∀ a, off a + S1x1x256x512.size a ≤ S1x16x256x512.size a) (X : S1x16x256x512.Idx → α) (w : S1x1x256x512.Idx → α) :
    put X (Rect.unit (s := S1x16x256x512) off S1x1x256x512.size inb) w = put X (gR j) w := by subst h; rfl

theorem gR_apart {j j' : Fin 16} (h : j ≠ j') (x : (gR j).shape.Idx) (x' : (gR j').shape.Idx) : (gR j).emb x ≠ (gR j').emb x' := by
  intro he
  have h1 := congrArg (fun y => (y 1).val) he
  have e1 : ((gR j).emb x 1).val = j.val := by
    have hx : (x 1).val < 1 := (x 1).isLt
    show j.val + 1 * (x 1).val = j.val
    omega
  have e2 : ((gR j').emb x' 1).val = j'.val := by
    have hx : (x' 1).val < 1 := (x' 1).isLt
    show j'.val + 1 * (x' 1).val = j'.val
    omega
  apply h
  apply Fin.ext
  rw [← e1, ← e2]
  exact h1

/-! ## The accumulators -/

variable (F : FTy → Type) [FloatOps F] [Named F]

/-- The three accumulators: the query gradient's slab, the key gradient's block, the value gradient's block. -/
structure St where
  q : Vec F S1x16x256x512 .f32
  k : Vec F S1x512x256 .f32
  v : Vec F S1x512x128 .f32

/-- What one key block reads: its key and value blocks as the products take them, and its head's queries,
    cotangents, log-sums and row terms. -/
structure In where
  q : Vec F S1x8192x256 .bf16
  k : FVec F S512x256 .bf16
  v : FVec F S512x128 .bf16
  t : FVec F S256x512 .bf16
  o : Vec F S8192x128 .bf16
  l : Vec F S1x16x8x512 .f32
  d : Vec F S1x16x8x512 .f32

variable {F}

/-- The score gradient of a query block past the diagonal. -/
def dsOf (x : In F) (j : Fin 16) : FVec F S512x512 .bf16 :=
  k0_pay36 x.k x.v (View.ld x.q (qR j)) (View.ld x.o (oR j)) (View.ld x.l (lR j)) (View.ld x.d (lR j))

/-- A query block past the diagonal added to the accumulators. -/
def stepF (x : In F) (j : Fin 16) (s : St F) : St F where
  q := put s.q (gR j) (k0_pay58 x.t (dsOf x j) (View.ld s.q (gR j)))
  k := k0_pay57 (k0_pay33 (View.ld x.q (qR j))) (dsOf x j) s.k
  v := k0_pay35 x.k (View.ld x.q (qR j)) (View.ld x.o (oR j)) (View.ld x.l (lR j)) s.v

def step (x : In F) (j : ℕ) (s : St F) : St F := if h : j < 16 then stepF x ⟨j, h⟩ s else s

theorem step_lt (x : In F) {j : ℕ} (h : j < 16) (s : St F) : step x j s = stepF x ⟨j, h⟩ s := dif_pos h

/-- `n` query blocks from `j` on. -/
def steps (x : In F) (j : ℕ) : ℕ → St F → St F
  | 0, s => s
  | n + 1, s => step x (j + n) (steps x j n s)

theorem steps_add (x : In F) (j a b : ℕ) (s : St F) : steps x j (a + b) s = steps x (j + a) b (steps x j a s) := by
  induction b with
  | zero => rfl
  | succ b ih => rw [← Nat.add_assoc]; simp only [steps]; rw [ih, Nat.add_assoc]

abbrev colI : IVec S512x512 32 := iota .tc S512x512 32 [1] iota_S512x512_d1_w32
abbrev rowI : IVec S512x512 32 := iota .tc S512x512 32 [0] iota_S512x512_d0_w32

/-- The weights of the diagonal block `j`, before the mask. -/
def pOf (q : Vec F S1x8192x256 .bf16) (k : Vec F S1x512x256 .bf16) (l : Vec F S1x16x8x512 .f32) (j : Fin 16) : FVec F S512x512 .f32 :=
  k0_pay48 k (View.ld q (qR j)) (View.ld l (lR j))

/-- The diagonal block `j`: the key and value gradients afresh, the query gradient's slab added to. -/
def diag (x : In F) (k : Vec F S1x512x256 .bf16) (j : Fin 16) (q : Vec F S1x16x256x512 .f32) : St F where
  q := put q (gR j) (k0_pay54 (k0_pay53 x.v x.t (View.ld x.o (oR j)) (pOf x.q k x.l j) colI rowI (View.ld x.d (lR j)) (View.ld q (gR j))))
  k := k0_pay52 x.v (k0_pay47 (View.ld x.q (qR j))) (View.ld x.o (oR j)) (pOf x.q k x.l j) colI rowI (View.ld x.d (lR j)) (k0_pay45 (F := F))
  v := k0_pay50 (View.ld x.o (oR j)) (pOf x.q k x.l j) colI rowI (k0_pay46 (F := F))

/-- The blocks of a point as the products take them. -/
def inOf (q : Vec F S1x8192x256 .bf16) (k : Vec F S1x512x256 .bf16) (v : Vec F S1x512x128 .bf16) (o : Vec F S8192x128 .bf16)
    (l d : Vec F S1x16x8x512 .f32) : In F := ⟨q, k0_pay42 k, k0_pay43 v, k0_pay44 k, o, l, d⟩

/-- What key block `j` leaves, from what its head's earlier key blocks left of the query gradient. -/
def out (q : Vec F S1x8192x256 .bf16) (k : Vec F S1x512x256 .bf16) (v : Vec F S1x512x128 .bf16) (o : Vec F S8192x128 .bf16)
    (l d : Vec F S1x16x8x512 .f32) (j : Fin 16) (g : Vec F S1x16x256x512 .f32) : St F :=
  steps (inOf q k v o l d) (j.val + 1) (15 - j.val) (diag (inOf q k v o l d) k j (if j.val = 0 then k0_pay41 (F := F) else g))

/-! ## The printed payloads of the paired blocks are those of the single one -/

theorem pay5_eq (k : FVec F S512x256 .bf16) (q : Vec F S1x512x256 .bf16) (o : Vec F S512x128 .bf16) (l : Vec F S1x1x1x512 .f32) (X : Vec F S1x512x128 .f32) :
    k0_pay5 k q o l X = k0_pay35 k q o l X := rfl
theorem pay3_eq (q : Vec F S1x512x256 .bf16) : k0_pay3 q = k0_pay33 q := rfl
theorem pay9_eq (r : FVec F S512x256 .bf16) (k : FVec F S512x256 .bf16) (v : FVec F S512x128 .bf16) (q : Vec F S1x512x256 .bf16) (o : Vec F S512x128 .bf16)
    (l d : Vec F S1x1x1x512 .f32) (X : Vec F S1x512x256 .f32) :
    k0_pay9 r (k0_pay6 k v q o l d) (k0_pay7 (F := F)) X = k0_pay57 r (k0_pay36 k v q o l d) X := rfl
theorem pay10_eq (t : FVec F S256x512 .bf16) (k : FVec F S512x256 .bf16) (v : FVec F S512x128 .bf16) (q : Vec F S1x512x256 .bf16) (o : Vec F S512x128 .bf16)
    (l d : Vec F S1x1x1x512 .f32) (X : Vec F S1x1x256x512 .f32) :
    k0_pay10 t (k0_pay6 k v q o l d) (k0_pay7 (F := F)) X = k0_pay58 t (k0_pay36 k v q o l d) X := rfl
theorem pay11_eq (q : Vec F S1x512x256 .bf16) : k0_pay11 q = k0_pay33 q := rfl
theorem pay14_eq (k : FVec F S512x256 .bf16) (q : Vec F S1x512x256 .bf16) (o : Vec F S512x128 .bf16) (l : Vec F S1x1x1x512 .f32) (X : Vec F S1x512x128 .f32) :
    k0_pay14 o (k0_pay12 k q) l X = k0_pay35 k q o l X := rfl
theorem pay16_eq (r : FVec F S512x256 .bf16) (k : FVec F S512x256 .bf16) (v : FVec F S512x128 .bf16) (q : Vec F S1x512x256 .bf16) (o : Vec F S512x128 .bf16)
    (l d : Vec F S1x1x1x512 .f32) (X : Vec F S1x512x256 .f32) :
    k0_pay16 v r o (k0_pay12 k q) l d X = k0_pay57 r (k0_pay36 k v q o l d) X := rfl
theorem pay55_eq (t : FVec F S256x512 .bf16) (k : FVec F S512x256 .bf16) (v : FVec F S512x128 .bf16) (q : Vec F S1x512x256 .bf16) (o : Vec F S512x128 .bf16)
    (l d : Vec F S1x1x1x512 .f32) (X : Vec F S1x1x256x512 .f32) :
    k0_pay55 (k0_pay17 v t o (k0_pay12 k q) l d X) = k0_pay58 t (k0_pay36 k v q o l d) X := rfl

end Cert.Proof.KernelIdeal
end
-- ==== Proof.Hand.IdealPlaces.lean ====
/-
  Where the backward pass reads and writes at a grid point and a trip of its loops, in closed form.
-/
module

public import proofs.«01_k».proof.Proof.Gen.KernelIdeal.Skeleton

@[expose] public section

set_option maxRecDepth 16384

namespace Cert.Proof.KernelIdeal

open Cert.KernelIdeal Cert.KernelIdeal.Gen
open Idealize.ShloMosaic

/-! ## The printed places, in closed form -/

theorem off1_eq : ∀ i : grid0.Coords, k0_off1 i = ![0, 512 * (i 1).val, 0] := by decide +kernel
theorem off2_eq : ∀ i : grid0.Coords, k0_off2 i = ![512 * (i 1).val, 0] := by decide +kernel
theorem off3_eq : ∀ i : grid0.Coords, k0_off3 i = ![0, (i 1).val, 0, 0] := by decide +kernel
theorem off4_eq : ∀ i : grid0.Coords, k0_off4 i = ![0, (i 1).val, 0, 0] := by decide +kernel
theorem off5_1 : ∀ (i : grid0.Coords) k, k0_off5 i k 1#32 = ![0, 512 * ((i 1).val + 1 + 2 * k.val), 0] := by decide +kernel
theorem off5_2 : ∀ (i : grid0.Coords) k, k0_off5 i k 2#32 = ![0, 512 * ((i 1).val + 1 + (2 * k.val + 1)), 0] := by decide +kernel
theorem off6_1 : ∀ (i : grid0.Coords) k, k0_off6 i k 1#32 = ![512 * ((i 1).val + 1 + 2 * k.val), 0] := by decide +kernel
theorem off6_2 : ∀ (i : grid0.Coords) k, k0_off6 i k 2#32 = ![512 * ((i 1).val + 1 + (2 * k.val + 1)), 0] := by decide +kernel
theorem off7_1 : ∀ (i : grid0.Coords) k, k0_off7 i k 1#32 = ![0, (i 1).val + 1 + 2 * k.val, 0, 0] := by decide +kernel
theorem off7_2 : ∀ (i : grid0.Coords) k, k0_off7 i k 2#32 = ![0, (i 1).val + 1 + (2 * k.val + 1), 0, 0] := by decide +kernel
theorem off8_1 : ∀ (i : grid0.Coords) k, k0_off8 i k 1#32 = ![0, (i 1).val + 1 + 2 * k.val, 0, 0] := by decide +kernel
theorem off8_2 : ∀ (i : grid0.Coords) k, k0_off8 i k 2#32 = ![0, (i 1).val + 1 + (2 * k.val + 1), 0, 0] := by decide +kernel
theorem off13_eq : ∀ (i : grid0.Coords) k, k0_off13 i k = ![0, 512 * ((i 1).val + 1 + 2 * ((15 - (i 1).val) / 2) + k.val), 0] := by decide +kernel
theorem off14_eq : ∀ (i : grid0.Coords) k, k0_off14 i k = ![512 * ((i 1).val + 1 + 2 * ((15 - (i 1).val) / 2) + k.val), 0] := by decide +kernel
theorem off15_eq : ∀ (i : grid0.Coords) k, k0_off15 i k = ![0, (i 1).val + 1 + 2 * ((15 - (i 1).val) / 2) + k.val, 0, 0] := by decide +kernel
theorem off16_eq : ∀ (i : grid0.Coords) k, k0_off16 i k = ![0, (i 1).val + 1 + 2 * ((15 - (i 1).val) / 2) + k.val, 0, 0] := by decide +kernel
theorem trips1 : ∀ i : grid0.Coords, (k0_t1_loop i).trips = (15 - (i 1).val) / 2 := by decide +kernel
theorem trips3 : ∀ i : grid0.Coords, (k0_t3_loop i).trips = (15 - (i 1).val) % 2 := by decide +kernel

end Cert.Proof.KernelIdeal
-- ==== Proof.Hand.IdealLoops.lean ====
/-
  The two loops of the backward pass over the query blocks past the diagonal, by their invariants: before trip `k`
  the accumulators read what the steps so far leave of what the loop found.
-/
module

public import proofs.«01_k».proof.Proof.Hand.IdealState
public import proofs.«01_k».proof.Proof.Hand.IdealPlaces
public import proofs.«01_k».proof.Proof.Gen.KernelIdeal.Loops
public import proofs.«01_k».proof.Proof.Gen.KernelIdeal.Frame
public import Idealize.ShloMosaic.Lib.LoopRemainder

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A whole memref held at raw contents. -/
abbrev at' (c : Dev nD) {s : Shape} {e : EltTy} (M : Memref sig .tc .vmem s e) (f : BufTy.Contents (Elt F) M.view.ty) : sProp 𝕄 :=
  iprop(M.view.loc (c : Thread nD τ) ↦[M.view.set]{fullShare} f)

/-- A whole memref held at what it reads. -/
abbrev rd (c : Dev nD) {s : Shape} {e : EltTy} (M : Memref sig .tc .vmem s e) (X : s.Idx → Elt F e) : sProp 𝕄 :=
  iprop(∃ f, at' c M f ∗ ⌜M.view.read (Elt F) f = X⌝)

/-- ONE TRIP of the last loop: one query block. -/
theorem trip3 (𝒱 : Variants) (c : Dev nD) (bd : Option 𝒱.V) (E : Set ℕ) (i : grid0.Coords) (arg2 : Memref sig .tc .vmem S1x8192x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S1x16x8x512 .f32) (harg7 : arg7.IsWhole) (arg8 : Memref sig .tc .vmem S1x16x256x512 .f32) (harg8 : arg8.IsWhole) (arg9 : Memref sig .tc .vmem S1x512x256 .f32) (harg9 : arg9.IsWhole) (arg10 : Memref sig .tc .vmem S1x512x128 .f32) (harg10 : arg10.IsWhole)
    (v4 : FVec F S512x256 .bf16) (v6 : FVec F S512x128 .bf16) (v7 : FVec F S256x512 .bf16) (v62 : FVec F S256x512 .f32) (arg1 v92 : BitVec 32)
    (X2 : BufTy.Contents (Elt F) arg2.view.ty) (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty)
    (k : Fin (k0_t3_loop i).trips) :
    iprop(at' c arg2 X2 ∗ at' c arg5 X5 ∗ at' c arg6 X6 ∗ at' c arg7 X7 ∗ at' c arg8 f8 ∗ at' c arg9 f9 ∗ at' c arg10 f10)
    ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg1 v4 v6 v7 v62 v92 k PUnit.unit)
      (fun _ => iprop(at' c arg2 X2 ∗ at' c arg5 X5 ∗ at' c arg6 X6 ∗ at' c arg7 X7
        ∗ rd c arg8 (step ⟨arg2.view.read (Elt F) X2, v4, v6, v7, arg5.view.read (Elt F) X5, arg6.view.read (Elt F) X6, arg7.view.read (Elt F) X7⟩
            ((i 1).val + 1 + 2 * ((15 - (i 1).val) / 2) + k.val) ⟨arg8.view.read (Elt F) f8, arg9.view.read (Elt F) f9, arg10.view.read (Elt F) f10⟩).q
        ∗ rd c arg9 (step ⟨arg2.view.read (Elt F) X2, v4, v6, v7, arg5.view.read (Elt F) X5, arg6.view.read (Elt F) X6, arg7.view.read (Elt F) X7⟩
            ((i 1).val + 1 + 2 * ((15 - (i 1).val) / 2) + k.val) ⟨arg8.view.read (Elt F) f8, arg9.view.read (Elt F) f9, arg10.view.read (Elt F) f10⟩).k
        ∗ rd c arg10 (step ⟨arg2.view.read (Elt F) X2, v4, v6, v7, arg5.view.read (Elt F) X5, arg6.view.read (Elt F) X6, arg7.view.read (Elt F) X7⟩
            ((i 1).val + 1 + 2 * ((15 - (i 1).val) / 2) + k.val) ⟨arg8.view.read (Elt F) f8, arg9.view.read (Elt F) f9, arg10.view.read (Elt F) f10⟩).v)) := by
  unfold k0_t3_body
  iintro ⟨H2, H5, H6, H7, H8, H9, H10⟩
  have hj : (i 1).val + 1 + 2 * ((15 - (i 1).val) / 2) + k.val < 16 := by
    have h : k.val < (15 - (i 1).val) % 2 := lt_of_lt_of_eq k.isLt (trips3 i)
    have h1 : (i 1).val < 16 := (i 1).isLt
    omega
  rw [step_lt _ hj]
  sl_exec_parts
  sl_step
  isplitl [H2]; · iexact H2
  isplitl [H5]; · iexact H5
  isplitl [H6]; · iexact H6
  isplitl [H7]; · iexact H7
  isplitl [H8]
  · iexists _; isplitl [H8]; · iexact H8
    ipureintro
    rw [read_writes_put]
    unfold trip3.sl.r_1 stepF dsOf
    dsimp only
    rw [put_g ⟨_, hj⟩ (off16_eq i k), readAt_ld arg8.view _ (off16_eq i k) _ (gR_inb ⟨_, hj⟩), readAt_ld arg2.view _ (off13_eq i k) _ (qR_inb ⟨_, hj⟩),
      readAt_ld arg5.view _ (off14_eq i k) _ (oR_inb ⟨_, hj⟩), readAt_ld arg6.view _ (off15_eq i k) _ (lR_inb ⟨_, hj⟩), readAt_ld arg7.view _ (off15_eq i k) _ (lR_inb ⟨_, hj⟩)]
  isplitl [H9]
  · iexists _; isplitl [H9]; · iexact H9
    ipureintro
    rw [read_writes_put, put_whole (by funext a; fin_cases a <;> rfl)]
    unfold trip3.sl.r_1 trip3.sl.r stepF dsOf
    dsimp only
    rw [readAt_whole _ _ (by funext a; fin_cases a <;> rfl), readAt_ld arg2.view _ (off13_eq i k) _ (qR_inb ⟨_, hj⟩),
      readAt_ld arg5.view _ (off14_eq i k) _ (oR_inb ⟨_, hj⟩), readAt_ld arg6.view _ (off15_eq i k) _ (lR_inb ⟨_, hj⟩), readAt_ld arg7.view _ (off15_eq i k) _ (lR_inb ⟨_, hj⟩)]
  · iexists _; isplitl [H10]; · iexact H10
    ipureintro
    rw [read_writes_put, put_whole (by funext a; fin_cases a <;> rfl)]
    unfold stepF
    dsimp only
    rw [readAt_whole _ _ (by funext a; fin_cases a <;> rfl), readAt_ld arg2.view _ (off13_eq i k) _ (qR_inb ⟨_, hj⟩),
      readAt_ld arg5.view _ (off14_eq i k) _ (oR_inb ⟨_, hj⟩), readAt_ld arg6.view _ (off15_eq i k) _ (lR_inb ⟨_, hj⟩)]

instance closedOff8_1 (i : grid0.Coords) (k : Fin (k0_t1_loop i).trips) : ClosedOff (k0_off8 i k 1#32) := ⟨_, off8_1 i k⟩
instance closedOff8_2 (i : grid0.Coords) (k : Fin (k0_t1_loop i).trips) : ClosedOff (k0_off8 i k 2#32) := ⟨_, off8_2 i k⟩

/-- ONE TRIP of the pair loop: two query blocks. -/
theorem trip1 (𝒱 : Variants) (c : Dev nD) (bd : Option 𝒱.V) (E : Set ℕ) (i : grid0.Coords) (arg2 : Memref sig .tc .vmem S1x8192x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S1x16x8x512 .f32) (harg7 : arg7.IsWhole) (arg8 : Memref sig .tc .vmem S1x16x256x512 .f32) (harg8 : arg8.IsWhole) (arg9 : Memref sig .tc .vmem S1x512x256 .f32) (harg9 : arg9.IsWhole) (arg10 : Memref sig .tc .vmem S1x512x128 .f32) (harg10 : arg10.IsWhole)
    (v4 : FVec F S512x256 .bf16) (v6 : FVec F S512x128 .bf16) (v7 : FVec F S256x512 .bf16) (v62 : FVec F S256x512 .f32) (arg1 : BitVec 32)
    (X2 : BufTy.Contents (Elt F) arg2.view.ty) (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty)
    (k : Fin (k0_t1_loop i).trips) :
    iprop(at' c arg2 X2 ∗ at' c arg5 X5 ∗ at' c arg6 X6 ∗ at' c arg7 X7 ∗ at' c arg8 f8 ∗ at' c arg9 f9 ∗ at' c arg10 f10)
    ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg1 v4 v6 v7 v62 k PUnit.unit)
      (fun _ => iprop(at' c arg2 X2 ∗ at' c arg5 X5 ∗ at' c arg6 X6 ∗ at' c arg7 X7
        ∗ rd c arg8 (steps ⟨arg2.view.read (Elt F) X2, v4, v6, v7, arg5.view.read (Elt F) X5, arg6.view.read (Elt F) X6, arg7.view.read (Elt F) X7⟩ ((i 1).val + 1 + 2 * k.val) 2 ⟨arg8.view.read (Elt F) f8, arg9.view.read (Elt F) f9, arg10.view.read (Elt F) f10⟩).q
        ∗ rd c arg9 (steps ⟨arg2.view.read (Elt F) X2, v4, v6, v7, arg5.view.read (Elt F) X5, arg6.view.read (Elt F) X6, arg7.view.read (Elt F) X7⟩ ((i 1).val + 1 + 2 * k.val) 2 ⟨arg8.view.read (Elt F) f8, arg9.view.read (Elt F) f9, arg10.view.read (Elt F) f10⟩).k
        ∗ rd c arg10 (steps ⟨arg2.view.read (Elt F) X2, v4, v6, v7, arg5.view.read (Elt F) X5, arg6.view.read (Elt F) X6, arg7.view.read (Elt F) X7⟩ ((i 1).val + 1 + 2 * k.val) 2 ⟨arg8.view.read (Elt F) f8, arg9.view.read (Elt F) f9, arg10.view.read (Elt F) f10⟩).v)) := by
  unfold k0_t1_body
  iintro ⟨H2, H5, H6, H7, H8, H9, H10⟩
  have hk : k.val < (15 - (i 1).val) / 2 := lt_of_lt_of_eq k.isLt (trips1 i)
  have hj1 : (i 1).val + 1 + 2 * k.val < 16 := by omega
  have hj2 : (i 1).val + 1 + (2 * k.val + 1) < 16 := by omega
  simp only [steps, Nat.add_zero, Nat.zero_add, Nat.add_assoc ((i 1).val + 1)]
  rw [step_lt _ hj1, step_lt _ hj2]
  sl_exec_parts
  sl_step
  isplitl [H2]; · iexact H2
  isplitl [H5]; · iexact H5
  isplitl [H6]; · iexact H6
  isplitl [H7]; · iexact H7
  isplitl [H8]
  · iexists _; isplitl [H8]; · iexact H8
    ipureintro
    unfold trip1.sl.r_6 trip1.sl.v196 trip1.sl.H8_1 trip1.sl.r_5 trip1.sl.r_4 trip1.sl.r_3 trip1.sl.r_1
    rw [read_writes_cons_put, read_writes_put, pay55_eq, pay10_eq]
    unfold stepF dsOf
    dsimp only
    rw [put_g ⟨_, hj2⟩ (off8_2 i k), put_g ⟨_, hj1⟩ (off8_1 i k), readAt_ld arg2.view _ (off5_1 i k) _ (qR_inb ⟨_, hj1⟩), readAt_ld arg5.view _ (off6_1 i k) _ (oR_inb ⟨_, hj1⟩), readAt_ld arg6.view _ (off7_1 i k) _ (lR_inb ⟨_, hj1⟩), readAt_ld arg7.view _ (off7_1 i k) _ (lR_inb ⟨_, hj1⟩), readAt_ld arg8.view _ (off8_1 i k) _ (gR_inb ⟨_, hj1⟩), readAt_ld arg2.view _ (off5_2 i k) _ (qR_inb ⟨_, hj2⟩), readAt_ld arg5.view _ (off6_2 i k) _ (oR_inb ⟨_, hj2⟩), readAt_ld arg6.view _ (off7_2 i k) _ (lR_inb ⟨_, hj2⟩), readAt_ld arg7.view _ (off7_2 i k) _ (lR_inb ⟨_, hj2⟩), readAt_ld arg8.view _ (off8_2 i k) _ (gR_inb ⟨_, hj2⟩), ld_put_apart _ _ _ _ (gR_apart (by simp))]
  isplitl [H9]
  · iexists _; isplitl [H9]; · iexact H9
    ipureintro
    rw [read_writes_cons_put, put_whole (by funext a; fin_cases a <;> rfl)]
    unfold trip1.sl.v188 trip1.sl.H9_1 trip1.sl.r_5 trip1.sl.r_4 trip1.sl.r_3 trip1.sl.r_2 trip1.sl.r_1 trip1.sl.r
    rw [pay16_eq, readCov_whole _ (by funext a; fin_cases a <;> rfl), pay9_eq, pay11_eq, pay3_eq]
    unfold stepF dsOf
    dsimp only
    rw [readAt_whole arg9.view _ (by funext a; fin_cases a <;> rfl), readAt_ld arg2.view _ (off5_1 i k) _ (qR_inb ⟨_, hj1⟩), readAt_ld arg5.view _ (off6_1 i k) _ (oR_inb ⟨_, hj1⟩), readAt_ld arg6.view _ (off7_1 i k) _ (lR_inb ⟨_, hj1⟩), readAt_ld arg7.view _ (off7_1 i k) _ (lR_inb ⟨_, hj1⟩), readAt_ld arg2.view _ (off5_2 i k) _ (qR_inb ⟨_, hj2⟩), readAt_ld arg5.view _ (off6_2 i k) _ (oR_inb ⟨_, hj2⟩), readAt_ld arg6.view _ (off7_2 i k) _ (lR_inb ⟨_, hj2⟩), readAt_ld arg7.view _ (off7_2 i k) _ (lR_inb ⟨_, hj2⟩)]
  · iexists _; isplitl [H10]; · iexact H10
    ipureintro
    rw [read_writes_cons_put, put_whole (by funext a; fin_cases a <;> rfl)]
    unfold trip1.sl.v170 trip1.sl.H10_1 trip1.sl.r_5 trip1.sl.r_4 trip1.sl.r_3
    rw [pay14_eq, readCov_whole _ (by funext a; fin_cases a <;> rfl), pay5_eq]
    unfold stepF
    dsimp only
    rw [readAt_whole arg10.view _ (by funext a; fin_cases a <;> rfl), readAt_ld arg2.view _ (off5_1 i k) _ (qR_inb ⟨_, hj1⟩), readAt_ld arg5.view _ (off6_1 i k) _ (oR_inb ⟨_, hj1⟩), readAt_ld arg6.view _ (off7_1 i k) _ (lR_inb ⟨_, hj1⟩), readAt_ld arg2.view _ (off5_2 i k) _ (qR_inb ⟨_, hj2⟩), readAt_ld arg5.view _ (off6_2 i k) _ (oR_inb ⟨_, hj2⟩), readAt_ld arg6.view _ (off7_2 i k) _ (lR_inb ⟨_, hj2⟩)]

set_option warn.classDefReducibility false in
/-- Loop 3 by its invariant. -/
@[sl_loop] def loopInv3 (𝒱 : Variants) (c : Dev nD) (bd : Option 𝒱.V) (E : Set ℕ) (i : grid0.Coords) (arg2 : Memref sig .tc .vmem S1x8192x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S1x16x8x512 .f32) (harg7 : arg7.IsWhole) (arg8 : Memref sig .tc .vmem S1x16x256x512 .f32) (harg8 : arg8.IsWhole) (arg9 : Memref sig .tc .vmem S1x512x256 .f32) (harg9 : arg9.IsWhole) (arg10 : Memref sig .tc .vmem S1x512x128 .f32) (harg10 : arg10.IsWhole)
    (arg1 : BitVec 32) (v4 : FVec F S512x256 .bf16) (v6 : FVec F S512x128 .bf16) (v7 : FVec F S256x512 .bf16) (v62 : FVec F S256x512 .f32) (v92 : BitVec 32)
    (X2 : BufTy.Contents (Elt F) arg2.view.ty) (X5 : BufTy.Contents (Elt F) arg5.view.ty) (X6 : BufTy.Contents (Elt F) arg6.view.ty) (X7 : BufTy.Contents (Elt F) arg7.view.ty)
    (G8 : BufTy.Contents (Elt F) arg8.view.ty) (G9 : BufTy.Contents (Elt F) arg9.view.ty) (G10 : BufTy.Contents (Elt F) arg10.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg1 v4 v6 v7 v62 v92 where
  inv k _ := iprop(at' c arg2 X2 ∗ at' c arg5 X5 ∗ at' c arg6 X6 ∗ at' c arg7 X7
        ∗ rd c arg8 (lv k (arg8.view.read (Elt F) G8) (steps ⟨arg2.view.read (Elt F) X2, v4, v6, v7, arg5.view.read (Elt F) X5, arg6.view.read (Elt F) X6, arg7.view.read (Elt F) X7⟩ ((i 1).val + 1 + 2 * ((15 - (i 1).val) / 2)) (k) ⟨arg8.view.read (Elt F) G8, arg9.view.read (Elt F) G9, arg10.view.read (Elt F) G10⟩).q)
        ∗ rd c arg9 (lv k (arg9.view.read (Elt F) G9) (steps ⟨arg2.view.read (Elt F) X2, v4, v6, v7, arg5.view.read (Elt F) X5, arg6.view.read (Elt F) X6, arg7.view.read (Elt F) X7⟩ ((i 1).val + 1 + 2 * ((15 - (i 1).val) / 2)) (k) ⟨arg8.view.read (Elt F) G8, arg9.view.read (Elt F) G9, arg10.view.read (Elt F) G10⟩).k)
        ∗ rd c arg10 (lv k (arg10.view.read (Elt F) G10) (steps ⟨arg2.view.read (Elt F) X2, v4, v6, v7, arg5.view.read (Elt F) X5, arg6.view.read (Elt F) X6, arg7.view.read (Elt F) X7⟩ ((i 1).val + 1 + 2 * ((15 - (i 1).val) / 2)) (k) ⟨arg8.view.read (Elt F) G8, arg9.view.read (Elt F) G9, arg10.view.read (Elt F) G10⟩).v))
  step k acc := by
    iintro ⟨H2, H5, H6, H7, ⟨%f8, H8, %h8⟩, ⟨%f9, H9, %h9⟩, ⟨%f10, H10, %h10⟩⟩
    iapply (wp_wand_r Idealize.ShloMosaic.frame (wpE (defs₀ (F := F)) 𝒱 (c : Thread nD τ) bd) E)
    isplitl [H2 H5 H6 H7 H8 H9 H10]
    · iapply (trip3 (F := F) 𝒱 c bd E i arg2 harg2 arg3 harg3 arg4 harg4 arg5 harg5 arg6 harg6 arg7 harg7 arg8 harg8 arg9 harg9 arg10 harg10 v4 v6 v7 v62 arg1 v92 X2 X5 X6 X7 f8 f9 f10 k)
      isplitl [H2]; · iexact H2
      isplitl [H5]; · iexact H5
      isplitl [H6]; · iexact H6
      isplitl [H7]; · iexact H7
      isplitl [H8]; · iexact H8
      isplitl [H9]; · iexact H9
      iexact H10
    · have hs : ∀ s : St F, steps ⟨arg2.view.read (Elt F) X2, v4, v6, v7, arg5.view.read (Elt F) X5, arg6.view.read (Elt F) X6, arg7.view.read (Elt F) X7⟩ ((i 1).val + 1 + 2 * ((15 - (i 1).val) / 2)) ((k.val + 1)) s
          = step ⟨arg2.view.read (Elt F) X2, v4, v6, v7, arg5.view.read (Elt F) X5, arg6.view.read (Elt F) X6, arg7.view.read (Elt F) X7⟩ ((i 1).val + 1 + 2 * ((15 - (i 1).val) / 2) + k.val) (steps ⟨arg2.view.read (Elt F) X2, v4, v6, v7, arg5.view.read (Elt F) X5, arg6.view.read (Elt F) X6, arg7.view.read (Elt F) X7⟩ ((i 1).val + 1 + 2 * ((15 - (i 1).val) / 2)) k.val s) := fun s => rfl
      have hst : (⟨arg8.view.read (Elt F) f8, arg9.view.read (Elt F) f9, arg10.view.read (Elt F) f10⟩ : St F)
          = steps ⟨arg2.view.read (Elt F) X2, v4, v6, v7, arg5.view.read (Elt F) X5, arg6.view.read (Elt F) X6, arg7.view.read (Elt F) X7⟩ ((i 1).val + 1 + 2 * ((15 - (i 1).val) / 2)) (k.val) ⟨arg8.view.read (Elt F) G8, arg9.view.read (Elt F) G9, arg10.view.read (Elt F) G10⟩ := by rw [h8, h9, h10]; cases k.val <;> rfl
      rw [hs, hst]
      iintro %_ H
      iexact H

set_option warn.classDefReducibility false in
/-- Loop 1 by its invariant. -/
@[sl_loop] def loopInv1 (𝒱 : Variants) (c : Dev nD) (bd : Option 𝒱.V) (E : Set ℕ) (i : grid0.Coords) (arg2 : Memref sig .tc .vmem S1x8192x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S1x16x8x512 .f32) (harg7 : arg7.IsWhole) (arg8 : Memref sig .tc .vmem S1x16x256x512 .f32) (harg8 : arg8.IsWhole) (arg9 : Memref sig .tc .vmem S1x512x256 .f32) (harg9 : arg9.IsWhole) (arg10 : Memref sig .tc .vmem S1x512x128 .f32) (harg10 : arg10.IsWhole)
    (arg1 : BitVec 32) (v4 : FVec F S512x256 .bf16) (v6 : FVec F S512x128 .bf16) (v7 : FVec F S256x512 .bf16) (v62 : FVec F S256x512 .f32)
    (X2 : BufTy.Contents (Elt F) arg2.view.ty) (X5 : BufTy.Contents (Elt F) arg5.view.ty) (X6 : BufTy.Contents (Elt F) arg6.view.ty) (X7 : BufTy.Contents (Elt F) arg7.view.ty)
    (G8 : BufTy.Contents (Elt F) arg8.view.ty) (G9 : BufTy.Contents (Elt F) arg9.view.ty) (G10 : BufTy.Contents (Elt F) arg10.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg1 v4 v6 v7 v62  where
  inv k _ := iprop(at' c arg2 X2 ∗ at' c arg5 X5 ∗ at' c arg6 X6 ∗ at' c arg7 X7
        ∗ rd c arg8 (lv k (arg8.view.read (Elt F) G8) (steps ⟨arg2.view.read (Elt F) X2, v4, v6, v7, arg5.view.read (Elt F) X5, arg6.view.read (Elt F) X6, arg7.view.read (Elt F) X7⟩ ((i 1).val + 1) (2 * k) ⟨arg8.view.read (Elt F) G8, arg9.view.read (Elt F) G9, arg10.view.read (Elt F) G10⟩).q)
        ∗ rd c arg9 (lv k (arg9.view.read (Elt F) G9) (steps ⟨arg2.view.read (Elt F) X2, v4, v6, v7, arg5.view.read (Elt F) X5, arg6.view.read (Elt F) X6, arg7.view.read (Elt F) X7⟩ ((i 1).val + 1) (2 * k) ⟨arg8.view.read (Elt F) G8, arg9.view.read (Elt F) G9, arg10.view.read (Elt F) G10⟩).k)
        ∗ rd c arg10 (lv k (arg10.view.read (Elt F) G10) (steps ⟨arg2.view.read (Elt F) X2, v4, v6, v7, arg5.view.read (Elt F) X5, arg6.view.read (Elt F) X6, arg7.view.read (Elt F) X7⟩ ((i 1).val + 1) (2 * k) ⟨arg8.view.read (Elt F) G8, arg9.view.read (Elt F) G9, arg10.view.read (Elt F) G10⟩).v))
  step k acc := by
    iintro ⟨H2, H5, H6, H7, ⟨%f8, H8, %h8⟩, ⟨%f9, H9, %h9⟩, ⟨%f10, H10, %h10⟩⟩
    iapply (wp_wand_r Idealize.ShloMosaic.frame (wpE (defs₀ (F := F)) 𝒱 (c : Thread nD τ) bd) E)
    isplitl [H2 H5 H6 H7 H8 H9 H10]
    · iapply (trip1 (F := F) 𝒱 c bd E i arg2 harg2 arg3 harg3 arg4 harg4 arg5 harg5 arg6 harg6 arg7 harg7 arg8 harg8 arg9 harg9 arg10 harg10 v4 v6 v7 v62 arg1  X2 X5 X6 X7 f8 f9 f10 k)
      isplitl [H2]; · iexact H2
      isplitl [H5]; · iexact H5
      isplitl [H6]; · iexact H6
      isplitl [H7]; · iexact H7
      isplitl [H8]; · iexact H8
      isplitl [H9]; · iexact H9
      iexact H10
    · have hs : ∀ s : St F, steps ⟨arg2.view.read (Elt F) X2, v4, v6, v7, arg5.view.read (Elt F) X5, arg6.view.read (Elt F) X6, arg7.view.read (Elt F) X7⟩ ((i 1).val + 1) (2 * (k.val + 1)) s
          = steps ⟨arg2.view.read (Elt F) X2, v4, v6, v7, arg5.view.read (Elt F) X5, arg6.view.read (Elt F) X6, arg7.view.read (Elt F) X7⟩ ((i 1).val + 1 + 2 * k.val) 2 (steps ⟨arg2.view.read (Elt F) X2, v4, v6, v7, arg5.view.read (Elt F) X5, arg6.view.read (Elt F) X6, arg7.view.read (Elt F) X7⟩ ((i 1).val + 1) (2 * k.val) s) := fun s => steps_add _ _ (2 * k.val) 2 s
      have hst : (⟨arg8.view.read (Elt F) f8, arg9.view.read (Elt F) f9, arg10.view.read (Elt F) f10⟩ : St F)
          = steps ⟨arg2.view.read (Elt F) X2, v4, v6, v7, arg5.view.read (Elt F) X5, arg6.view.read (Elt F) X6, arg7.view.read (Elt F) X7⟩ ((i 1).val + 1) (2 * k.val) ⟨arg8.view.read (Elt F) G8, arg9.view.read (Elt F) G9, arg10.view.read (Elt F) G10⟩ := by rw [h8, h9, h10]; cases k.val <;> rfl
      rw [hs, hst]
      iintro %_ H
      iexact H

end Cert.Proof.KernelIdeal
end
-- ==== Proof.Hand.IdealBody.lean ====
/-
  The backward pass's body at a point: from its blocks and what its head's earlier key blocks left of the query gradient,
  the three accumulators at `out`.
-/
module

public import proofs.«01_k».proof.Proof.Hand.IdealLoops
import Idealize.ShloMosaic.Lib.LoopRemainder

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem cond_iff : ∀ i : grid0.Coords,
    (Scalar.cmpi .ne (Scalar.extui (Scalar.cmpi .eq (BitVec.ofNat 32 (i 1).val) 0#32) : BitVec 32) 0#32 = 1#1) ↔ (i 1).val = 0 := by
  decide +kernel

abbrev kf (i : grid0.Coords) : Fin 16 := ⟨(i 1).val, (i 1).isLt⟩

theorem st_ext {s : St F} {a : Vec F S1x16x256x512 .f32} {b : Vec F S1x512x256 .f32} {c : Vec F S1x512x128 .f32}
    (h8 : a = s.q) (h9 : b = s.k) (h10 : c = s.v) : (⟨a, b, c⟩ : St F) = s := by subst h8 h9 h10; rfl

theorem out_of (q : Vec F S1x8192x256 .bf16) (k : Vec F S1x512x256 .bf16) (v : Vec F S1x512x128 .bf16) (o : Vec F S8192x128 .bf16)
    (l d : Vec F S1x16x8x512 .f32) (j : Fin 16) (g : Vec F S1x16x256x512 .f32) (g8 : Vec F S1x16x256x512 .f32) (g9 : Vec F S1x512x256 .f32) (g10 : Vec F S1x512x128 .f32)
    (h8 : g8 = (diag (inOf q k v o l d) k j (if j.val = 0 then k0_pay41 (F := F) else g)).q)
    (h9 : g9 = (diag (inOf q k v o l d) k j (if j.val = 0 then k0_pay41 (F := F) else g)).k)
    (h10 : g10 = (diag (inOf q k v o l d) k j (if j.val = 0 then k0_pay41 (F := F) else g)).v) :
    steps (inOf q k v o l d) (j.val + 1) (15 - j.val) ⟨g8, g9, g10⟩ = out q k v o l d j g := by
  rw [st_ext h8 h9 h10, out]

/-- The two loops one after another: all the query blocks past the diagonal. -/
theorem chain {x : In F} {j n1 n3 : ℕ} {g8 p8 z8 : Vec F S1x16x256x512 .f32} {g9 p9 z9 : Vec F S1x512x256 .f32} {g10 p10 z10 : Vec F S1x512x128 .f32}
    (hn1 : n1 = (15 - j) / 2) (hn3 : n3 = (15 - j) % 2)
    (h8 : p8 = lv n1 g8 (steps x (j + 1) (2 * n1) ⟨g8, g9, g10⟩).q)
    (h9 : p9 = lv n1 g9 (steps x (j + 1) (2 * n1) ⟨g8, g9, g10⟩).k)
    (h10 : p10 = lv n1 g10 (steps x (j + 1) (2 * n1) ⟨g8, g9, g10⟩).v)
    (e8 : z8 = lv n3 p8 (steps x (j + 1 + 2 * ((15 - j) / 2)) n3 ⟨p8, p9, p10⟩).q)
    (e9 : z9 = lv n3 p9 (steps x (j + 1 + 2 * ((15 - j) / 2)) n3 ⟨p8, p9, p10⟩).k)
    (e10 : z10 = lv n3 p10 (steps x (j + 1 + 2 * ((15 - j) / 2)) n3 ⟨p8, p9, p10⟩).v) :
    (⟨z8, z9, z10⟩ : St F) = steps x (j + 1) (15 - j) ⟨g8, g9, g10⟩ := by
  have hp : (⟨p8, p9, p10⟩ : St F) = steps x (j + 1) (2 * n1) ⟨g8, g9, g10⟩ := by
    rw [h8, h9, h10]; cases n1 <;> rfl
  have hz : (⟨z8, z9, z10⟩ : St F) = steps x (j + 1 + 2 * ((15 - j) / 2)) n3 ⟨p8, p9, p10⟩ := by
    rw [e8, e9, e10]; cases n3 <;> rfl
  rw [hz, hp, hn1, hn3, ← steps_add]
  congr 1
  omega

set_option maxHeartbeats 4000000 in
theorem sound_first (c : Dev nD) (E : Set ℕ) (i : grid0.Coords) (arg2 : Memref sig .tc .vmem S1x8192x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S1x16x8x512 .f32) (harg7 : arg7.IsWhole) (arg8 : Memref sig .tc .vmem S1x16x256x512 .f32) (harg8 : arg8.IsWhole) (arg9 : Memref sig .tc .vmem S1x512x256 .f32) (harg9 : arg9.IsWhole) (arg10 : Memref sig .tc .vmem S1x512x128 .f32) (harg10 : arg10.IsWhole)
    (q : Vec F S1x8192x256 .bf16) (k : Vec F S1x512x256 .bf16) (v : Vec F S1x512x128 .bf16) (o : Vec F S8192x128 .bf16) (l : Vec F S1x16x8x512 .f32) (d : Vec F S1x16x8x512 .f32) (g : Vec F S1x16x256x512 .f32) (K : PUnit → sProp 𝕄)
    (hc : (Scalar.cmpi .ne (Scalar.extui (Scalar.cmpi .eq (BitVec.ofNat 32 (i 1).val) 0#32) : BitVec 32) 0#32 = 1#1)) :
    iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare l ∗ owns (c : Thread nD τ) arg7 fullShare d
        ∗ owns (c : Thread nD τ) arg8 fullShare g ∗ (∃ d, owns (c : Thread nD τ) arg9 fullShare d) ∗ (∃ d, owns (c : Thread nD τ) arg10 fullShare d)
        ∗ (iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare l ∗ owns (c : Thread nD τ) arg7 fullShare d
          ∗ owns (c : Thread nD τ) arg8 fullShare (out q k v o l d (kf i) g).q ∗ owns (c : Thread nD τ) arg9 fullShare (out q k v o l d (kf i) g).k
          ∗ owns (c : Thread nD τ) arg10 fullShare (out q k v o l d (kf i) g).v) -∗ K ⟨⟩))
      ⊢ wp frame (wpE (defs₀ (F := F)) Variants.none c none) E (cc0_flash_bwd (F := F) i arg2 harg2 arg3 harg3 arg4 harg4 arg5 harg5 arg6 harg6 arg7 harg7 arg8 harg8 arg9 harg9 arg10 harg10) K := by
  simp only [cc0_flash_bwd_eq_skeleton]; unfold cc0_flash_bwd_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, Hk⟩
  subst h2 h3 h4 h5 h6 h7 h8
  have hz := (cond_iff i).mp hc
  sl_exec_parts (disch := sl_exact hc)
  sl_step
  have hn1 : Scf.trips (k0_t1_loop i).lb (k0_t1_loop i).ub (k0_t1_loop i).st = (15 - (i 1).val) / 2 := trips1 i
  have hn3 : Scf.trips (k0_t3_loop i).lb (k0_t3_loop i).ub (k0_t3_loop i).st = (15 - (i 1).val) % 2 := trips3 i
  generalize Scf.trips (k0_t1_loop i).lb (k0_t1_loop i).ub (k0_t1_loop i).st = n1 at hn1 hL5 hL7 hL9
  generalize Scf.trips (k0_t3_loop i).lb (k0_t3_loop i).ub (k0_t3_loop i).st = n3 at hn3 hL16 hL18 hL20
  have hst := chain (j := (i 1).val) hn1 hn3 hL5 hL7 hL9 hL16 hL18 hL20
  clear hL5 hL7 hL9 hL16 hL18 hL20
  unfold sound_first.sl.r sound_first.sl.r_1 sound_first.sl.r_2 at hst
  rw [readAt_whole arg3.view _ (by funext a; fin_cases a <;> rfl), readAt_whole arg4.view _ (by funext a; fin_cases a <;> rfl)] at hst
  have hst' := hst.trans (out_of _ (arg3.view.read (Elt F) f3) (arg4.view.read (Elt F) f4) _ _ _ (kf i) (arg8.view.read (Elt F) f8) _ _ _ ?_ ?_ ?_)
  · have e8 := congrArg St.q hst'
    have e9 := congrArg St.k hst'
    have e10 := congrArg St.v hst'
    dsimp only at e8 e9 e10
    iapply Hk
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists fL3; isplitr; · ipureintro; exact e8
                    iexact H8
    isplitl [H9]; · iexists fL4; isplitr; · ipureintro; exact e9
                    iexact H9
    iexists fL5; isplitr; · ipureintro; exact e10
    iexact H10
  · unfold sound_first.sl.r_6 sound_first.sl.r_4 sound_first.sl.r_5 sound_first.sl.r_1 sound_first.sl.r_2 sound_first.sl.v28 sound_first.sl.v29 sound_first.sl.H8_1
    unfold diag pOf inOf
    dsimp only
    rw [read_writes_cons_put, read_writes_put, put_whole (by funext a; fin_cases a <;> rfl), put_g (kf i) (off4_eq i), readAt_ld arg8.view _ (off4_eq i) _ (gR_inb (kf i)), read_writes_put, put_whole (by funext a; fin_cases a <;> rfl), if_pos hz]
    rw [readAt_whole arg4.view _ (by funext a; fin_cases a <;> rfl), readAt_whole arg3.view _ (by funext a; fin_cases a <;> rfl), readAt_ld arg2.view _ (off1_eq i) _ (qR_inb (kf i)), readAt_ld arg6.view _ (off3_eq i) _ (lR_inb (kf i)), readAt_ld arg5.view _ (off2_eq i) _ (oR_inb (kf i)), readAt_ld arg7.view _ (off3_eq i) _ (lR_inb (kf i))]
  · unfold sound_first.sl.H9_2 sound_first.sl.v51 sound_first.sl.H9_1 sound_first.sl.r_3 sound_first.sl.r_4 sound_first.sl.r_5 sound_first.sl.r_1 sound_first.sl.v28 sound_first.sl.v29
    unfold diag pOf inOf
    dsimp only
    rw [read_writes_cons_put, put_whole (by funext a; fin_cases a <;> rfl), readCov_whole _ (by funext a; fin_cases a <;> rfl)]
    rw [readAt_whole arg4.view _ (by funext a; fin_cases a <;> rfl), readAt_whole arg3.view _ (by funext a; fin_cases a <;> rfl), readAt_ld arg2.view _ (off1_eq i) _ (qR_inb (kf i)), readAt_ld arg6.view _ (off3_eq i) _ (lR_inb (kf i)), readAt_ld arg5.view _ (off2_eq i) _ (oR_inb (kf i)), readAt_ld arg7.view _ (off3_eq i) _ (lR_inb (kf i))]
  · unfold sound_first.sl.H10_2 sound_first.sl.v33 sound_first.sl.H10_1 sound_first.sl.r_4 sound_first.sl.r_5 sound_first.sl.v28 sound_first.sl.v29
    unfold diag pOf inOf
    dsimp only
    rw [read_writes_cons_put, put_whole (by funext a; fin_cases a <;> rfl), readCov_whole _ (by funext a; fin_cases a <;> rfl)]
    rw [readAt_whole arg3.view _ (by funext a; fin_cases a <;> rfl), readAt_ld arg2.view _ (off1_eq i) _ (qR_inb (kf i)), readAt_ld arg6.view _ (off3_eq i) _ (lR_inb (kf i)), readAt_ld arg5.view _ (off2_eq i) _ (oR_inb (kf i))]

set_option maxHeartbeats 4000000 in
theorem sound_later (c : Dev nD) (E : Set ℕ) (i : grid0.Coords) (arg2 : Memref sig .tc .vmem S1x8192x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S1x16x8x512 .f32) (harg7 : arg7.IsWhole) (arg8 : Memref sig .tc .vmem S1x16x256x512 .f32) (harg8 : arg8.IsWhole) (arg9 : Memref sig .tc .vmem S1x512x256 .f32) (harg9 : arg9.IsWhole) (arg10 : Memref sig .tc .vmem S1x512x128 .f32) (harg10 : arg10.IsWhole)
    (q : Vec F S1x8192x256 .bf16) (k : Vec F S1x512x256 .bf16) (v : Vec F S1x512x128 .bf16) (o : Vec F S8192x128 .bf16) (l : Vec F S1x16x8x512 .f32) (d : Vec F S1x16x8x512 .f32) (g : Vec F S1x16x256x512 .f32) (K : PUnit → sProp 𝕄)
    (hc : ¬ (Scalar.cmpi .ne (Scalar.extui (Scalar.cmpi .eq (BitVec.ofNat 32 (i 1).val) 0#32) : BitVec 32) 0#32 = 1#1)) :
    iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare l ∗ owns (c : Thread nD τ) arg7 fullShare d
        ∗ owns (c : Thread nD τ) arg8 fullShare g ∗ (∃ d, owns (c : Thread nD τ) arg9 fullShare d) ∗ (∃ d, owns (c : Thread nD τ) arg10 fullShare d)
        ∗ (iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare l ∗ owns (c : Thread nD τ) arg7 fullShare d
          ∗ owns (c : Thread nD τ) arg8 fullShare (out q k v o l d (kf i) g).q ∗ owns (c : Thread nD τ) arg9 fullShare (out q k v o l d (kf i) g).k
          ∗ owns (c : Thread nD τ) arg10 fullShare (out q k v o l d (kf i) g).v) -∗ K ⟨⟩))
      ⊢ wp frame (wpE (defs₀ (F := F)) Variants.none c none) E (cc0_flash_bwd (F := F) i arg2 harg2 arg3 harg3 arg4 harg4 arg5 harg5 arg6 harg6 arg7 harg7 arg8 harg8 arg9 harg9 arg10 harg10) K := by
  simp only [cc0_flash_bwd_eq_skeleton]; unfold cc0_flash_bwd_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, Hk⟩
  subst h2 h3 h4 h5 h6 h7 h8
  have hz := fun h => hc ((cond_iff i).mpr h)
  sl_exec_parts (disch := sl_exact hc)
  sl_step
  have hn1 : Scf.trips (k0_t1_loop i).lb (k0_t1_loop i).ub (k0_t1_loop i).st = (15 - (i 1).val) / 2 := trips1 i
  have hn3 : Scf.trips (k0_t3_loop i).lb (k0_t3_loop i).ub (k0_t3_loop i).st = (15 - (i 1).val) % 2 := trips3 i
  generalize Scf.trips (k0_t1_loop i).lb (k0_t1_loop i).ub (k0_t1_loop i).st = n1 at hn1 hL5 hL7 hL9
  generalize Scf.trips (k0_t3_loop i).lb (k0_t3_loop i).ub (k0_t3_loop i).st = n3 at hn3 hL16 hL18 hL20
  have hst := chain (j := (i 1).val) hn1 hn3 hL5 hL7 hL9 hL16 hL18 hL20
  clear hL5 hL7 hL9 hL16 hL18 hL20
  unfold sound_later.sl.r sound_later.sl.r_1 sound_later.sl.r_2 at hst
  rw [readAt_whole arg3.view _ (by funext a; fin_cases a <;> rfl), readAt_whole arg4.view _ (by funext a; fin_cases a <;> rfl)] at hst
  have hst' := hst.trans (out_of _ (arg3.view.read (Elt F) f3) (arg4.view.read (Elt F) f4) _ _ _ (kf i) (arg8.view.read (Elt F) f8) _ _ _ ?_ ?_ ?_)
  · have e8 := congrArg St.q hst'
    have e9 := congrArg St.k hst'
    have e10 := congrArg St.v hst'
    dsimp only at e8 e9 e10
    iapply Hk
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists fL3; isplitr; · ipureintro; exact e8
                    iexact H8
    isplitl [H9]; · iexists fL4; isplitr; · ipureintro; exact e9
                    iexact H9
    iexists fL5; isplitr; · ipureintro; exact e10
    iexact H10
  · unfold sound_later.sl.r_6 sound_later.sl.r_4 sound_later.sl.r_5 sound_later.sl.r_1 sound_later.sl.r_2 sound_later.sl.v28 sound_later.sl.v29
    unfold diag pOf inOf
    dsimp only
    rw [read_writes_put, put_g (kf i) (off4_eq i), readAt_ld arg8.view _ (off4_eq i) _ (gR_inb (kf i)), if_neg hz]
    rw [readAt_whole arg4.view _ (by funext a; fin_cases a <;> rfl), readAt_whole arg3.view _ (by funext a; fin_cases a <;> rfl), readAt_ld arg2.view _ (off1_eq i) _ (qR_inb (kf i)), readAt_ld arg6.view _ (off3_eq i) _ (lR_inb (kf i)), readAt_ld arg5.view _ (off2_eq i) _ (oR_inb (kf i)), readAt_ld arg7.view _ (off3_eq i) _ (lR_inb (kf i))]
  · unfold sound_later.sl.H9_2 sound_later.sl.v51 sound_later.sl.H9_1 sound_later.sl.r_3 sound_later.sl.r_4 sound_later.sl.r_5 sound_later.sl.r_1 sound_later.sl.v28 sound_later.sl.v29
    unfold diag pOf inOf
    dsimp only
    rw [read_writes_cons_put, put_whole (by funext a; fin_cases a <;> rfl), readCov_whole _ (by funext a; fin_cases a <;> rfl)]
    rw [readAt_whole arg4.view _ (by funext a; fin_cases a <;> rfl), readAt_whole arg3.view _ (by funext a; fin_cases a <;> rfl), readAt_ld arg2.view _ (off1_eq i) _ (qR_inb (kf i)), readAt_ld arg6.view _ (off3_eq i) _ (lR_inb (kf i)), readAt_ld arg5.view _ (off2_eq i) _ (oR_inb (kf i)), readAt_ld arg7.view _ (off3_eq i) _ (lR_inb (kf i))]
  · unfold sound_later.sl.H10_2 sound_later.sl.v33 sound_later.sl.H10_1 sound_later.sl.r_4 sound_later.sl.r_5 sound_later.sl.v28 sound_later.sl.v29
    unfold diag pOf inOf
    dsimp only
    rw [read_writes_cons_put, put_whole (by funext a; fin_cases a <;> rfl), readCov_whole _ (by funext a; fin_cases a <;> rfl)]
    rw [readAt_whole arg3.view _ (by funext a; fin_cases a <;> rfl), readAt_ld arg2.view _ (off1_eq i) _ (qR_inb (kf i)), readAt_ld arg6.view _ (off3_eq i) _ (lR_inb (kf i)), readAt_ld arg5.view _ (off2_eq i) _ (oR_inb (kf i))]

theorem sound_kernel (c : Dev nD) (E : Set ℕ) (i : grid0.Coords) (arg2 : Memref sig .tc .vmem S1x8192x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S1x16x8x512 .f32) (harg7 : arg7.IsWhole) (arg8 : Memref sig .tc .vmem S1x16x256x512 .f32) (harg8 : arg8.IsWhole) (arg9 : Memref sig .tc .vmem S1x512x256 .f32) (harg9 : arg9.IsWhole) (arg10 : Memref sig .tc .vmem S1x512x128 .f32) (harg10 : arg10.IsWhole)
    (q : Vec F S1x8192x256 .bf16) (k : Vec F S1x512x256 .bf16) (v : Vec F S1x512x128 .bf16) (o : Vec F S8192x128 .bf16) (l : Vec F S1x16x8x512 .f32) (d : Vec F S1x16x8x512 .f32) (g : Vec F S1x16x256x512 .f32) (K : PUnit → sProp 𝕄) :
    iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare l ∗ owns (c : Thread nD τ) arg7 fullShare d
        ∗ owns (c : Thread nD τ) arg8 fullShare g ∗ (∃ d, owns (c : Thread nD τ) arg9 fullShare d) ∗ (∃ d, owns (c : Thread nD τ) arg10 fullShare d)
        ∗ (iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare l ∗ owns (c : Thread nD τ) arg7 fullShare d
          ∗ owns (c : Thread nD τ) arg8 fullShare (out q k v o l d (kf i) g).q ∗ owns (c : Thread nD τ) arg9 fullShare (out q k v o l d (kf i) g).k
          ∗ owns (c : Thread nD τ) arg10 fullShare (out q k v o l d (kf i) g).v) -∗ K ⟨⟩))
      ⊢ wp frame (wpE (defs₀ (F := F)) Variants.none c none) E (cc0_flash_bwd (F := F) i arg2 harg2 arg3 harg3 arg4 harg4 arg5 harg5 arg6 harg6 arg7 harg7 arg8 harg8 arg9 harg9 arg10 harg10) K := by
  by_cases hc : (Scalar.cmpi .ne (Scalar.extui (Scalar.cmpi .eq (BitVec.ofNat 32 (i 1).val) 0#32) : BitVec 32) 0#32 = 1#1)
  · exact sound_first c E i arg2 harg2 arg3 harg3 arg4 harg4 arg5 harg5 arg6 harg6 arg7 harg7 arg8 harg8 arg9 harg9 arg10 harg10 q k v o l d g K hc
  · exact sound_later c E i arg2 harg2 arg3 harg3 arg4 harg4 arg5 harg5 arg6 harg6 arg7 harg7 arg8 harg8 arg9 harg9 arg10 harg10 q k v o l d g K hc

end Cert.Proof.KernelIdeal
end
-- ==== Proof.Hand.IdealFrame.lean ====
/-
  The run of the backward pass: the proof data of its pipeline (the query gradient's slab accumulated over a head's key
  blocks), the body at a point, the launch and the frame.
-/
module

public import proofs.«01_k».proof.Proof.Hand.IdealBody
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The accumulators point by point -/

/-- What point `t` leaves, the query gradient's slab at `g` before it. -/
def outAt (c : Dev nD) (t : Fin cfg0.N) (g : Vec F S1x16x256x512 .f32) : St F :=
  out (iblk m c 0 t) (iblk m c 1 t) (iblk m c 2 t) (iblk m c 3 t) (iblk m c 4 t) (iblk m c 5 t) (kf (cfg0.grid.coords t)) g

/-- The query gradient's slab before point `n`. -/
def accN (c : Dev nD) : ℕ → Vec F S1x16x256x512 .f32
  | 0 => k0_pay41 (F := F)
  | n + 1 => if h : n < cfg0.N then (outAt m c ⟨n, h⟩ (accN c n)).q else accN c n

theorem accN_succ (c : Dev nD) (t : Fin cfg0.N) : accN m c (t.val + 1) = (outAt m c t (accN m c t.val)).q := by
  unfold accN; rw [dif_pos t.isLt]; cases t; cases ‹ℕ› <;> rfl

theorem coord1 : ∀ t : Fin cfg0.N, (cfg0.grid.coords t 1).val = t.val % 16 := by decide +kernel

/-- At a head's first key block what was there before does not matter. -/
theorem outAt_first (c : Dev nD) (t : Fin cfg0.N) (h : t.val % 16 = 0) (g g' : Vec F S1x16x256x512 .f32) :
    outAt m c t g = outAt m c t g' := by
  unfold outAt out
  rw [if_pos (show (kf (cfg0.grid.coords t)).val = 0 from (coord1 t).trans h), if_pos (show (kf (cfg0.grid.coords t)).val = 0 from (coord1 t).trans h)]

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accN m c (t.val + 1)
    | ⟨7, _⟩ => (outAt m c t (accN m c t.val)).k
    | ⟨8, _⟩ => (outAt m c t (accN m c t.val)).v
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = accN m c (t.val + 1) := by dsimp only [dats]
theorem after0_7 (c : Dev nD) (t : Fin cfg0.N) : (dats m 0 c).after 7 t = (outAt m c t (accN m c t.val)).k := by dsimp only [dats]
theorem after0_8 (c : Dev nD) (t : Fin cfg0.N) : (dats m 0 c).after 8 t = (outAt m c t (accN m c t.val)).v := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Past a head's first key block the slab's buffer holds what the key block before left. -/
theorem before0_6 (c : Dev nD) (t : Fin cfg0.N) (h : t.val % 16 ≠ 0) (d) : (dats m 0 c).before 6 t d = accN m c t.val := by
  have ht : t.val ≠ 0 := fun h0 => h (by rw [h0])
  have hfl : (cfg0.win 6).flush ⟨t.val - 1, Nat.lt_of_le_of_lt (Nat.sub_le _ _) t.isLt⟩ = false := by
    rw [Bool.eq_false_iff]
    intro hf
    have := (flush0_6 _).mp hf
    dsimp only at this
    omega
  rw [(dats m 0 c).before_out_kept 6 rfl t ht hfl (fun _ => rfl) (fun _ _ => rfl) d, after0_6]
  congr 1
  show t.val - 1 + 1 = t.val
  omega

/-- What the body computes, whatever the slab's buffer holds at a head's first key block. -/
theorem outAt_before (c : Dev nD) (t : Fin cfg0.N) (d) : outAt m c t ((dats m 0 c).before 6 t d) = outAt m c t (accN m c t.val) := by
  by_cases h : t.val % 16 = 0
  · exact outAt_first m c t h _ _
  · rw [before0_6 m c t h d]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, accN_succ]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← outAt_before m c t d6]
  unfold outAt
  iapply (sound_kernel c Set.univ (cfg0.grid.coords t) _ _ _ _ _ _ _ _ _ _ _ _ _ _ _ _ _ _ (iblk m c 0 t) (iblk m c 1 t) (iblk m c 2 t) (iblk m c 3 t) (iblk m c 4 t) (iblk m c 5 t)
    ((dats m 0 c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero, from any memory. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.KernelIdeal

end
-- ==== Proof.Hand.RefFrame.lean ====
/-
  The reference's frame: its run leaves the arguments as they were, and it has no counter.
-/
module

public import proofs.«01_k».proof.Proof.Gen.ReferenceIdeal.Run
public import proofs.«01_k».proof.Proof.Gen.ReferenceIdeal.Read
public import Idealize.ShloMosaic.Lib.Claim

@[expose] public section

noncomputable section

namespace Cert.Proof.ReferenceIdeal

open Cert.ReferenceIdeal
open Idealize.ShloMosaic Idealize.ShloMosaic.TcCoe Idealize.SL.Sem

/-- The argument arrays end unchanged and every counter at zero, from any memory. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems (by decide) r.2⟩) (Value.run m ρ)

end Cert.Proof.ReferenceIdeal

end
-- ==== Proof.Hand.Reals.lean ====
/-
  The backward pass of causal attention over the reals, one head at a time, with the row shift left free: the weights do
  not depend on it.
-/
module

public import Mathlib.Analysis.SpecialFunctions.Pow.Real
public import Mathlib.Data.EReal.Operations
public import Mathlib.Algebra.BigOperators.Field

@[expose] public section

noncomputable section

namespace Cert.Proof.Attn

/-- One head: its queries, keys, values and cotangents, and each row's shift. -/
structure Head where
  q : Fin 8192 → Fin 256 → ℝ
  k : Fin 8192 → Fin 256 → ℝ
  v : Fin 8192 → Fin 128 → ℝ
  o : Fin 8192 → Fin 128 → ℝ
  m : Fin 8192 → ℝ

def scale : ℝ := (Real.sqrt 192)⁻¹

variable (x : Head)

namespace Head

/-- The scaled score of row `i` and key `j`. -/
def sc (i j : Fin 8192) : ℝ := (∑ c, x.q i c * x.k j c) * scale
/-- Its shifted exponential, zero past the diagonal. -/
def e (i j : Fin 8192) : ℝ := if j ≤ i then Real.exp (x.sc i j - x.m i) else 0
def l (i : Fin 8192) : ℝ := ∑ j, x.e i j
/-- The weight. -/
def p (i j : Fin 8192) : ℝ := x.e i j / x.l i
/-- The cotangent of the weight. -/
def dp (i j : Fin 8192) : ℝ := ∑ d, x.o i d * x.v j d
/-- The row term. -/
def del (i : Fin 8192) : ℝ := ∑ j, x.p i j * x.dp i j
/-- The cotangent of the unscaled score. -/
def ds (i j : Fin 8192) : ℝ := x.p i j * (x.dp i j - x.del i) * scale
/-- The base-2 log-sum the forward pass saves. -/
def lse (i : Fin 8192) : ℝ := (x.m i + Real.log (x.l i)) / Real.log 2

def dv (j : Fin 8192) (d : Fin 128) : ℝ := ∑ i, x.p i j * x.o i d
def dk (j : Fin 8192) (c : Fin 256) : ℝ := ∑ i, x.ds i j * x.q i c
def dq (i : Fin 8192) (c : Fin 256) : ℝ := ∑ j, x.ds i j * x.k j c

theorem e_nonneg (i j : Fin 8192) : 0 ≤ x.e i j := by
  unfold e; split
  · exact (Real.exp_pos _).le
  · exact le_rfl

theorem l_pos (i : Fin 8192) : 0 < x.l i :=
  Finset.sum_pos' (fun j _ => x.e_nonneg i j) ⟨i, Finset.mem_univ i, by unfold e; rw [if_pos le_rfl]; exact Real.exp_pos _⟩

theorem p_masked {i j : Fin 8192} (h : ¬ j ≤ i) : x.p i j = 0 := by
  unfold p e; rw [if_neg h, zero_div]

theorem ds_masked {i j : Fin 8192} (h : ¬ j ≤ i) : x.ds i j = 0 := by
  unfold ds; rw [x.p_masked h, zero_mul, zero_mul]

/-- The kernel's base-2 exponential is the weight. -/
theorem exp2_eq {i j : Fin 8192} (h : j ≤ i) :
    Real.rpow 2 ((∑ c, x.k j c * x.q i c) * (scale * (Real.log 2)⁻¹) - x.lse i) = x.p i j := by
  have h2 : Real.log 2 ≠ 0 := (Real.log_pos (by norm_num)).ne'
  have hs : (∑ c, x.k j c * x.q i c) = ∑ c, x.q i c * x.k j c := Finset.sum_congr rfl fun c _ => mul_comm _ _
  unfold p e
  rw [if_pos h, Real.rpow_eq_pow, Real.rpow_def_of_pos (by norm_num), hs]
  have : Real.log 2 * ((∑ c, x.q i c * x.k j c) * (scale * (Real.log 2)⁻¹) - x.lse i)
      = x.sc i j - x.m i - Real.log (x.l i) := by
    unfold lse sc; field_simp; ring
  rw [this, Real.exp_sub, Real.exp_log (x.l_pos i)]

/-- The row term is the cotangent against the output. -/
theorem del_eq (i : Fin 8192) : ∑ d, (∑ j, x.e i j / x.l i * x.v j d) * x.o i d = x.del i := by
  unfold del dp
  simp only [Finset.sum_mul, Finset.mul_sum]
  rw [Finset.sum_comm]
  refine Finset.sum_congr rfl fun j _ => Finset.sum_congr rfl fun d _ => ?_
  unfold p; ring

/-- The derivative of the softmax as differentiation writes it. -/
theorem ds_eq (i j : Fin 8192) :
    (x.dp i j / x.l i + -(∑ j', x.dp i j' * (1 / (x.l i * x.l i)) * x.e i j')) * x.e i j * scale = x.ds i j := by
  have hl : x.l i ≠ 0 := (x.l_pos i).ne'
  have : ∑ j', x.dp i j' * (1 / (x.l i * x.l i)) * x.e i j' = x.del i / x.l i := by
    unfold del
    rw [Finset.sum_div]
    refine Finset.sum_congr rfl fun j' _ => ?_
    unfold p; field_simp
  rw [this]; unfold ds p; field_simp; ring

end Head

/-! ## Rows in blocks -/

/-- Row `r` of block `b`. -/
def row (b : Fin 16) (r : Fin 512) : Fin 8192 := ⟨512 * b.val + r.val, by omega⟩

theorem sum_rows {M : Type*} [AddCommMonoid M] (f : Fin 8192 → M) : ∑ i, f i = ∑ b : Fin 16, ∑ r : Fin 512, f (row b r) := by
  rw [← Fintype.sum_prod_type']
  refine (Equiv.sum_comp (finProdFinEquiv (m := 16) (n := 512)) (fun i : Fin (16 * 512) => f i)).symm.trans ?_
  refine Finset.sum_congr rfl fun y _ => congrArg f (Fin.ext ?_)
  show y.2.val + 512 * y.1.val = 512 * y.1.val + y.2.val
  omega

theorem row_le_of_lt {a b : Fin 16} (h : a < b) (r s : Fin 512) : row a r ≤ row b s := by
  have h' : a.val < b.val := h
  show 512 * a.val + r.val ≤ 512 * b.val + s.val
  omega

theorem row_not_le_of_lt {a b : Fin 16} (h : a < b) (r s : Fin 512) : ¬ row b r ≤ row a s := by
  have h' : a.val < b.val := h
  show ¬ (512 * b.val + r.val ≤ 512 * a.val + s.val)
  omega

theorem row_le_iff {a : Fin 16} (r s : Fin 512) : row a r ≤ row a s ↔ r ≤ s := by
  show 512 * a.val + r.val ≤ 512 * a.val + s.val ↔ r.val ≤ s.val
  omega

theorem exists_row (i : Fin 8192) : ∃ b r, i = row b r :=
  ⟨⟨i.val / 512, by omega⟩, ⟨i.val % 512, by omega⟩, Fin.ext (by show i.val = 512 * (i.val / 512) + i.val % 512; omega)⟩

/-! ## Sums of reals inside the extended reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of reals, from zero. -/
theorem coe_dot {ι : Type*} [Fintype ι] (a b : ι → EReal) (f g : ι → ℝ) (ha : ∀ i, a i = (f i : ℝ)) (hb : ∀ i, b i = (g i : ℝ)) :
    ∑ i, a i * b i = ((∑ i, f i * g i : ℝ) : EReal) := by
  rw [← coe_sum]
  exact Finset.sum_congr rfl fun i _ => by rw [ha, hb, EReal.coe_mul]

end Cert.Proof.Attn

end
-- ==== Proof.Hand.RefValue.lean ====
/-
  The reference program's operations read at an index, as reals: each of them at a head, a row and a key is the term of
  `Reals.lean` of the same name.
-/
module

public import proofs.«01_k».proof.Proof.Gen.ReferenceIdeal.Read
public import proofs.«01_k».proof.Proof.Hand.Reals
public import Idealize.ShloMosaic.Lib.IdealHost
public import Idealize.ShloMosaic.Lib.WordCmp
public import Mathlib.Data.Finset.Fold

@[expose] public section

noncomputable section

namespace Cert.Proof.Attn

open Idealize.ShloMosaic Idealize.ShloMosaic.ValueIdx

/-! ## Indices from coordinates' values -/

theorem ext2 {n0 n1 : Nat} (j : (⟨2, ![n0, n1]⟩ : Shape).Idx) (a : Fin n0) (b : Fin n1) (h0 : (j 0).val = a.val)
    (h1 : (j 1).val = b.val) : j = ix2 a b :=
  funext fun d => match d with | ⟨0, _⟩ => Fin.ext h0 | ⟨1, _⟩ => Fin.ext h1

theorem ext3 {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => match d with | ⟨0, _⟩ => Fin.ext h0 | ⟨1, _⟩ => Fin.ext h1 | ⟨2, _⟩ => Fin.ext h2

theorem ext4 {n0 n1 n2 n3 : Nat} (j : (⟨4, ![n0, n1, n2, n3]⟩ : Shape).Idx) (a : Fin n0) (b : Fin n1) (c : Fin n2) (d : Fin n3)
    (h0 : (j 0).val = a.val) (h1 : (j 1).val = b.val) (h2 : (j 2).val = c.val) (h3 : (j 3).val = d.val) : j = ix4 a b c d :=
  funext fun e => match e with
    | ⟨0, _⟩ => Fin.ext h0 | ⟨1, _⟩ => Fin.ext h1 | ⟨2, _⟩ => Fin.ext h2 | ⟨3, _⟩ => Fin.ext h3

/-- Channel `d` of head `h` among all the heads'. -/
def chan (h : Fin 8) (d : Fin 128) : Fin 1024 := ⟨128 * h.val + d.val, by omega⟩
/-- A channel of the values among the padded ones. -/
def wide (d : Fin 128) : Fin 256 := ⟨d.val, by omega⟩

theorem rsqrt_192 : Ideal.rsqrt (Ideal.ofBits .f32 0x43400000#32) = (scale : EReal) := by
  have : Ideal.ofBits .f32 0x43400000#32 = ((192 : ℝ) : EReal) := by
    simp [Ideal.ofBits, Ideal.ieee, -EReal.coe_mul]; norm_num
  rw [this, Ideal.rsqrt_coe, if_neg (by norm_num), if_neg (by norm_num)]; rfl

theorem ofBits_bot : Ideal.ofBits .f32 0xFF800000#32 = ⊥ := by simp [Ideal.ofBits, Ideal.ieee]

theorem div_real (a b : ℝ) (h : b ≠ 0) : Ideal.div (a : EReal) (b : EReal) = ((a / b : ℝ) : EReal) := by
  rw [Ideal.div_coe h, ← EReal.coe_mul, mul_one_div]

end Cert.Proof.Attn

namespace Cert.ReferenceIdeal.Attn

open Cert.ReferenceIdeal Cert.ReferenceIdeal.Gen Cert.ReferenceIdeal.Read Idealize.ShloMosaic Idealize.ShloMosaic.ValueIdx Cert.Proof.Attn

/-- A queries', keys' or values' argument, and the output's cotangent. -/
abbrev Qkv : Type := (⟨S8x8192x256, .bf16⟩ : BufTy).Contents (Elt Ideal)
abbrev Out : Type := (⟨S8192x1024, .bf16⟩ : BufTy).Contents (Elt Ideal)

/-- The arguments read as reals, head by head. -/
structure Reads (X0 X1 X2 : Qkv) (X3 : Out) (x : Fin 8 → Head) : Prop where
  q : ∀ h i c, X0 (ix3 h i c) = (((x h).q i c : ℝ) : EReal)
  k : ∀ h i c, X1 (ix3 h i c) = (((x h).k i c : ℝ) : EReal)
  v : ∀ h i d, X2 (ix3 h i (wide d)) = (((x h).v i d : ℝ) : EReal)
  o : ∀ h i d, X3 (ix2 i (chan h d)) = (((x h).o i d : ℝ) : EReal)

theorem mask_at (h : Fin 8) (i j : Fin 8192) : val_main_v15_1 (F := Ideal) (ix3 h i j) = BitVec.ofBool (decide (j ≤ i)) := by
  rw [val_main_v15_1_apply, val_main_v11_apply, val_main_v10_apply, val_main_v8_apply, val_main_v9_apply, val_main_v6_apply,
    val_main_v7_apply, val_main_v5_apply, val_main_v5_apply]
  exact WordCmp.cmpi_sge_ofNat (by show i.val < _; omega) (by show j.val < _; omega)

variable {X0 X1 X2 : Qkv} {X3 : Out} {x : Fin 8 → Head}

theorem scores_at (H : Reads X0 X1 X2 X3 x) (h : Fin 8) (i j : Fin 8192) :
    val_main_v15_0 X0 X1 (ix3 h i j) = if j ≤ i then ((x h).sc i j : EReal) else ⊥ := by
  have h4 : val_main_v4 X0 X1 (ix3 h i j) = ((∑ c, (x h).q i c * (x h).k j c : ℝ) : EReal) := by
    rw [val_main_v4_apply]
    exact coe_dot _ _ _ _ (fun c => (congrArg X0 (ext3 _ h i c rfl rfl rfl)).trans (H.q h i c))
      (fun c => (congrArg X1 (ext3 _ h j c rfl rfl rfl)).trans (H.k h j c))
  rw [val_main_v15_0_apply, mask_at]
  by_cases hm : j ≤ i
  · rw [decide_eq_true hm, if_pos hm]
    show val_main_v4 X0 X1 (ix3 h i j) * val_main_v13 (F := Ideal) (ix3 h i j) = _
    rw [h4, val_main_v13_apply]
    show _ * Ideal.rsqrt (Ideal.ofBits .f32 0x43400000#32) = _
    rw [rsqrt_192, ← EReal.coe_mul]; rfl
  · rw [decide_eq_false hm, if_neg hm]
    show val_main_call0_v2 (F := Ideal) (ix3 h i j) = _
    rw [val_main_call0_v2_apply]
    exact ofBits_bot

theorem max_at (H : Reads X0 X1 X2 X3 x) (h : Fin 8) (i : Fin 8192) : ∃ r : ℝ, val_main_v16 X0 X1 (ix2 h i) = (r : EReal) := by
  unfold val_main_v16
  rw [Host.reduce_eq_fold]
  have hs : ∀ j : S8x8192x8192.Idx, val_main_v15_0 X0 X1 j < ⊤ := fun j => by
    refine lt_of_eq_of_lt ((congrArg _ (eq_ix3 j)).trans (scores_at H (j 0) (j 1) (j 2))) ?_
    split
    · exact EReal.coe_lt_top _
    · exact bot_lt_top
  have hd := scores_at H h i i
  rw [if_pos le_rfl] at hd
  generalize val_main_v15_0 X0 X1 = X at hs hd
  have e1 : val_main_cst_1 (F := Ideal) (Shape.Idx.first h_S_) = (⊥ : EReal) := ofBits_bot
  have hlt : Finset.fold (max : EReal → EReal → EReal) ⊥ X (Finset.univ.filter fun j => reducesTo_S8x8192x8192_S8x8192_d2.drop j = ix2 h i) < ⊤ :=
    (Finset.fold_max_lt _).mpr ⟨bot_lt_top, fun j _ => hs j⟩
  have hgt : ⊥ < Finset.fold (max : EReal → EReal → EReal) ⊥ X (Finset.univ.filter fun j => reducesTo_S8x8192x8192_S8x8192_d2.drop j = ix2 h i) :=
    (Finset.lt_fold_max _).mpr (Or.inr ⟨ix3 h i i, Finset.mem_filter.mpr ⟨Finset.mem_univ _, ext2 _ h i
      (reducesTo_S8x8192x8192_S8x8192_d2.drop_apply_val_of_eq (ix3 h i i) 0 0)
      (reducesTo_S8x8192x8192_S8x8192_d2.drop_apply_val_of_eq (ix3 h i i) 1 1)⟩,
      by rw [hd]; exact EReal.bot_lt_coe _⟩)
  rw [e1]
  exact ⟨_, (EReal.coe_toReal hlt.ne hgt.ne').symm⟩

variable (H : Reads X0 X1 X2 X3 x) (hm : ∀ h i, val_main_v16 X0 X1 (ix2 h i) = (((x h).m i : ℝ) : EReal))

include H hm

theorem e_at (h : Fin 8) (i j : Fin 8192) : val_main_v36 X0 X1 (ix3 h i j) = ((x h).e i j : EReal) := by
  have h34 : val_main_v34 X0 X1 (ix3 h i j) = ((x h).m i : EReal) := by
    rw [val_main_v34_apply, val_main_v33_apply, val_main_v23_apply,
      show idx_main_v33 (idx_main_v34 (ix3 h i j)) = ix2 h i from ext2 _ h i rfl rfl, hm h i, val_main_v22_apply]
    show max (Ideal.ofBits .f32 0xFF800000#32) _ = _
    rw [ofBits_bot]; exact max_eq_right bot_le
  rw [val_main_v36_apply, val_main_v35_apply, h34, scores_at H h i j]
  show Ideal.exp (_ - _) = _
  unfold Head.e
  split
  · rw [← EReal.coe_sub, Ideal.exp_coe]
  · rw [EReal.bot_sub, Ideal.exp_bot]; rfl

theorem l_at (h : Fin 8) (i : Fin 8192) : val_main_v37 X0 X1 (ix2 h i) = ((x h).l i : EReal) := by
  rw [val_main_v37_apply]
  have e : ∀ k : Fin 8192, val_main_v36 X0 X1 (idx_main_v37 (ix2 h i) k) = ((x h).e i k : EReal) := fun k =>
    (congrArg _ (ext3 _ h i k rfl rfl rfl)).trans (e_at H hm h i k)
  simp only [e]
  rw [coe_sum]
  show Ideal.ofBits .f32 0x00000000#32 + _ = _
  rw [Ideal.ofBits_zero_f32, zero_add]; rfl

theorem l1_at (h : Fin 8) (i : Fin 8192) (j : Fin 1) : val_main_v38 X0 X1 (ix3 h i j) = ((x h).l i : EReal) := by
  rw [val_main_v38_apply]
  exact (congrArg _ (ext2 _ h i rfl rfl)).trans (l_at H hm h i)

theorem p_at (h : Fin 8) (i j : Fin 8192) : val_main_v40 X0 X1 (ix3 h i j) = ((x h).p i j : EReal) := by
  rw [val_main_v40_apply, e_at H hm, val_main_v39_apply,
    show idx_main_v39 (ix3 h i j) = ix3 h i (0 : Fin 1) from ext3 _ h i 0 rfl rfl rfl, l1_at H hm]
  exact div_real _ _ ((x h).l_pos i).ne'

omit hm in
theorem o_at (h : Fin 8) (d : Fin 128) (i : Fin 8192) : val_main_v49 X3 (ix3 h d i) = ((x h).o i d : EReal) := by
  rw [val_main_v49_apply, val_main_v48_apply, val_main_v47_apply]
  refine (congrArg X3 (ext2 _ i (chan h d) ?_ ?_)).trans (H.o h i d)
  · show ((i.val * 8 + h.val) * 128 + d.val) / 1024 = i.val; omega
  · show ((i.val * 8 + h.val) * 128 + d.val) % 1024 = 128 * h.val + d.val; omega

omit hm in
theorem v_at (h : Fin 8) (j : Fin 8192) (d : Fin 128) : val_main_v3 X2 (ix3 h j d) = ((x h).v j d : EReal) := by
  rw [val_main_v3_apply, val_main_v2_apply]
  exact (congrArg X2 (ext3 _ h j (wide d) rfl rfl rfl)).trans (H.v h j d)

omit hm in
theorem dp_at (h : Fin 8) (i j : Fin 8192) : val_main_v50 X2 X3 (ix3 h i j) = ((x h).dp i j : EReal) := by
  rw [val_main_v50_apply]
  exact coe_dot _ _ _ _ (fun d => (congrArg _ (ext3 _ h d i rfl rfl rfl)).trans (o_at H h d i))
    (fun d => (congrArg _ (ext3 _ h j d rfl rfl rfl)).trans (v_at H h j d))

theorem dv_at (h : Fin 8) (j : Fin 8192) (d : Fin 128) : val_main_v52 X0 X1 X3 (ix3 h j d) = ((x h).dv j d : EReal) := by
  rw [val_main_v52_apply, show idx_main_v52 (ix3 h j d) = ix3 h d j from ext3 _ h d j rfl rfl rfl, val_main_v51_apply]
  refine (coe_dot _ _ _ _ (fun i => (congrArg _ (ext3 _ h d i rfl rfl rfl)).trans (o_at H h d i))
    (fun i => (congrArg _ (ext3 _ h i j rfl rfl rfl)).trans (p_at H hm h i j))).trans ?_
  exact congrArg _ (Finset.sum_congr rfl fun i _ => mul_comm _ _)

/-- What is added to each key's term: the row's sum, negated. -/
theorem corr_at (h : Fin 8) (i j : Fin 8192) :
    val_main_v62 X0 X1 X2 X3 (ix3 h i j)
      = ((-(∑ j', (x h).dp i j' * (1 / ((x h).l i * (x h).l i)) * (x h).e i j') : ℝ) : EReal) := by
  have h55 : ∀ j' : Fin 8192, val_main_v55 X0 X1 X2 X3 (ix3 h i j')
      = (((x h).dp i j' * (1 / ((x h).l i * (x h).l i)) * (x h).e i j' : ℝ) : EReal) := fun j' => by
    have h43 : val_main_v53 X0 X1 (ix3 h i j') = ((1 / ((x h).l i * (x h).l i) : ℝ) : EReal) := by
      rw [val_main_v53_apply, show idx_main_v53 (ix3 h i j') = ix3 h i (0 : Fin 1) from ext3 _ h i 0 rfl rfl rfl,
        val_main_v43_apply, val_main_v41_apply, l1_at H hm, val_main_v42_apply]
      show Ideal.div (Ideal.ofBits .f32 0x3F800000#32) (_ * _) = _
      rw [Ideal.ofBits_one_f32, ← EReal.coe_mul, ← EReal.coe_one]
      exact div_real _ _ (mul_pos ((x h).l_pos i) ((x h).l_pos i)).ne'
    rw [val_main_v55_apply, val_main_v54_apply, dp_at H, h43, e_at H hm]
    show _ * _ * _ = _
    rw [← EReal.coe_mul, ← EReal.coe_mul]
  have h58 : val_main_v58 X0 X1 X2 X3 (ix3 h i (0 : Fin 1))
      = ((-(∑ j', (x h).dp i j' * (1 / ((x h).l i * (x h).l i)) * (x h).e i j') : ℝ) : EReal) := by
    rw [val_main_v58_apply, val_main_v57_apply, show idx_main_v57 (ix3 h i (0 : Fin 1)) = ix2 h i from ext2 _ h i
      (by show ((h.val * 8192 + i.val) * 1 + 0) / 8192 = h.val; omega)
      (by show ((h.val * 8192 + i.val) * 1 + 0) % 8192 = i.val; omega), val_main_v56_apply]
    have e : ∀ k : Fin 8192, val_main_v55 X0 X1 X2 X3 (idx_main_v56 (ix2 h i) k) = _ := fun k =>
      (congrArg _ (ext3 _ h i k rfl rfl rfl)).trans (h55 k)
    simp only [e]
    rw [coe_sum]
    show -(Ideal.ofBits .f32 0x00000000#32 + _) = _
    rw [Ideal.ofBits_zero_f32, zero_add, EReal.coe_neg]
  rw [val_main_v62_apply, show idx_main_v62 (ix3 h i j) = ix2 h i from ext2 _ h i rfl rfl, val_main_v61_apply,
    Fin.sum_univ_one, show idx_main_v61 (ix2 h i) 0 = ix3 h i (0 : Fin 1) from ext3 _ h i 0 rfl rfl rfl, h58]
  show Ideal.ofBits .f32 0x00000000#32 + _ = _
  rw [Ideal.ofBits_zero_f32, zero_add]

theorem ds_at (h : Fin 8) (i j : Fin 8192) : val_main_v67 X0 X1 X2 X3 (ix3 h i j) = ((x h).ds i j : EReal) := by
  have h66 : val_main_v66 (F := Ideal) (ix3 h i j) = ((scale : ℝ) : EReal) := by rw [val_main_v66_apply]; exact rsqrt_192
  rw [val_main_v67_apply, h66, val_main_v65_apply, mask_at]
  by_cases hj : j ≤ i
  · rw [decide_eq_true hj]
    show val_main_v64 X0 X1 X2 X3 (ix3 h i j) * (scale : EReal) = _
    rw [val_main_v64_apply, val_main_v63_apply, val_main_v60_apply, val_main_v59_apply, dp_at H, e_at H hm, corr_at H hm,
      show idx_main_v59 (ix3 h i j) = ix3 h i (0 : Fin 1) from ext3 _ h i 0 rfl rfl rfl, l1_at H hm]
    show (Ideal.div _ _ + _) * _ * _ = _
    rw [div_real _ _ ((x h).l_pos i).ne', ← EReal.coe_add, ← EReal.coe_mul, ← EReal.coe_mul, (x h).ds_eq]
  · rw [decide_eq_false hj, (x h).ds_masked hj]
    show val_main_call1_v0 (F := Ideal) (ix3 h i j) * (scale : EReal) = _
    rw [val_main_call1_v0_apply]
    show Ideal.ofBits .f32 0x00000000#32 * _ = _
    rw [Ideal.ofBits_zero_f32, zero_mul, EReal.coe_zero]

theorem dk_at (h : Fin 8) (j : Fin 8192) (c : Fin 256) : val_main_v68 X0 X1 X2 X3 (ix3 h j c) = ((x h).dk j c : EReal) := by
  rw [val_main_v68_apply]
  exact coe_dot _ _ _ _ (fun i => (congrArg _ (ext3 _ h i j rfl rfl rfl)).trans (ds_at H hm h i j))
    (fun i => (congrArg X0 (ext3 _ h i c rfl rfl rfl)).trans (H.q h i c))

theorem dq_at (h : Fin 8) (b : Fin 16) (c : Fin 256) (r : Fin 512) :
    val_main_v71 X0 X1 X2 X3 (ix4 h b c r) = ((x h).dq (row b r) c : EReal) := by
  rw [val_main_v71_apply, val_main_v70_apply, show idx_main_v70 (idx_main_v71 (ix4 h b c r)) = ix3 h (row b r) c from
    ext3 _ h (row b r) c
      (by show (((h.val * 16 + b.val) * 512 + r.val) * 256 + c.val) / 2097152 = h.val; omega)
      (by show (((h.val * 16 + b.val) * 512 + r.val) * 256 + c.val) / 256 % 8192 = 512 * b.val + r.val; omega)
      (by show (((h.val * 16 + b.val) * 512 + r.val) * 256 + c.val) % 256 = c.val; omega), val_main_v69_apply]
  exact coe_dot _ _ _ _ (fun j => (congrArg _ (ext3 _ h (row b r) j rfl rfl rfl)).trans (ds_at H hm h (row b r) j))
    (fun j => (congrArg X1 (ext3 _ h j c rfl rfl rfl)).trans (H.k h j c))

end Cert.ReferenceIdeal.Attn

end
-- ==== Proof.Hand.Finite.lean ====
/-
  The precondition read at an index: arguments of which it holds are real numbers wherever the results look at them.
-/
module

public import proofs.«01_k».proof.Pre_finite
public import proofs.«01_k».proof.Proof.Hand.RefValue
public import Idealize.ShloMosaic.Lib.ReduceAll
public import Idealize.ShloMosaic.Lib.Affine

@[expose] public section

set_option maxRecDepth 16384

noncomputable section

namespace Cert.Proof.Finite

open Idealize.ShloMosaic Idealize.ShloMosaic.ValueIdx Cert.Proof.Attn
open Cert.ReferenceIdeal.Attn (Qkv Out Reads max_at)

theorem bcast_qkv : Cert.Pre_finite.S_.BroadcastsInDim Cert.Pre_finite.S8x8192x256 (![] : Fin 0 → Fin Cert.Pre_finite.S8x8192x256.rank) := by decide
theorem bcast_val : Cert.Pre_finite.S_.BroadcastsInDim Cert.Pre_finite.S8x8192x128 (![] : Fin 0 → Fin Cert.Pre_finite.S8x8192x128.rank) := by decide
theorem bcast_out : Cert.Pre_finite.S_.BroadcastsInDim Cert.Pre_finite.S8192x1024 (![] : Fin 0 → Fin Cert.Pre_finite.S8192x1024.rank) := by decide

instance facts : Cert.Pre_finite.Facts where
  bitsLt_bf16_f32 := by decide
  bcast_S_S8x8192x256 := bcast_qkv
  reducesTo_S8x8192x256_S_d0_1_2 := by decide
  h_S_ := by decide
  slices_S8x8192x256_S8x8192x128_0_0_0 := by decide
  bcast_S_S8x8192x128 := bcast_val
  reducesTo_S8x8192x128_S_d0_1_2 := by decide
  bcast_S_S8192x1024 := bcast_out
  reducesTo_S8192x1024_S_d0_1 := by decide

theorem ofBits_top : Ideal.ofBits .f32 0x7F800000#32 = ⊤ := by simp [Ideal.ofBits, Ideal.ieee]

/-- An extended real below ⊤ in absolute value is a real. -/
theorem real_of (a : EReal) (h : BitVec.ofBool (decide (max a (-a) < Ideal.ofBits .f32 0x7F800000#32)) = 1#1) : a = (a.toReal : EReal) := by
  rw [ofBits_top] at h
  have h' : max a (-a) < ⊤ := by
    by_contra hn
    rw [decide_eq_false hn] at h
    exact absurd h (by decide)
  obtain ⟨h1, h2⟩ := max_lt_iff.mp h'
  refine (EReal.coe_toReal (ne_of_lt h1) fun e => ?_).symm
  rw [e, EReal.neg_bot] at h2
  exact lt_irrefl _ h2

/-- One conjunct of the precondition read at an index. -/
theorem finite_at {s : Shape} {φ : FTy} (X : FVec Ideal s φ) {hφ : φ.bits < FTy.bits .f32} {axes : List (Fin s.rank)} {hb : Cert.Pre_finite.S_.BroadcastsInDim s (![] : Fin 0 → Fin s.rank)}
    {hr : s.ReducesTo axes Cert.Pre_finite.S_} {hu : 0 < Cert.Pre_finite.S_.numel} {j : Cert.Pre_finite.S_.Idx}
    (e : Host.reduce IntOp.andi (cmpf .olt (Host.absf (extf .f32 X hφ)) (broadcastInDim s ![] hb (constant (F := Ideal) Cert.Pre_finite.S_ .f32 0x7F800000#32)))
      (constantI Cert.Pre_finite.S_ 1 1#1) hr hu j = 1#1) (i : s.Idx) : X i = ((X i : EReal).toReal : EReal) :=
  real_of (X i) (Host.reduce_andi_all _ _ _ _ j e i)

theorem slice_at (X : FVec Ideal Cert.Pre_finite.S8x8192x256 .bf16) (hs : Cert.Pre_finite.S8x8192x256.Slices ![0, 0, 0] Cert.Pre_finite.S8x8192x128)
    (h : Fin 8) (r : Fin 8192) (d : Fin 128) : extractStridedSlice Cert.Pre_finite.S8x8192x128 ![0, 0, 0] X hs (ix3 h r d) = X (ix3 h r (wide d)) :=
  congrArg X (ext3 _ h r (wide d) (Nat.zero_add _) (Nat.zero_add _) (Nat.zero_add _))

/-- The four conjuncts. -/
theorem split (X0 X1 X2 : Qkv) (X3 : Out) (h : Cert.Pre_finite.fn (F := Ideal) X0 X1 X2 X3 = fun _ => 1#1) :
    (∀ i, X0 i = ((X0 i : EReal).toReal : EReal)) ∧ (∀ i, X1 i = ((X1 i : EReal).toReal : EReal))
    ∧ (∀ h' r d, X2 (ix3 h' r (wide d)) = ((X2 (ix3 h' r (wide d)) : EReal).toReal : EReal)) ∧ (∀ i, X3 i = ((X3 i : EReal).toReal : EReal)) := by
  have hj := congrFun h (Shape.Idx.first facts.h_S_)
  unfold Cert.Pre_finite.fn Cert.Pre_finite.fn_part1 at hj
  dsimp only at hj
  obtain ⟨h012, h3⟩ := IntOp.andi_eq_one.mp hj
  obtain ⟨h01, h2⟩ := IntOp.andi_eq_one.mp h012
  obtain ⟨h0, h1⟩ := IntOp.andi_eq_one.mp h01
  refine ⟨finite_at (s := Cert.Pre_finite.S8x8192x256) (φ := .bf16) X0 h0, finite_at (s := Cert.Pre_finite.S8x8192x256) (φ := .bf16) X1 h1, fun h' r d => ?_, finite_at (s := Cert.Pre_finite.S8192x1024) (φ := .bf16) X3 h3⟩
  have e := finite_at (s := Cert.Pre_finite.S8x8192x128) (φ := .bf16) _ h2 (ix3 h' r d)
  rw [slice_at] at e
  exact e

/-- Arguments of which the precondition holds read as reals, the rows' maxima with them. -/
theorem reads (X0 X1 X2 : Qkv) (X3 : Out) (h : Cert.Pre_finite.fn (F := Ideal) X0 X1 X2 X3 = fun _ => 1#1) :
    ∃ x : Fin 8 → Head, Reads X0 X1 X2 X3 x
      ∧ ∀ h i, Cert.ReferenceIdeal.Read.val_main_v16 X0 X1 (ix2 h i) = (((x h).m i : ℝ) : EReal) := by
  obtain ⟨h0, h1, h2, h3⟩ := split X0 X1 X2 X3 h
  have H : ∀ μ : Fin 8 → Fin 8192 → ℝ, Reads X0 X1 X2 X3 (fun h =>
      { q := fun i c => (X0 (ix3 h i c) : EReal).toReal, k := fun i c => (X1 (ix3 h i c) : EReal).toReal,
        v := fun i d => (X2 (ix3 h i (wide d)) : EReal).toReal, o := fun i d => (X3 (ix2 i (chan h d)) : EReal).toReal, m := μ h }) :=
    fun μ => ⟨fun h i c => h0 _, fun h i c => h1 _, fun h i d => h2 h i d, fun h i d => h3 _⟩
  choose μ hμ using fun h i => max_at (H fun _ _ => 0) h i
  exact ⟨_, H μ, hμ⟩

end Cert.Proof.Finite

end
-- ==== Proof.Hand.IdealPay.lean ====
/-
  The kernel's per-block payloads read at an index, over blocks that read as reals.
-/
module

public import proofs.«01_k».proof.Proof.Hand.IdealState
public import proofs.«01_k».proof.Proof.Hand.RefValue
public import Idealize.ShloMosaic.Lib.MatmulPlain
public import Idealize.ShloMosaic.Lib.ValueLayout

@[expose] public section

noncomputable section

namespace Cert.Proof.KernelIdeal

open Cert.KernelIdeal Cert.KernelIdeal.Gen Idealize.ShloMosaic Idealize.ShloMosaic.TcCoe Idealize.ShloMosaic.ValueIdx Cert.Proof.Attn

/-! ## Products into zero, and casts of unit axes -/

theorem zero_at {S : Shape} (j : S.Idx) : constant (F := Ideal) S .f32 0x00000000#32 j = (0 : EReal) := Ideal.ofBits_zero_f32

theorem mul_at {M K N : ℕ} {φ₁ φ₂ : FTy} (A : FVec Ideal ⟨2, ![M, K]⟩ φ₁) (B : FVec Ideal ⟨2, ![K, N]⟩ φ₂) (f : Fin K → ℝ) (g : Fin K → ℝ)
    (r : Fin M) (c : Fin N) (hA : ∀ k, A (ix2 r k) = (f k : EReal)) (hB : ∀ k, B (ix2 k c) = (g k : EReal)) :
    matmul (DotDims.plain M K N) none A B (constant (F := Ideal) _ .f32 0x00000000#32) (ix2 r c) = ((∑ k, f k * g k : ℝ) : EReal) := by
  refine (Ideal.matmul_plain_apply none A B _ r c).trans ?_
  rw [zero_at, zero_add]
  exact coe_dot _ _ f g hA hB

theorem mulT_at {M K N : ℕ} {φ₁ φ₂ : FTy} (A : FVec Ideal ⟨2, ![M, K]⟩ φ₁) (B : FVec Ideal ⟨2, ![N, K]⟩ φ₂) (f : Fin K → ℝ) (g : Fin K → ℝ)
    (r : Fin M) (c : Fin N) (hA : ∀ k, A (ix2 r k) = (f k : EReal)) (hB : ∀ k, B (ix2 c k) = (g k : EReal)) :
    matmul (DotDims.transposedRhs M K N) none A B (constant (F := Ideal) _ .f32 0x00000000#32) (ix2 r c) = ((∑ k, f k * g k : ℝ) : EReal) := by
  refine (Ideal.matmul_transposedRhs_apply none A B _ r c).trans ?_
  rw [zero_at, zero_add]
  exact coe_dot _ _ f g hA hB

/-- A row of 512 broadcast over the keys. -/
theorem rowcast_at (l : Vec Ideal S1x1x1x512 .f32) (r s : Fin 512) :
    broadcastTo S512x512 (shapeCast S1x512 l shapeCasts_S1x1x1x512_S1x512) broadcasts_S1x512_S512x512 (ix2 r s) = l (ix4 0 0 0 s) := by
  refine (broadcastTo_1b_ab_apply _ _ r s).trans (shapeCast_apply l _ _ _ ?_)
  rw [Shape.rowMajor_val_four, Shape.rowMajor_val_two]
  show ((0 * _ + 0) * _ + 0) * _ + s.val = 0 * _ + s.val
  omega

theorem slab_in {α : Type} (x : S1x1x256x512.Idx → α) (c : Fin 256) (r : Fin 512) :
    shapeCast S256x512 x shapeCasts_S1x1x256x512_S256x512 (ix2 c r) = x (ix4 0 0 c r) := by
  refine shapeCast_apply x _ _ _ ?_
  rw [Shape.rowMajor_val_four, Shape.rowMajor_val_two]
  show ((0 * _ + 0) * _ + c.val) * _ + r.val = c.val * _ + r.val
  simp

theorem slab_out {α : Type} (x : S256x512.Idx → α) (c : Fin 256) (r : Fin 512) :
    shapeCast S1x1x256x512 x shapeCasts_S256x512_S1x1x256x512 (ix4 0 0 c r) = x (ix2 c r) := by
  refine shapeCast_apply x _ _ _ ?_
  rw [Shape.rowMajor_val_four, Shape.rowMajor_val_two]
  show c.val * _ + r.val = ((0 * _ + 0) * _ + c.val) * _ + r.val
  simp

theorem named_scale : Named.named (F := Ideal) κ "scale" (φ := .f32) 0x3D93CD3A#32 = (scale : EReal) := rfl
theorem named_scale2 : Named.named (F := Ideal) κ "scale2" (φ := .f32) 0x3DD53B95#32 = ((scale * (Real.log 2)⁻¹ : ℝ) : EReal) := rfl

/-! ## The weights and the score gradient of a block -/

/-- A block's weight from its rows: key row, query row, log-sum. -/
def wt {n : ℕ} (k q : Fin n → ℝ) (l : ℝ) : ℝ := Real.rpow 2 ((∑ c, k c * q c) * (scale * (Real.log 2)⁻¹) - l)

theorem pay34_at (K : FVec Ideal S512x256 .bf16) (Q : Vec Ideal S1x512x256 .bf16) (L : Vec Ideal S1x1x1x512 .f32)
    (r s : Fin 512) (k q : Fin 256 → ℝ) (l : ℝ) (hK : ∀ c, K (ix2 r c) = (k c : EReal)) (hQ : ∀ c, Q (ix3 0 s c) = (q c : EReal))
    (hL : L (ix4 0 0 0 s) = (l : EReal)) : k0_pay34 K Q L (ix2 r s) = (wt k q l : EReal) := by
  have hm := mulT_at (M := 512) (K := 256) (N := 512) K (k0_pay33 Q) k q r s hK
    (fun c => (shapeCast_1ab_ab_apply _ _ s c).trans (hQ c))
  have hr := (rowcast_at L r s).trans hL
  unfold k0_pay34
  show Ideal.exp2 ((_ : EReal) * Named.named (F := Ideal) κ "scale2" (φ := .f32) 0x3DD53B95#32 - _) = _
  rw [named_scale2]
  refine (congrArg Ideal.exp2 (congrArg₂ (fun a b : EReal => a * _ - b) hm hr)).trans ?_
  rw [← EReal.coe_mul, ← EReal.coe_sub, Ideal.exp2_coe]; rfl

/-- The score gradient from a weight. -/
theorem grad_at (W : FVec Ideal S512x512 .f32) (Vv O : FVec Ideal S512x128 .bf16) (D : Vec Ideal S1x1x1x512 .f32)
    (r s : Fin 512) (w : ℝ) (v o : Fin 128 → ℝ) (d : ℝ) (hW : W (ix2 r s) = (w : EReal)) (hV : ∀ c, Vv (ix2 r c) = (v c : EReal))
    (hO : ∀ c, O (ix2 s c) = (o c : EReal)) (hD : D (ix4 0 0 0 s) = (d : EReal)) :
    truncf .bf16 (mulf (mulf W (subf (matmul dot_S512x128_S512x128_S512x512_1_1_0_0_n_n none Vv O (constant S512x512 .f32 0x00000000#32))
      (broadcastTo S512x512 (shapeCast S1x512 D shapeCasts_S1x1x1x512_S1x512) broadcasts_S1x512_S512x512)))
      (broadcast S512x512 (Named.named (F := Ideal) κ "scale" (φ := .f32) 0x3D93CD3A#32))) bitsLt_bf16_f32 (ix2 r s)
      = ((w * (∑ c, v c * o c - d) * scale : ℝ) : EReal) := by
  have hm := mulT_at (M := 512) (K := 128) (N := 512) Vv O v o r s hV hO
  have hr := (rowcast_at D r s).trans hD
  show ((_ : EReal) * (_ - _)) * Named.named (F := Ideal) κ "scale" (φ := .f32) 0x3D93CD3A#32 = _
  rw [named_scale]
  refine (congrArg₂ (fun a b : EReal => a * b * _) hW (congrArg₂ (fun a b : EReal => a - b) hm hr)).trans ?_
  rw [← EReal.coe_sub, ← EReal.coe_mul, ← EReal.coe_mul]

/-! ## The accumulations -/

/-- A weighted sum of rows added to the value gradient. -/
theorem accV_at (W : FVec Ideal S512x512 .bf16) (O : FVec Ideal S512x128 .bf16) (X : Vec Ideal S1x512x128 .f32)
    (r : Fin 512) (c : Fin 128) (w o : Fin 512 → ℝ) (a : ℝ) (hW : ∀ s, W (ix2 r s) = (w s : EReal)) (hO : ∀ s, O (ix2 s c) = (o s : EReal))
    (hX : X (ix3 0 r c) = (a : EReal)) :
    shapeCast S1x512x128 (addf (shapeCast S512x128 X shapeCasts_S1x512x128_S512x128)
      (matmul dot_S512x512_S512x128_S512x128_1_0_0_1_n_n none W O (constant S512x128 .f32 0x00000000#32))) shapeCasts_S512x128_S1x512x128
      (ix3 0 r c) = ((a + ∑ s, w s * o s : ℝ) : EReal) := by
  refine (shapeCast_ab_1ab_apply _ _ 0 r c).trans ?_
  refine (congrArg₂ (fun a b : EReal => a + b) ((shapeCast_1ab_ab_apply X _ r c).trans hX)
    (mul_at (M := 512) (K := 512) (N := 128) W O w o r c hW hO)).trans ?_
  rw [← EReal.coe_add]

/-- A weighted sum of rows added to the key gradient. -/
theorem accK_at (W : FVec Ideal S512x512 .bf16) (Q : FVec Ideal S512x256 .bf16) (X : Vec Ideal S1x512x256 .f32)
    (r : Fin 512) (c : Fin 256) (w q : Fin 512 → ℝ) (a : ℝ) (hW : ∀ s, W (ix2 r s) = (w s : EReal)) (hQ : ∀ s, Q (ix2 s c) = (q s : EReal))
    (hX : X (ix3 0 r c) = (a : EReal)) :
    k0_pay57 Q W X (ix3 0 r c) = ((a + ∑ s, w s * q s : ℝ) : EReal) := by
  unfold k0_pay57
  refine (shapeCast_ab_1ab_apply _ _ 0 r c).trans ?_
  refine (congrArg₂ (fun a b : EReal => a + b) ((shapeCast_1ab_ab_apply X _ r c).trans hX)
    (mul_at (M := 512) (K := 512) (N := 256) W Q w q r c hW hQ)).trans ?_
  rw [← EReal.coe_add]

/-- The keys against the score gradient added to the query gradient's slab. -/
theorem accQ_at (T : FVec Ideal S256x512 .bf16) (W : FVec Ideal S512x512 .bf16) (X : Vec Ideal S1x1x256x512 .f32)
    (c : Fin 256) (s : Fin 512) (k w : Fin 512 → ℝ) (a : ℝ) (hT : ∀ r, T (ix2 c r) = (k r : EReal)) (hW : ∀ r, W (ix2 r s) = (w r : EReal))
    (hX : X (ix4 0 0 c s) = (a : EReal)) :
    k0_pay58 T W X (ix4 0 0 c s) = ((a + ∑ r, k r * w r : ℝ) : EReal) := by
  unfold k0_pay58
  refine (slab_out _ c s).trans ?_
  refine (congrArg₂ (fun a b : EReal => a + b) ((slab_in X c s).trans hX)
    (mul_at (M := 256) (K := 512) (N := 512) T W k w c s hT hW)).trans ?_
  rw [← EReal.coe_add]

/-! ## The mask of the diagonal block -/

theorem pay49_at (P : FVec Ideal S512x512 .f32) (r s : Fin 512) (p : ℝ) (h : r ≤ s → P (ix2 r s) = (p : EReal)) (h0 : ¬ r ≤ s → p = 0) :
    k0_pay49 P colI rowI (ix2 r s) = (p : EReal) := by
  have hc : cmpi .sge colI rowI (ix2 r s) = BitVec.ofBool (decide (r ≤ s)) := by
    show IntOp.cmpi .sge (BitVec.ofNat 32 (0 * 512 + s.val)) (BitVec.ofNat 32 (0 * 512 + r.val)) = _
    rw [Nat.zero_mul, Nat.zero_add, Nat.zero_add]
    exact WordCmp.cmpi_sge_ofNat (by omega) (by omega)
  unfold k0_pay49
  rw [select_apply, hc]
  by_cases hm : r ≤ s
  · rw [decide_eq_true hm]; exact h hm
  · rw [decide_eq_false hm, h0 hm]; exact Ideal.ofBits_zero_f32

theorem pay35_at (K : FVec Ideal S512x256 .bf16) (Q : Vec Ideal S1x512x256 .bf16) (O : Vec Ideal S512x128 .bf16) (L : Vec Ideal S1x1x1x512 .f32)
    (X : Vec Ideal S1x512x128 .f32) (r : Fin 512) (c : Fin 128) (w o : Fin 512 → ℝ) (a : ℝ) (hW : ∀ s, k0_pay34 K Q L (ix2 r s) = (w s : EReal))
    (hO : ∀ s, O (ix2 s c) = (o s : EReal)) (hX : X (ix3 0 r c) = (a : EReal)) :
    k0_pay35 K Q O L X (ix3 0 r c) = ((a + ∑ s, w s * o s : ℝ) : EReal) := by
  unfold k0_pay35
  exact accV_at (truncf .bf16 (k0_pay34 K Q L) bitsLt_bf16_f32) O X r c w o a hW hO hX

theorem pay50_at (P : FVec Ideal S512x512 .f32) (O : Vec Ideal S512x128 .bf16) (X : Vec Ideal S1x512x128 .f32)
    (r : Fin 512) (c : Fin 128) (w o : Fin 512 → ℝ) (a : ℝ) (hW : ∀ s, k0_pay49 P colI rowI (ix2 r s) = (w s : EReal))
    (hO : ∀ s, O (ix2 s c) = (o s : EReal)) (hX : X (ix3 0 r c) = (a : EReal)) :
    k0_pay50 O P colI rowI X (ix3 0 r c) = ((a + ∑ s, w s * o s : ℝ) : EReal) := by
  unfold k0_pay50
  exact accV_at (truncf .bf16 (k0_pay49 P colI rowI) bitsLt_bf16_f32) O X r c w o a hW hO hX

theorem pay36_at (K : FVec Ideal S512x256 .bf16) (Vv : FVec Ideal S512x128 .bf16) (Q : Vec Ideal S1x512x256 .bf16) (O : Vec Ideal S512x128 .bf16)
    (L D : Vec Ideal S1x1x1x512 .f32) (r s : Fin 512) (w : ℝ) (v o : Fin 128 → ℝ) (d : ℝ) (hW : k0_pay34 K Q L (ix2 r s) = (w : EReal))
    (hV : ∀ c, Vv (ix2 r c) = (v c : EReal)) (hO : ∀ c, O (ix2 s c) = (o c : EReal)) (hD : D (ix4 0 0 0 s) = (d : EReal)) :
    k0_pay36 K Vv Q O L D (ix2 r s) = ((w * (∑ c, v c * o c - d) * scale : ℝ) : EReal) := by
  unfold k0_pay36
  exact grad_at (k0_pay34 K Q L) Vv O D r s w v o d hW hV hO hD

theorem pay51_at (P : FVec Ideal S512x512 .f32) (Vv : FVec Ideal S512x128 .bf16) (O : Vec Ideal S512x128 .bf16)
    (D : Vec Ideal S1x1x1x512 .f32) (r s : Fin 512) (w : ℝ) (v o : Fin 128 → ℝ) (d : ℝ) (hW : k0_pay49 P colI rowI (ix2 r s) = (w : EReal))
    (hV : ∀ c, Vv (ix2 r c) = (v c : EReal)) (hO : ∀ c, O (ix2 s c) = (o c : EReal)) (hD : D (ix4 0 0 0 s) = (d : EReal)) :
    k0_pay51 Vv O P colI rowI D (ix2 r s) = ((w * (∑ c, v c * o c - d) * scale : ℝ) : EReal) := by
  unfold k0_pay51
  exact grad_at (k0_pay49 P colI rowI) Vv O D r s w v o d hW hV hO hD

theorem pay33_at (Q : Vec Ideal S1x512x256 .bf16) (s : Fin 512) (c : Fin 256) : k0_pay33 Q (ix2 s c) = Q (ix3 0 s c) := by
  unfold k0_pay33; exact shapeCast_1ab_ab_apply _ _ s c
theorem pay47_at (Q : Vec Ideal S1x512x256 .bf16) (s : Fin 512) (c : Fin 256) : k0_pay47 Q (ix2 s c) = Q (ix3 0 s c) := by
  unfold k0_pay47; exact shapeCast_1ab_ab_apply _ _ s c
theorem pay41_at (b : Fin 16) (c : Fin 256) (s : Fin 512) : k0_pay41 (F := Ideal) (ix4 0 b c s) = (0 : EReal) := by
  unfold k0_pay41; exact Ideal.ofBits_zero_f32
theorem pay45_at (r : Fin 512) (c : Fin 256) : k0_pay45 (F := Ideal) (ix3 0 r c) = (0 : EReal) := by
  unfold k0_pay45; exact Ideal.ofBits_zero_f32
theorem pay46_at (r : Fin 512) (c : Fin 128) : k0_pay46 (F := Ideal) (ix3 0 r c) = (0 : EReal) := by
  unfold k0_pay46; exact Ideal.ofBits_zero_f32

/-! ## The diagonal block's payloads as those of a block past it -/

theorem pay48_eq (k : Vec Ideal S1x512x256 .bf16) (q : Vec Ideal S1x512x256 .bf16) (l : Vec Ideal S1x1x1x512 .f32) :
    k0_pay48 k q l = k0_pay34 (k0_pay42 k) q l := rfl

theorem pay52_eq (v : FVec Ideal S512x128 .bf16) (q : FVec Ideal S512x256 .bf16) (o : Vec Ideal S512x128 .bf16) (p : FVec Ideal S512x512 .f32)
    (a b : IVec S512x512 32) (d : Vec Ideal S1x1x1x512 .f32) (X : Vec Ideal S1x512x256 .f32) :
    k0_pay52 v q o p a b d X = k0_pay57 q (k0_pay51 v o p a b d) X := rfl

theorem pay54_eq (v : FVec Ideal S512x128 .bf16) (t : FVec Ideal S256x512 .bf16) (o : Vec Ideal S512x128 .bf16) (p : FVec Ideal S512x512 .f32)
    (a b : IVec S512x512 32) (d : Vec Ideal S1x1x1x512 .f32) (X : Vec Ideal S1x1x256x512 .f32) :
    k0_pay54 (k0_pay53 v t o p a b d X) = k0_pay58 t (k0_pay51 v o p a b d) X := rfl

end Cert.Proof.KernelIdeal

end
-- ==== Proof.Hand.IdealValue.lean ====
/-
  What one key block leaves of its accumulators, over blocks that read as the reals of one head: the key and value
  gradients of the block, and the query gradient's slab with the block's own term added everywhere.
-/
module

public import proofs.«01_k».proof.Proof.Hand.IdealPay

@[expose] public section

set_option maxRecDepth 16384

noncomputable section

namespace Cert.Proof.Attn

/-! ## Sums over the first blocks -/

/-- The sum over the blocks before `n`. -/
def upto {M : Type*} [AddCommMonoid M] (T : Fin 16 → M) (n : ℕ) : M := ∑ b, if b.val < n then T b else 0

theorem upto_succ {M : Type*} [AddCommMonoid M] (T : Fin 16 → M) {n : ℕ} (h : n < 16) : upto T (n + 1) = upto T n + T ⟨n, h⟩ := by
  have hs : T ⟨n, h⟩ = ∑ b, if b = (⟨n, h⟩ : Fin 16) then T b else 0 := by rw [Finset.sum_ite_eq' Finset.univ]; simp
  unfold upto
  rw [hs, ← Finset.sum_add_distrib]
  refine Finset.sum_congr rfl fun b _ => ?_
  rcases Nat.lt_trichotomy b.val n with hb | hb | hb
  · rw [if_pos (by omega), if_pos hb, if_neg (fun e => by rw [e] at hb; exact absurd hb (Nat.lt_irrefl _)), add_zero]
  · rw [if_pos (by omega), if_neg (by omega), if_pos (Fin.ext hb), zero_add]
  · rw [if_neg (by omega), if_neg (by omega), if_neg (fun e => by rw [e] at hb; exact absurd hb (Nat.lt_irrefl _)), add_zero]

theorem upto_all {M : Type*} [AddCommMonoid M] (T : Fin 16 → M) : upto T 16 = ∑ b, T b :=
  Finset.sum_congr rfl fun b _ => if_pos b.isLt

theorem upto_none {M : Type*} [AddCommMonoid M] (T : Fin 16 → M) {n : ℕ} (h : ∀ b : Fin 16, b.val < n → T b = 0) : upto T n = 0 :=
  Finset.sum_eq_zero fun b _ => by split <;> rename_i hb <;> [exact h b hb; rfl]

/-! ## One key block's terms -/

variable (x : Head)

/-- Query block `b'`'s term of key block `b`'s gradients, and the converse. -/
def kTerm (b : Fin 16) (r : Fin 512) (c : Fin 256) (b' : Fin 16) : ℝ := ∑ s, x.ds (row b' s) (row b r) * x.q (row b' s) c
def vTerm (b : Fin 16) (r : Fin 512) (d : Fin 128) (b' : Fin 16) : ℝ := ∑ s, x.p (row b' s) (row b r) * x.o (row b' s) d
def qTerm (b' : Fin 16) (c : Fin 256) (s : Fin 512) (b : Fin 16) : ℝ := ∑ r, x.k (row b r) c * x.ds (row b' s) (row b r)

variable {x}

theorem kTerm_zero {b b' : Fin 16} (h : b' < b) (r : Fin 512) (c : Fin 256) : kTerm x b r c b' = 0 :=
  Finset.sum_eq_zero fun s _ => by rw [x.ds_masked (row_not_le_of_lt h r s), zero_mul]
theorem vTerm_zero {b b' : Fin 16} (h : b' < b) (r : Fin 512) (d : Fin 128) : vTerm x b r d b' = 0 :=
  Finset.sum_eq_zero fun s _ => by rw [x.p_masked (row_not_le_of_lt h r s), zero_mul]
theorem qTerm_zero {b b' : Fin 16} (h : b' < b) (c : Fin 256) (s : Fin 512) : qTerm x b' c s b = 0 :=
  Finset.sum_eq_zero fun r _ => by rw [x.ds_masked (row_not_le_of_lt h r s), mul_zero]

theorem kTerm_all (b : Fin 16) (r : Fin 512) (c : Fin 256) : upto (kTerm x b r c) 16 = x.dk (row b r) c := by
  rw [upto_all]; exact (sum_rows fun i => x.ds i (row b r) * x.q i c).symm
theorem vTerm_all (b : Fin 16) (r : Fin 512) (d : Fin 128) : upto (vTerm x b r d) 16 = x.dv (row b r) d := by
  rw [upto_all]; exact (sum_rows fun i => x.p i (row b r) * x.o i d).symm
theorem qTerm_all (b' : Fin 16) (c : Fin 256) (s : Fin 512) : upto (qTerm x b' c s) 16 = x.dq (row b' s) c := by
  rw [upto_all]
  refine Eq.trans ?_ (sum_rows fun j => x.ds (row b' s) j * x.k j c).symm
  exact Finset.sum_congr rfl fun b _ => Finset.sum_congr rfl fun r _ => mul_comm _ _

end Cert.Proof.Attn

namespace Cert.Proof.KernelIdeal

open Cert.KernelIdeal Cert.KernelIdeal.Gen Idealize.ShloMosaic Idealize.ShloMosaic.TcCoe Idealize.ShloMosaic.ValueIdx Cert.Proof.Attn

/-- What key block `b` reads, as the reals of its head. -/
structure Good (x : Head) (b : Fin 16) (X : In Ideal) : Prop where
  q : ∀ i c, X.q (ix3 0 i c) = ((x.q i c : ℝ) : EReal)
  k : ∀ r c, X.k (ix2 r c) = ((x.k (row b r) c : ℝ) : EReal)
  v : ∀ r d, X.v (ix2 r d) = ((x.v (row b r) d : ℝ) : EReal)
  t : ∀ c r, X.t (ix2 c r) = ((x.k (row b r) c : ℝ) : EReal)
  o : ∀ i d, X.o (ix2 i d) = ((x.o i d : ℝ) : EReal)
  l : ∀ b' s, X.l (ix4 0 b' 0 s) = ((x.lse (row b' s) : ℝ) : EReal)
  d : ∀ b' s, X.d (ix4 0 b' 0 s) = ((x.del (row b' s) : ℝ) : EReal)

/-- The accumulators of key block `b` after the query blocks before `n`, over a slab that started from `g`. -/
structure Has (x : Head) (b : Fin 16) (g : Fin 16 → Fin 256 → Fin 512 → ℝ) (n : ℕ) (S : St Ideal) : Prop where
  q : ∀ b' c s, S.q (ix4 0 b' c s) = ((g b' c s + (if b'.val < n then qTerm x b' c s b else 0) : ℝ) : EReal)
  k : ∀ r c, S.k (ix3 0 r c) = ((upto (kTerm x b r c) n : ℝ) : EReal)
  v : ∀ r d, S.v (ix3 0 r d) = ((upto (vTerm x b r d) n : ℝ) : EReal)

/-! ## The rectangles of a query block read at an index -/

theorem ldq_at {φ : EltTy} (X : Vec Ideal S1x8192x256 φ) (j : Fin 16) (s : Fin 512) (c : Fin 256) : View.ld X (qR j) (ix3 0 s c) = X (ix3 0 (row j s) c) :=
  congrArg X (ext3 _ 0 (row j s) c rfl (by show 512 * j.val + 1 * s.val = 512 * j.val + s.val; omega) (by show 0 + 1 * c.val = c.val; omega))
theorem ldo_at {φ : EltTy} (X : Vec Ideal S8192x128 φ) (j : Fin 16) (s : Fin 512) (d : Fin 128) : View.ld X (oR j) (ix2 s d) = X (ix2 (row j s) d) :=
  congrArg X (ext2 _ (row j s) d (by show 512 * j.val + 1 * s.val = 512 * j.val + s.val; omega) (by show 0 + 1 * d.val = d.val; omega))
theorem ldl_at {φ : EltTy} (X : Vec Ideal S1x16x8x512 φ) (j : Fin 16) (s : Fin 512) : View.ld X (lR j) (ix4 0 0 0 s) = X (ix4 0 j 0 s) :=
  congrArg X (ext4 _ 0 j 0 s rfl (by show j.val + 1 * 0 = j.val; omega) rfl (by show 0 + 1 * s.val = s.val; omega))
theorem gR_emb (j : Fin 16) (c : Fin 256) (s : Fin 512) : (gR j).emb (ix4 0 0 c s) = ix4 0 j c s :=
  ext4 _ 0 j c s rfl (by show j.val + 1 * 0 = j.val; omega) (by show 0 + 1 * c.val = c.val; omega) (by show 0 + 1 * s.val = s.val; omega)
theorem ldg_at (X : Vec Ideal S1x16x256x512 .f32) (j : Fin 16) (c : Fin 256) (s : Fin 512) : View.ld X (gR j) (ix4 0 0 c s) = X (ix4 0 j c s) :=
  congrArg X (gR_emb j c s)
theorem putg_same (X : Vec Ideal S1x16x256x512 .f32) (j : Fin 16) (w : Vec Ideal S1x1x256x512 .f32) (c : Fin 256) (s : Fin 512) :
    put X (gR j) w (ix4 0 j c s) = w (ix4 0 0 c s) :=
  (congrArg (put X (gR j) w) (gR_emb j c s).symm).trans (put_emb X (gR j) w _)
theorem putg_other (X : Vec Ideal S1x16x256x512 .f32) (j j' : Fin 16) (h : j ≠ j') (w : Vec Ideal S1x1x256x512 .f32) (c : Fin 256) (s : Fin 512) :
    put X (gR j) w (ix4 0 j' c s) = X (ix4 0 j' c s) :=
  put_not X (gR j) w _ fun ⟨y, hy⟩ => gR_apart h y (ix4 0 0 c s) (hy.trans (gR_emb j' c s).symm)

variable {x : Head} {b : Fin 16} {X : In Ideal}

/-- The weight of a block before the mask, where the mask keeps it. -/
theorem weight_at (G : Good x b X) (j : Fin 16) (r s : Fin 512) (h : row b r ≤ row j s) :
    k0_pay34 X.k (View.ld X.q (qR j)) (View.ld X.l (lR j)) (ix2 r s) = ((x.p (row j s) (row b r) : ℝ) : EReal) := by
  refine (pay34_at _ _ _ r s (x.k (row b r)) (x.q (row j s)) (x.lse (row j s)) (G.k r)
    (fun c => (ldq_at X.q j s c).trans (G.q _ c)) ((ldl_at X.l j s).trans (G.l j s))).trans ?_
  exact congrArg _ (x.exp2_eq h)

theorem dp_comm (i j : Fin 8192) : ∑ d, x.v j d * x.o i d = x.dp i j := Finset.sum_congr rfl fun _ _ => mul_comm _ _

/-- The score gradient of a block past the diagonal. -/
theorem ds_at (G : Good x b X) (j : Fin 16) (h : b < j) (r s : Fin 512) : dsOf X j (ix2 r s) = ((x.ds (row j s) (row b r) : ℝ) : EReal) := by
  unfold dsOf
  rw [pay36_at _ X.v _ (View.ld X.o (oR j)) _ (View.ld X.d (lR j)) r s _ (x.v (row b r)) (x.o (row j s)) (x.del (row j s))
    (weight_at G j r s (row_le_of_lt h r s)) (G.v r) (fun d => (ldo_at X.o j s d).trans (G.o _ d)) ((ldl_at X.d j s).trans (G.d j s)), dp_comm]
  rfl

/-- The slab after one more block. -/
theorem slab_step {g : Fin 16 → Fin 256 → Fin 512 → ℝ} {n : ℕ} (hn : n < 16) (S : Vec Ideal S1x16x256x512 .f32) (w : Vec Ideal S1x1x256x512 .f32)
    (hS : ∀ b' c s, S (ix4 0 b' c s) = ((g b' c s + (if b'.val < n then qTerm x b' c s b else 0) : ℝ) : EReal))
    (hw : ∀ c s, w (ix4 0 0 c s) = ((g ⟨n, hn⟩ c s + qTerm x ⟨n, hn⟩ c s b : ℝ) : EReal)) (b' : Fin 16) (c : Fin 256) (s : Fin 512) :
    put S (gR ⟨n, hn⟩) w (ix4 0 b' c s) = ((g b' c s + (if b'.val < n + 1 then qTerm x b' c s b else 0) : ℝ) : EReal) := by
  by_cases h : (⟨n, hn⟩ : Fin 16) = b'
  · subst h
    rw [putg_same, hw, if_pos (Nat.lt_succ_self n)]
  · rw [putg_other _ _ _ h, hS]
    have hv : b'.val ≠ n := fun e => h (Fin.ext e.symm)
    have : (b'.val < n + 1) = (b'.val < n) := propext (by omega)
    simp only [this]

theorem stepF_q (x : In Ideal) (j : Fin 16) (s : St Ideal) : (stepF x j s).q = put s.q (gR j) (k0_pay58 x.t (dsOf x j) (View.ld s.q (gR j))) := by
  dsimp only [stepF]
theorem stepF_k (x : In Ideal) (j : Fin 16) (s : St Ideal) : (stepF x j s).k = k0_pay57 (k0_pay33 (View.ld x.q (qR j))) (dsOf x j) s.k := rfl
theorem stepF_v (x : In Ideal) (j : Fin 16) (s : St Ideal) :
    (stepF x j s).v = k0_pay35 x.k (View.ld x.q (qR j)) (View.ld x.o (oR j)) (View.ld x.l (lR j)) s.v := rfl

theorem step_has (G : Good x b X) {g : Fin 16 → Fin 256 → Fin 512 → ℝ} {n : ℕ} (hn : n < 16) (hb : b.val < n) {S : St Ideal} (H : Has x b g n S) :
    Has x b g (n + 1) (step X n S) := by
  rw [step_lt X hn]
  have hbn : b < (⟨n, hn⟩ : Fin 16) := hb
  have hds := ds_at G ⟨n, hn⟩ hbn
  have hw := fun r s => weight_at G ⟨n, hn⟩ r s (row_le_of_lt hbn r s)
  constructor
  · rw [stepF_q]
    refine slab_step hn S.q _ H.q fun c s => ?_
    refine accQ_at X.t (dsOf X ⟨n, hn⟩) _ c s (fun r => x.k (row b r) c) (fun r => x.ds (row ⟨n, hn⟩ s) (row b r)) _ (G.t c) (fun r => hds r s)
      ((ldg_at S.q ⟨n, hn⟩ c s).trans ((H.q _ c s).trans ?_))
    rw [if_neg (Nat.lt_irrefl n), add_zero]
  · intro r c
    rw [stepF_k, upto_succ _ hn]
    exact accK_at (dsOf X ⟨n, hn⟩) _ S.k r c (fun s => x.ds (row ⟨n, hn⟩ s) (row b r)) (fun s => x.q (row ⟨n, hn⟩ s) c) _ (fun s => hds r s)
      (fun s => (pay33_at _ s c).trans ((ldq_at X.q ⟨n, hn⟩ s c).trans (G.q _ c))) (H.k r c)
  · intro r d
    rw [stepF_v, upto_succ _ hn]
    exact pay35_at X.k _ _ _ S.v r d (fun s => x.p (row ⟨n, hn⟩ s) (row b r)) (fun s => x.o (row ⟨n, hn⟩ s) d) _ (fun s => hw r s)
      (fun s => (ldo_at X.o ⟨n, hn⟩ s d).trans (G.o _ d)) (H.v r d)

theorem steps_has (G : Good x b X) {g : Fin 16 → Fin 256 → Fin 512 → ℝ} {j : ℕ} (hj : b.val < j) {S : St Ideal} (H : Has x b g j S) (n : ℕ) (hn : j + n ≤ 16) :
    Has x b g (j + n) (steps X j n S) := by
  induction n with
  | zero => exact H
  | succ n ih =>
    have h1 : j + n < 16 := by omega
    have h2 : b.val < j + n := by omega
    exact step_has G h1 h2 (ih h1.le)

/-! ## The diagonal block -/

/-- The diagonal block's weights past the mask. -/
theorem pdiag_at (G : Good x b X) (k : Vec Ideal S1x512x256 .bf16) (hk : X.k = k0_pay42 k) (r s : Fin 512) :
    k0_pay49 (pOf X.q k X.l b) colI rowI (ix2 r s) = ((x.p (row b s) (row b r) : ℝ) : EReal) := by
  refine pay49_at _ r s _ (fun h => ?_) (fun h => x.p_masked fun h' => h ((row_le_iff r s).mp h'))
  have hw := weight_at G b r s ((row_le_iff r s).mpr h)
  unfold pOf
  rw [pay48_eq, ← hk]
  exact hw

theorem dsdiag_at (G : Good x b X) (k : Vec Ideal S1x512x256 .bf16) (hk : X.k = k0_pay42 k) (r s : Fin 512) :
    k0_pay51 X.v (View.ld X.o (oR b)) (pOf X.q k X.l b) colI rowI (View.ld X.d (lR b)) (ix2 r s) = ((x.ds (row b s) (row b r) : ℝ) : EReal) := by
  rw [pay51_at _ X.v (View.ld X.o (oR b)) (View.ld X.d (lR b)) r s _ (x.v (row b r)) (x.o (row b s)) (x.del (row b s)) (pdiag_at G k hk r s) (G.v r)
      (fun d => (ldo_at X.o b s d).trans (G.o _ d)) ((ldl_at X.d b s).trans (G.d b s)), dp_comm]
  rfl

theorem diag_q (x : In Ideal) (k : Vec Ideal S1x512x256 .bf16) (j : Fin 16) (q : Vec Ideal S1x16x256x512 .f32) : (diag x k j q).q
    = put q (gR j) (k0_pay54 (k0_pay53 x.v x.t (View.ld x.o (oR j)) (pOf x.q k x.l j) colI rowI (View.ld x.d (lR j)) (View.ld q (gR j)))) := by
  dsimp only [diag]
theorem diag_k (x : In Ideal) (k : Vec Ideal S1x512x256 .bf16) (j : Fin 16) (q : Vec Ideal S1x16x256x512 .f32) : (diag x k j q).k
    = k0_pay52 x.v (k0_pay47 (View.ld x.q (qR j))) (View.ld x.o (oR j)) (pOf x.q k x.l j) colI rowI (View.ld x.d (lR j)) (k0_pay45 (F := Ideal)) := rfl
theorem diag_v (x : In Ideal) (k : Vec Ideal S1x512x256 .bf16) (j : Fin 16) (q : Vec Ideal S1x16x256x512 .f32) : (diag x k j q).v
    = k0_pay50 (View.ld x.o (oR j)) (pOf x.q k x.l j) colI rowI (k0_pay46 (F := Ideal)) := rfl

theorem diag_has (G : Good x b X) (k : Vec Ideal S1x512x256 .bf16) (hk : X.k = k0_pay42 k) {g : Fin 16 → Fin 256 → Fin 512 → ℝ}
    (S : Vec Ideal S1x16x256x512 .f32) (hS : ∀ b' c s, S (ix4 0 b' c s) = ((g b' c s : ℝ) : EReal)) : Has x b g (b.val + 1) (diag X k b S) := by
  have hp := pdiag_at G k hk
  have hds := dsdiag_at G k hk
  constructor
  · rw [diag_q, pay54_eq]
    refine slab_step b.isLt S _ (fun b' c s => ?_) fun c s => ?_
    · rw [hS]; split
      · rename_i h; rw [qTerm_zero h, add_zero]
      · rw [add_zero]
    · exact accQ_at X.t _ _ c s (fun r => x.k (row b r) c) (fun r => x.ds (row b s) (row b r)) _ (G.t c) (fun r => hds r s) ((ldg_at S b c s).trans (hS b c s))
  · intro r c
    rw [diag_k, pay52_eq, upto_succ _ b.isLt, upto_none _ fun b' h => kTerm_zero h r c]
    exact accK_at _ _ _ r c (fun s => x.ds (row b s) (row b r)) (fun s => x.q (row b s) c) 0 (fun s => hds r s)
      (fun s => (pay47_at _ s c).trans ((ldq_at X.q b s c).trans (G.q _ c))) (pay45_at r c)
  · intro r d
    rw [diag_v, upto_succ _ b.isLt, upto_none _ fun b' h => vTerm_zero h r d]
    exact pay50_at _ _ _ r d (fun s => x.p (row b s) (row b r)) (fun s => x.o (row b s) d) 0 (fun s => hp r s)
      (fun s => (ldo_at X.o b s d).trans (G.o _ d)) (pay46_at r d)

/-- What key block `b` leaves: its own gradients whole, and its term added to the slab. -/
theorem out_has {q : Vec Ideal S1x8192x256 .bf16} {k : Vec Ideal S1x512x256 .bf16} {v : Vec Ideal S1x512x128 .bf16} {o : Vec Ideal S8192x128 .bf16}
    {l d : Vec Ideal S1x16x8x512 .f32} (G : Good x b (inOf q k v o l d)) (S : Vec Ideal S1x16x256x512 .f32)
    (hS : b.val ≠ 0 → ∀ b' c s, S (ix4 0 b' c s) = ((upto (qTerm x b' c s) b.val : ℝ) : EReal)) :
    (∀ b' c s, (out q k v o l d b S).q (ix4 0 b' c s) = ((upto (qTerm x b' c s) (b.val + 1) : ℝ) : EReal))
    ∧ (∀ r c, (out q k v o l d b S).k (ix3 0 r c) = ((x.dk (row b r) c : ℝ) : EReal))
    ∧ (∀ r c, (out q k v o l d b S).v (ix3 0 r c) = ((x.dv (row b r) c : ℝ) : EReal)) := by
  have hS' : ∀ b' c s, (if b.val = 0 then k0_pay41 (F := Ideal) else S) (ix4 0 b' c s) = ((upto (qTerm x b' c s) b.val : ℝ) : EReal) := fun b' c s => by
    by_cases h : b.val = 0
    · rw [if_pos h, h, upto_none _ fun _ h' => absurd h' (Nat.not_lt_zero _)]; exact pay41_at b' c s
    · rw [if_neg h]; exact hS h b' c s
  have hb := b.isLt
  have H := steps_has G (Nat.lt_succ_self b.val) (diag_has G k rfl (g := fun b' c s => upto (qTerm x b' c s) b.val) _ hS') (15 - b.val) (by omega)
  have e : b.val + 1 + (15 - b.val) = 16 := by omega
  rw [e] at H
  refine ⟨fun b' c s => (H.q b' c s).trans ?_, fun r c => (H.k r c).trans ?_, fun r c => (H.v r c).trans ?_⟩
  · rw [if_pos b'.isLt, upto_succ _ hb]
  · rw [kTerm_all]
  · rw [vTerm_all]

end Cert.Proof.KernelIdeal

end
-- ==== Proof.Hand.IdealHost.lean ====
/-
  The kernel's two saved rows as its own program computes them, the base-2 log-sum and the row term, read at an index: the
  scores, the weights and their sums are the reference's terms of the same arguments.
-/
module

public import proofs.«01_k».proof.Proof.Gen.KernelIdeal.Frame
public import proofs.«01_k».proof.Proof.Hand.RefValue
public import Idealize.ShloMosaic.Lib.StableHlo.RunRead
public import Idealize.ShloMosaic.Lib.Pipeline.Value

@[expose] public section

noncomputable section

namespace Cert.Proof.KernelIdeal

open Cert.KernelIdeal Cert.KernelIdeal.Gen Idealize.ShloMosaic Idealize.ShloMosaic.TcCoe Idealize.ShloMosaic.ValueIdx Cert.Proof.Attn
open Cert.ReferenceIdeal.Attn (Qkv Out Reads)
open Cert.ReferenceIdeal.Read (val_main_v15_0 val_main_v15_1 val_main_v11 val_main_v10 val_main_v8 val_main_v9 val_main_v6 val_main_v7
  val_main_v5 val_main_v14 val_main_v4 val_main_v0 val_main_v1 val_main_v13 val_main_v12 val_main_cst val_main_call0_v2 val_main_call0_v0
  val_main_cst_0 val_main_v16 val_main_cst_1 val_main_v22 val_main_v23 val_main_v22_apply val_main_v23_apply val_main_v33 val_main_v34
  val_main_v35 val_main_v36 val_main_v37 val_main_cst_9 val_main_v38 val_main_v39 val_main_v40 val_main_v2 val_main_v3 val_main_v47
  val_main_v48 val_main_v49 val_main_v48_apply val_main_v47_apply idx_main_v48)

/-! ## The terms -/

def maskK : IVec S1x8192x8192 1 :=
  broadcastInDim S1x8192x8192 ![1, 2] bcast_S8192x8192_S1x8192x8192_1_2
    (cmpi .sge
      (broadcastInDim S8192x8192 ![0, 1] bcast_S8192x1_S8192x8192_0_1 (broadcastInDim S8192x1 ![0] bcast_S8192_S8192x1_0 (iotaInDim S8192 32 0)))
      (broadcastInDim S8192x8192 ![0, 1] bcast_S1x8192_S8192x8192_0_1 (broadcastInDim S1x8192 ![1] bcast_S8192_S1x8192_1 (iotaInDim S8192 32 0))))
def scoresK (X0 X1 : Qkv) : FVec Ideal S8x8192x8192 .f32 :=
  select (broadcastInDim S8x8192x8192 ![0, 1, 2] bcast_S1x8192x8192_S8x8192x8192_0_1_2 maskK)
    (mulf (Host.dotGeneral dot_S8x8192x256_S8x8192x256_S8x8192x8192_2_2_1_1_0_0 none (extf .f32 X0 bitsLt_bf16_f32) (extf .f32 X1 bitsLt_bf16_f32))
      (broadcastInDim S8x8192x8192 ![] bcast_S_S8x8192x8192 (Host.rsqrt (constant S_ .f32 0x43400000#32))))
    (broadcastInDim S8x8192x8192 ![] bcast_S_S8x8192x8192 (id (constant S_ .f32 0xFF800000#32)))
def maxK (X0 X1 : Qkv) : FVec Ideal S8x8192x1 .f32 :=
  broadcastInDim S8x8192x1 ![0, 1] bcast_S8x8192_S8x8192x1_0_1
    (Host.reduce FloatOps.maximumf (scoresK X0 X1) (constant S_ .f32 0xFF800000#32) reducesTo_S8x8192x8192_S8x8192_d2 h_S_)
/-- The exponentials of the scores, shifted by the row's maximum. -/
def expK (X0 X1 : Qkv) : FVec Ideal S8x8192x8192 .f32 :=
  Host.exp (subf (scoresK X0 X1) (broadcastInDim S8x8192x8192 ![0, 1, 2] bcast_S8x8192x1_S8x8192x8192_0_1_2 (maxK X0 X1)))
/-- Their sum along the row. -/
def sumK (X0 X1 : Qkv) : FVec Ideal S8x8192x1 .f32 :=
  broadcastInDim S8x8192x1 ![0, 1] bcast_S8x8192_S8x8192x1_0_1
    (Host.reduceAdd (expK X0 X1) (constant S_ .f32 0x00000000#32) reducesTo_S8x8192x8192_S8x8192_d2 h_S_)
def lseK (X0 X1 : Qkv) : FVec Ideal S8x8192x1 .f32 :=
  Host.divf (addf (maxK X0 X1) (Host.log (sumK X0 X1)))
    (broadcastInDim S8x8192x1 ![] bcast_S_S8x8192x1 (Host.log (constant S_ .f32 0x40000000#32)))
def weightK (X0 X1 : Qkv) : FVec Ideal S8x8192x8192 .f32 :=
  Host.divf (expK X0 X1) (broadcastInDim S8x8192x8192 ![0, 1, 2] bcast_S8x8192x1_S8x8192x8192_0_1_2 (sumK X0 X1))
def valK (X2 : Qkv) : FVec Ideal S8x8192x128 .f32 :=
  extf .f32 (extractStridedSlice S8x8192x128 ![0, 0, 0] X2 slices_S8x8192x256_S8x8192x128_0_0_0 : FVec Ideal S8x8192x128 .bf16) bitsLt_bf16_f32
def outK (X0 X1 X2 : Qkv) : FVec Ideal S8x8192x128 .f32 :=
  Host.dotGeneral dot_S8x8192x8192_S8x8192x128_S8x8192x128_2_1_1_2_0_0 none (weightK X0 X1) (valK X2)
def cotK (X3 : Out) : FVec Ideal S8x8192x128 .f32 :=
  transpose S8x8192x128 [1, 0, 2] (shapeCast S8192x8x128 (extf .f32 X3 bitsLt_bf16_f32) shapeCasts_S8192x1024_S8192x8x128)
    transposes_S8192x8x128_S8x8192x128_1_0_2
def delK (X0 X1 X2 : Qkv) (X3 : Out) : FVec Ideal S8x8192 .f32 :=
  Host.reduceAdd (mulf (outK X0 X1 X2) (cotK X3)) (constant S_ .f32 0x00000000#32) reducesTo_S8x8192x128_S8x8192_d2 h_S_

section Launch

variable (m : (ℓ : Loc nD τ sig) → Buf (Elt Ideal) ℓ) (c : Dev nD)

set_option maxHeartbeats 4000000 in
theorem V_lse : V m c main_v37 = broadcastInDim S8x16x8x512 ![0, 1, 2, 3] bcast_S8x16x1x512_S8x16x8x512_0_1_2_3
    (shapeCast S8x16x1x512 (lseK (m ((c : Thread nD τ).loc main_arg0)) (m ((c : Thread nD τ).loc main_arg1))) shapeCasts_S8x8192x1_S8x16x1x512) := by
  unfold V
  after_reads_simp
  simp -implicitDefEqProofs only [StableHlo.TRef.toBuf, StableHlo.TRef.ofBuf, cast_cast, cast_eq]
  unfold lseK sumK expK maxK scoresK maskK
  rfl

set_option maxHeartbeats 4000000 in
theorem V_del : V m c main_v39 = broadcastInDim S8x16x8x512 ![0, 1, 2, 3] bcast_S8x16x1x512_S8x16x8x512_0_1_2_3
    (shapeCast S8x16x1x512 (delK (m ((c : Thread nD τ).loc main_arg0)) (m ((c : Thread nD τ).loc main_arg1))
      (m ((c : Thread nD τ).loc main_arg2)) (m ((c : Thread nD τ).loc main_arg3))) shapeCasts_S8x8192_S8x16x1x512) := by
  unfold V
  after_reads_simp
  simp -implicitDefEqProofs only [StableHlo.TRef.toBuf, StableHlo.TRef.ofBuf, cast_cast, cast_eq]
  unfold delK outK cotK valK weightK sumK expK maxK scoresK maskK
  rfl

end Launch

/-! ## The terms are the reference's -/

variable {X0 X1 X2 : Qkv} {X3 : Out} {x : Fin 8 → Head}

theorem scoresK_eq (X0 X1 : Qkv) : scoresK X0 X1 = val_main_v15_0 X0 X1 := by
  unfold scoresK maskK val_main_v15_0 val_main_v15_1 val_main_v11 val_main_v10 val_main_v8 val_main_v9 val_main_v6 val_main_v7 val_main_v5
    val_main_v14 val_main_v4 val_main_v0 val_main_v1 val_main_v13 val_main_v12 val_main_cst val_main_call0_v2 val_main_call0_v0 val_main_cst_0
  rfl

theorem v23_eq (X0 X1 : Qkv) : val_main_v23 X0 X1 = val_main_v16 X0 X1 := funext fun i => by
  rw [val_main_v23_apply, val_main_v22_apply]
  show max (Ideal.ofBits .f32 0xFF800000#32) _ = _
  rw [ofBits_bot]; exact max_eq_right bot_le

theorem maxK_eq (X0 X1 : Qkv) : maxK X0 X1 = val_main_v33 X0 X1 := by
  unfold maxK val_main_v33
  rw [scoresK_eq, v23_eq]; unfold val_main_v16 val_main_cst_1; rfl

theorem expK_eq (X0 X1 : Qkv) : expK X0 X1 = val_main_v36 X0 X1 := by
  unfold expK val_main_v36 val_main_v35 val_main_v34
  rw [scoresK_eq, maxK_eq]

theorem sumK_eq (X0 X1 : Qkv) : sumK X0 X1 = val_main_v38 X0 X1 := by
  unfold sumK val_main_v38 val_main_v37 val_main_cst_9
  rw [expK_eq]

theorem weightK_eq (X0 X1 : Qkv) : weightK X0 X1 = val_main_v40 X0 X1 := by
  unfold weightK val_main_v40 val_main_v39
  rw [expK_eq, sumK_eq]

theorem valK_eq (X2 : Qkv) : valK X2 = val_main_v3 X2 := by unfold valK val_main_v3 val_main_v2; rfl

/-! ## At an index -/

/-- The output's product: a head's weights times its values. -/
abbrev outDims := dot_S8x8192x8192_S8x8192x128_S8x8192x128_2_1_1_2_0_0

theorem outDims_l0 (i : S8x8192x128.Idx) (q : outDims.contr.Idx) : (outDims.lhsIdx i q 0).val = (i 0).val := by
  unfold DotDims.lhsIdx
  rw [dif_pos (show (0 : Fin S8x8192x8192.rank) ∈ outDims.lhsBatch by decide)]; rfl
theorem outDims_l1 (i : S8x8192x128.Idx) (q : outDims.contr.Idx) : (outDims.lhsIdx i q 1).val = (i 1).val := by
  unfold DotDims.lhsIdx
  rw [dif_neg (show ¬(1 : Fin S8x8192x8192.rank) ∈ outDims.lhsBatch by decide),
    dif_pos (show (1 : Fin S8x8192x8192.rank) ∈ outDims.lhsNonContracting by decide)]; rfl
theorem outDims_l2 (i : S8x8192x128.Idx) (q : outDims.contr.Idx) : (outDims.lhsIdx i q 2).val = (q ⟨0, by decide⟩).val :=
  outDims.lhsIdx_val_of_single rfl i q
theorem outDims_r0 (i : S8x8192x128.Idx) (q : outDims.contr.Idx) : (outDims.rhsIdx i q 0).val = (i 0).val := by
  unfold DotDims.rhsIdx
  rw [dif_pos (show (0 : Fin S8x8192x128.rank) ∈ outDims.rhsBatch by decide)]; rfl
theorem outDims_r1 (i : S8x8192x128.Idx) (q : outDims.contr.Idx) : (outDims.rhsIdx i q 1).val = (q ⟨0, by decide⟩).val :=
  outDims.rhsIdx_val_of_single rfl i q
theorem outDims_r2 (i : S8x8192x128.Idx) (q : outDims.contr.Idx) : (outDims.rhsIdx i q 2).val = (i 2).val := by
  unfold DotDims.rhsIdx
  rw [dif_neg (show ¬(2 : Fin S8x8192x128.rank) ∈ outDims.rhsBatch by decide),
    dif_pos (show (2 : Fin S8x8192x128.rank) ∈ outDims.rhsNonContracting by decide)]; rfl

variable (H : Reads X0 X1 X2 X3 x) (hm : ∀ h i, val_main_v16 X0 X1 (ix2 h i) = (((x h).m i : ℝ) : EReal))

theorem log_two : Ideal.log (Ideal.ofBits .f32 0x40000000#32) = ((Real.log 2 : ℝ) : EReal) := by
  have : Ideal.ofBits .f32 0x40000000#32 = ((2 : ℝ) : EReal) := by
    simp [Ideal.ofBits, Ideal.ieee, -EReal.coe_mul]; norm_num
  rw [this, Ideal.log_coe, if_neg (by norm_num)]

include H hm

theorem lseK_at (h : Fin 8) (i : Fin 8192) (j : Fin 1) : lseK X0 X1 (ix3 h i j) = ((x h).lse i : EReal) := by
  have h33 : val_main_v33 X0 X1 (ix3 h i j) = ((x h).m i : EReal) := by
    rw [Cert.ReferenceIdeal.Read.val_main_v33_apply, v23_eq]
    exact (congrArg _ (ext2 _ h i rfl rfl)).trans (hm h i)
  have h2 : broadcastInDim S8x8192x1 ![] bcast_S_S8x8192x1 (Host.log (constant S_ .f32 0x40000000#32 : FVec Ideal S_ .f32)) (ix3 h i j)
      = ((Real.log 2 : ℝ) : EReal) := by rw [broadcastInDim_scalar_apply]; exact log_two
  have hl : Host.log (val_main_v38 X0 X1) (ix3 h i j) = ((Real.log ((x h).l i) : ℝ) : EReal) := by
    have e := Cert.ReferenceIdeal.Attn.l1_at H hm h i j
    generalize val_main_v38 X0 X1 = y at e
    refine (congrArg Ideal.log e).trans ?_
    rw [Ideal.log_coe, if_neg (not_le.mpr ((x h).l_pos i))]
  unfold lseK
  rw [hostDivf_apply, h2, addf_apply, maxK_eq, h33, sumK_eq, hl, ← EReal.coe_add, div_real _ _ (Real.log_pos (by norm_num)).ne']
  rfl

omit hm in
theorem cotK_at (h : Fin 8) (i : Fin 8192) (d : Fin 128) : cotK X3 (ix3 h i d) = ((x h).o i d : EReal) := by
  have e : cotK X3 (ix3 h i d) = val_main_v48 X3 (ix3 i h d) := by
    unfold cotK val_main_v48 val_main_v47
    exact transpose_apply [1, 0, 2] _ _ (ix3 h i d) (ix3 i h d) (fun b => match b with | ⟨0, _⟩ => rfl | ⟨1, _⟩ => rfl | ⟨2, _⟩ => rfl)
  rw [e, val_main_v48_apply, val_main_v47_apply]
  refine (congrArg X3 (ext2 _ i (chan h d) ?_ ?_)).trans (H.o h i d)
  · show ((i.val * 8 + h.val) * 128 + d.val) / 1024 = i.val; omega
  · show ((i.val * 8 + h.val) * 128 + d.val) % 1024 = 128 * h.val + d.val; omega

theorem outK_at (h : Fin 8) (i : Fin 8192) (d : Fin 128) :
    outK X0 X1 X2 (ix3 h i d) = ((∑ j, (x h).p i j * (x h).v j d : ℝ) : EReal) := by
  have e : outK X0 X1 X2 (ix3 h i d) = ∑ j : Fin 8192, val_main_v40 X0 X1 (ix3 h i j) * val_main_v3 X2 (ix3 h j d) := by
    unfold outK
    rw [weightK_eq, valK_eq]
    generalize val_main_v40 X0 X1 = y
    generalize val_main_v3 X2 = z
    simp only [Host.dotGeneral]
    rw [Ideal.dotGeneral_apply, ← Equiv.sum_comp (contrEquiv1 outDims 8192 rfl rfl).symm]
    refine Finset.sum_congr rfl fun k _ => ?_
    have hk := contrEquiv1_symm_val outDims 8192 rfl rfl k
    exact congrArg₂ (· * ·)
      (congrArg y (ext3 _ h i k (outDims_l0 _ _) (outDims_l1 _ _) ((outDims_l2 _ _).trans hk)))
      (congrArg z (ext3 _ h k d (outDims_r0 _ _) ((outDims_r1 _ _).trans hk) (outDims_r2 _ _)))
  rw [e]
  exact coe_dot _ _ _ _ (fun j => Cert.ReferenceIdeal.Attn.p_at H hm h i j) (fun j => Cert.ReferenceIdeal.Attn.v_at H h j d)

theorem delK_at (h : Fin 8) (i : Fin 8192) : delK X0 X1 X2 X3 (ix2 h i) = ((x h).del i : EReal) := by
  have e : delK X0 X1 X2 X3 (ix2 h i) = ∑ d : Fin 128, outK X0 X1 X2 (ix3 h i d) * cotK X3 (ix3 h i d) := by
    unfold delK
    generalize outK X0 X1 X2 = y
    generalize cotK X3 = z
    simp only [Host.reduceAdd, Ideal.hostReduceAdd_def]
    rw [Ideal.hostReduceAdd_single reducesTo_S8x8192x128_S8x8192_d2 (by decide)]
    refine (congrArg (· + _) Ideal.ofBits_zero_f32).trans ((zero_add _).trans (Finset.sum_congr rfl fun d _ => ?_))
    rw [mulf_apply]
    have : ∀ (w : FVec Ideal S8x8192x128 .f32) (p : S8x8192x128.Idx), p = ix3 h i d → w p = w (ix3 h i d) := fun w p hp => congrArg w hp
    exact congrArg₂ (· * ·) (this y _ (ext3 _ h i d rfl rfl rfl)) (this z _ (ext3 _ h i d rfl rfl rfl))
  rw [e, coe_dot _ _ _ _ (fun d => outK_at H hm h i d) (fun d => cotK_at H h i d)]
  exact congrArg _ ((x h).del_eq i)

omit H hm

/-- A row's scalar as the launch lays it out: blocks of 512, eight equal sublanes. -/
theorem rows_at (y : FVec Ideal S8x8192x1 .f32) (h : Fin 8) (b : Fin 16) (s : Fin 8) (r : Fin 512) :
    broadcastInDim S8x16x8x512 ![0, 1, 2, 3] bcast_S8x16x1x512_S8x16x8x512_0_1_2_3
      (shapeCast S8x16x1x512 y shapeCasts_S8x8192x1_S8x16x1x512) (ix4 h b s r) = y (ix3 h (row b r) (0 : Fin 1)) := by
  rw [broadcastInDim_apply _ bcast_S8x16x1x512_S8x16x8x512_0_1_2_3 _ (ix4 h b s r) (ix4 h b (0 : Fin 1) r)
    (fun a => match a with | ⟨0, _⟩ => rfl | ⟨1, _⟩ => rfl | ⟨2, _⟩ => rfl | ⟨3, _⟩ => rfl)]
  exact shapeCast_apply y _ (ix4 h b (0 : Fin 1) r) (ix3 h (row b r) (0 : Fin 1)) (by
    rewrite [Shape.rowMajor_val_three, Shape.rowMajor_val_four]
    show (h.val * 8192 + (512 * b.val + r.val)) * 1 + 0 = ((h.val * 16 + b.val) * 1 + 0) * 512 + r.val
    omega)

theorem rows2_at (y : FVec Ideal S8x8192 .f32) (h : Fin 8) (b : Fin 16) (s : Fin 8) (r : Fin 512) :
    broadcastInDim S8x16x8x512 ![0, 1, 2, 3] bcast_S8x16x1x512_S8x16x8x512_0_1_2_3
      (shapeCast S8x16x1x512 y shapeCasts_S8x8192_S8x16x1x512) (ix4 h b s r) = y (ix2 h (row b r)) := by
  rw [broadcastInDim_apply _ bcast_S8x16x1x512_S8x16x8x512_0_1_2_3 _ (ix4 h b s r) (ix4 h b (0 : Fin 1) r)
    (fun a => match a with | ⟨0, _⟩ => rfl | ⟨1, _⟩ => rfl | ⟨2, _⟩ => rfl | ⟨3, _⟩ => rfl)]
  exact shapeCast_apply y _ (ix4 h b (0 : Fin 1) r) (ix2 h (row b r)) (by
    rewrite [Shape.rowMajor_val_two, Shape.rowMajor_val_four]
    show h.val * 8192 + (512 * b.val + r.val) = ((h.val * 16 + b.val) * 1 + 0) * 512 + r.val
    omega)

end Cert.Proof.KernelIdeal

end
-- ==== Proof.Hand.IdealArray.lean ====
/-
  The gradients' arrays after the kernel's run, over arguments that read as reals: every element is the gradient of its
  head, row and channel.
-/
module

public import proofs.«01_k».proof.Proof.Hand.IdealFrame
public import proofs.«01_k».proof.Proof.Hand.IdealValue
public import proofs.«01_k».proof.Proof.Hand.IdealHost
public import Idealize.ShloMosaic.Lib.Pipeline.ValueKit.Geometry

@[expose] public section

set_option maxRecDepth 16384

noncomputable section

namespace Cert.Proof.KernelIdeal

open Cert.KernelIdeal Cert.KernelIdeal.Gen Idealize.ShloMosaic Idealize.ShloMosaic.TcCoe Idealize.ShloMosaic.ValueIdx Cert.Proof.Attn
open Cert.ReferenceIdeal.Attn (Qkv Out Reads)
open Idealize.ShloMosaic.Pipeline (Dat Cfg Window)

/-! ## The windows' places -/

theorem idx0 : ∀ t : Fin cfg0.N, win0_0.index t = ![t.val / 16, 0, 0] := (by decide +kernel : ∀ t : Fin grid0.N, _)
theorem idx1 : ∀ t : Fin cfg0.N, win0_1.index t = ![t.val / 16, t.val % 16, 0] := (by decide +kernel : ∀ t : Fin grid0.N, _)
theorem idx2 : ∀ t : Fin cfg0.N, win0_2.index t = ![t.val / 16, t.val % 16, 0] := (by decide +kernel : ∀ t : Fin grid0.N, _)
theorem idx3 : ∀ t : Fin cfg0.N, win0_3.index t = ![0, t.val / 16] := (by decide +kernel : ∀ t : Fin grid0.N, _)
theorem idx4 : ∀ t : Fin cfg0.N, win0_4.index t = ![t.val / 16, 0, 0, 0] := (by decide +kernel : ∀ t : Fin grid0.N, _)
theorem idx5 : ∀ t : Fin cfg0.N, win0_5.index t = ![t.val / 16, 0, 0, 0] := (by decide +kernel : ∀ t : Fin grid0.N, _)
theorem idx6 : ∀ t : Fin cfg0.N, win0_6.index t = ![t.val / 16, 0, 0, 0] := (by decide +kernel : ∀ t : Fin grid0.N, _)
theorem idx7 : ∀ t : Fin cfg0.N, win0_7.index t = ![t.val / 16, t.val % 16, 0] := (by decide +kernel : ∀ t : Fin grid0.N, _)
theorem idx8 : ∀ t : Fin cfg0.N, win0_8.index t = ![t.val / 16, t.val % 16, 0] := (by decide +kernel : ∀ t : Fin grid0.N, _)

theorem point_lt (t : Fin cfg0.N) : t.val < 128 := t.isLt
/-- A point's head and key block. -/
def hd (t : Fin cfg0.N) : Fin 8 := ⟨t.val / 16, by have := point_lt t; omega⟩
def kb (t : Fin cfg0.N) : Fin 16 := ⟨t.val % 16, by omega⟩

variable (m : (ℓ : Loc nD τ sig) → Buf (Elt Ideal) ℓ) (c : Dev nD) (t : Fin cfg0.N)

theorem iblk0_at (i : Fin 8192) (d : Fin 256) : iblk m c 0 t (ix3 0 i d) = m ((c : Thread nD τ).loc main_arg0) (ix3 (hd t) i d) := by
  refine Eq.trans ?_ (congrFun (V_main_arg0 m c) (ix3 (hd t) i d))
  refine congrArg (V m c main_arg0) (ext3 _ (hd t) i d ?_ ?_ ?_) <;> blk_simp [idx0] <;> simp [hd]

theorem iblk1_at (r : Fin 512) (d : Fin 256) : iblk m c 1 t (ix3 0 r d) = m ((c : Thread nD τ).loc main_arg1) (ix3 (hd t) (row (kb t) r) d) := by
  refine Eq.trans ?_ (congrFun (V_main_arg1 m c) (ix3 (hd t) (row (kb t) r) d))
  refine congrArg (V m c main_arg1) (ext3 _ (hd t) (row (kb t) r) d ?_ ?_ ?_) <;> blk_simp [idx1] <;> simp [hd, kb, row, Nat.mul_comm]

theorem iblk2_at (r : Fin 512) (d : Fin 128) : iblk m c 2 t (ix3 0 r d) = m ((c : Thread nD τ).loc main_arg2) (ix3 (hd t) (row (kb t) r) (wide d)) := by
  refine Eq.trans ?_ (congrFun (V_main_arg2 m c) (ix3 (hd t) (row (kb t) r) (wide d)))
  refine congrArg (V m c main_arg2) (ext3 _ (hd t) (row (kb t) r) (wide d) ?_ ?_ ?_) <;> blk_simp [idx2] <;> simp [hd, kb, row, wide, Nat.mul_comm]

theorem iblk3_at (i : Fin 8192) (d : Fin 128) : iblk m c 3 t (ix2 i d) = m ((c : Thread nD τ).loc main_arg3) (ix2 i (chan (hd t) d)) := by
  refine Eq.trans ?_ (congrFun (V_main_arg3 m c) (ix2 i (chan (hd t) d)))
  refine congrArg (V m c main_arg3) (ext2 _ i (chan (hd t) d) ?_ ?_) <;> blk_simp [idx3] <;> simp [hd, chan, Nat.mul_comm]

theorem iblk4_at (b : Fin 16) (u : Fin 8) (s : Fin 512) : iblk m c 4 t (ix4 0 b u s) = V m c main_v37 (ix4 (hd t) b u s) := by
  refine congrArg (V m c main_v37) (ext4 _ (hd t) b u s ?_ ?_ ?_ ?_) <;> blk_simp [idx4] <;> simp [hd]

theorem iblk5_at (b : Fin 16) (u : Fin 8) (s : Fin 512) : iblk m c 5 t (ix4 0 b u s) = V m c main_v39 (ix4 (hd t) b u s) := by
  refine congrArg (V m c main_v39) (ext4 _ (hd t) b u s ?_ ?_ ?_ ?_) <;> blk_simp [idx5] <;> simp [hd]

/-! ## A point's blocks as reals -/

section

variable {m c} {x : Fin 8 → Head}
  (H : Reads (m ((c : Thread nD τ).loc main_arg0)) (m ((c : Thread nD τ).loc main_arg1)) (m ((c : Thread nD τ).loc main_arg2))
    (m ((c : Thread nD τ).loc main_arg3)) x)
  (hm : ∀ h i, Cert.ReferenceIdeal.Read.val_main_v16 (m ((c : Thread nD τ).loc main_arg0)) (m ((c : Thread nD τ).loc main_arg1)) (ix2 h i)
    = ((x h).m i : EReal))

include H hm

theorem lse_at (t : Fin cfg0.N) (b : Fin 16) (s : Fin 512) : iblk m c 4 t (ix4 0 b 0 s) = (((x (hd t)).lse (row b s) : ℝ) : EReal) := by
  refine (iblk4_at m c t b 0 s).trans ?_
  rw [V_lse, rows_at]
  exact lseK_at H hm (hd t) (row b s) 0

theorem del_at (t : Fin cfg0.N) (b : Fin 16) (s : Fin 512) : iblk m c 5 t (ix4 0 b 0 s) = (((x (hd t)).del (row b s) : ℝ) : EReal) := by
  refine (iblk5_at m c t b 0 s).trans ?_
  rw [V_del, rows2_at]
  exact delK_at H hm (hd t) (row b s)

set_option maxHeartbeats 2000000 in
theorem good_at (t : Fin cfg0.N) : Good (x (hd t)) (kb t) (inOf (iblk m c 0 t) (iblk m c 1 t) (iblk m c 2 t) (iblk m c 3 t) (iblk m c 4 t) (iblk m c 5 t)) := by
  have hk : ∀ r d, k0_pay42 (iblk m c 1 t) (ix2 r d) = (((x (hd t)).k (row (kb t) r) d : ℝ) : EReal) := fun r d => by
    unfold k0_pay42
    exact (shapeCast_1ab_ab_apply _ _ r d).trans ((iblk1_at m c t r d).trans (H.k _ _ d))
  have hv : ∀ r d, k0_pay43 (iblk m c 2 t) (ix2 r d) = (((x (hd t)).v (row (kb t) r) d : ℝ) : EReal) := fun r d => by
    unfold k0_pay43
    exact (shapeCast_1ab_ab_apply _ _ r d).trans ((iblk2_at m c t r d).trans (H.v _ _ d))
  have ht : ∀ d r, k0_pay44 (iblk m c 1 t) (ix2 d r) = (((x (hd t)).k (row (kb t) r) d : ℝ) : EReal) := fun d r => by
    unfold k0_pay44
    exact (transpose_ix2_apply _ _ d r).trans (hk r d)
  have hq : ∀ i d, iblk m c 0 t (ix3 0 i d) = (((x (hd t)).q i d : ℝ) : EReal) := fun i d => (iblk0_at m c t i d).trans (H.q (hd t) i d)
  have ho : ∀ i d, iblk m c 3 t (ix2 i d) = (((x (hd t)).o i d : ℝ) : EReal) := fun i d => (iblk3_at m c t i d).trans (H.o (hd t) i d)
  have hl : ∀ b s, iblk m c 4 t (ix4 0 b 0 s) = (((x (hd t)).lse (row b s) : ℝ) : EReal) := fun b s => lse_at H hm t b s
  have hd' : ∀ b s, iblk m c 5 t (ix4 0 b 0 s) = (((x (hd t)).del (row b s) : ℝ) : EReal) := fun b s => del_at H hm t b s
  exact { q := hq, k := hk, v := hv, t := ht, o := ho, l := hl, d := hd' }

omit H hm in
theorem kf_eq (t : Fin cfg0.N) : kf (cfg0.grid.coords t) = kb t := Fin.ext (coord1 t)

/-- What point `t` leaves, if the slab held its head's earlier key blocks' terms before it. -/
theorem outAt_has (t : Fin cfg0.N) (S : Vec Ideal S1x16x256x512 .f32)
    (hS : t.val % 16 ≠ 0 → ∀ b' d s, S (ix4 0 b' d s) = ((upto (qTerm (x (hd t)) b' d s) (t.val % 16) : ℝ) : EReal)) :
    (∀ b' d s, (outAt m c t S).q (ix4 0 b' d s) = ((upto (qTerm (x (hd t)) b' d s) (t.val % 16 + 1) : ℝ) : EReal))
    ∧ (∀ r d, (outAt m c t S).k (ix3 0 r d) = (((x (hd t)).dk (row (kb t) r) d : ℝ) : EReal))
    ∧ (∀ r d, (outAt m c t S).v (ix3 0 r d) = (((x (hd t)).dv (row (kb t) r) d : ℝ) : EReal)) := by
  unfold outAt
  rw [kf_eq]
  exact out_has (good_at H hm t) S hS

theorem acc_has (n : ℕ) (hn : n < cfg0.N) (b' : Fin 16) (d : Fin 256) (s : Fin 512) :
    accN m c (n + 1) (ix4 0 b' d s) = ((upto (qTerm (x (hd ⟨n, hn⟩)) b' d s) (n % 16 + 1) : ℝ) : EReal) := by
  induction n generalizing b' d s with
  | zero =>
    rw [accN_succ m c ⟨0, hn⟩]
    exact (outAt_has H hm ⟨0, hn⟩ _ fun h => absurd rfl h).1 b' d s
  | succ n ih =>
    rw [accN_succ m c ⟨n + 1, hn⟩]
    refine (outAt_has H hm ⟨n + 1, hn⟩ _ fun h b' d s => ?_).1 b' d s
    have h' : (n + 1) % 16 ≠ 0 := h
    have e1 : hd ⟨n, Nat.lt_of_succ_lt hn⟩ = hd ⟨n + 1, hn⟩ := Fin.ext (by show n / 16 = (n + 1) / 16; omega)
    have e2 : n % 16 + 1 = (n + 1) % 16 := by omega
    have e := ih (Nat.lt_of_succ_lt hn) b' d s
    rw [e1, e2] at e
    exact e

theorem before_has (t : Fin cfg0.N) (h : t.val % 16 ≠ 0) (b' : Fin 16) (d : Fin 256) (s : Fin 512) :
    accN m c t.val (ix4 0 b' d s) = ((upto (qTerm (x (hd t)) b' d s) (t.val % 16) : ℝ) : EReal) := by
  have hp : t.val - 1 < cfg0.N := Nat.lt_of_le_of_lt (Nat.sub_le _ _) t.isLt
  have e := acc_has H hm (t.val - 1) hp b' d s
  have e0 : t.val - 1 + 1 = t.val := by omega
  have e1 : hd ⟨t.val - 1, hp⟩ = hd t := Fin.ext (by show (t.val - 1) / 16 = t.val / 16; omega)
  have e2 : (t.val - 1) % 16 + 1 = t.val % 16 := by omega
  rw [e0, e1, e2] at e
  exact e

/-! ## The arrays -/

/-- The query gradient's array, by head, query block, channel and row. -/
theorem arr_dq (h : Fin 8) (b : Fin 16) (d : Fin 256) (s : Fin 512) :
    (dats m 0 c).arrAt 6 cfg0.N (ix4 h b d s) = (((x h).dq (row b s) d : ℝ) : EReal) := by
  refine (dats m 0 c).arrAt_forall_of_covers 6 (fun i v => v = (((x (i 0)).dq (row (i 1) (i 3)) (i 2) : ℝ) : EReal)) (by decide +kernel) (fun t hf y => ?_) (ix4 h b d s)
  have h15 := (flush0_6 t).mp hf
  have e := (outAt_has H hm t _ (before_has H hm t)).1
  have hy : y = ix4 0 (y 1) (y 2) (y 3) := ext4 _ 0 (y 1) (y 2) (y 3) (by have : (y 0).val < 1 := (y 0).isLt; show (y 0).val = 0; omega) rfl rfl rfl
  have hemb : ((cfg0.win 6).blk t).view.emb y = ix4 (hd t) (y 1) (y 2) (y 3) := by
    refine ext4 _ (hd t) (y 1) (y 2) (y 3) ?_ ?_ ?_ ?_ <;> blk_simp [idx6] <;> simp [hd]
  rw [hemb]
  refine Eq.trans (b := (outAt m c t (accN m c t.val)).q y) ?_ ?_
  · exact congrFun ((after0_6 m c t).trans (accN_succ m c t)) y
  · refine (congrArg _ hy).trans ((e (y 1) (y 2) (y 3)).trans ?_)
    exact (congrArg (fun k => ((upto (qTerm (x (hd t)) (y 1) (y 2) (y 3)) (k + 1) : ℝ) : EReal)) h15).trans
      (congrArg _ (qTerm_all (x := x (hd t)) (y 1) (y 2) (y 3)))

theorem arr_dk (h : Fin 8) (j : Fin 8192) (d : Fin 256) : (dats m 0 c).arrAt 7 cfg0.N (ix3 h j d) = (((x h).dk j d : ℝ) : EReal) := by
  refine (dats m 0 c).arrAt_forall_of_covers 7 (fun i v => v = (((x (i 0)).dk (i 1) (i 2) : ℝ) : EReal)) (by decide +kernel) (fun t hf y => ?_) (ix3 h j d)
  have e := (outAt_has H hm t _ (before_has H hm t)).2.1
  have hy : y = ix3 0 (y 1) (y 2) := ext3 _ 0 (y 1) (y 2) (by have : (y 0).val < 1 := (y 0).isLt; show (y 0).val = 0; omega) rfl rfl
  have hemb : ((cfg0.win 7).blk t).view.emb y = ix3 (hd t) (row (kb t) (y 1)) (y 2) := by
    refine ext3 _ (hd t) (row (kb t) (y 1)) (y 2) ?_ ?_ ?_ <;> blk_simp [idx7] <;> simp [hd, kb, row, Nat.mul_comm]
  rw [hemb]
  refine Eq.trans (b := (outAt m c t (accN m c t.val)).k y) ?_ ?_
  · exact congrFun (after0_7 m c t) y
  · exact (congrArg _ hy).trans (e (y 1) (y 2))

theorem arr_dv (h : Fin 8) (j : Fin 8192) (d : Fin 128) : (dats m 0 c).arrAt 8 cfg0.N (ix3 h j d) = (((x h).dv j d : ℝ) : EReal) := by
  refine (dats m 0 c).arrAt_forall_of_covers 8 (fun i v => v = (((x (i 0)).dv (i 1) (i 2) : ℝ) : EReal)) (by decide +kernel) (fun t hf y => ?_) (ix3 h j d)
  have e := (outAt_has H hm t _ (before_has H hm t)).2.2
  have hy : y = ix3 0 (y 1) (y 2) := ext3 _ 0 (y 1) (y 2) (by have : (y 0).val < 1 := (y 0).isLt; show (y 0).val = 0; omega) rfl rfl
  have hemb : ((cfg0.win 8).blk t).view.emb y = ix3 (hd t) (row (kb t) (y 1)) (y 2) := by
    refine ext3 _ (hd t) (row (kb t) (y 1)) (y 2) ?_ ?_ ?_ <;> blk_simp [idx8] <;> simp [hd, kb, row, Nat.mul_comm]
  rw [hemb]
  refine Eq.trans (b := (outAt m c t (accN m c t.val)).v y) ?_ ?_
  · exact congrFun (after0_8 m c t) y
  · exact (congrArg _ hy).trans (e (y 1) (y 2))

end

end Cert.Proof.KernelIdeal

end
-- ==== Proof.Hand.Value.lean ====
/-
  The equality of the backward pass and the reference over the extended reals: both leave the gradients of the same reals.
-/
module

public import proofs.«01_k».proof.Defs
public import proofs.«01_k».proof.Proof.Hand.IdealArray
public import proofs.«01_k».proof.Proof.Hand.Finite
public import proofs.«01_k».proof.Proof.Gen.ReferenceIdeal.Run

@[expose] public section

set_option maxRecDepth 16384

noncomputable section

namespace Cert.Proof.KernelIdeal

open Cert.KernelIdeal Cert.KernelIdeal.Gen Idealize.ShloMosaic Idealize.ShloMosaic.TcCoe Idealize.ShloMosaic.ValueIdx Idealize.SL.Sem Cert.Proof.Attn
open Cert.ReferenceIdeal.Attn (Qkv Out Reads dq_at dk_at dv_at)
open Cert.ReferenceIdeal.Read (val_main_v71 val_main_v68 val_main_v52)

variable (m : (ℓ : Loc nD τ sig) → Buf (Elt Ideal) ℓ) (c : Dev nD)

/-- The arguments, named. -/
abbrev A0 : Qkv := m ((c : Thread nD τ).loc main_arg0)
abbrev A1 : Qkv := m ((c : Thread nD τ).loc main_arg1)
abbrev A2 : Qkv := m ((c : Thread nD τ).loc main_arg2)
abbrev A3 : Out := m ((c : Thread nD τ).loc main_arg3)

section

variable {m c} {x : Fin 8 → Head} (H : Reads (A0 m c) (A1 m c) (A2 m c) (A3 m c) x)
  (hm : ∀ h i, Cert.ReferenceIdeal.Read.val_main_v16 (A0 m c) (A1 m c) (ix2 h i) = (((x h).m i : ℝ) : EReal))

include H hm

theorem final_dq : (dats m 0 c).arrAt 6 cfg0.N = val_main_v71 (A0 m c) (A1 m c) (A2 m c) (A3 m c) := funext fun i =>
  (congrArg _ (eq_ix4 i)).trans ((arr_dq H hm (i 0) (i 1) (i 2) (i 3)).trans
    ((dq_at H hm (i 0) (i 1) (i 2) (i 3)).symm.trans (congrArg _ (eq_ix4 i).symm)))

theorem final_dk : (dats m 0 c).arrAt 7 cfg0.N = val_main_v68 (A0 m c) (A1 m c) (A2 m c) (A3 m c) := funext fun i =>
  (congrArg _ (eq_ix3 i)).trans ((arr_dk H hm (i 0) (i 1) (i 2)).trans
    ((dk_at H hm (i 0) (i 1) (i 2)).symm.trans (congrArg _ (eq_ix3 i).symm)))

theorem final_dv : (dats m 0 c).arrAt 8 cfg0.N = val_main_v52 (A0 m c) (A1 m c) (A3 m c) := funext fun i =>
  (congrArg _ (eq_ix3 i)).trans ((arr_dv H hm (i 0) (i 1) (i 2)).trans
    ((dv_at H hm (i 0) (i 1) (i 2)).symm.trans (congrArg _ (eq_ix3 i).symm)))

end

/-- The three gradients' arrays, under the precondition, are the reference's. -/
theorem final (hp : Cert.Pre_finite.fn (F := Ideal) (A0 m c) (A1 m c) (A2 m c) (A3 m c) = fun _ => 1#1) :
    (dats m 0 c).arrAt 6 cfg0.N = val_main_v71 (A0 m c) (A1 m c) (A2 m c) (A3 m c)
    ∧ (dats m 0 c).arrAt 7 cfg0.N = val_main_v68 (A0 m c) (A1 m c) (A2 m c) (A3 m c)
    ∧ (dats m 0 c).arrAt 8 cfg0.N = val_main_v52 (A0 m c) (A1 m c) (A3 m c) := by
  obtain ⟨x, H, hm⟩ := Cert.Proof.Finite.reads _ _ _ _ hp
  exact ⟨final_dq H hm, final_dk H hm, final_dv H hm⟩

/-- The run's three gradients and its arguments. -/
theorem run_value (g : Dev nD → PrngReg) (hp : ∀ c : Dev nD, Cert.Pre_finite.fn (F := Ideal) (A0 m c) (A1 m c) (A2 m c) (A3 m c) = fun _ => 1#1) :
    θ_run (defs (F := Ideal)) (onTc (τ := τ) (main (F := Ideal))) ⟨m, fun _ => 0, g⟩ (fun r => ∀ c : Dev nD,
      r.2.mem ((c : Thread nD τ).loc main_v40_0) = val_main_v71 (A0 m c) (A1 m c) (A2 m c) (A3 m c)
      ∧ r.2.mem ((c : Thread nD τ).loc main_v40_1) = val_main_v68 (A0 m c) (A1 m c) (A2 m c) (A3 m c)
      ∧ r.2.mem ((c : Thread nD τ).loc main_v40_2) = val_main_v52 (A0 m c) (A1 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨((h.1 c).1 6).trans (final m c (hp c)).1, ((h.1 c).1 7).trans (final m c (hp c)).2.1,
    ((h.1 c).1 8).trans (final m c (hp c)).2.2, h.2.1 c⟩) (θ_run_and (run_main m g) (frame m g))

end Cert.Proof.KernelIdeal

namespace Cert.Proof

open Idealize.ShloMosaic Idealize.ShloMosaic.TcCoe Idealize.SL.Sem
open Cert.ReferenceIdeal Cert.ReferenceIdeal.Gen Cert.ReferenceIdeal.Read

/-- The reference's three gradients and its arguments. -/
theorem ref_value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v71) = val_main_v71 (m ((c : Thread nD τ).loc main_arg0)) (m ((c : Thread nD τ).loc main_arg1)) (m ((c : Thread nD τ).loc main_arg2)) (m ((c : Thread nD τ).loc main_arg3))
      ∧ r.2.mem ((c : Thread nD τ).loc main_v68) = val_main_v68 (m ((c : Thread nD τ).loc main_arg0)) (m ((c : Thread nD τ).loc main_arg1)) (m ((c : Thread nD τ).loc main_arg2)) (m ((c : Thread nD τ).loc main_arg3))
      ∧ r.2.mem ((c : Thread nD τ).loc main_v52) = val_main_v52 (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (val_main_v71_eq m c), (h c).2.1.trans (val_main_v68_eq m c),
    (h c).2.2.1.trans (val_main_v52_eq m c), (h c).2.2.2⟩) (Cert.ReferenceIdeal.Value.run m g)

theorem algebraic : Cert.algebraic_KernelIdeal_ReferenceIdeal_pre_finite := fun m g m' g' hp ha => by
  refine ⟨_, _, _, Cert.Proof.KernelIdeal.run_value m g hp, (θ_run defs _ _).mono (fun r h c => ?_) (ref_value m' g')⟩
  obtain ⟨e0, e1, e2, e3⟩ := ha c
  obtain ⟨h0, h1, h2, h3⟩ := h c
  refine ⟨h0.trans ?_, h1.trans ?_, h2.trans ?_, h3⟩
  · rw [e0, e1, e2, e3]
  · rw [e0, e1, e2, e3]
  · rw [e0, e1, e3]

end Cert.Proof

end
-- ==== Proof.Hand.FwdState.lean ====
/-
  Where the forward pass reads at a grid point and a trip of its loop, in closed form, and what it computes: the
  running maximum and the accumulator over the key blocks before the diagonal, and the two results at the diagonal.
  Stated at any value interpretation.
-/
module

public import proofs.«01_k».proof.Proof.Gen.Kernel2Ideal.Skeleton
public import proofs.«01_k».proof.Proof.Hand.Put
public import Idealize.ShloMosaic.Lib.Pipeline.Value

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic

/-! ## The printed places -/

theorem off1_1 : ∀ (i : grid0.Coords) k, k0_off1 i k 1#32 = ![0, 512 * ((2 * k.val + 1) % 16), 0] := by decide +kernel
theorem off1_2 : ∀ (i : grid0.Coords) k, k0_off1 i k 2#32 = ![0, 512 * ((2 * k.val + 2) % 16), 0] := by decide +kernel
theorem off2_eq : ∀ (i : grid0.Coords) k, k0_off2 i k = ![0, 512 * ((2 * k.val) % 16), 0] := by decide +kernel
theorem off5_eq : ∀ i : grid0.Coords, k0_off5 i = ![0, 512 * ((i 1).val % 16), 0] := by decide +kernel
theorem off6_eq : ∀ i : grid0.Coords, k0_off6 i = ![0, 512 * ((i 1).val % 16), 0] := by decide +kernel
theorem off7_eq : ∀ i : grid0.Coords, k0_cond2 i = 1#1 → k0_off7 i = ![0, 512 * (((i 1).val - 1) % 16), 0] := by decide +kernel
theorem trips1 : ∀ i : grid0.Coords, (k0_t1_loop i).trips = (i 1).val / 2 := by decide +kernel
theorem trips2 : ∀ i : grid0.Coords, (k0_t2_loop i).trips = 0 := by decide +kernel
theorem cond1_even : ∀ i : grid0.Coords, k0_cond1 i = 1#1 → 2 * ((i 1).val / 2) = (i 1).val := by decide +kernel
theorem cond2_odd : ∀ i : grid0.Coords, k0_cond2 i = 1#1 → 2 * ((i 1).val / 2) + 1 = (i 1).val := by decide +kernel
theorem cond_or : ∀ i : grid0.Coords, (k0_cond1 i = 1#1 ∧ ¬ k0_cond2 i = 1#1) ∨ (¬ k0_cond1 i = 1#1 ∧ k0_cond2 i = 1#1) := by decide +kernel

theorem kR_inb (j : ℕ) : ∀ a, (![0, 512 * (j % 16), 0] : Fin S1x8192x256.rank → Nat) a + S1x512x256.size a ≤ S1x8192x256.size a := by
  have h : ∀ r : Fin 16, ∀ a, (![0, 512 * r.val, 0] : Fin S1x8192x256.rank → Nat) a + S1x512x256.size a ≤ S1x8192x256.size a := by decide
  exact h ⟨j % 16, Nat.mod_lt _ (by decide)⟩
/-- Key block `j`. -/
abbrev kR (j : ℕ) : Rect S1x8192x256 :=
  Rect.unit (s := S1x8192x256) ![0, 512 * (j % 16), 0] S1x512x256.size (kR_inb j)

/-! ## The running maximum and the accumulator -/

variable {F : FTy → Type} [FloatOps F] [Named F]

/-- The scores of key block `j`. -/
def sc (q : Vec F S1x512x256 .bf16) (k : Vec F S1x8192x256 .bf16) (j : ℕ) : FVec F S512x512 .f32 :=
  k0_pay10 (k0_pay26 q) (View.ld k (kR j))

/-- One key block before the diagonal. -/
def tile (q : Vec F S1x512x256 .bf16) (k v : Vec F S1x8192x256 .bf16) (j : ℕ) (s : FVec F S512x1 .f32 × FVec F S512x256 .f32) :
    FVec F S512x1 .f32 × FVec F S512x256 .f32 :=
  (k0_pay11 s.1 (sc q k j), k0_pay12 s.1 s.2 (sc q k j) (View.ld v (kR j)))

/-- The first `n` key blocks. -/
def tiles (q : Vec F S1x512x256 .bf16) (k v : Vec F S1x8192x256 .bf16) : ℕ → FVec F S512x1 .f32 × FVec F S512x256 .f32
  | 0 => (k0_pay27 (F := F), k0_pay28 (F := F))
  | n + 1 => tile q k v n (tiles q k v n)

/-- The attention's block at query block `j`, -/
def outO (q : Vec F S1x512x256 .bf16) (k v : Vec F S1x8192x256 .bf16) (j : ℕ) : FVec F S512x128 .f32 :=
  k0_pay20 (tiles q k v j).1 (tiles q k v j).2 (sc q k j) (View.ld v (kR j))

/-- and its log-sums'. -/
def outL (q : Vec F S1x512x256 .bf16) (k v : Vec F S1x8192x256 .bf16) (j : ℕ) : FVec F S1x1x8x512 .f32 :=
  k0_pay4 (k0_pay21 (tiles q k v j).1 (tiles q k v j).2 (sc q k j) (View.ld v (kR j)))

/-! ## The printed payloads of the second of a pair, and of the odd case, are those of the first -/

theorem pay29_eq (q k : Vec F S1x512x256 .bf16) : k0_pay29 q k = k0_pay10 (k0_pay26 q) k := rfl
theorem pay30_eq (q k : Vec F S1x512x256 .bf16) : k0_pay30 q k = k0_pay10 (k0_pay26 q) k := rfl
theorem pay22_eq (q : FVec F S512x256 .bf16) (k : Vec F S1x512x256 .bf16) : k0_pay22 q k = k0_pay10 q k := rfl
theorem pay31_eq (a : FVec F S512x1 .f32) (s : Vec F S512x512 .f32) : k0_pay31 a s = k0_pay11 a s := rfl
theorem pay32_eq (a : FVec F S512x1 .f32) (b : FVec F S512x256 .f32) (s : Vec F S512x512 .f32) (v : Vec F S1x512x256 .bf16) :
    k0_pay32 a b s v = k0_pay12 a b s v := rfl
theorem pay23_eq (a : FVec F S512x1 .f32) (s : Vec F S512x512 .f32) : k0_pay23 a s = k0_pay11 a s := rfl
theorem pay24_eq (a : FVec F S512x1 .f32) (b : FVec F S512x256 .f32) (s : Vec F S512x512 .f32) (v : Vec F S1x512x256 .bf16) :
    k0_pay24 a b s v = k0_pay12 a b s v := rfl
theorem pay8_eq (a : FVec F S512x1 .f32) (b : FVec F S512x256 .f32) (s : Vec F S512x512 .f32) (v : Vec F S1x512x256 .bf16) :
    k0_pay8 a b (k0_pay25 s) v = k0_pay20 a b s v := rfl
theorem pay9_eq (a : FVec F S512x1 .f32) (b : FVec F S512x256 .f32) (s : Vec F S512x512 .f32) (v : Vec F S1x512x256 .bf16) :
    k0_pay9 a b (k0_pay25 s) v = k0_pay4 (k0_pay21 a b s v) := rfl

end Cert.Proof.Kernel2Ideal
end
-- ==== Proof.Hand.FwdLoops.lean ====
/-
  The loop of the forward pass over the key blocks before the diagonal, by its invariant: before trip `k` the first
  scratch buffer reads the scores of key block `2k`, and what is carried is `tiles` of the first `2k` blocks.
-/
module

public import proofs.«01_k».proof.Proof.Hand.FwdState
public import proofs.«01_k».proof.Proof.Gen.Kernel2Ideal.Loops
public import proofs.«01_k».proof.Proof.Gen.Kernel2Ideal.Frame.Runs

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A whole memref held at raw contents. -/
abbrev at' (c : Dev nD) {s : Shape} {e : EltTy} (M : Memref sig .tc .vmem s e) (f : BufTy.Contents (Elt F) M.view.ty) : sProp 𝕄 :=
  iprop(M.view.loc (c : Thread nD τ) ↦[M.view.set]{fullShare} f)

/-- A whole memref held at what it reads. -/
abbrev rd (c : Dev nD) {s : Shape} {e : EltTy} (M : Memref sig .tc .vmem s e) (X : s.Idx → Elt F e) : sProp 𝕄 :=
  iprop(∃ f, at' c M f ∗ ⌜M.view.read (Elt F) f = X⌝)

/-- `a` at first, and `b` after. -/
def lv {α : Sort*} : ℕ → α → α → α
  | 0, a, _ => a
  | _ + 1, _, b => b

/-- `tiles` from whatever scores and carried value the loop finds. -/
def tilesFrom (q : Vec F S1x512x256 .bf16) (k v : Vec F S1x8192x256 .bf16) (s0 : FVec F S512x512 .f32)
    (a0 : FVec F S512x1 .f32 × FVec F S512x256 .f32) : ℕ → FVec F S512x1 .f32 × FVec F S512x256 .f32
  | 0 => a0
  | n + 1 => (k0_pay11 (tilesFrom q k v s0 a0 n).1 (lv n s0 (sc q k n)),
      k0_pay12 (tilesFrom q k v s0 a0 n).1 (tilesFrom q k v s0 a0 n).2 (lv n s0 (sc q k n)) (View.ld v (kR n)))

theorem tilesFrom_eq (q : Vec F S1x512x256 .bf16) (k v : Vec F S1x8192x256 .bf16) (n : ℕ) :
    tilesFrom q k v (sc q k 0) (k0_pay27 (F := F), k0_pay28 (F := F)) n = tiles q k v n := by
  have hl : ∀ n, lv n (sc q k 0) (sc q k n) = sc q k n := fun n => by cases n <;> rfl
  induction n with
  | zero => rfl
  | succ n ih => unfold tilesFrom tiles tile; rw [ih, hl]

/-- ONE TRIP of the loop: two key blocks. -/
theorem trip1 (𝒱 : Variants) (c : Dev nD) (bd : Option 𝒱.V) (E : Set ℕ) (i : grid0.Coords) (arg2 : Memref sig .tc .vmem S1x512x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S512x128 .f32) (harg5 : arg5.IsWhole) (arg6 : Memref sig .tc .vmem S1x1x8x512 .f32) (harg6 : arg6.IsWhole) (arg7 : Memref sig .tc .vmem S512x512 .f32) (harg7 : arg7.IsWhole) (arg8 : Memref sig .tc .vmem S512x512 .f32) (harg8 : arg8.IsWhole)
    (v0 : Vec F S1x512x256 .bf16) (X3 : BufTy.Contents (Elt F) arg3.view.ty) (X4 : BufTy.Contents (Elt F) arg4.view.ty)
    (f7 : BufTy.Contents (Elt F) arg7.view.ty) (f8 : BufTy.Contents (Elt F) arg8.view.ty)
    (k : Fin (k0_t1_loop i).trips) (s0 : FVec F S512x512 .f32) (a0 : FVec F S512x1 .f32 × FVec F S512x256 .f32)
    (h7 : arg7.view.read (Elt F) f7 = lv (2 * k.val) s0 (sc v0 (arg3.view.read (Elt F) X3) (2 * k.val))) (acc : FVec F S512x1 .f32 × FVec F S512x256 .f32)
    (hacc : acc = tilesFrom v0 (arg3.view.read (Elt F) X3) (arg4.view.read (Elt F) X4) s0 a0 (2 * k.val)) :
    iprop(at' c arg3 X3 ∗ at' c arg4 X4 ∗ at' c arg7 f7 ∗ at' c arg8 f8)
    ⊢ wp frame (wpE (defs₀ (F := F)) 𝒱 (c : Thread nD τ) bd) E (k0_t1_body (F := F) i arg2 harg2 arg3 harg3 arg4 harg4 arg5 harg5 arg6 harg6 arg7 harg7 arg8 harg8 v0 k acc)
      (fun y => iprop(at' c arg3 X3 ∗ at' c arg4 X4 ∗ rd c arg7 (sc v0 (arg3.view.read (Elt F) X3) (2 * (k.val + 1)))
        ∗ (∃ f, at' c arg8 f) ∗ ⌜y = tilesFrom v0 (arg3.view.read (Elt F) X3) (arg4.view.read (Elt F) X4) s0 a0 (2 * (k.val + 1))⌝)) := by
  unfold k0_t1_body
  iintro ⟨H3, H4, H7, H8⟩
  sl_exec_parts
  sl_step
  isplitl [H3]; · iexact H3
  isplitl [H4]; · iexact H4
  isplitl [H7]
  · iexists _; isplitl [H7]; · iexact H7
    ipureintro
    rw [read_writes_put, put_whole (by funext a; fin_cases a <;> rfl), pay30_eq, readAt_ld arg3.view _ (off1_2 i k) _ (kR_inb (2 * k.val + 2))]
    rfl
  isplitl [H8]
  · iexists _; iexact H8
  ipureintro
  unfold trip1.sl.r_1 trip1.sl.r trip1.sl.v110 trip1.sl.H8_1
  subst hacc
  rw [readCov_whole _ (by funext a; fin_cases a <;> rfl), readAt_whole arg7.view _ (by funext a; fin_cases a <;> rfl), h7, pay31_eq, pay32_eq,
    readAt_ld arg3.view _ (off1_1 i k) _ (kR_inb (2 * k.val + 1)), readAt_ld arg4.view _ (off1_1 i k) _ (kR_inb (2 * k.val + 1)), readAt_ld arg4.view _ (off2_eq i k) _ (kR_inb (2 * k.val))]
  rfl

set_option warn.classDefReducibility false in
@[sl_loop] def loopInv1 (𝒱 : Variants) (c : Dev nD) (bd : Option 𝒱.V) (E : Set ℕ) (i : grid0.Coords) (arg2 : Memref sig .tc .vmem S1x512x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S512x128 .f32) (harg5 : arg5.IsWhole) (arg6 : Memref sig .tc .vmem S1x1x8x512 .f32) (harg6 : arg6.IsWhole) (arg7 : Memref sig .tc .vmem S512x512 .f32) (harg7 : arg7.IsWhole) (arg8 : Memref sig .tc .vmem S512x512 .f32) (harg8 : arg8.IsWhole)
    (v0 : Vec F S1x512x256 .bf16) (X3 : BufTy.Contents (Elt F) arg3.view.ty) (X4 : BufTy.Contents (Elt F) arg4.view.ty)
    (G7 : BufTy.Contents (Elt F) arg7.view.ty) (init : FVec F S512x1 .f32 × FVec F S512x256 .f32) :
    LoopInvTy_k0_t1 (F := F) Unit ℕ (UR sig nD τ) ℕ 𝒱 c bd E i arg2 harg2 arg3 harg3 arg4 harg4 arg5 harg5 arg6 harg6 arg7 harg7 arg8 harg8 v0 init where
  inv k acc := iprop(at' c arg3 X3 ∗ at' c arg4 X4 ∗ rd c arg7 (lv (2 * k) (arg7.view.read (Elt F) G7) (sc v0 (arg3.view.read (Elt F) X3) (2 * k)))
        ∗ (∃ f, at' c arg8 f) ∗ ⌜acc = tilesFrom v0 (arg3.view.read (Elt F) X3) (arg4.view.read (Elt F) X4) (arg7.view.read (Elt F) G7) init (2 * k)⌝)
  step k acc := by
    iintro ⟨H3, H4, ⟨%f7, H7, %h7⟩, ⟨%f8, H8⟩, %ha⟩
    iapply (wp_wand_r Idealize.ShloMosaic.frame (wpE (defs₀ (F := F)) 𝒱 (c : Thread nD τ) bd) E)
    isplitl [H3 H4 H7 H8]
    · iapply (trip1 (F := F) 𝒱 c bd E i arg2 harg2 arg3 harg3 arg4 harg4 arg5 harg5 arg6 harg6 arg7 harg7 arg8 harg8 v0 X3 X4 f7 f8 k _ init h7 acc ha)
      isplitl [H3]; · iexact H3
      isplitl [H4]; · iexact H4
      isplitl [H7]; · iexact H7
      iexact H8
    · iintro %_ H
      iexact H

set_option warn.classDefReducibility false in
@[sl_loop] def loopInv2 (𝒱 : Variants) (c : Dev nD) (bd : Option 𝒱.V) (E : Set ℕ) (i : grid0.Coords) (arg2 : Memref sig .tc .vmem S1x512x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S512x128 .f32) (harg5 : arg5.IsWhole) (arg6 : Memref sig .tc .vmem S1x1x8x512 .f32) (harg6 : arg6.IsWhole) (arg7 : Memref sig .tc .vmem S512x512 .f32) (harg7 : arg7.IsWhole) (arg8 : Memref sig .tc .vmem S512x512 .f32) (harg8 : arg8.IsWhole)
    (v1 : FVec F S512x256 .bf16) (v33 c1_i32_16 : BitVec 32) (X3 : BufTy.Contents (Elt F) arg3.view.ty) (X4 : BufTy.Contents (Elt F) arg4.view.ty)
    (G7 : BufTy.Contents (Elt F) arg7.view.ty) (G8 : BufTy.Contents (Elt F) arg8.view.ty) (init : FVec F S512x1 .f32 × FVec F S512x256 .f32) :
    LoopInvTy_k0_t2 (F := F) Unit ℕ (UR sig nD τ) ℕ 𝒱 c bd E i arg2 harg2 arg3 harg3 arg4 harg4 arg5 harg5 arg6 harg6 arg7 harg7 arg8 harg8 v1 v33 c1_i32_16 init where
  inv k acc := iprop(at' c arg3 X3 ∗ at' c arg4 X4 ∗ at' c arg7 G7 ∗ at' c arg8 G8 ∗ ⌜acc = init⌝)
  step k acc := absurd (lt_of_lt_of_eq k.isLt (trips2 i)) (Nat.not_lt_zero _)

end Cert.Proof.Kernel2Ideal
end
-- ==== Proof.Hand.FwdBody.lean ====
/-
  The forward pass's body at a point: from its blocks, the attention's block and its log-sums' at `outO` and `outL`.
-/
module

public import proofs.«01_k».proof.Proof.Hand.FwdLoops

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem lv_self {α : Sort*} (n : ℕ) (a : ℕ → α) : lv n (a 0) (a n) = a n := by cases n <;> rfl

theorem off0_eq : (![0, 0, 0] : Fin S1x8192x256.rank → Nat) = ![0, 512 * (0 % 16), 0] := rfl

set_option maxHeartbeats 4000000 in
theorem sound_even (c : Dev nD) (E : Set ℕ) (i : grid0.Coords) (arg2 : Memref sig .tc .vmem S1x512x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S512x128 .f32) (harg5 : arg5.IsWhole) (arg6 : Memref sig .tc .vmem S1x1x8x512 .f32) (harg6 : arg6.IsWhole) (arg7 : Memref sig .tc .vmem S512x512 .f32) (harg7 : arg7.IsWhole) (arg8 : Memref sig .tc .vmem S512x512 .f32) (harg8 : arg8.IsWhole)
    (q : Vec F S1x512x256 .bf16) (k v : Vec F S1x8192x256 .bf16) (K : PUnit → sProp 𝕄)
    (hc : k0_cond1 i = 1#1) (hc' : ¬ k0_cond2 i = 1#1) :
    iprop(owns (c : Thread nD τ) arg2 fullShare q ∗ owns (c : Thread nD τ) arg3 fullShare k ∗ owns (c : Thread nD τ) arg4 fullShare v
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare q ∗ owns (c : Thread nD τ) arg3 fullShare k ∗ owns (c : Thread nD τ) arg4 fullShare v
          ∗ owns (c : Thread nD τ) arg5 fullShare (outO q k v (i 1).val) ∗ owns (c : Thread nD τ) arg6 fullShare (outL q k v (i 1).val)
          ∗ (∃ d, owns (c : Thread nD τ) arg7 fullShare d) ∗ (∃ d, owns (c : Thread nD τ) arg8 fullShare d)) -∗ K ⟨⟩))
      ⊢ wp frame (wpE (defs₀ (F := F)) Variants.none c none) E (cc0_flash_fwd (F := F) i arg2 harg2 arg3 harg3 arg4 harg4 arg5 harg5 arg6 harg6 arg7 harg7 arg8 harg8) K := by
  simp only [cc0_flash_fwd_eq_skeleton]; unfold cc0_flash_fwd_skel
  unfold owns
  iintro ⟨⟨%f2, %h2, H2⟩, ⟨%f3, %h3, H3⟩, ⟨%f4, %h4, H4⟩, ⟨%d5, %f5, -, H5⟩, ⟨%d6, %f6, -, H6⟩, ⟨%d7, %f7, -, H7⟩, ⟨%d8, %f8, -, H8⟩, Hk⟩
  subst h2 h3 h4
  sl_exec_parts (disch := first | sl_exact hc | sl_exact hc')
  sl_step
  have hn : Scf.trips (k0_t1_loop i).lb (k0_t1_loop i).ub (k0_t1_loop i).st = (i 1).val / 2 := trips1 i
  have he := cond1_even i hc
  have hq : (View.readAt (Elt F) arg2.view (Rect.unit ![0, 0, 0] S1x512x256.size inb_S1x512x256_S1x512x256_0_0_0).toLoadRect f2) = arg2.view.read (Elt F) f2 :=
    readAt_whole _ _ (by funext a; fin_cases a <;> rfl) _
  have h0 : arg7.view.read (Elt F) (arg7.view.writes (Elt F) arg7.view.junk (sound_even.sl.H7_1 c arg2 arg3 f2 f3))
      = sc (arg2.view.read (Elt F) f2) (arg3.view.read (Elt F) f3) 0 := by
    unfold sound_even.sl.H7_1
    rw [read_writes_put, put_whole (by funext a; fin_cases a <;> rfl), hq, pay29_eq, readAt_ld arg3.view _ off0_eq _ (kR_inb 0)]
    rfl
  rw [h0, hq, hn, he] at hL3
  have hs : arg7.view.read (Elt F) fL0 = sc (arg2.view.read (Elt F) f2) (arg3.view.read (Elt F) f3) (i 1).val := hL3.trans (lv_self _ (sc (arg2.view.read (Elt F) f2) (arg3.view.read (Elt F) f3)))
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr; swap; · iexact H5
    ipureintro
    unfold sound_even.sl.r_1 sound_even.sl.r_2
    rw [read_writes_put, put_whole (by funext a; fin_cases a <;> rfl), h0, hq, hn, he, tilesFrom_eq, readAt_whole arg7.view _ (by funext a; fin_cases a <;> rfl), hs,
      readAt_ld arg4.view _ (off5_eq i) _ (kR_inb (i 1).val)]
    rfl
  isplitl [H6]
  · iexists _; isplitr; swap; · iexact H6
    ipureintro
    unfold sound_even.sl.r_3 sound_even.sl.r_1 sound_even.sl.r_2
    rw [read_writes_put, put_whole (by funext a; fin_cases a <;> rfl), h0, hq, hn, he, tilesFrom_eq, readAt_whole arg7.view _ (by funext a; fin_cases a <;> rfl), hs,
      readAt_ld arg4.view _ (off5_eq i) _ (kR_inb (i 1).val)]
    rfl
  isplitl [H7]; · iexists _; iexists fL0; isplitr; · ipureintro; rfl
                  iexact H7
  iexists _; iexists fL1; isplitr; · ipureintro; rfl
  iexact H8

set_option maxHeartbeats 4000000 in
theorem sound_odd (c : Dev nD) (E : Set ℕ) (i : grid0.Coords) (arg2 : Memref sig .tc .vmem S1x512x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S512x128 .f32) (harg5 : arg5.IsWhole) (arg6 : Memref sig .tc .vmem S1x1x8x512 .f32) (harg6 : arg6.IsWhole) (arg7 : Memref sig .tc .vmem S512x512 .f32) (harg7 : arg7.IsWhole) (arg8 : Memref sig .tc .vmem S512x512 .f32) (harg8 : arg8.IsWhole)
    (q : Vec F S1x512x256 .bf16) (k v : Vec F S1x8192x256 .bf16) (K : PUnit → sProp 𝕄)
    (hc : ¬ k0_cond1 i = 1#1) (hc' : k0_cond2 i = 1#1) :
    iprop(owns (c : Thread nD τ) arg2 fullShare q ∗ owns (c : Thread nD τ) arg3 fullShare k ∗ owns (c : Thread nD τ) arg4 fullShare v
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare q ∗ owns (c : Thread nD τ) arg3 fullShare k ∗ owns (c : Thread nD τ) arg4 fullShare v
          ∗ owns (c : Thread nD τ) arg5 fullShare (outO q k v (i 1).val) ∗ owns (c : Thread nD τ) arg6 fullShare (outL q k v (i 1).val)
          ∗ (∃ d, owns (c : Thread nD τ) arg7 fullShare d) ∗ (∃ d, owns (c : Thread nD τ) arg8 fullShare d)) -∗ K ⟨⟩))
      ⊢ wp frame (wpE (defs₀ (F := F)) Variants.none c none) E (cc0_flash_fwd (F := F) i arg2 harg2 arg3 harg3 arg4 harg4 arg5 harg5 arg6 harg6 arg7 harg7 arg8 harg8) K := by
  simp only [cc0_flash_fwd_eq_skeleton]; unfold cc0_flash_fwd_skel
  unfold owns
  iintro ⟨⟨%f2, %h2, H2⟩, ⟨%f3, %h3, H3⟩, ⟨%f4, %h4, H4⟩, ⟨%d5, %f5, -, H5⟩, ⟨%d6, %f6, -, H6⟩, ⟨%d7, %f7, -, H7⟩, ⟨%d8, %f8, -, H8⟩, Hk⟩
  subst h2 h3 h4
  sl_exec_parts (disch := first | sl_exact hc | sl_exact hc')
  sl_step
  have hn : Scf.trips (k0_t1_loop i).lb (k0_t1_loop i).ub (k0_t1_loop i).st = (i 1).val / 2 := trips1 i
  have he := cond2_odd i hc'
  have hq : (View.readAt (Elt F) arg2.view (Rect.unit ![0, 0, 0] S1x512x256.size inb_S1x512x256_S1x512x256_0_0_0).toLoadRect f2) = arg2.view.read (Elt F) f2 :=
    readAt_whole _ _ (by funext a; fin_cases a <;> rfl) _
  have h0 : arg7.view.read (Elt F) (arg7.view.writes (Elt F) arg7.view.junk (sound_odd.sl.H7_1 c arg2 arg3 f2 f3))
      = sc (arg2.view.read (Elt F) f2) (arg3.view.read (Elt F) f3) 0 := by
    unfold sound_odd.sl.H7_1
    rw [read_writes_put, put_whole (by funext a; fin_cases a <;> rfl), hq, pay29_eq, readAt_ld arg3.view _ off0_eq _ (kR_inb 0)]
    rfl
  have hT : tiles (arg2.view.read (Elt F) f2) (arg3.view.read (Elt F) f3) (arg4.view.read (Elt F) f4) (i 1).val
      = tile (arg2.view.read (Elt F) f2) (arg3.view.read (Elt F) f3) (arg4.view.read (Elt F) f4) (2 * ((i 1).val / 2))
          (tiles (arg2.view.read (Elt F) f2) (arg3.view.read (Elt F) f3) (arg4.view.read (Elt F) f4) (2 * ((i 1).val / 2))) :=
    (congrArg (tiles (arg2.view.read (Elt F) f2) (arg3.view.read (Elt F) f3) (arg4.view.read (Elt F) f4)) he).symm
  have hp : k0_off7 i = ![0, 512 * ((2 * ((i 1).val / 2)) % 16), 0] :=
    (off7_eq i hc').trans (congrArg (fun n => (![0, 512 * (n % 16), 0] : Fin 3 → Nat)) (by omega))
  rw [h0, hq, hn] at hL3
  have hs : arg7.view.read (Elt F) fL0 = sc (arg2.view.read (Elt F) f2) (arg3.view.read (Elt F) f3) (2 * ((i 1).val / 2)) :=
    hL3.trans (lv_self _ (sc (arg2.view.read (Elt F) f2) (arg3.view.read (Elt F) f3)))
  have e3 : sound_odd.sl.r_3 c i arg2 arg3 arg4 arg7 f2 f3 f4 fL0 = (tiles (arg2.view.read (Elt F) f2) (arg3.view.read (Elt F) f3) (arg4.view.read (Elt F) f4) (i 1).val).1 := by
    unfold sound_odd.sl.r_3 sound_odd.sl.r_1
    rw [h0, hq, hn, tilesFrom_eq, readAt_whole arg7.view _ (by funext a; fin_cases a <;> rfl), hs, pay23_eq, hT]
    rfl
  have e4 : sound_odd.sl.r_4 c i arg2 arg3 arg4 arg7 hc' f2 f3 f4 fL0 = (tiles (arg2.view.read (Elt F) f2) (arg3.view.read (Elt F) f3) (arg4.view.read (Elt F) f4) (i 1).val).2 := by
    unfold sound_odd.sl.r_4 sound_odd.sl.r_1 sound_odd.sl.r_2
    rw [h0, hq, hn, tilesFrom_eq, readAt_whole arg7.view _ (by funext a; fin_cases a <;> rfl), hs, pay24_eq, readAt_ld arg4.view _ hp _ (kR_inb (2 * ((i 1).val / 2))), hT]
    rfl
  have e5 : sound_odd.sl.r_5 c i arg2 arg3 arg8 hc' f2 f3 = k0_pay25 (sc (arg2.view.read (Elt F) f2) (arg3.view.read (Elt F) f3) (i 1).val) := by
    unfold sound_odd.sl.r_5 sound_odd.sl.v95 sound_odd.sl.H8_1 sound_odd.sl.r
    rw [readCov_whole _ (by funext a; fin_cases a <;> rfl), hq, pay22_eq, readAt_ld arg3.view _ (off6_eq i) _ (kR_inb (i 1).val)]
    rfl
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr; swap; · iexact H5
    ipureintro
    rw [read_writes_put, put_whole (by funext a; fin_cases a <;> rfl), e3, e4, e5, pay8_eq, readAt_ld arg4.view _ (off6_eq i) _ (kR_inb (i 1).val)]
    rfl
  isplitl [H6]
  · iexists _; isplitr; swap; · iexact H6
    ipureintro
    rw [read_writes_put, put_whole (by funext a; fin_cases a <;> rfl), e3, e4, e5, pay9_eq, readAt_ld arg4.view _ (off6_eq i) _ (kR_inb (i 1).val)]
    rfl
  isplitl [H7]; · iexists _; iexists fL0; isplitr; · ipureintro; rfl
                  iexact H7
  iexists _; iexists _; isplitr; swap; · iexact H8
  ipureintro; rfl

theorem sound_kernel (c : Dev nD) (E : Set ℕ) (i : grid0.Coords) (arg2 : Memref sig .tc .vmem S1x512x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S512x128 .f32) (harg5 : arg5.IsWhole) (arg6 : Memref sig .tc .vmem S1x1x8x512 .f32) (harg6 : arg6.IsWhole) (arg7 : Memref sig .tc .vmem S512x512 .f32) (harg7 : arg7.IsWhole) (arg8 : Memref sig .tc .vmem S512x512 .f32) (harg8 : arg8.IsWhole)
    (q : Vec F S1x512x256 .bf16) (k v : Vec F S1x8192x256 .bf16) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare q ∗ owns (c : Thread nD τ) arg3 fullShare k ∗ owns (c : Thread nD τ) arg4 fullShare v
          ∗ owns (c : Thread nD τ) arg5 fullShare (outO q k v (i 1).val) ∗ owns (c : Thread nD τ) arg6 fullShare (outL q k v (i 1).val)
          ∗ (∃ d, owns (c : Thread nD τ) arg7 fullShare d) ∗ (∃ d, owns (c : Thread nD τ) arg8 fullShare d)) -∗ K ⟨⟩))
      ⊢ wp frame (wpE (defs₀ (F := F)) Variants.none c none) E (cc0_flash_fwd (F := F) i arg2 harg2 arg3 harg3 arg4 harg4 arg5 harg5 arg6 harg6 arg7 harg7 arg8 harg8) K := by
  obtain ⟨hc, hc'⟩ | ⟨hc, hc'⟩ := cond_or i
  · exact sound_even c E i arg2 harg2 arg3 harg3 arg4 harg4 arg5 harg5 arg6 harg6 arg7 harg7 arg8 harg8 q k v K hc hc'
  · exact sound_odd c E i arg2 harg2 arg3 harg3 arg4 harg4 arg5 harg5 arg6 harg6 arg7 harg7 arg8 harg8 q k v K hc hc'

end Cert.Proof.Kernel2Ideal
end
-- ==== Proof.Hand.FwdFrame.lean ====
/-
  The run of the forward pass: the proof data of its pipeline, the body at a point, the launch and the frame.
-/
module

public import proofs.«01_k».proof.Proof.Hand.FwdBody
public import Idealize.ShloMosaic.Lib.Claim

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem coord1 : ∀ t : Fin cfg0.N, (cfg0.grid.coords t 1).val = t.val % 16 := by decide +kernel

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO (iblk m c 0 t) (iblk m c 1 t) (iblk m c 2 t) (cfg0.grid.coords t 1).val
    | ⟨4, _⟩ => outL (iblk m c 0 t) (iblk m c 1 t) (iblk m c 2 t) (cfg0.grid.coords t 1).val
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outO (iblk m c 0 t) (iblk m c 1 t) (iblk m c 2 t) (cfg0.grid.coords t 1).val := by
  dsimp only [dats]
theorem after0_4 (c : Dev nD) (t : Fin cfg0.N) : (dats m 0 c).after 4 t = outL (iblk m c 0 t) (iblk m c 1 t) (iblk m c 2 t) (cfg0.grid.coords t 1).val := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]
theorem live3 (t : Fin cfg0.N) : cfg0.idle 3 (grid0.coords t) = false := by
  obtain ⟨hc, hc'⟩ | ⟨hc, hc'⟩ := cond_or (grid0.coords t)
  · exact liveAt0_3_A t hc hc'
  · exact liveAt0_3_B t hc hc'
theorem live4 (t : Fin cfg0.N) : cfg0.idle 4 (grid0.coords t) = false := by
  obtain ⟨hc, hc'⟩ | ⟨hc, hc'⟩ := cond_or (grid0.coords t)
  · exact liveAt0_4_A t hc hc'
  · exact liveAt0_4_B t hc hc'
theorem leaves3 (c : Dev nD) (t : Fin cfg0.N) : (dats m 0 c).leavesExact 3 t
    = owns (c : Thread nD τ) (ms0_3 t) fullShare (outO (iblk m c 0 t) (iblk m c 1 t) (iblk m c 2 t) (cfg0.grid.coords t 1).val) := by
  unfold Dat.leavesExact; rw [live3 t, after0_3]
theorem leaves4 (c : Dev nD) (t : Fin cfg0.N) : (dats m 0 c).leavesExact 4 t
    = owns (c : Thread nD τ) (ms0_4 t) fullShare (outL (iblk m c 0 t) (iblk m c 1 t) (iblk m c 2 t) (cfg0.grid.coords t 1).val) := by
  unfold Dat.leavesExact; rw [live4 t, after0_4]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq, leaves0, leaves1, leaves2, leaves3, leaves4]
  iintro ⟨⟨⟨HS0, HS1⟩, Hg⟩, Ho, ⟨%d0, H0⟩, ⟨%d1, H1⟩, ⟨%d2, H2⟩, ⟨%d3, H3⟩, ⟨%d4, H4⟩⟩
  iapply (sound_kernel c Set.univ (cfg0.grid.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero, from any memory. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.Kernel2Ideal

end
-- ==== Proof.Hand.Ref2Frame.lean ====
/-
  The forward reference's frame: its run leaves the arguments as they were, and it has no counter.
-/
module

public import proofs.«01_k».proof.Proof.Gen.Reference2Ideal.Run
public import proofs.«01_k».proof.Proof.Gen.Reference2Ideal.Read
public import Idealize.ShloMosaic.Lib.Claim

@[expose] public section

noncomputable section

namespace Cert.Proof.Reference2Ideal

open Cert.Reference2Ideal
open Idealize.ShloMosaic Idealize.ShloMosaic.TcCoe Idealize.SL.Sem

/-- The argument arrays end unchanged and every counter at zero, from any memory. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2, sem_eq_zero_of_no_sems (by decide) r.2⟩) (Value.run m ρ)

end Cert.Proof.Reference2Ideal

end
-- ==== Proof.Hand.Ref2Value.lean ====
/-
  The forward reference's operations read at an index, as reals: its scores, weights and log-sums are the other
  reference's terms of the same queries and keys.
-/
module

public import proofs.«01_k».proof.Proof.Gen.Reference2Ideal.Read
public import proofs.«01_k».proof.Proof.Hand.IdealHost

@[expose] public section

noncomputable section

namespace Cert.Reference2Ideal.Attn

open Cert.Reference2Ideal Cert.Reference2Ideal.Gen Cert.Reference2Ideal.Read Idealize.ShloMosaic Idealize.ShloMosaic.ValueIdx Cert.Proof.Attn
open Cert.ReferenceIdeal.Attn (Qkv Out Reads)
open Cert.Proof.KernelIdeal (scoresK maskK maxK expK sumK weightK lseK scoresK_eq v23_eq lseK_at rows_at)

/-- The values' argument, unpadded. -/
abbrev Val : Type := (⟨S8x8192x128, .bf16⟩ : BufTy).Contents (Elt Ideal)

/-- The queries and keys read as reals, head by head. -/
structure Reads2 (X0 X1 : Qkv) (x : Fin 8 → Head) : Prop where
  q : ∀ h i c, X0 (ix3 h i c) = (((x h).q i c : ℝ) : EReal)
  k : ∀ h i c, X1 (ix3 h i c) = (((x h).k i c : ℝ) : EReal)

/-- A channel's head, and its place in the head. -/
def headOf (c : Fin 1024) : Fin 8 := ⟨c.val / 128, by omega⟩
def partOf (c : Fin 1024) : Fin 128 := ⟨c.val % 128, by omega⟩

theorem headOf_chan (h : Fin 8) (d : Fin 128) : headOf (chan h d) = h := Fin.ext (by show (128 * h.val + d.val) / 128 = h.val; omega)
theorem partOf_chan (h : Fin 8) (d : Fin 128) : partOf (chan h d) = d := Fin.ext (by show (128 * h.val + d.val) % 128 = d.val; omega)
theorem chan_of (c : Fin 1024) : chan (headOf c) (partOf c) = c := Fin.ext (by show 128 * (c.val / 128) + c.val % 128 = c.val; omega)

/-- Values and a cotangent that read as a head's. -/
def padV (x : Fin 8 → Head) : Qkv := fun i => if h : (i 2).val < 128 then (((x (i 0)).v (i 1) ⟨(i 2).val, h⟩ : ℝ) : EReal) else (0 : EReal)
def flatO (x : Fin 8 → Head) : Out := fun i => (((x (headOf (i 1))).o (i 0) (partOf (i 1)) : ℝ) : EReal)

variable {X0 X1 : Qkv} {x : Fin 8 → Head}

theorem Reads2.full (H : Reads2 X0 X1 x) : Reads X0 X1 (padV x) (flatO x) x where
  q := H.q
  k := H.k
  v h i d := dif_pos d.isLt
  o h i d := by
    show (((x (headOf (chan h d))).o i (partOf (chan h d)) : ℝ) : EReal) = _
    rw [headOf_chan, partOf_chan]

/-! ## The terms are the other reference's -/

theorem v26_eq (X0 X1 : Qkv) : val_main_v26 (F := Ideal) X0 X1 = lseK X0 X1 := by
  unfold lseK sumK expK maxK scoresK maskK val_main_v26 val_main_v25 val_main_v24 val_main_cst_3 val_main_v23 val_main_v22 val_main_v21 val_main_v20
    val_main_cst_2 val_main_v19 val_main_v18 val_main_v17 val_main_v16 val_main_v15 val_main_cst_1 val_main_v14 val_main_call0_v2
    val_main_call0_v1 val_main_call0_v0 val_main_cst_0 val_main_v13 val_main_v12 val_main_v11 val_main_cst val_main_v10 val_main_v9
    val_main_v8 val_main_v7 val_main_v6 val_main_v5 val_main_v4 val_main_v3 val_main_v1 val_main_v0
  rfl

theorem v38_eq (X0 X1 : Qkv) : val_main_v38 (F := Ideal) X0 X1 = scoresK X0 X1 := by
  unfold scoresK maskK val_main_v38 val_main_call1_v2 val_main_call1_v1 val_main_call1_v0 val_main_cst_5 val_main_v37 val_main_v36 val_main_v35
    val_main_cst_4 val_main_v34 val_main_v33 val_main_v32 val_main_v31 val_main_v30 val_main_v29 val_main_v28 val_main_v27 val_main_v1 val_main_v0
  rfl

theorem v41_eq (X0 X1 : Qkv) : val_main_v41 (F := Ideal) X0 X1 = Cert.ReferenceIdeal.Read.val_main_v23 X0 X1 := by
  unfold val_main_v41 val_main_v40 val_main_cst_7 val_main_v39 val_main_cst_6
  rw [v38_eq, scoresK_eq]
  unfold Cert.ReferenceIdeal.Read.val_main_v23 Cert.ReferenceIdeal.Read.val_main_v22 Cert.ReferenceIdeal.Read.val_main_v16
    Cert.ReferenceIdeal.Read.val_main_cst_1 Cert.ReferenceIdeal.Read.val_main_cst_3
  rfl

theorem v45_eq (X0 X1 : Qkv) : val_main_v45 (F := Ideal) X0 X1 = Cert.ReferenceIdeal.Read.val_main_v36 X0 X1 := by
  unfold val_main_v45 val_main_v44 val_main_v43 val_main_v42
  rw [v38_eq, v41_eq, scoresK_eq]
  unfold Cert.ReferenceIdeal.Read.val_main_v36 Cert.ReferenceIdeal.Read.val_main_v35 Cert.ReferenceIdeal.Read.val_main_v34
    Cert.ReferenceIdeal.Read.val_main_v33
  rfl

theorem v49_eq (X0 X1 : Qkv) : val_main_v49 (F := Ideal) X0 X1 = Cert.ReferenceIdeal.Read.val_main_v40 X0 X1 := by
  unfold val_main_v49 val_main_v48 val_main_v47 val_main_v46 val_main_cst_8
  rw [v45_eq]
  unfold Cert.ReferenceIdeal.Read.val_main_v40 Cert.ReferenceIdeal.Read.val_main_v39 Cert.ReferenceIdeal.Read.val_main_v38
    Cert.ReferenceIdeal.Read.val_main_v37 Cert.ReferenceIdeal.Read.val_main_cst_9
  rfl

/-! ## The results at an index -/

variable (H : Reads2 X0 X1 x) (hm : ∀ h i, Cert.ReferenceIdeal.Read.val_main_v16 X0 X1 (ix2 h i) = (((x h).m i : ℝ) : EReal))

include H hm

theorem lse_at (h : Fin 8) (b : Fin 16) (u : Fin 8) (r : Fin 512) :
    val_main_v54 (F := Ideal) X0 X1 (ix4 h b u r) = (((x h).lse (row b r) : ℝ) : EReal) := by
  have e : val_main_v54 (F := Ideal) X0 X1 (ix4 h b u r) = val_main_v26 (F := Ideal) X0 X1 (ix3 h (row b r) (0 : Fin 1)) := by
    unfold val_main_v54 val_main_v53
    exact rows_at _ h b u r
  rw [e, v26_eq]
  exact lseK_at H.full hm h (row b r) 0

theorem out_at (X2 : Val) (i : Fin 8192) (h : Fin 8) (d : Fin 128) :
    val_main_v52 (F := Ideal) X0 X1 X2 (ix2 i (chan h d)) = ∑ j, ((x h).p i j : EReal) * X2 (ix3 h j d) := by
  rw [val_main_v52_apply, val_main_v51_apply, val_main_v50_apply]
  have h0 : ((ix2 i (chan h d) 0).val * 1024 + (ix2 i (chan h d) 1).val) / 1024 = i.val := by
    show (i.val * 1024 + (128 * h.val + d.val)) / 1024 = i.val; omega
  have h1 : ((i.val * 1024 + (128 * h.val + d.val)) / 128) % 8 = h.val := by omega
  have h2 : (i.val * 1024 + (128 * h.val + d.val)) % 128 = d.val := by omega
  refine Finset.sum_congr rfl fun j _ => (mul_comm (G := EReal) _ _).trans (congrArg₂ (fun a b : EReal => a * b) ?_ ?_)
  · rw [v49_eq]
    exact (congrArg _ (ext3 _ h i j h1 h0 rfl)).trans (Cert.ReferenceIdeal.Attn.p_at H.full hm h i j)
  · rw [val_main_v2_apply]
    exact congrArg X2 (ext3 _ h j d h1 rfl h2)

end Cert.Reference2Ideal.Attn

end
-- ==== Proof.Hand.Finite2.lean ====
/-
  The forward pass's precondition read at an index: queries and keys of which it holds are real numbers everywhere.
-/
module

public import proofs.«01_k».proof.Pre_finite_forward
public import proofs.«01_k».proof.Proof.Hand.Finite
public import proofs.«01_k».proof.Proof.Hand.Ref2Value

@[expose] public section

set_option maxRecDepth 16384

noncomputable section

namespace Cert.Proof.Finite2

open Idealize.ShloMosaic Idealize.ShloMosaic.ValueIdx Cert.Proof.Attn
open Cert.ReferenceIdeal.Attn (Qkv max_at)
open Cert.Reference2Ideal.Attn (Val Reads2)
open Cert.Proof.Finite (finite_at)

instance facts : Cert.Pre_finite_forward.Facts where
  bitsLt_bf16_f32 := by decide
  bcast_S_S8x8192x256 := Cert.Proof.Finite.bcast_qkv
  reducesTo_S8x8192x256_S_d0_1_2 := by decide
  h_S_ := by decide

/-- The two conjuncts. -/
theorem split (X0 X1 : Qkv) (X2 : Val) (h : Cert.Pre_finite_forward.fn (F := Ideal) X0 X1 X2 = fun _ => 1#1) :
    (∀ i, X0 i = ((X0 i : EReal).toReal : EReal)) ∧ (∀ i, X1 i = ((X1 i : EReal).toReal : EReal)) := by
  have hj := congrFun h (Shape.Idx.first facts.h_S_)
  unfold Cert.Pre_finite_forward.fn at hj
  dsimp only at hj
  obtain ⟨h0, h1⟩ := IntOp.andi_eq_one.mp hj
  exact ⟨finite_at (s := Cert.Pre_finite.S8x8192x256) (φ := .bf16) X0 h0, finite_at (s := Cert.Pre_finite.S8x8192x256) (φ := .bf16) X1 h1⟩

/-- Queries and keys of which the precondition holds read as reals, the rows' maxima with them. -/
theorem reads (X0 X1 : Qkv) (X2 : Val) (h : Cert.Pre_finite_forward.fn (F := Ideal) X0 X1 X2 = fun _ => 1#1) :
    ∃ x : Fin 8 → Head, Reads2 X0 X1 x
      ∧ ∀ h i, Cert.ReferenceIdeal.Read.val_main_v16 X0 X1 (ix2 h i) = (((x h).m i : ℝ) : EReal) := by
  obtain ⟨h0, h1⟩ := split X0 X1 X2 h
  have H : ∀ μ : Fin 8 → Fin 8192 → ℝ, Reads2 X0 X1 (fun h =>
      { q := fun i c => (X0 (ix3 h i c) : EReal).toReal, k := fun i c => (X1 (ix3 h i c) : EReal).toReal,
        v := fun _ _ => 0, o := fun _ _ => 0, m := μ h }) :=
    fun μ => ⟨fun h i c => h0 _, fun h i c => h1 _⟩
  choose μ hμ using fun h i => max_at (H fun _ _ => 0).full h i
  exact ⟨_, H μ, hμ⟩

end Cert.Proof.Finite2

end
-- ==== Proof.Hand.FwdReals.lean ====
/-
  The forward pass of one head, over real queries and keys and any values: the running base-2 exponentials relative to any
  shift, and the two results they make, in which the shift cancels.
-/
module

public import proofs.«01_k».proof.Proof.Hand.IdealValue

@[expose] public section

noncomputable section

namespace Cert.Proof.Attn

/-- The scores' factor in base 2. -/
def scale2 : ℝ := scale * (Real.log 2)⁻¹

theorem log_two_pos : 0 < Real.log 2 := Real.log_pos (by norm_num)

theorem scale_pos : 0 < scale := inv_pos.mpr (Real.sqrt_pos.mpr (by norm_num))

theorem scale2_pos : 0 < scale2 := mul_pos scale_pos (inv_pos.mpr log_two_pos)

/-- A positive real times a sum of extended reals. -/
theorem pos_mul_sum {ι : Type*} (s : Finset ι) {c : ℝ} (hc : 0 < c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc.le) (EReal.coe_ne_top c), ih]

/-- A head's values, which need not be real, and ones beside them. -/
def valsOf (w : Fin 8192 → Fin 128 → EReal) (j : Fin 8192) (d : Fin 256) : EReal := if h : d.val < 128 then w j ⟨d.val, h⟩ else 1

namespace Head
variable (x : Head)

/-- The unscaled score. -/
def raw (i j : Fin 8192) : ℝ := ∑ c, x.q i c * x.k j c
/-- The base-2 exponential relative to the shift `M`, zero past the diagonal. -/
def wt2 (M : ℝ) (i j : Fin 8192) : ℝ := if j ≤ i then Real.rpow 2 ((x.raw i j - M) * scale2) else 0
/-- A key block's part of the accumulator. -/
def term (w : Fin 8192 → Fin 128 → EReal) (M : ℝ) (i : Fin 8192) (d : Fin 256) (b : Fin 16) : EReal :=
  ∑ s, (x.wt2 M i (row b s) : EReal) * valsOf w (row b s) d

variable {x} {w : Fin 8192 → Fin 128 → EReal}

theorem rpow_two (a : ℝ) : Real.rpow 2 a = Real.exp (Real.log 2 * a) := by
  rw [Real.rpow_eq_pow, Real.rpow_def_of_pos (by norm_num)]

theorem wt2_shift (M M' : ℝ) (i j : Fin 8192) : Real.rpow 2 ((M - M') * scale2) * x.wt2 M i j = x.wt2 M' i j := by
  unfold wt2
  split
  · rw [rpow_two, rpow_two, rpow_two, ← Real.exp_add]; congr 1; ring
  · rw [mul_zero]

theorem rpow_two_pos (a : ℝ) : 0 < Real.rpow 2 a := by rw [rpow_two]; exact Real.exp_pos _

theorem term_shift (M M' : ℝ) (i : Fin 8192) (d : Fin 256) (b : Fin 16) :
    ((Real.rpow 2 ((M - M') * scale2) : ℝ) : EReal) * x.term w M i d b = x.term w M' i d b := by
  unfold term
  rw [pos_mul_sum _ (rpow_two_pos _)]
  exact Finset.sum_congr rfl fun s _ => by rw [← mul_assoc, ← EReal.coe_mul, wt2_shift]

theorem upto_shift (M M' : ℝ) (i : Fin 8192) (d : Fin 256) (n : ℕ) :
    ((Real.rpow 2 ((M - M') * scale2) : ℝ) : EReal) * upto (x.term w M i d) n = upto (x.term w M' i d) n := by
  unfold upto
  rw [pos_mul_sum _ (rpow_two_pos _)]
  refine Finset.sum_congr rfl fun b _ => ?_
  split
  · exact term_shift M M' i d b
  · rw [mul_zero]

theorem wt2_eq (M : ℝ) (i j : Fin 8192) : x.wt2 M i j = x.e i j * Real.exp (x.m i - M * scale) := by
  unfold wt2 e
  split
  · rw [rpow_two, ← Real.exp_add]
    congr 1
    have h2 : Real.log 2 ≠ 0 := log_two_pos.ne'
    unfold scale2 sc raw
    field_simp
    ring
  · rw [zero_mul]

theorem term_later (M : ℝ) {b b' : Fin 16} (h : b < b') (r : Fin 512) (d : Fin 256) : x.term w M (row b r) d b' = 0 :=
  Finset.sum_eq_zero fun s _ => by
    have : x.wt2 M (row b r) (row b' s) = 0 := if_neg (row_not_le_of_lt h s r)
    rw [this, EReal.coe_zero, zero_mul]

/-- Up to the diagonal block, the accumulator is the sum over all keys. -/
theorem upto_diag (M : ℝ) (b : Fin 16) (r : Fin 512) (d : Fin 256) :
    upto (x.term w M (row b r) d) (b.val + 1) = ∑ j, (x.wt2 M (row b r) j : EReal) * valsOf w j d := by
  rw [sum_rows]
  refine Finset.sum_congr rfl fun b' _ => ?_
  split
  · rfl
  · rename_i h
    exact (term_later M (show b.val < b'.val by omega) r d).symm

theorem sum_wt2 (M : ℝ) (i : Fin 8192) : ∑ j, x.wt2 M i j = x.l i * Real.exp (x.m i - M * scale) := by
  unfold l
  rw [Finset.sum_mul]
  exact Finset.sum_congr rfl fun j _ => wt2_eq M i j

theorem sum_wt2_pos (M : ℝ) (i : Fin 8192) : 0 < ∑ j, x.wt2 M i j := by
  rw [sum_wt2]; exact mul_pos (x.l_pos i) (Real.exp_pos _)

theorem out_eq (M : ℝ) (i : Fin 8192) (d : Fin 128) :
    Idealize.ShloMosaic.Ideal.div (∑ j, (x.wt2 M i j : EReal) * w j d) ((∑ j, x.wt2 M i j : ℝ) : EReal) = ∑ j, (x.p i j : EReal) * w j d := by
  have hl := sum_wt2_pos (x := x) M i
  have hd : ∀ n : EReal, Idealize.ShloMosaic.Ideal.div n ((∑ j, x.wt2 M i j : ℝ) : EReal) = (((∑ j, x.wt2 M i j)⁻¹ : ℝ) : EReal) * n := fun n => by
    unfold Idealize.ShloMosaic.Ideal.div
    rw [if_neg (by exact_mod_cast hl.ne'), ← EReal.coe_inv, mul_comm]
  rw [hd, pos_mul_sum _ (inv_pos.mpr hl)]
  refine Finset.sum_congr rfl fun j _ => ?_
  rw [← mul_assoc, ← EReal.coe_mul]
  refine congrArg (fun t : ℝ => (t : EReal) * w j d) ?_
  rw [sum_wt2, wt2_eq]
  have h1 := (x.l_pos i).ne'
  have h2 := (Real.exp_pos (x.m i - M * scale)).ne'
  unfold p
  field_simp

theorem lse_eq (M : ℝ) (i : Fin 8192) : M * scale2 + Real.log (∑ j, x.wt2 M i j) * (Real.log 2)⁻¹ = x.lse i := by
  rw [sum_wt2, Real.log_mul (x.l_pos i).ne' (Real.exp_pos _).ne', Real.log_exp]
  have h2 : Real.log 2 ≠ 0 := log_two_pos.ne'
  unfold lse scale2
  field_simp
  ring

theorem vals_lt (j : Fin 8192) (d : Fin 128) (h : d.val < 256) : valsOf w j ⟨d.val, h⟩ = w j d := dif_pos d.isLt
theorem vals_ge (j : Fin 8192) {d : Fin 256} (h : 128 ≤ d.val) : valsOf w j d = 1 := dif_neg (by omega)

end Head

end Cert.Proof.Attn

end
-- ==== Proof.Hand.FwdPay.lean ====
/-
  The forward kernel's payloads read at an index, over queries and keys that read as reals.
-/
module

public import proofs.«01_k».proof.Proof.Hand.FwdState
public import proofs.«01_k».proof.Proof.Hand.FwdReals
public import Idealize.ShloMosaic.Lib.ValueLayoutCasts

@[expose] public section

set_option maxRecDepth 16384

noncomputable section

namespace Cert.Proof.Kernel2Ideal

open Cert.Kernel2Ideal Cert.Kernel2Ideal.Gen Idealize.ShloMosaic Idealize.ShloMosaic.TcCoe Idealize.ShloMosaic.ValueIdx Cert.Proof.Attn
open Cert.Proof.KernelIdeal (mul_at mulT_at zero_at)

theorem named_scale2 : Named.named (F := Ideal) κ "scale2" (φ := .f32) 0x3DD53B95#32 = (scale2 : EReal) := rfl
theorem named_log2e : Named.named (F := Ideal) κ "log2e" (φ := .f32) 0x3FB8AA3B#32 = (((Real.log 2)⁻¹ : ℝ) : EReal) := rfl

/-- One column broadcast over the columns. -/
theorem col_at {α : Type} {a b : ℕ} (x : (⟨2, ![a, 1]⟩ : Shape).Idx → α) (h : (⟨2, ![a, 1]⟩ : Shape).Broadcasts ⟨2, ![a, b]⟩)
    (i : Fin a) (j : Fin b) (ha : a ≠ 1) : broadcastTo ⟨2, ![a, b]⟩ x h (ix2 i j) = x (ix2 i 0) :=
  broadcastTo_apply x h _ _ fun c => match c with
    | ⟨0, _⟩ => (if_neg ha).symm
    | ⟨1, _⟩ => rfl

/-! ## The scores -/

theorem pay10_at (Q K : Vec Ideal S1x512x256 .bf16) (r s : Fin 512) (q k : Fin 256 → ℝ) (hQ : ∀ c, Q (ix3 0 r c) = (q c : EReal))
    (hK : ∀ c, K (ix3 0 s c) = (k c : EReal)) : k0_pay10 (k0_pay26 Q) K (ix2 r s) = ((∑ c, q c * k c : ℝ) : EReal) := by
  unfold k0_pay10
  refine (shapeCast_apply _ shapeCasts_S512x512_S512x512 (ix2 r s) (ix2 r s) rfl).trans ?_
  exact mulT_at (M := 512) (K := 256) (N := 512) (k0_pay26 Q) _ q k r s
    (fun c => (shapeCast_1ab_ab_apply Q _ r c).trans (hQ c)) (fun c => (shapeCast_1ab_ab_apply K _ s c).trans (hK c))

theorem pay27_at (j : S512x1.Idx) : k0_pay27 (F := Ideal) j = (⊥ : EReal) := ofBits_bot
theorem pay28_at (j : S512x256.Idx) : k0_pay28 (F := Ideal) j = (0 : EReal) := Ideal.ofBits_zero_f32

/-- The diagonal block's scores, `−∞` past the diagonal. -/
theorem pay16_at (S : Vec Ideal S512x512 .f32) (r s : Fin 512) : k0_pay16 S (ix2 r s) = if s ≤ r then S (ix2 r s) else (⊥ : EReal) := by
  have hc : cmpi .sge (iota .tc S512x512 32 [0] iota_S512x512_d0_w32) (iota .tc S512x512 32 [1] iota_S512x512_d1_w32) (ix2 r s) = BitVec.ofBool (decide (s ≤ r)) := by
    show IntOp.cmpi .sge (BitVec.ofNat 32 (0 * 512 + r.val)) (BitVec.ofNat 32 (0 * 512 + s.val)) = _
    rw [Nat.zero_mul, Nat.zero_add, Nat.zero_add]
    exact WordCmp.cmpi_sge_ofNat (by omega) (by omega)
  unfold k0_pay16
  rw [select_apply, hc]
  by_cases hm : s ≤ r
  · rw [decide_eq_true hm, if_pos hm]; rfl
  · rw [decide_eq_false hm, if_neg hm]; exact ofBits_bot

/-! ## The maximum -/

theorem rowmax_at (S : FVec Ideal S512x512 .f32) (r : Fin 512) :
    multiReduction .maximumf [1] S512 S 0xFF800000#32 reduces_S512x512_S512 (.inl rfl) rfl (ix1 r)
      = (Finset.univ : Finset (Fin 512)).fold max (⊥ : EReal) (fun s => S (ix2 r s)) := by
  have hl : ∀ s : Fin 512, reduces_S512x512_S512.lift (ix1 r) s = ix2 r s := fun s => by
    funext a; match a with | ⟨0, _⟩ => rfl | ⟨1, _⟩ => rfl
  have h0 := Ideal.multiReduction_maximumf_single (φ := .f32) S 0xFF800000#32 reduces_S512x512_S512 (.inl rfl) rfl (ix1 r)
  refine h0.trans ?_
  have hf : S ∘ reduces_S512x512_S512.lift (ix1 r) = fun s => S (ix2 r s) := funext fun s => congrArg S (hl s)
  have hb : (FloatOps.ofBits (F := Ideal) .f32 0xFF800000#32 : EReal) = ⊥ := ofBits_bot
  rw [hf, hb]
  rfl

theorem pay11_at (A : FVec Ideal S512x1 .f32) (S : Vec Ideal S512x512 .f32) (r : Fin 512) (hA : A (ix2 r 0) < (⊤ : EReal))
    (hS : ∀ s, S (ix2 r s) < (⊤ : EReal)) (h : ∃ s, (⊥ : EReal) < S (ix2 r s)) : ∃ M : ℝ, k0_pay11 A S (ix2 r 0) = (M : EReal) := by
  have hm : k0_pay11 A S (ix2 r 0) = max (A (ix2 r 0)) ((Finset.univ : Finset (Fin 512)).fold max (⊥ : EReal) (fun s => S (ix2 r s))) := by
    unfold k0_pay11
    exact congrArg (fun b : EReal => max (A (ix2 r 0)) b) ((shapeCast_a_a1_apply _ shapeCasts_S512_S512x1 r 0).trans (rowmax_at S r))
  obtain ⟨s, hs⟩ := h
  have h1 : (k0_pay11 A S (ix2 r 0) : EReal) < ⊤ := by
    rw [hm]; exact max_lt hA ((Finset.fold_max_lt _).mpr ⟨bot_lt_top, fun s _ => hS s⟩)
  have h2 : (⊥ : EReal) < k0_pay11 A S (ix2 r 0) := by
    rw [hm]; exact lt_max_of_lt_right ((Finset.lt_fold_max _).mpr (.inr ⟨s, Finset.mem_univ s, hs⟩))
  exact ⟨EReal.toReal (k0_pay11 A S (ix2 r 0)), (EReal.coe_toReal h1.ne h2.ne').symm⟩

/-! ## The accumulator -/

theorem pay12_at (A : FVec Ideal S512x1 .f32) (B : FVec Ideal S512x256 .f32) (S : Vec Ideal S512x512 .f32) (V : Vec Ideal S1x512x256 .bf16)
    (r : Fin 512) (d : Fin 256) (w : Fin 512 → ℝ) (v : Fin 512 → EReal)
    (hW : ∀ s, Ideal.exp2 ((S (ix2 r s) - k0_pay11 A S (ix2 r 0) : EReal) * (scale2 : EReal)) = (w s : EReal))
    (hV : ∀ s, V (ix3 0 s d) = v s) :
    k0_pay12 A B S V (ix2 r d) = Ideal.exp2 ((A (ix2 r 0) - k0_pay11 A S (ix2 r 0) : EReal) * (scale2 : EReal)) * B (ix2 r d)
      + ∑ s, (w s : EReal) * v s := by
  unfold k0_pay12
  refine congrArg₂ (fun a b : EReal => a + b) (congrArg (fun a : EReal => a * B (ix2 r d)) ?_) ?_
  · exact col_at _ broadcasts_S512x1_S512x256 r d (by decide)
  · refine (Ideal.matmul_plain_apply none (M := 512) (K := 512) (N := 256) _ _ _ r d).trans ?_
    rw [zero_at, zero_add]
    refine Finset.sum_congr rfl fun s _ => congrArg₂ (fun a b : EReal => a * b) ?_ ((shapeCast_1ab_ab_apply V _ s d).trans (hV s))
    refine Eq.trans ?_ (hW s)
    exact congrArg (fun a : EReal => Ideal.exp2 ((S (ix2 r s) - a) * (scale2 : EReal)))
      (col_at (k0_pay11 A S) broadcasts_S512x1_S512x512 r s (by decide))

/-! ## The results -/

theorem pay17_eq (A : FVec Ideal S512x1 .f32) (S : Vec Ideal S512x512 .f32) : k0_pay17 A S = k0_pay11 A (k0_pay16 S) := rfl
theorem pay18_eq (A : FVec Ideal S512x1 .f32) (B : FVec Ideal S512x256 .f32) (S : Vec Ideal S512x512 .f32) (V : Vec Ideal S1x512x256 .bf16) :
    k0_pay18 A B S V = k0_pay12 A B (k0_pay16 S) V := rfl

theorem pay19_at (A : FVec Ideal S512x1 .f32) (B : FVec Ideal S512x256 .f32) (S : Vec Ideal S512x512 .f32) (V : Vec Ideal S1x512x256 .bf16)
    (r : Fin 512) (d : Fin 128) :
    k0_pay19 A B S V (ix2 r d) = k0_pay12 A B (k0_pay16 S) V (ix2 r ⟨128 + d.val, by omega⟩) := by
  unfold k0_pay19
  refine (extractStridedSlice_apply ![0, 128] _ slices_S512x256_o0_128_S512x128 (ix2 r d) (ix2 r ⟨128 + d.val, by omega⟩) fun a => ?_).trans
    (congrFun (pay18_eq A B S V) _)
  match a with
  | ⟨0, _⟩ => exact (Nat.zero_add _).symm
  | ⟨1, _⟩ => rfl

theorem pay20_at (A : FVec Ideal S512x1 .f32) (B : FVec Ideal S512x256 .f32) (S : Vec Ideal S512x512 .f32) (V : Vec Ideal S1x512x256 .bf16)
    (r : Fin 512) (d : Fin 128) (n l : EReal) (hn : k0_pay12 A B (k0_pay16 S) V (ix2 r ⟨d.val, by omega⟩) = n)
    (hd : k0_pay12 A B (k0_pay16 S) V (ix2 r ⟨128 + d.val, by omega⟩) = l) :
    k0_pay20 A B S V (ix2 r d) = Ideal.div n l := by
  have hz : extractStridedSlice S512x128 ![0, 0] (k0_pay18 A B S V) slices_S512x256_o0_0_S512x128 (ix2 r d) = n := by
    rw [pay18_eq]
    refine Eq.trans (extractStridedSlice_apply ![0, 0] _ slices_S512x256_o0_0_S512x128 (ix2 r d) (ix2 r ⟨d.val, by omega⟩) fun a => ?_) hn
    match a with
    | ⟨0, _⟩ => exact (Nat.zero_add _).symm
    | ⟨1, _⟩ => exact (Nat.zero_add _).symm
  have hw : k0_pay19 A B S V (ix2 r d) = l := (pay19_at A B S V r d).trans hd
  unfold k0_pay20
  exact congrArg₂ Ideal.div hz hw

theorem pay21_at (A : FVec Ideal S512x1 .f32) (B : FVec Ideal S512x256 .f32) (S : Vec Ideal S512x512 .f32) (V : Vec Ideal S1x512x256 .bf16)
    (u : Fin 8) (r : Fin 512) (M l : ℝ) (hl : 0 < l) (hM : k0_pay11 A (k0_pay16 S) (ix2 r 0) = (M : EReal))
    (hd : k0_pay12 A B (k0_pay16 S) V (ix2 r ⟨128 + u.val, by omega⟩) = (l : EReal)) :
    k0_pay4 (k0_pay21 A B S V) (ix4 0 0 u r) = ((M * scale2 + Real.log l * (Real.log 2)⁻¹ : ℝ) : EReal) := by
  unfold k0_pay4 k0_pay21
  have hu : u.val < 128 := by omega
  refine (shapeCast_apply _ shapeCasts_S8x512_S1x1x8x512 (ix4 0 0 u r) (ix2 u r) ?_).trans ?_
  · rw [Shape.rowMajor_val_four, Shape.rowMajor_val_two]
    show u.val * _ + r.val = ((0 * _ + 0) * _ + u.val) * _ + r.val
    simp
  refine (extractStridedSlice_apply ![0, 0] _ slices_S128x512_o0_0_S8x512 (ix2 u r) (ix2 (⟨u.val, hu⟩ : Fin 128) r) fun a => ?_).trans ?_
  · match a with
    | ⟨0, _⟩ => exact (Nat.zero_add _).symm
    | ⟨1, _⟩ => exact (Nat.zero_add _).symm
  refine (transpose_ix2_apply _ transposes_S512x128_p1_0_S128x512 (⟨u.val, hu⟩ : Fin 128) r).trans ?_
  refine (congrArg₂ (fun a b : EReal => a + b) ((col_at _ broadcasts_S512x1_S512x128 r (⟨u.val, hu⟩ : Fin 128) (by decide)).trans
    (congrArg (fun a : EReal => a * (scale2 : EReal)) hM))
    (congrArg (fun a : EReal => Ideal.log a * (((Real.log 2)⁻¹ : ℝ) : EReal)) ((pay19_at A B S V r (⟨u.val, hu⟩ : Fin 128)).trans hd))).trans ?_
  rw [Ideal.log_coe, if_neg (not_le.mpr hl), ← EReal.coe_mul, ← EReal.coe_mul, ← EReal.coe_add]

end Cert.Proof.Kernel2Ideal

end
-- ==== Proof.Hand.FwdValue.lean ====
/-
  What the forward pass leaves of one query block, over queries and keys that read as the reals of one
  head: its attention and its log-sums.
-/
module

public import proofs.«01_k».proof.Proof.Hand.FwdPay

@[expose] public section

set_option maxRecDepth 16384

noncomputable section

namespace Cert.Proof.Kernel2Ideal

open Cert.Kernel2Ideal Cert.Kernel2Ideal.Gen Idealize.ShloMosaic Idealize.ShloMosaic.TcCoe Idealize.ShloMosaic.ValueIdx Cert.Proof.Attn

variable (x : Head) (w : Fin 8192 → Fin 128 → EReal)

/-- The row's running maximum and accumulator after `n` key blocks: nothing yet, or the sums relative to a real shift. -/
def Run (i : Fin 8192) (n : ℕ) (m : EReal) (a : Fin 256 → EReal) : Prop :=
  (n = 0 ∧ m = ⊥ ∧ ∀ d, a d = 0) ∨ ∃ M : ℝ, m = (M : EReal) ∧ ∀ d, a d = upto (x.term w M i d) n

variable {x} {w : Fin 8192 → Fin 128 → EReal}

theorem Run.lt_top {i : Fin 8192} {n : ℕ} {m : EReal} {a : Fin 256 → EReal} (h : Run x w i n m a) : m < ⊤ := by
  rcases h with ⟨_, h, _⟩ | ⟨M, h, _⟩
  · rw [h]; exact bot_lt_top
  · rw [h]; exact EReal.coe_lt_top M

/-- A score's exponential relative to a real shift. -/
theorem exp2_at (M : ℝ) (i j : Fin 8192) :
    Ideal.exp2 (((if j ≤ i then (x.raw i j : EReal) else ⊥) - (M : EReal)) * (scale2 : EReal)) = (x.wt2 M i j : EReal) := by
  unfold Head.wt2
  split
  · rw [← EReal.coe_sub, ← EReal.coe_mul, Ideal.exp2_coe]
  · rw [EReal.bot_sub, EReal.bot_mul_coe_of_pos scale2_pos, Ideal.exp2_bot, EReal.coe_zero]

/-- One more key block. -/
theorem Run.step {i : Fin 8192} {n : ℕ} {m : EReal} {a : Fin 256 → EReal} (h : Run x w i n m a) (hn : n < 16) (M : ℝ) :
    Run x w i (n + 1) (M : EReal) fun d => Ideal.exp2 ((m - (M : EReal)) * (scale2 : EReal)) * a d + x.term w M i d ⟨n, hn⟩ := by
  refine Or.inr ⟨M, rfl, fun d => ?_⟩
  show Ideal.exp2 ((m - (M : EReal)) * (scale2 : EReal)) * a d + _ = _
  rw [upto_succ _ hn]
  rcases h with ⟨h0, hm, ha⟩ | ⟨M', hm, ha⟩
  · subst h0
    rw [ha d, mul_zero, zero_add, upto_none _ (fun b hb => absurd hb (Nat.not_lt_zero _)), zero_add]
  · rw [hm, ha d, ← EReal.coe_sub, ← EReal.coe_mul, Ideal.exp2_coe, Head.upto_shift]

/-! ## Blocks of one head -/

/-- The three blocks: query block `b` and the keys read as reals, and the values with the ones beside them. -/
structure Blocks (x : Head) (w : Fin 8192 → Fin 128 → EReal) (b : Fin 16) (q : Vec Ideal S1x512x256 .bf16) (k v : Vec Ideal S1x8192x256 .bf16) : Prop where
  q : ∀ r c, q (ix3 0 r c) = (x.q (row b r) c : EReal)
  k : ∀ j c, k (ix3 0 j c) = (x.k j c : EReal)
  v : ∀ j d, v (ix3 0 j d) = valsOf w j d

theorem ldk_at (k : Vec Ideal S1x8192x256 .bf16) {n : ℕ} (hn : n < 16) (s : Fin 512) (c : Fin 256) :
    View.ld k (kR n) (ix3 0 s c) = k (ix3 0 (row ⟨n, hn⟩ s) c) := by
  refine congrArg k (ext3 _ 0 (row ⟨n, hn⟩ s) c rfl ?_ (by show 0 + 1 * c.val = c.val; omega))
  show 512 * (n % 16) + 1 * s.val = 512 * n + s.val
  rw [Nat.mod_eq_of_lt hn, Nat.one_mul]

variable {b : Fin 16} {q : Vec Ideal S1x512x256 .bf16} {k v : Vec Ideal S1x8192x256 .bf16}

theorem sc_at (h : Blocks x w b q k v) {n : ℕ} (hn : n < 16) (r s : Fin 512) :
    sc q k n (ix2 r s) = (x.raw (row b r) (row ⟨n, hn⟩ s) : EReal) :=
  pay10_at q (View.ld k (kR n)) r s _ _ (h.q r) fun c => (ldk_at k hn s c).trans (h.k _ c)

/-- One key block's update of a row, at scores masked or not. -/
theorem update_at (h : Blocks x w b q k v) {n : ℕ} (hn : n < 16) (r : Fin 512) (A : FVec Ideal S512x1 .f32) (B : FVec Ideal S512x256 .f32)
    (S : Vec Ideal S512x512 .f32) (hr : Run x w (row b r) n (A (ix2 r 0)) fun d => B (ix2 r d))
    (hS : ∀ s, S (ix2 r s) = if row ⟨n, hn⟩ s ≤ row b r then (x.raw (row b r) (row ⟨n, hn⟩ s) : EReal) else ⊥)
    (hs : ∃ s, row ⟨n, hn⟩ s ≤ row b r) :
    ∃ M : ℝ, k0_pay11 A S (ix2 r 0) = (M : EReal)
      ∧ ∀ d, k0_pay12 A B S (View.ld v (kR n)) (ix2 r d) = upto (x.term w M (row b r) d) (n + 1) := by
  obtain ⟨M, hM⟩ := pay11_at A S r hr.lt_top
    (fun s => by rw [hS s]; split <;> [exact EReal.coe_lt_top _; exact bot_lt_top])
    (by obtain ⟨s, hs⟩ := hs; exact ⟨s, by rw [hS s, if_pos hs]; exact EReal.bot_lt_coe _⟩)
  refine ⟨M, hM, fun d => ?_⟩
  have hw : ∀ s, Ideal.exp2 ((S (ix2 r s) - k0_pay11 A S (ix2 r 0) : EReal) * (scale2 : EReal))
      = (x.wt2 M (row b r) (row ⟨n, hn⟩ s) : EReal) := fun s => by
    rw [hM, hS s]; exact exp2_at M _ _
  have hp := pay12_at A B S (View.ld v (kR n)) r d _ _ hw (fun s => (ldk_at v hn s d).trans (h.v _ d))
  rw [hM] at hp
  refine hp.trans ?_
  rcases hr.step hn M with ⟨h0, _, _⟩ | ⟨M', hM', ha⟩
  · exact absurd h0 (Nat.succ_ne_zero n)
  · have : M = M' := EReal.coe_injective hM'
    rw [this] at ha ⊢
    exact ha d

theorem tiles_at (h : Blocks x w b q k v) (r : Fin 512) :
    ∀ n : ℕ, n ≤ b.val → Run x w (row b r) n ((tiles q k v n).1 (ix2 r 0)) fun d => (tiles q k v n).2 (ix2 r d)
  | 0, _ => Or.inl ⟨rfl, pay27_at (ix2 r 0), fun d => pay28_at (ix2 r d)⟩
  | n + 1, hb => by
    have hn : n < 16 := by omega
    have hlt : (⟨n, hn⟩ : Fin 16) < b := show n < b.val by omega
    have hS : ∀ s, sc q k n (ix2 r s) = if row ⟨n, hn⟩ s ≤ row b r then (x.raw (row b r) (row ⟨n, hn⟩ s) : EReal) else ⊥ := fun s => by
      rw [if_pos (row_le_of_lt hlt s r)]; exact sc_at h hn r s
    obtain ⟨M, hM, ha⟩ := update_at h hn r (tiles q k v n).1 (tiles q k v n).2 (sc q k n) (tiles_at h r n (by omega)) hS
      ⟨0, row_le_of_lt hlt 0 r⟩
    exact Or.inr ⟨M, hM, ha⟩

theorem diag_at (h : Blocks x w b q k v) (r : Fin 512) :
    ∃ M : ℝ, k0_pay11 (tiles q k v b.val).1 (k0_pay16 (sc q k b.val)) (ix2 r 0) = (M : EReal)
      ∧ ∀ d, k0_pay12 (tiles q k v b.val).1 (tiles q k v b.val).2 (k0_pay16 (sc q k b.val)) (View.ld v (kR b.val)) (ix2 r d)
          = ∑ j, (x.wt2 M (row b r) j : EReal) * valsOf w j d := by
  have hS : ∀ s, k0_pay16 (sc q k b.val) (ix2 r s) = if row ⟨b.val, b.isLt⟩ s ≤ row b r then (x.raw (row b r) (row ⟨b.val, b.isLt⟩ s) : EReal) else ⊥ := fun s => by
    refine (pay16_at _ r s).trans ?_
    by_cases hm : s ≤ r
    · rw [if_pos hm, if_pos ((row_le_iff s r).mpr hm)]; exact sc_at h b.isLt r s
    · rw [if_neg hm, if_neg (fun hh => hm ((row_le_iff s r).mp hh))]
  obtain ⟨M, hM, ha⟩ := update_at h b.isLt r _ _ _ (tiles_at h r b.val le_rfl) hS ⟨r, le_rfl⟩
  exact ⟨M, hM, fun d => (ha d).trans (Head.upto_diag M b r d)⟩

/-! ## The two results -/

theorem outO_at (h : Blocks x w b q k v) (r : Fin 512) (d : Fin 128) :
    outO q k v b.val (ix2 r d) = ∑ j, (x.p (row b r) j : EReal) * w j d := by
  obtain ⟨M, _, ha⟩ := diag_at h r
  have h1 := ha ⟨d.val, by omega⟩
  have h2 := ha ⟨128 + d.val, by omega⟩
  have e1 : ∑ j, (x.wt2 M (row b r) j : EReal) * valsOf w j ⟨d.val, by omega⟩ = ∑ j, (x.wt2 M (row b r) j : EReal) * w j d :=
    Finset.sum_congr rfl fun j _ => by rw [Head.vals_lt j d (by omega)]
  have e2 : ∑ j, (x.wt2 M (row b r) j : EReal) * valsOf w j ⟨128 + d.val, by omega⟩ = ((∑ j, x.wt2 M (row b r) j : ℝ) : EReal) := by
    rw [← coe_sum]
    exact Finset.sum_congr rfl fun j _ => by rw [Head.vals_ge j (show 128 ≤ 128 + d.val by omega), mul_one]
  rw [e1] at h1
  rw [e2] at h2
  have := pay20_at _ _ (sc q k b.val) _ r d _ _ h1 h2
  rw [Head.out_eq] at this
  exact this

theorem outL_at (h : Blocks x w b q k v) (u : Fin 8) (r : Fin 512) : outL q k v b.val (ix4 0 0 u r) = (x.lse (row b r) : EReal) := by
  obtain ⟨M, hM, ha⟩ := diag_at h r
  have h2 := ha ⟨128 + u.val, by omega⟩
  have e2 : ∑ j, (x.wt2 M (row b r) j : EReal) * valsOf w j ⟨128 + u.val, by omega⟩ = ((∑ j, x.wt2 M (row b r) j : ℝ) : EReal) := by
    rw [← coe_sum]
    exact Finset.sum_congr rfl fun j _ => by rw [Head.vals_ge j (show 128 ≤ 128 + u.val by omega), mul_one]
  rw [e2] at h2
  have := pay21_at _ _ (sc q k b.val) _ u r M _ (Head.sum_wt2_pos M (row b r)) hM h2
  rw [Head.lse_eq] at this
  exact this

end Cert.Proof.Kernel2Ideal

end
-- ==== Proof.Hand.FwdArray.lean ====
/-
  The forward pass's arrays after its run, over queries and keys that read as reals: every element is the attention,
  or the log-sum, of its head and row.
-/
module

public import proofs.«01_k».proof.Proof.Hand.FwdFrame
public import proofs.«01_k».proof.Proof.Hand.FwdValue
public import proofs.«01_k».proof.Proof.Hand.Ref2Value
public import Idealize.ShloMosaic.Lib.Pipeline.ValueKit.Geometry

@[expose] public section

set_option maxRecDepth 16384

noncomputable section

namespace Cert.Proof.Kernel2Ideal

open Cert.Kernel2Ideal Cert.Kernel2Ideal.Gen Idealize.ShloMosaic Idealize.ShloMosaic.TcCoe Idealize.ShloMosaic.ValueIdx Cert.Proof.Attn
open Cert.Reference2Ideal.Attn (Reads2 headOf partOf headOf_chan partOf_chan)
open Idealize.ShloMosaic.Pipeline (Dat Cfg Window)

/-! ## The windows' places -/

theorem idx0 : ∀ t : Fin cfg0.N, win0_0.index t = ![t.val / 16, t.val % 16, 0] := (by decide +kernel : ∀ t : Fin grid0.N, _)
theorem idx1 : ∀ t : Fin cfg0.N, win0_1.index t = ![t.val / 16, 0, 0] := (by decide +kernel : ∀ t : Fin grid0.N, _)
theorem idx2 : ∀ t : Fin cfg0.N, win0_2.index t = ![t.val / 16, 0, 0] := (by decide +kernel : ∀ t : Fin grid0.N, _)
theorem idx3 : ∀ t : Fin cfg0.N, win0_3.index t = ![t.val % 16, t.val / 16] := (by decide +kernel : ∀ t : Fin grid0.N, _)
theorem idx4 : ∀ t : Fin cfg0.N, win0_4.index t = ![t.val / 16, t.val % 16, 0, 0] := (by decide +kernel : ∀ t : Fin grid0.N, _)

theorem point_lt (t : Fin cfg0.N) : t.val < 128 := t.isLt
/-- A point's head and query block. -/
def hd (t : Fin cfg0.N) : Fin 8 := ⟨t.val / 16, by have := point_lt t; omega⟩
def qb (t : Fin cfg0.N) : Fin 16 := ⟨t.val % 16, by omega⟩

variable (m : (ℓ : Loc nD τ sig) → Buf (Elt Ideal) ℓ) (c : Dev nD) (t : Fin cfg0.N)

theorem iblk0_at (r : Fin 512) (d : Fin 256) : iblk m c 0 t (ix3 0 r d) = m ((c : Thread nD τ).loc main_arg0) (ix3 (hd t) (row (qb t) r) d) := by
  refine Eq.trans ?_ (congrFun (V_main_arg0 m c) (ix3 (hd t) (row (qb t) r) d))
  refine congrArg (V m c main_arg0) (ext3 _ (hd t) (row (qb t) r) d ?_ ?_ ?_) <;> blk_simp [idx0] <;> simp [hd, qb, row, Nat.mul_comm]

theorem iblk1_at (i : Fin 8192) (d : Fin 256) : iblk m c 1 t (ix3 0 i d) = m ((c : Thread nD τ).loc main_arg1) (ix3 (hd t) i d) := by
  refine Eq.trans ?_ (congrFun (V_main_arg1 m c) (ix3 (hd t) i d))
  refine congrArg (V m c main_arg1) (ext3 _ (hd t) i d ?_ ?_ ?_) <;> blk_simp [idx1] <;> simp [hd]

theorem iblk2_at (i : Fin 8192) (d : Fin 256) : iblk m c 2 t (ix3 0 i d) = V m c main_v1 (ix3 (hd t) i d) := by
  refine congrArg (V m c main_v1) (ext3 _ (hd t) i d ?_ ?_ ?_) <;> blk_simp [idx2] <;> simp [hd]

/-! ## The values with the ones beside them -/

set_option maxHeartbeats 1000000 in
theorem V_vals : V m c main_v1 = concatenate S8x8192x256 2
    [⟨S8x8192x128, m ((c : Thread nD τ).loc main_arg2)⟩,
      ⟨S8x8192x128, broadcastInDim S8x8192x128 ![] bcast_S_S8x8192x128 (constant (F := Ideal) S_ .bf16 0x3F80#16)⟩]
    concatenates_S8x8192x128_S8x8192x128_S8x8192x256_d2 := by
  unfold V
  after_reads_simp
  rfl

theorem one_bf16 : Ideal.ofBits .bf16 0x3F80#16 = (1 : EReal) := by
  rw [← EReal.coe_one]
  simp [Ideal.ofBits, Ideal.ieee, -EReal.coe_mul]
  norm_num

theorem ones_at (j : S8x8192x128.Idx) :
    broadcastInDim S8x8192x128 ![] bcast_S_S8x8192x128 (constant (F := Ideal) S_ .bf16 0x3F80#16) j = (1 : EReal) := by
  rw [broadcastInDim_scalar_apply]; exact one_bf16

/-- The attention at a channel is its head's. -/
theorem attn_chan (x : Fin 8 → Head) (w : Fin 8 → Fin 8192 → Fin 128 → EReal) (h : Fin 8) (i : Fin 8192) (d : Fin 128) :
    ∑ j, ((x (headOf (chan h d))).p i j : EReal) * w (headOf (chan h d)) j (partOf (chan h d))
      = ∑ j, ((x h).p i j : EReal) * w h j d := by
  rw [headOf_chan, partOf_chan]

/-- The values, head by head. -/
def valOf (h : Fin 8) (j : Fin 8192) (d : Fin 128) : EReal := m ((c : Thread nD τ).loc main_arg2) (ix3 h j d)

theorem vals_at (h : Fin 8) (i : Fin 8192) (d : Fin 256) : V m c main_v1 (ix3 h i d) = valsOf (valOf m c h) i d := by
  rw [V_vals]
  unfold valsOf
  by_cases hd : d.val < 128
  · rw [dif_pos hd]
    exact concatenate_pair_apply_left (s₁ := S8x8192x128) 2 _ _ _ (ix3 h i d) rfl (ix3 h i ⟨d.val, hd⟩)
      (fun b => match b with | ⟨0, _⟩ => rfl | ⟨1, _⟩ => rfl | ⟨2, _⟩ => rfl)
  · rw [dif_neg hd]
    refine (concatenate_pair_apply_right (s₁ := S8x8192x128) (s₂ := S8x8192x128) 2 _ _ _ (ix3 h i d) rfl rfl (ix3 h i (⟨d.val - 128, by omega⟩ : Fin 128)) (fun b => ?_) ?_).trans (ones_at _)
    · match b with
      | ⟨0, _⟩ => exact fun _ => rfl
      | ⟨1, _⟩ => exact fun _ => rfl
      | ⟨2, _⟩ => exact fun hb => absurd rfl hb
    · show d.val - 128 + 128 = d.val
      omega

/-! ## A point's blocks -/

section

variable {m c} {x : Fin 8 → Head}
  (H : Reads2 (m ((c : Thread nD τ).loc main_arg0)) (m ((c : Thread nD τ).loc main_arg1)) x)

include H

theorem blocks_at (t : Fin cfg0.N) : Blocks (x (hd t)) (valOf m c (hd t)) (qb t) (iblk m c 0 t) (iblk m c 1 t) (iblk m c 2 t) where
  q r d := (iblk0_at m c t r d).trans (H.q (hd t) (row (qb t) r) d)
  k i d := (iblk1_at m c t i d).trans (H.k (hd t) i d)
  v i d := (iblk2_at m c t i d).trans (vals_at m c (hd t) i d)

/-! ## The arrays -/

theorem arr_out (i : Fin 8192) (e : Fin 1024) : (dats m 0 c).arrAt 3 cfg0.N (ix2 i e)
    = ∑ j, ((x (headOf e)).p i j : EReal) * valOf m c (headOf e) j (partOf e) := by
  refine (dats m 0 c).arrAt_forall_of_covers 3
    (fun i v => v = ∑ j, ((x (headOf (i 1))).p (i 0) j : EReal) * valOf m c (headOf (i 1)) j (partOf (i 1))) (by decide +kernel) (fun t hf y => ?_) (ix2 i e)
  have hy : y = ix2 (y 0) (y 1) := ext2 _ (y 0) (y 1) rfl rfl
  have hemb : ((cfg0.win 3).blk t).view.emb y = ix2 (row (qb t) (y 0)) (chan (hd t) (y 1)) := by
    refine ext2 _ (row (qb t) (y 0)) (chan (hd t) (y 1)) ?_ ?_ <;> blk_simp [idx3] <;> simp [hd, qb, row, chan, Nat.mul_comm]
  rw [hemb]
  have ho := outO_at (blocks_at H t) (y 0) (y 1)
  have ha : (dats m 0 c).after 3 t = outO (iblk m c 0 t) (iblk m c 1 t) (iblk m c 2 t) (qb t).val := by
    rw [after0_3, coord1 t]; rfl
  refine (congrFun ha y).trans ((congrArg _ hy).trans (ho.trans ?_))
  exact (attn_chan x (valOf m c) (hd t) (row (qb t) (y 0)) (y 1)).symm

theorem arr_lse (h : Fin 8) (b : Fin 16) (u : Fin 8) (r : Fin 512) :
    (dats m 0 c).arrAt 4 cfg0.N (ix4 h b u r) = (((x h).lse (row b r) : ℝ) : EReal) := by
  refine (dats m 0 c).arrAt_forall_of_covers 4 (fun i v => v = (((x (i 0)).lse (row (i 1) (i 3)) : ℝ) : EReal)) (by decide +kernel) (fun t hf y => ?_) (ix4 h b u r)
  have hy : y = ix4 0 0 (y 2) (y 3) := ext4 _ 0 0 (y 2) (y 3) (by have : (y 0).val < 1 := (y 0).isLt; show (y 0).val = 0; omega)
    (by have : (y 1).val < 1 := (y 1).isLt; show (y 1).val = 0; omega) rfl rfl
  have hemb : ((cfg0.win 4).blk t).view.emb y = ix4 (hd t) (qb t) (y 2) (y 3) := by
    refine ext4 _ (hd t) (qb t) (y 2) (y 3) ?_ ?_ ?_ ?_ <;> blk_simp [idx4] <;> simp [hd, qb]
  rw [hemb]
  have ho := outL_at (blocks_at H t) (y 2) (y 3)
  have ha : (dats m 0 c).after 4 t = outL (iblk m c 0 t) (iblk m c 1 t) (iblk m c 2 t) (qb t).val := by
    rw [after0_4, coord1 t]; rfl
  exact (congrFun ha y).trans ((congrArg _ hy).trans ho)

end

end Cert.Proof.Kernel2Ideal

end
-- ==== Proof.Hand.FwdClaim.lean ====
/-
  The equality of the forward pass and its reference over the extended reals: both leave the attention and the
  log-sums of the same queries, keys and values.
-/
module

public import proofs.«01_k».proof.Defs
public import proofs.«01_k».proof.Proof.Hand.FwdArray
public import proofs.«01_k».proof.Proof.Hand.Finite2
public import proofs.«01_k».proof.Proof.Gen.Reference2Ideal.Run

@[expose] public section

set_option maxRecDepth 16384

noncomputable section

namespace Cert.Proof.Kernel2Ideal

open Cert.Kernel2Ideal Cert.Kernel2Ideal.Gen Idealize.ShloMosaic Idealize.ShloMosaic.TcCoe Idealize.ShloMosaic.ValueIdx Idealize.SL.Sem Cert.Proof.Attn
open Cert.ReferenceIdeal.Attn (Qkv)
open Cert.Reference2Ideal.Attn (Val Reads2 headOf partOf chan_of out_at lse_at)
open Cert.Reference2Ideal.Read (val_main_v52 val_main_v54)

variable (m : (ℓ : Loc nD τ sig) → Buf (Elt Ideal) ℓ) (c : Dev nD)

/-- The arguments, named. -/
abbrev A0 : Qkv := m ((c : Thread nD τ).loc main_arg0)
abbrev A1 : Qkv := m ((c : Thread nD τ).loc main_arg1)
abbrev A2 : Val := m ((c : Thread nD τ).loc main_arg2)

section

variable {m c} {x : Fin 8 → Head} (H : Reads2 (A0 m c) (A1 m c) x)
  (hm : ∀ h i, Cert.ReferenceIdeal.Read.val_main_v16 (A0 m c) (A1 m c) (ix2 h i) = (((x h).m i : ℝ) : EReal))

include H hm

theorem final_out : (dats m 0 c).arrAt 3 cfg0.N = val_main_v52 (A0 m c) (A1 m c) (A2 m c) := funext fun i => by
  have e : i = ix2 (i 0) (chan (headOf (i 1)) (partOf (i 1))) := ext2 _ _ _ rfl (congrArg Fin.val (chan_of (i 1))).symm
  exact (congrArg _ (ext2 i (i 0) (i 1) rfl rfl)).trans ((arr_out H (i 0) (i 1)).trans
    ((out_at H hm (A2 m c) (i 0) (headOf (i 1)) (partOf (i 1))).symm.trans (congrArg _ e.symm)))

theorem final_lse : (dats m 0 c).arrAt 4 cfg0.N = val_main_v54 (A0 m c) (A1 m c) := funext fun i =>
  (congrArg _ (eq_ix4 i)).trans ((arr_lse H (i 0) (i 1) (i 2) (i 3)).trans
    ((lse_at H hm (i 0) (i 1) (i 2) (i 3)).symm.trans (congrArg _ (eq_ix4 i).symm)))

end

/-- The two results' arrays, under the precondition, are the reference's. -/
theorem final (hp : Cert.Pre_finite_forward.fn (F := Ideal) (A0 m c) (A1 m c) (A2 m c) = fun _ => 1#1) :
    (dats m 0 c).arrAt 3 cfg0.N = val_main_v52 (A0 m c) (A1 m c) (A2 m c)
    ∧ (dats m 0 c).arrAt 4 cfg0.N = val_main_v54 (A0 m c) (A1 m c) := by
  obtain ⟨x, H, hm⟩ := Cert.Proof.Finite2.reads _ _ _ hp
  exact ⟨final_out H hm, final_lse H hm⟩

/-- The run's two results and its arguments. -/
theorem run_value (g : Dev nD → PrngReg) (hp : ∀ c : Dev nD, Cert.Pre_finite_forward.fn (F := Ideal) (A0 m c) (A1 m c) (A2 m c) = fun _ => 1#1) :
    θ_run (defs (F := Ideal)) (onTc (τ := τ) (main (F := Ideal))) ⟨m, fun _ => 0, g⟩ (fun r => ∀ c : Dev nD,
      r.2.mem ((c : Thread nD τ).loc main_v2_0) = val_main_v52 (A0 m c) (A1 m c) (A2 m c)
      ∧ r.2.mem ((c : Thread nD τ).loc main_v2_1) = val_main_v54 (A0 m c) (A1 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨((h.1 c).1 3).trans (final m c (hp c)).1, ((h.1 c).1 4).trans (final m c (hp c)).2, h.2.1 c⟩)
    (θ_run_and (run_main m g) (frame m g))

end Cert.Proof.Kernel2Ideal

namespace Cert.Proof

open Idealize.ShloMosaic Idealize.ShloMosaic.TcCoe Idealize.SL.Sem
open Cert.Reference2Ideal Cert.Reference2Ideal.Gen Cert.Reference2Ideal.Read

/-- The forward reference's two results and its arguments. -/
theorem ref2_value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v52) = val_main_v52 (m ((c : Thread nD τ).loc main_arg0)) (m ((c : Thread nD τ).loc main_arg1)) (m ((c : Thread nD τ).loc main_arg2))
      ∧ r.2.mem ((c : Thread nD τ).loc main_v54) = val_main_v54 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h c).1.trans (val_main_v52_eq m c), (h c).2.1.trans (val_main_v54_eq _ _), (h c).2.2⟩)
    (Cert.Reference2Ideal.Value.run m g)

theorem algebraic_forward : Cert.algebraic_Kernel2Ideal_Reference2Ideal_pre_finite_forward := fun m g m' g' hp ha => by
  refine ⟨_, _, Cert.Proof.Kernel2Ideal.run_value m g hp, (θ_run defs _ _).mono (fun r h c => ?_) (ref2_value m' g')⟩
  obtain ⟨e0, e1, e2⟩ := ha c
  obtain ⟨h0, h1, h2⟩ := h c
  refine ⟨h0.trans ?_, h1.trans ?_, h2⟩
  · rw [e0, e1, e2]
  · rw [e0, e1]

end Cert.Proof

end
-- ==== Proof.Hand.Product.lean ====
/-
  Products of matrices read at an element: the left operand transposed, and a long contraction in tiles of 512.
-/
module

public import proofs.«01_k».proof.Proof.Hand.Reals
public import Idealize.ShloMosaic.Lib.MatmulPlain

@[expose] public section

noncomputable section

namespace Cert.Proof.Product

open Idealize.ShloMosaic Idealize.ShloMosaic.ValueIdx Cert.Proof.Attn

/-- The dimension numbers of a product that contracts the first axis of both operands. -/
abbrev tn (M K N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

theorem zero_f32 {S : Shape} (j : S.Idx) : constant (F := Ideal) S .f32 0x00000000#32 j = (0 : EReal) := Ideal.ofBits_zero_f32

/-- Such a product into zero at an element: the sum over the contracted rows. -/
theorem tn_at {M K N : ℕ} (wf : DotDims.WF ⟨2, ![K, M]⟩ ⟨2, ![K, N]⟩ ⟨2, ![M, N]⟩ [0] [0] [1] [1] [] []) {φ₁ φ₂ : FTy}
    (A : FVec Ideal ⟨2, ![K, M]⟩ φ₁) (B : FVec Ideal ⟨2, ![K, N]⟩ φ₂) (r : Fin M) (c : Fin N) :
    matmul (tn M K N wf) none A B (constant (F := Ideal) _ .f32 0x00000000#32) (ix2 r c) = ∑ k : Fin K, A (ix2 k r) * B (ix2 k c) := by
  refine (Ideal.matmul_apply (tn M K N wf) none A B _ (ix2 r c)).trans ?_
  rw [zero_f32, zero_add, ← Equiv.sum_comp (contrEquiv1 (tn M K N wf) K rfl rfl).symm]
  refine Finset.sum_congr rfl fun k _ => ?_
  have hk := contrEquiv1_symm_val (tn M K N wf) K rfl rfl k
  refine congrArg₂ (fun a b : EReal => a * b) (congrArg A (funext fun a => Fin.ext ?_)) (congrArg B (funext fun a => Fin.ext ?_))
  · match a with
    | ⟨0, _⟩ => exact hk
    | ⟨1, _⟩ => rfl
  · match a with
    | ⟨0, _⟩ => exact hk
    | ⟨1, _⟩ => rfl

/-- Sixteen tiles of 512 rows, added up in order, are the sum over all rows. -/
theorem sum_tiles (T : ℕ → EReal) (f : Fin 8192 → EReal) (b : ℕ) (h : ∀ s : Fin 16, T (b + s.val) = ∑ k, f (row s k)) :
    ∑ s ∈ Finset.range (15 + 1), T (b + s) = ∑ i, f i := by
  rw [sum_rows, Finset.sum_range]
  exact Finset.sum_congr rfl fun s _ => h s

end Cert.Proof.Product

end
-- ==== Proof.Hand.MlpAct.lean ====
/-
  The cotangent of the hidden activation: block by block of 256 rows, chunk by chunk of 512 channels, the product with the
  down projection times the derivative of the squared ramp.
-/
module

public import proofs.«01_k».proof.Defs
public import proofs.«01_k».proof.Proof.Hand.Product
public import proofs.«01_k».proof.Proof.Hand.RefValue
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit.Geometry

@[expose] public section

set_option maxRecDepth 16384

noncomputable section

namespace Cert.Proof.MlpAct

open Cert.Kernel3Ideal Cert.Kernel3Ideal.Gen Cert.Kernel3Ideal.Value
open Idealize.ShloMosaic Idealize.ShloMosaic.TcCoe Idealize.ShloMosaic.ValueIdx Idealize.SL.Sem Cert.Proof.Attn Cert.Proof.Product

/-! ## One chunk -/

/-- The literal two. -/
def two : EReal := Ideal.ofBits .f32 0x40000000#32

/-- One element: the product of a row of the cotangent and a row of the projection, times the derivative. -/
def cot {n : ℕ} (x0 : FVec Ideal ⟨2, ![n, 1024]⟩ .f32) (x1 : FVec Ideal ⟨2, ![n, 4096]⟩ .f32) (x2 : FVec Ideal S4096x1024 .bf16)
    (r : Fin n) (d : Fin 4096) : EReal :=
  (∑ k : Fin 1024, x0 (ix2 r k) * x2 (ix2 d k)) * (two * max (x1 (ix2 r d)) 0)

/-- A chunk's payload. -/
def chunk (x0 : FVec Ideal S256x1024 .bf16) (w : FVec Ideal S512x1024 .bf16) (u : FVec Ideal S256x512 .f32) : FVec Ideal S256x512 .bf16 :=
  truncf .bf16 (mulf (matmul dot_S256x1024_S512x1024_S256x512_1_1_0_0_n_n none x0 w (constant (F := Ideal) S256x512 .f32 0x00000000#32))
    (mulf (broadcast S256x512 (Scalar.ofBits (F := Ideal) .f32 0x40000000#32)) (maximumf u (broadcast S256x512 (Scalar.ofBits (F := Ideal) .f32 0x00000000#32))))) bitsLt_bf16_f32

theorem chunk_at (x0 : FVec Ideal S256x1024 .bf16) (w : FVec Ideal S512x1024 .bf16) (u : FVec Ideal S256x512 .f32) (r : Fin 256) (s : Fin 512) :
    chunk x0 w u (ix2 r s) = (∑ k : Fin 1024, x0 (ix2 r k) * w (ix2 s k)) * (two * max (u (ix2 r s)) 0) := by
  refine congrArg₂ (fun a b : EReal => a * b) ?_ (congrArg (fun z : EReal => two * max (u (ix2 r s)) z) Ideal.ofBits_zero_f32)
  refine (Ideal.matmul_transposedRhs_apply none x0 w _ r s).trans ?_
  rw [zero_f32, zero_add]

/-- A block's element, at any place. -/
def block (x0 : FVec Ideal S256x1024 .f32) (x1 : FVec Ideal S256x4096 .f32) (x2 : FVec Ideal S4096x1024 .bf16) : FVec Ideal S256x4096 .bf16 :=
  fun y => cot x0 x1 x2 (y 0) (y 1)

/-- The chunk that starts at channel `o` is the block's elements there. -/
theorem piece_at (x0 : FVec Ideal S256x1024 .f32) (x1 : FVec Ideal S256x4096 .f32) (x2 : FVec Ideal S4096x1024 .bf16) (o : ℕ)
    (hw : ∀ a, (![o, 0] : Fin 2 → ℕ) a + S512x1024.size a ≤ S4096x1024.size a) (hu : ∀ a, (![0, o] : Fin 2 → ℕ) a + S256x512.size a ≤ S256x4096.size a)
    (y : S256x512.Idx) :
    chunk x0 (View.ld (Val := Elt Ideal) (e' := .bf16) x2 (Rect.unit (s := S4096x1024) ![o, 0] S512x1024.size hw))
        (View.ld (Val := Elt Ideal) (e' := .f32) x1 (Rect.unit (s := S256x4096) ![0, o] S256x512.size hu)) y
      = block x0 x1 x2 ((Rect.unit (s := S256x4096) ![0, o] S256x512.size hu).emb y) := by
  have ho : o + 512 ≤ 4096 := hw 0
  have hs : ∀ s : Fin 512, o + s.val < 4096 := fun s => by have := s.isLt; omega
  have hy : y = ix2 (y 0) (y 1) := ext2 _ (y 0) (y 1) rfl rfl
  have e : (Rect.unit (s := S256x4096) ![0, o] S256x512.size hu).emb y = ix2 (y 0) (⟨o + (y 1).val, hs (y 1)⟩ : Fin 4096) :=
    ext2 _ (y 0) ⟨o + (y 1).val, hs (y 1)⟩ (by show 0 + 1 * (y 0).val = _; omega) (by show o + 1 * (y 1).val = o + (y 1).val; omega)
  have ew : ∀ k : Fin 1024, View.ld (Val := Elt Ideal) (e' := .bf16) x2 (Rect.unit (s := S4096x1024) ![o, 0] S512x1024.size hw) (ix2 (y 1) k)
      = x2 (ix2 (⟨o + (y 1).val, hs (y 1)⟩ : Fin 4096) k) := fun k =>
    congrArg x2 (ext2 _ ⟨o + (y 1).val, hs (y 1)⟩ k (by show o + 1 * (y 1).val = o + (y 1).val; omega) (by show 0 + 1 * k.val = _; omega))
  have eu : View.ld (Val := Elt Ideal) (e' := .f32) x1 (Rect.unit (s := S256x4096) ![0, o] S256x512.size hu) (ix2 (y 0) (y 1))
      = x1 (ix2 (y 0) (⟨o + (y 1).val, hs (y 1)⟩ : Fin 4096)) :=
    congrArg x1 ((congrArg _ hy.symm).trans e)
  rw [e]
  refine (congrArg _ hy).trans ((chunk_at x0 _ _ (y 0) (y 1)).trans ?_)
  exact congrArg₂ (fun a b : EReal => a * b) (Finset.sum_congr rfl fun k _ => congrArg (fun z : EReal => x0 (ix2 (y 0) k) * z) (ew k))
    (congrArg (fun z : EReal => two * max z 0) eu)

/-- What the body leaves for a block: every element. -/
theorem out_eq (x0 : FVec Ideal S256x1024 .f32) (x1 : FVec Ideal S256x4096 .f32) (x2 : FVec Ideal S4096x1024 .bf16) :
    out0_3 (F := Ideal) x0 x1 x2 = block x0 x1 x2 := by
  funext y
  have h0 : View.ld (Val := Elt Ideal) (e' := .f32) x0 r0_0 = x0 := funext fun (z : S256x1024.Idx) =>
    congrArg x0 ((ext2 _ (z 0) (z 1) (by show 0 + 1 * (z 0).val = _; omega) (by show 0 + 1 * (z 1).val = _; omega)).trans (ext2 z (z 0) (z 1) rfl rfl).symm)
  unfold out0_3 k0_pay12
  rw [h0]
  refine View.canon_apply_of_pieces (Val := Elt Ideal) (block x0 x1 x2) _ ?_ y (cover0_3 _ _ _ _ _ _ _ _ y)
  refine List.forall_mem_cons.2 ⟨fun z => piece_at x0 x1 x2 3584 _ _ z, ?_⟩
  refine List.forall_mem_cons.2 ⟨fun z => piece_at x0 x1 x2 3072 _ _ z, ?_⟩
  refine List.forall_mem_cons.2 ⟨fun z => piece_at x0 x1 x2 2560 _ _ z, ?_⟩
  refine List.forall_mem_cons.2 ⟨fun z => piece_at x0 x1 x2 2048 _ _ z, ?_⟩
  refine List.forall_mem_cons.2 ⟨fun z => piece_at x0 x1 x2 1536 _ _ z, ?_⟩
  refine List.forall_mem_cons.2 ⟨fun z => piece_at x0 x1 x2 1024 _ _ z, ?_⟩
  refine List.forall_mem_cons.2 ⟨fun z => piece_at x0 x1 x2 512 _ _ z, ?_⟩
  exact List.forall_mem_cons.2 ⟨fun z => piece_at x0 x1 x2 0 _ _ z, List.forall_mem_nil _⟩

/-! ## The array -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

theorem point_lt (t : Fin cfg0.N) : t.val < 32 := t.isLt
/-- A row of a point's block, among all rows. -/
def place (t : Fin cfg0.N) (r : Fin 256) : Fin 8192 := ⟨256 * t.val + r.val, by have := point_lt t; omega⟩

variable (m : (ℓ : Loc nD τ sig) → Buf (Elt Ideal) ℓ) (c : Dev nD)

/-- The arguments, named. -/
abbrev A0 : FVec Ideal S8192x1024 .f32 := m ((c : Thread nD τ).loc main_arg0)
abbrev A1 : FVec Ideal S8192x4096 .f32 := m ((c : Thread nD τ).loc main_arg1)
abbrev A2 : FVec Ideal S4096x1024 .bf16 := m ((c : Thread nD τ).loc main_arg2)

theorem iblk0_at (t : Fin cfg0.N) (r : Fin 256) (k : Fin 1024) : iblk m c 0 t (ix2 r k) = A0 m c (ix2 (place t r) k) := by
  refine Eq.trans ?_ (congrFun (V_main_arg0 m c) (ix2 (place t r) k))
  refine congrArg (V m c main_arg0) (ext2 _ (place t r) k ?_ ?_) <;> blk_simp [idx0] <;> simp [place, Nat.mul_comm]

theorem iblk1_at (t : Fin cfg0.N) (r : Fin 256) (d : Fin 4096) : iblk m c 1 t (ix2 r d) = A1 m c (ix2 (place t r) d) := by
  refine Eq.trans ?_ (congrFun (V_main_arg1 m c) (ix2 (place t r) d))
  refine congrArg (V m c main_arg1) (ext2 _ (place t r) d ?_ ?_) <;> blk_simp [idx1] <;> simp [place, Nat.mul_comm]

theorem iblk2_at (t : Fin cfg0.N) (d : Fin 4096) (k : Fin 1024) : iblk m c 2 t (ix2 d k) = A2 m c (ix2 d k) := by
  refine Eq.trans ?_ (congrFun (V_main_arg2 m c) (ix2 d k))
  refine congrArg (V m c main_arg2) (ext2 _ d k ?_ ?_) <;> blk_simp [idx2] <;> simp

/-- An element depends on its row's and its channel's entries. -/
theorem cot_congr {n n' : ℕ} {x0 : FVec Ideal ⟨2, ![n, 1024]⟩ .f32} {x1 : FVec Ideal ⟨2, ![n, 4096]⟩ .f32} {x2 : FVec Ideal S4096x1024 .bf16}
    {x0' : FVec Ideal ⟨2, ![n', 1024]⟩ .f32} {x1' : FVec Ideal ⟨2, ![n', 4096]⟩ .f32} {x2' : FVec Ideal S4096x1024 .bf16} {r : Fin n} {r' : Fin n'} {d : Fin 4096}
    (h0 : ∀ k, x0 (ix2 r k) = x0' (ix2 r' k)) (h1 : x1 (ix2 r d) = x1' (ix2 r' d)) (h2 : ∀ k, x2 (ix2 d k) = x2' (ix2 d k)) :
    cot x0 x1 x2 r d = cot x0' x1' x2' r' d := by
  unfold cot
  rw [h1, Finset.sum_congr rfl fun k _ => by rw [h0 k, h2 k]]

theorem arr_at (i : Fin 8192) (d : Fin 4096) : (dats m 0 c).arrAt 3 cfg0.N (ix2 i d) = cot (A0 m c) (A1 m c) (A2 m c) i d := by
  refine (dats m 0 c).arrAt_forall_of_covers 3 (fun i v => v = cot (A0 m c) (A1 m c) (A2 m c) (i 0) (i 1)) (by decide +kernel) (fun t hf y => ?_) (ix2 i d)
  have hy : y = ix2 (y 0) (y 1) := ext2 _ (y 0) (y 1) rfl rfl
  have hemb : ((cfg0.win 3).blk t).view.emb y = ix2 (place t (y 0)) (y 1) := by
    refine ext2 _ (place t (y 0)) (y 1) ?_ ?_ <;> blk_simp [idx3] <;> simp [place, Nat.mul_comm]
  rw [hemb]
  have ha : (dats m 0 c).after 3 t = block (iblk m c 0 t) (iblk m c 1 t) (iblk m c 2 t) := (after0_3 m c t).trans (out_eq _ _ _)
  exact (congrFun ha y).trans (cot_congr (iblk0_at m c t (y 0)) (iblk1_at m c t (y 0) (y 1)) (iblk2_at m c t (y 1)))

/-! ## The reference -/

open Cert.Reference3Ideal.Read in
/-- Where the ramp is flat its derivative is zero and so is the kernel's factor; where it is not, the factor is the derivative. -/
theorem ref_at (x0 : FVec Ideal S8192x1024 .f32) (x1 : FVec Ideal S8192x4096 .f32) (x2 : FVec Ideal S4096x1024 .bf16) (i : Fin 8192) (d : Fin 4096) :
    val_main_v13 (F := Ideal) x0 x1 x2 (ix2 i d) = cot x0 x1 x2 i d := by
  have hz : ∀ j, val_main_v11 (F := Ideal) j = (0 : EReal) := fun j => (val_main_v11_apply j).trans Ideal.ofBits_zero_f32
  have hc : ∀ j, val_main_v1 (F := Ideal) j = (0 : EReal) := fun j => (val_main_v1_apply j).trans Ideal.ofBits_zero_f32
  have hr : val_main_v0 (F := Ideal) x1 (ix2 i d) = max (x1 (ix2 i d)) (0 : EReal) :=
    congrArg (fun z : EReal => max (x1 (ix2 i d)) z) ((val_main_call0_v0_apply _).trans Ideal.ofBits_zero_f32)
  have hd : val_main_v9 (F := Ideal) x0 x2 (ix2 i d) = ∑ k : Fin 1024, x0 (ix2 i k) * x2 (ix2 d k) :=
    (val_main_v9_apply x0 x2 (ix2 i d)).trans (Finset.sum_congr rfl fun k _ =>
      congrArg₂ (fun a b : EReal => a * b) (congrArg x0 (ext2 _ i k rfl rfl)) (congrArg x2 (ext2 _ d k rfl rfl)))
  have hm : val_main_v10 (F := Ideal) x0 x1 x2 (ix2 i d) = cot x0 x1 x2 i d :=
    congrArg₂ (fun a b : EReal => a * b) hd (congrArg₂ (fun a b : EReal => a * b) ((val_main_v5_apply (ix2 i d)).trans rfl : _ = two) hr)
  refine (val_main_v12_apply (F := Ideal) x0 x1 x2 (ix2 i d)).trans ?_
  rw [hm, hz, val_main_v2_apply, hc]
  by_cases h : (0 : EReal) < x1 (ix2 i d)
  · exact if_pos (by simp [Ideal.cmpf_def, Ideal.cmp, h])
  · refine (if_neg (by simp [Ideal.cmpf_def, Ideal.cmp, h])).trans ?_
    rw [cot, max_eq_right (not_lt.1 h), mul_zero, mul_zero]

theorem value : (dats m 0 c).arrAt 3 cfg0.N = Cert.Reference3Ideal.Read.val_main_v13 (F := Ideal) (A0 m c) (A1 m c) (A2 m c) := funext fun (i : S8192x4096.Idx) => by
  have e : i = ix2 (i 0) (i 1) := ext2 _ (i 0) (i 1) rfl rfl
  exact (congrArg _ e).trans ((arr_at m c (i 0) (i 1)).trans ((ref_at _ _ _ (i 0) (i 1)).symm.trans (congrArg _ e.symm)))

/-! ## The claims -/

theorem ref_run (m' : (ℓ : Loc Cert.Reference3Ideal.nD Cert.Reference3Ideal.τ Cert.Reference3Ideal.sig) → Buf (Elt Ideal) ℓ) (g' : Dev Cert.Reference3Ideal.nD → PrngReg) :
    θ_run (Cert.Reference3Ideal.defs (F := Ideal)) (onTc (τ := Cert.Reference3Ideal.τ) (Cert.Reference3Ideal.main (F := Ideal))) ⟨m', fun _ => 0, g'⟩ (fun r => (∀ c : Dev Cert.Reference3Ideal.nD,
      r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))
      ∧ r.2.sem = fun _ => 0) :=
  (θ_run _ _ _).mono (fun r h => ⟨fun c => (h c).2, sem_eq_zero_of_no_sems (by decide) r.2⟩) (Cert.Reference3Ideal.Value.run m' g')

theorem algebraic : Cert.algebraic_Kernel3Ideal_Reference3Ideal := fun m g m' g' _ ha => by
  refine ⟨_, (θ_run _ _ _).mono (fun r h c => ⟨(h c).1.trans (value m c), (h c).2⟩) (run_blocks m g),
    (θ_run _ _ _).mono (fun r h c => ⟨(h c).1.trans ((Cert.Reference3Ideal.Read.val_main_v13_eq _ _ _).trans ?_), (h c).2⟩) (Cert.Reference3Ideal.Value.run m' g')⟩
  obtain ⟨e0, e1, e2⟩ := ha c
  rw [e0, e1, e2]

end Cert.Proof.MlpAct

end
-- ==== Proof.Hand.GradDown.lean ====
/-
  The gradient of the down projection: the kernel's tiles, added up, are the product of the activation, transposed, and
  the cotangent, each device's half rows a block of its own.
-/
module

public import proofs.«01_k».proof.Defs
public import proofs.«01_k».proof.Proof.Hand.Product
public import proofs.«01_k».proof.Proof.Hand.RefValue
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit.Geometry

@[expose] public section

set_option maxRecDepth 16384

noncomputable section

namespace Cert.Proof.GradDown

open Cert.Kernel4Ideal Cert.Kernel4Ideal.Gen Cert.Kernel4Ideal.Value
open Idealize.ShloMosaic Idealize.ShloMosaic.TcCoe Idealize.ShloMosaic.ValueIdx Idealize.SL.Sem Cert.Proof.Attn Cert.Proof.Product

theorem idx0 : ∀ t : Fin cfg0.N, win0_0.index t = ![t.val % 16, t.val / 16] := (by decide +kernel : ∀ t : Fin grid0.N, _)
theorem idx1 : ∀ t : Fin cfg0.N, win0_1.index t = ![t.val % 16, 0] := (by decide +kernel : ∀ t : Fin grid0.N, _)

theorem point_lt (t : Fin cfg0.N) : t.val < 128 := t.isLt
/-- A point's row block, and a channel of its channel block. -/
def rb (t : Fin cfg0.N) : Fin 16 := ⟨t.val % 16, by omega⟩
def ch (t : Fin cfg0.N) (r : Fin 512) : Fin 4096 := ⟨512 * (t.val / 16) + r.val, by have := point_lt t; omega⟩

variable (m : (ℓ : Loc nD τ sig) → Buf (Elt Ideal) ℓ) (c : Dev nD)

/-- The arguments, named. -/
abbrev A0 : FVec Ideal S8192x4096 .bf16 := m ((c : Thread nD τ).loc main_arg0)
abbrev A1 : FVec Ideal S8192x1024 .f32 := m ((c : Thread nD τ).loc main_arg1)

theorem iblk0_at (t : Fin cfg0.N) (k r : Fin 512) : iblk m c 0 t (ix2 k r) = A0 m c (ix2 (row (rb t) k) (ch t r)) := by
  refine Eq.trans ?_ (congrFun (V_main_arg0 m c) (ix2 (row (rb t) k) (ch t r)))
  refine congrArg (V m c main_arg0) (ext2 _ (row (rb t) k) (ch t r) ?_ ?_) <;> blk_simp [idx0] <;> simp [rb, row, ch, Nat.mul_comm]

theorem iblk1_at (t : Fin cfg0.N) (k : Fin 512) (d : Fin 1024) : iblk m c 1 t (ix2 k d) = A1 m c (ix2 (row (rb t) k) d) := by
  refine Eq.trans ?_ (congrFun (V_main_arg1 m c) (ix2 (row (rb t) k) d))
  refine congrArg (V m c main_arg1) (ext2 _ (row (rb t) k) d ?_ ?_) <;> blk_simp [idx1] <;> simp [rb, row, Nat.mul_comm]

/-! ## One tile -/

/-- One step of the accumulation at an element: the accumulator and the tile's product. -/
theorem pay2_at (acc : Vec Ideal S1x1x512x1024 .f32) (x : Vec Ideal S512x512 .bf16) (y : Vec Ideal S512x1024 .f32) (r : Fin 512) (d : Fin 1024) :
    k0_pay2 (F := Ideal) acc x y (ix4 0 0 r d) = acc (ix4 0 0 r d) + ∑ k : Fin 512, x (ix2 k r) * y (ix2 k d) := by
  unfold k0_pay2
  refine (shapeCast_apply _ shapeCasts_S512x1024_S1x1x512x1024 (ix4 0 0 r d) (ix2 r d)
    (by rewrite [Shape.rowMajor_val_two, Shape.rowMajor_val_four]; simp)).trans ?_
  refine congrArg₂ (fun a b : EReal => a + b) ?_ (tn_at _ x y r d)
  exact shapeCast_apply acc shapeCasts_S1x1x512x1024_S512x1024 (ix2 r d) (ix4 0 0 r d)
    (by rewrite [Shape.rowMajor_val_two, Shape.rowMajor_val_four]; simp)

theorem pay1_at (r : Fin 512) (d : Fin 1024) : k0_pay1 (F := Ideal) (ix4 0 0 r d) = (0 : EReal) := by
  unfold k0_pay1
  refine (shapeCast_apply _ shapeCasts_S512x1024_S1x1x512x1024 (ix4 0 0 r d) (ix2 r d)
    (by rewrite [Shape.rowMajor_val_two, Shape.rowMajor_val_four]; simp)).trans ?_
  exact Ideal.ofBits_zero_f32

/-- A tile's product at an element of the output block. -/
def dotAt (x : Vec Ideal S512x512 .bf16) (y : Vec Ideal S512x1024 .f32) (j : S1x1x512x1024.Idx) : EReal :=
  ∑ k : Fin 512, x (ix2 k (j 2)) * y (ix2 k (j 3))

/-- Point `n`'s. -/
def tile (n : ℕ) (y : S1x1x512x1024.Idx) : EReal :=
  if h : n < cfg0.N then dotAt (iblk m c 0 ⟨n, h⟩) (iblk m c 1 ⟨n, h⟩) y else 0

theorem idx_eq (y : S1x1x512x1024.Idx) : y = ix4 0 0 (y 2) (y 3) :=
  ext4 _ 0 0 (y 2) (y 3) (by have : (y 0).val < 1 := (y 0).isLt; show (y 0).val = 0; omega) (by have : (y 1).val < 1 := (y 1).isLt; show (y 1).val = 0; omega) rfl rfl

theorem step_at (n : ℕ) (h : n < cfg0.N) (acc : Vec Ideal S1x1x512x1024 .f32) (y : S1x1x512x1024.Idx) :
    step2 m c n h acc y = (acc y : EReal) + tile m c n y := by
  rw [tile, dif_pos h, idx_eq y]
  exact pay2_at acc _ _ (y 2) (y 3)

theorem reset_at (n : ℕ) (h : n < cfg0.N) (y : S1x1x512x1024.Idx) : reset2 m c n h y = (0 : EReal) + tile m c n y := by
  rw [tile, dif_pos h, idx_eq y]
  exact (pay2_at _ _ _ (y 2) (y 3)).trans (congrArg (fun z : EReal => z + _) (pay1_at (y 2) (y 3)))

/-! ## The whole product -/

/-- The channel an element of the result belongs to. -/
def chOf (h : Fin 2) (p : Fin 4) (r : Fin 512) : Fin 4096 := ⟨512 * (h.val + 2 * p.val) + r.val, by omega⟩
/-- The channel in the order of the matrix that is cut. -/
def cutOf (h : Fin 2) (p : Fin 4) (r : Fin 512) : Fin 4096 := ⟨(p.val * 2 + h.val) * 512 + r.val, by omega⟩

theorem cut_eq (h : Fin 2) (p : Fin 4) (r : Fin 512) : cutOf h p r = chOf h p r := Fin.ext (by simp only [cutOf, chOf]; omega)

theorem value_at (h : Fin 2) (p : Fin 4) (r : Fin 512) (d : Fin 1024) :
    G2 m c (ix4 h p r d) = ∑ i : Fin 8192, A0 m c (ix2 i (chOf h p r)) * A1 m c (ix2 i d) := by
  have hr : run2Of (ix4 h p r d) = h.val + 2 * p.val := by
    show 1 * (h.val / 1 - 0) + 2 * (p.val / 1 - 0) + 8 * (r.val / 512 - 0) + 8 * (d.val / 1024 - 0) = _
    have := r.isLt; have := d.isLt; omega
  have hN : 16 * run2Of (ix4 h p r d) + 15 < cfg0.N := by
    rw [hr]; show _ < 128; omega
  have hl : loc2Of (ix4 h p r d) = ix4 0 0 r d := ext4 _ 0 0 r d (Nat.mod_one _) (Nat.mod_one _) (Nat.mod_eq_of_lt r.isLt) (Nat.mod_eq_of_lt d.isLt)
  rw [G2, dif_pos hN, hl]
  refine (Pipeline.accAt_add_apply (reset2 m c) (step2 m c) (fun _ => (0 : EReal)) (tile m c) (16 * run2Of (ix4 h p r d)) 15
    (fun hb y => reset_at m c _ hb y) (fun n hn acc y _ _ => step_at m c n hn acc y) 15 le_rfl hN (ix4 0 0 r d)).trans ?_
  rw [zero_add]
  refine sum_tiles (fun n => tile m c n (ix4 0 0 r d)) _ _ fun s => ?_
  have hs : 16 * run2Of (ix4 h p r d) + s.val < cfg0.N := lt_of_le_of_lt (by omega) hN
  rw [tile, dif_pos hs]
  have e0 : rb ⟨_, hs⟩ = s := Fin.ext (by show (16 * run2Of (ix4 h p r d) + s.val) % 16 = s.val; omega)
  have e1 : ch ⟨_, hs⟩ r = chOf h p r := Fin.ext (by
    show 512 * ((16 * run2Of (ix4 h p r d) + s.val) / 16) + r.val = 512 * (h.val + 2 * p.val) + r.val
    rw [hr]; omega)
  refine Finset.sum_congr rfl fun k _ => ?_
  exact congrArg₂ (fun a b : EReal => a * b) ((iblk0_at m c _ k r).trans (by rw [e0, e1])) ((iblk1_at m c _ k d).trans (by rw [e0]))

/-- The reference's element: the same sum, its factors in the other order. -/
theorem ref_at (x0 : FVec Ideal S8192x4096 .bf16) (x1 : FVec Ideal S8192x1024 .f32) (h : Fin 2) (p : Fin 4) (r : Fin 512) (d : Fin 1024) :
    Cert.Reference4Ideal.Read.val_main_v6 (F := Ideal) x0 x1 (ix4 h p r d) = ∑ i : Fin 8192, x0 (ix2 i (chOf h p r)) * x1 (ix2 i d) := by
  rw [← cut_eq]
  rw [Cert.Reference4Ideal.Read.val_main_v6_apply, Cert.Reference4Ideal.Read.val_main_v5_apply, Cert.Reference4Ideal.Read.val_main_v4_apply,
    Cert.Reference4Ideal.Read.val_main_v3_apply]
  refine Finset.sum_congr rfl fun i _ => (mul_comm _ _).trans ?_
  refine congrArg₂ (fun a b : EReal => a * b) (congrArg x0 (ext2 _ i (cutOf h p r) rfl ?_)) (congrArg x1 (ext2 _ i d rfl ?_))
  · show (((p.val * 2 + h.val) * 512 + r.val) * 1024 + d.val) / 1024 = (p.val * 2 + h.val) * 512 + r.val
    have := d.isLt; omega
  · show (((p.val * 2 + h.val) * 512 + r.val) * 1024 + d.val) % 1024 = d.val
    have := d.isLt; omega

theorem value : G2 m c = Cert.Reference4Ideal.Read.val_main_v6 (F := Ideal) (A0 m c) (A1 m c) := funext fun (i : S2x4x512x1024.Idx) =>
  (congrArg _ (eq_ix4 i)).trans ((value_at m c (i 0) (i 1) (i 2) (i 3)).trans
    ((ref_at _ _ (i 0) (i 1) (i 2) (i 3)).symm.trans (congrArg _ (eq_ix4 i).symm)))

/-! ## The claims -/

theorem ref_run (m' : (ℓ : Loc Cert.Reference4Ideal.nD Cert.Reference4Ideal.τ Cert.Reference4Ideal.sig) → Buf (Elt Ideal) ℓ) (g' : Dev Cert.Reference4Ideal.nD → PrngReg) :
    θ_run (Cert.Reference4Ideal.defs (F := Ideal)) (onTc (τ := Cert.Reference4Ideal.τ) (Cert.Reference4Ideal.main (F := Ideal))) ⟨m', fun _ => 0, g'⟩ (fun r => (∀ c : Dev Cert.Reference4Ideal.nD,
      r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))
      ∧ r.2.sem = fun _ => 0) :=
  (θ_run _ _ _).mono (fun r h => ⟨fun c => (h c).2, sem_eq_zero_of_no_sems (by decide) r.2⟩) (Cert.Reference4Ideal.Value.run m' g')

theorem algebraic : Cert.algebraic_Kernel4Ideal_Reference4Ideal := fun m g m' g' _ ha => by
  refine ⟨_, (θ_run _ _ _).mono (fun r h c => ⟨(h c).1.trans (value m c), (h c).2⟩) (run m g),
    (θ_run _ _ _).mono (fun r h c => ⟨(h c).1.trans ((Cert.Reference4Ideal.Read.val_main_v6_eq _ _).trans ?_), (h c).2⟩) (Cert.Reference4Ideal.Value.run m' g')⟩
  obtain ⟨e0, e1⟩ := ha c
  rw [e0, e1]

end Cert.Proof.GradDown

end
-- ==== Proof.Hand.GradUp.lean ====
/-
  The gradient of the up projection: the kernel's tiles, added up, are the product of the normed input, transposed, and
  the cotangent, each device's columns by half rows a block of its own.
-/
module

public import proofs.«01_k».proof.Defs
public import proofs.«01_k».proof.Proof.Hand.Product
public import proofs.«01_k».proof.Proof.Hand.RefValue
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit.Geometry

@[expose] public section

set_option maxRecDepth 16384

noncomputable section

namespace Cert.Proof.GradUp

open Cert.Kernel5Ideal Cert.Kernel5Ideal.Gen Cert.Kernel5Ideal.Value
open Idealize.ShloMosaic Idealize.ShloMosaic.TcCoe Idealize.ShloMosaic.ValueIdx Idealize.SL.Sem Cert.Proof.Attn Cert.Proof.Product

theorem idx0 : ∀ t : Fin cfg0.N, win0_0.index t = ![t.val % 16, t.val / 64] := (by decide +kernel : ∀ t : Fin grid0.N, _)
theorem idx1 : ∀ t : Fin cfg0.N, win0_1.index t = ![t.val % 16, t.val / 16 % 4] := (by decide +kernel : ∀ t : Fin grid0.N, _)

theorem point_lt (t : Fin cfg0.N) : t.val < 128 := t.isLt
/-- A point's row block, a channel of its channel block, and a column of its column block. -/
def rb (t : Fin cfg0.N) : Fin 16 := ⟨t.val % 16, by omega⟩
def ch (t : Fin cfg0.N) (r : Fin 512) : Fin 1024 := ⟨512 * (t.val / 64) + r.val, by have := point_lt t; omega⟩
def col (t : Fin cfg0.N) (d : Fin 1024) : Fin 4096 := ⟨1024 * (t.val / 16 % 4) + d.val, by omega⟩

variable (m : (ℓ : Loc nD τ sig) → Buf (Elt Ideal) ℓ) (c : Dev nD)

/-- The arguments, named. -/
abbrev A0 : FVec Ideal S8192x1024 .bf16 := m ((c : Thread nD τ).loc main_arg0)
abbrev A1 : FVec Ideal S8192x4096 .bf16 := m ((c : Thread nD τ).loc main_arg1)

theorem iblk0_at (t : Fin cfg0.N) (k r : Fin 512) : iblk m c 0 t (ix2 k r) = A0 m c (ix2 (row (rb t) k) (ch t r)) := by
  refine Eq.trans ?_ (congrFun (V_main_arg0 m c) (ix2 (row (rb t) k) (ch t r)))
  refine congrArg (V m c main_arg0) (ext2 _ (row (rb t) k) (ch t r) ?_ ?_) <;> blk_simp [idx0] <;> simp [rb, row, ch, Nat.mul_comm]

theorem iblk1_at (t : Fin cfg0.N) (k : Fin 512) (d : Fin 1024) : iblk m c 1 t (ix2 k d) = A1 m c (ix2 (row (rb t) k) (col t d)) := by
  refine Eq.trans ?_ (congrFun (V_main_arg1 m c) (ix2 (row (rb t) k) (col t d)))
  refine congrArg (V m c main_arg1) (ext2 _ (row (rb t) k) (col t d) ?_ ?_) <;> blk_simp [idx1] <;> simp [rb, row, col, Nat.mul_comm]

/-! ## One tile -/

/-- One step of the accumulation at an element: the accumulator and the tile's product. -/
theorem pay2_at (acc : Vec Ideal S1x1x512x1024 .f32) (x : Vec Ideal S512x512 .bf16) (y : Vec Ideal S512x1024 .bf16) (r : Fin 512) (d : Fin 1024) :
    k0_pay2 (F := Ideal) acc x y (ix4 0 0 r d) = acc (ix4 0 0 r d) + ∑ k : Fin 512, x (ix2 k r) * y (ix2 k d) := by
  unfold k0_pay2
  refine (shapeCast_apply _ shapeCasts_S512x1024_S1x1x512x1024 (ix4 0 0 r d) (ix2 r d)
    (by rewrite [Shape.rowMajor_val_two, Shape.rowMajor_val_four]; simp)).trans ?_
  refine congrArg₂ (fun a b : EReal => a + b) ?_ (tn_at _ x y r d)
  exact shapeCast_apply acc shapeCasts_S1x1x512x1024_S512x1024 (ix2 r d) (ix4 0 0 r d)
    (by rewrite [Shape.rowMajor_val_two, Shape.rowMajor_val_four]; simp)

theorem pay1_at (r : Fin 512) (d : Fin 1024) : k0_pay1 (F := Ideal) (ix4 0 0 r d) = (0 : EReal) := by
  unfold k0_pay1
  refine (shapeCast_apply _ shapeCasts_S512x1024_S1x1x512x1024 (ix4 0 0 r d) (ix2 r d)
    (by rewrite [Shape.rowMajor_val_two, Shape.rowMajor_val_four]; simp)).trans ?_
  exact Ideal.ofBits_zero_f32

/-- A tile's product at an element of the output block. -/
def dotAt (x : Vec Ideal S512x512 .bf16) (y : Vec Ideal S512x1024 .bf16) (j : S1x1x512x1024.Idx) : EReal :=
  ∑ k : Fin 512, x (ix2 k (j 2)) * y (ix2 k (j 3))

/-- Point `n`'s. -/
def tile (n : ℕ) (y : S1x1x512x1024.Idx) : EReal :=
  if h : n < cfg0.N then dotAt (iblk m c 0 ⟨n, h⟩) (iblk m c 1 ⟨n, h⟩) y else 0

theorem idx_eq (y : S1x1x512x1024.Idx) : y = ix4 0 0 (y 2) (y 3) :=
  ext4 _ 0 0 (y 2) (y 3) (by have : (y 0).val < 1 := (y 0).isLt; show (y 0).val = 0; omega) (by have : (y 1).val < 1 := (y 1).isLt; show (y 1).val = 0; omega) rfl rfl

theorem step_at (n : ℕ) (h : n < cfg0.N) (acc : Vec Ideal S1x1x512x1024 .f32) (y : S1x1x512x1024.Idx) :
    step2 m c n h acc y = (acc y : EReal) + tile m c n y := by
  rw [tile, dif_pos h, idx_eq y]
  exact pay2_at acc _ _ (y 2) (y 3)

theorem reset_at (n : ℕ) (h : n < cfg0.N) (y : S1x1x512x1024.Idx) : reset2 m c n h y = (0 : EReal) + tile m c n y := by
  rw [tile, dif_pos h, idx_eq y]
  exact (pay2_at _ _ _ (y 2) (y 3)).trans (congrArg (fun z : EReal => z + _) (pay1_at (y 2) (y 3)))

/-! ## The whole product -/

/-- The channel and the column an element of the result belongs to. -/
def chOf (h : Fin 2) (r : Fin 512) : Fin 1024 := ⟨512 * h.val + r.val, by omega⟩
def colOf (p : Fin 4) (d : Fin 1024) : Fin 4096 := ⟨1024 * p.val + d.val, by omega⟩

theorem value_at (h : Fin 2) (p : Fin 4) (r : Fin 512) (d : Fin 1024) :
    G2 m c (ix4 h p r d) = ∑ i : Fin 8192, A0 m c (ix2 i (chOf h r)) * A1 m c (ix2 i (colOf p d)) := by
  have hr : run2Of (ix4 h p r d) = 4 * h.val + p.val := by
    show 4 * (h.val / 1 - 0) + 1 * (p.val / 1 - 0) + 1 * (r.val / 512 - 0) + 1 * (d.val / 1024 - 0) = _
    have := r.isLt; have := d.isLt; omega
  have hN : 16 * run2Of (ix4 h p r d) + 15 < cfg0.N := by
    rw [hr]; show _ < 128; omega
  have hl : loc2Of (ix4 h p r d) = ix4 0 0 r d := ext4 _ 0 0 r d (Nat.mod_one _) (Nat.mod_one _) (Nat.mod_eq_of_lt r.isLt) (Nat.mod_eq_of_lt d.isLt)
  rw [G2, dif_pos hN, hl]
  refine (Pipeline.accAt_add_apply (reset2 m c) (step2 m c) (fun _ => (0 : EReal)) (tile m c) (16 * run2Of (ix4 h p r d)) 15
    (fun hb y => reset_at m c _ hb y) (fun n hn acc y _ _ => step_at m c n hn acc y) 15 le_rfl hN (ix4 0 0 r d)).trans ?_
  rw [zero_add]
  refine sum_tiles (fun n => tile m c n (ix4 0 0 r d)) _ _ fun s => ?_
  have hs : 16 * run2Of (ix4 h p r d) + s.val < cfg0.N := lt_of_le_of_lt (by omega) hN
  rw [tile, dif_pos hs]
  have e0 : rb ⟨_, hs⟩ = s := Fin.ext (by show (16 * run2Of (ix4 h p r d) + s.val) % 16 = s.val; omega)
  have e1 : ch ⟨_, hs⟩ r = chOf h r := Fin.ext (by
    show 512 * ((16 * run2Of (ix4 h p r d) + s.val) / 64) + r.val = 512 * h.val + r.val
    rw [hr]; omega)
  have e2 : col ⟨_, hs⟩ d = colOf p d := Fin.ext (by
    show 1024 * ((16 * run2Of (ix4 h p r d) + s.val) / 16 % 4) + d.val = 1024 * p.val + d.val
    rw [hr]; omega)
  refine Finset.sum_congr rfl fun k _ => ?_
  exact congrArg₂ (fun a b : EReal => a * b) ((iblk0_at m c _ k r).trans (by rw [e0, e1])) ((iblk1_at m c _ k d).trans (by rw [e0, e2]))

/-- The reference's element: the same sum, its factors in the other order. -/
theorem ref_at (x0 : FVec Ideal S8192x1024 .bf16) (x1 : FVec Ideal S8192x4096 .bf16) (h : Fin 2) (p : Fin 4) (r : Fin 512) (d : Fin 1024) :
    Cert.Reference5Ideal.Read.val_main_v7 (F := Ideal) x0 x1 (ix4 h p r d) = ∑ i : Fin 8192, x0 (ix2 i (chOf h r)) * x1 (ix2 i (colOf p d)) := by
  rw [Cert.Reference5Ideal.Read.val_main_v7_apply, Cert.Reference5Ideal.Read.val_main_v6_apply, Cert.Reference5Ideal.Read.val_main_v5_apply,
    Cert.Reference5Ideal.Read.val_main_v4_apply]
  refine Finset.sum_congr rfl fun i _ => (mul_comm _ _).trans ?_
  refine congrArg₂ (fun a b : EReal => a * b) (congrArg x0 (ext2 _ i (chOf h r) rfl ?_)) (congrArg x1 (ext2 _ i (colOf p d) rfl ?_))
  · show (((h.val * 512 + r.val) * 4 + p.val) * 1024 + d.val) / 4096 = 512 * h.val + r.val
    have := d.isLt; have := p.isLt; omega
  · show (((h.val * 512 + r.val) * 4 + p.val) * 1024 + d.val) % 4096 = 1024 * p.val + d.val
    have := d.isLt; have := p.isLt; omega

theorem value : G2 m c = Cert.Reference5Ideal.Read.val_main_v7 (F := Ideal) (A0 m c) (A1 m c) := funext fun (i : S2x4x512x1024.Idx) =>
  (congrArg _ (eq_ix4 i)).trans ((value_at m c (i 0) (i 1) (i 2) (i 3)).trans
    ((ref_at _ _ (i 0) (i 1) (i 2) (i 3)).symm.trans (congrArg _ (eq_ix4 i).symm)))

/-! ## The claims -/

theorem ref_run (m' : (ℓ : Loc Cert.Reference5Ideal.nD Cert.Reference5Ideal.τ Cert.Reference5Ideal.sig) → Buf (Elt Ideal) ℓ) (g' : Dev Cert.Reference5Ideal.nD → PrngReg) :
    θ_run (Cert.Reference5Ideal.defs (F := Ideal)) (onTc (τ := Cert.Reference5Ideal.τ) (Cert.Reference5Ideal.main (F := Ideal))) ⟨m', fun _ => 0, g'⟩ (fun r => (∀ c : Dev Cert.Reference5Ideal.nD,
      r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))
      ∧ r.2.sem = fun _ => 0) :=
  (θ_run _ _ _).mono (fun r h => ⟨fun c => (h c).2, sem_eq_zero_of_no_sems (by decide) r.2⟩) (Cert.Reference5Ideal.Value.run m' g')

theorem algebraic : Cert.algebraic_Kernel5Ideal_Reference5Ideal := fun m g m' g' _ ha => by
  refine ⟨_, (θ_run _ _ _).mono (fun r h c => ⟨(h c).1.trans (value m c), (h c).2⟩) (run m g),
    (θ_run _ _ _).mono (fun r h c => ⟨(h c).1.trans ((Cert.Reference5Ideal.Read.val_main_v7_eq _ _).trans ?_), (h c).2⟩) (Cert.Reference5Ideal.Value.run m' g')⟩
  obtain ⟨e0, e1⟩ := ha c
  rw [e0, e1]

end Cert.Proof.GradUp

end
-- ==== Proof.Hand.Norm.lean ====
/-
  The root-mean-square norm of a row and its derivative over the extended reals: no row needs to be finite. The mean of
  squares and the small constant are positive, or infinite, and so the reciprocal root is a non-negative real.
-/
module

public import proofs.«01_k».proof.Proof.Hand.Product
public import proofs.«01_k».proof.Proof.Hand.RefValue

@[expose] public section

noncomputable section

namespace Cert.Proof.Norm

open Idealize.ShloMosaic Idealize.ShloMosaic.ValueIdx Cert.Proof.Attn

/-- The literals 1024, 1e-6 and -1/2. -/
def kk : EReal := Ideal.ofBits .f32 0x44800000#32
def eps : EReal := Ideal.ofBits .f32 0x358637BD#32
def half : EReal := Ideal.ofBits .f32 0xBF000000#32

theorem kk_eq : kk = ((1024 : ℝ) : EReal) := by
  unfold kk; simp [Ideal.ofBits, Ideal.ieee, -EReal.coe_mul]; norm_num

theorem half_eq : half = ((-(1 / 2) : ℝ) : EReal) := by
  unfold half; simp [Ideal.ofBits, Ideal.ieee, -EReal.coe_mul]; norm_num

theorem eps_pos : 0 < eps := by
  unfold eps; simp [Ideal.ofBits, Ideal.ieee, -EReal.coe_mul]

/-- A row's mean of squares and the constant, and its reciprocal root. -/
def ms (x : Fin 1024 → EReal) : EReal := Ideal.div (∑ k, x k * x k) kk + eps
def rs (x : Fin 1024 → EReal) : EReal := Ideal.rsqrt (ms x)

theorem div_kk (a : EReal) : Ideal.div a kk = a * ((1024⁻¹ : ℝ) : EReal) := by
  rw [kk_eq, Ideal.div_coe (by norm_num), one_div]

theorem sq_nonneg' (a : EReal) : 0 ≤ a * a := by
  rcases le_total 0 a with h | h
  · exact mul_nonneg h h
  · rw [← neg_mul_neg]; exact mul_nonneg (EReal.neg_nonneg.2 h) (EReal.neg_nonneg.2 h)

theorem ms_pos (x : Fin 1024 → EReal) : 0 < ms x := by
  unfold ms
  rw [div_kk]
  refine lt_of_lt_of_le eps_pos (le_add_of_nonneg_left (mul_nonneg (Finset.sum_nonneg fun k _ => sq_nonneg' _) ?_))
  exact EReal.coe_nonneg.2 (by norm_num)

/-- The root's derivative, as a quotient and as a cube. -/
theorem div_eq_cube {v : EReal} (h : 0 < v) : Ideal.div (Ideal.rsqrt v) v = Ideal.rsqrt v * Ideal.rsqrt v * Ideal.rsqrt v := by
  induction v using EReal.rec with
  | bot => exact absurd h not_lt_bot
  | top => simp [Ideal.div]
  | coe r =>
    have hr : 0 < r := EReal.coe_pos.1 h
    have hs : Real.sqrt r ≠ 0 := (Real.sqrt_pos.2 hr).ne'
    rw [Ideal.rsqrt_coe, if_neg hr.le.not_gt, if_neg hr.ne', div_real _ _ hr.ne', ← EReal.coe_mul, ← EReal.coe_mul]
    refine congrArg _ ?_
    have hq : (Real.sqrt r)⁻¹ * (Real.sqrt r)⁻¹ = r⁻¹ := by rw [← mul_inv, Real.mul_self_sqrt hr.le]
    rw [div_eq_mul_inv, mul_assoc, hq]

theorem neg_eq_halves (y : EReal) : half * y + half * y = -y := by
  rw [half_eq]
  induction y using EReal.rec with
  | bot => rw [EReal.coe_mul_bot_of_neg (by norm_num)]; rfl
  | top => rw [EReal.coe_mul_top_of_neg (by norm_num)]; rfl
  | coe r => rw [← EReal.coe_mul, ← EReal.coe_add, ← EReal.coe_neg]; exact congrArg _ (by ring)

/-- The cotangent of a normed row's argument at a place, `c` being the cotangent of the row after its gain. -/
def back (x c : Fin 1024 → EReal) (d : Fin 1024) : EReal :=
  rs x * c d - x d * (rs x * rs x * rs x * Ideal.div (∑ k, c k * x k) kk)

/-- The same, as the chain rule spells it: the mean's share comes once from each factor of the square. -/
theorem back_eq (x c : Fin 1024 → EReal) (d : Fin 1024) :
    c d * rs x + x d * Ideal.div ((∑ k, x k * c k) * (half * Ideal.div (rs x) (ms x))) kk
        + Ideal.div ((∑ k, x k * c k) * (half * Ideal.div (rs x) (ms x))) kk * x d
      = back x c d := by
  have hs : ∑ k, x k * c k = ∑ k, c k * x k := Finset.sum_congr rfl fun k _ => mul_comm _ _
  have hc : Ideal.div (rs x) (ms x) = rs x * rs x * rs x := div_eq_cube (ms_pos x)
  unfold back
  rw [hs, hc, div_kk, div_kk, add_assoc, sub_eq_add_neg]
  refine congrArg₂ (fun a b : EReal => a + b) (mul_comm _ _) ?_
  rw [← neg_eq_halves]
  generalize (∑ k, c k * x k) = S
  generalize rs x * rs x * rs x = R
  refine congrArg₂ (fun a b : EReal => a + b) ?_ ?_
  · simp only [mul_comm, mul_left_comm, mul_assoc]
  · simp only [mul_comm, mul_left_comm, mul_assoc]

/-! ## Rows and columns of a block -/

/-- A row's sum. -/
theorem rowsum_at {n : ℕ} (S : FVec Ideal ⟨2, ![n, 1024]⟩ .f32) (h : (⟨2, ![n, 1024]⟩ : Shape).Reduces [1] ⟨1, ![n]⟩) (hφ) (hacc) (r : Fin n) :
    multiReduction .add [1] ⟨1, ![n]⟩ S 0x00000000#32 h hφ hacc (ix1 r) = ∑ k : Fin 1024, S (ix2 r k) := by
  refine (Ideal.multiReduction_add_single S _ h hφ hacc (ix1 r)).trans (Finset.sum_congr rfl fun k _ => congrArg S ?_)
  funext a; match a with | ⟨0, _⟩ => rfl | ⟨1, _⟩ => rfl

/-- A column's sum. -/
theorem colsum_at {n : ℕ} (S : FVec Ideal ⟨2, ![n, 1024]⟩ .f32) (h : (⟨2, ![n, 1024]⟩ : Shape).Reduces [0] ⟨1, ![1024]⟩) (hφ) (hacc) (d : Fin 1024) :
    multiReduction .add [0] ⟨1, ![1024]⟩ S 0x00000000#32 h hφ hacc (ix1 d) = ∑ r : Fin n, S (ix2 r d) := by
  refine (Ideal.multiReduction_add_single S _ h hφ hacc (ix1 d)).trans (Finset.sum_congr rfl fun k _ => congrArg S ?_)
  funext a; match a with | ⟨0, _⟩ => rfl | ⟨1, _⟩ => rfl

/-- One column broadcast over the columns, one row over the rows. -/
theorem bcol_at {n : ℕ} (x : FVec Ideal ⟨2, ![n, 1]⟩ .f32) (h : (⟨2, ![n, 1]⟩ : Shape).Broadcasts ⟨2, ![n, 1024]⟩)
    (i : Fin n) (j : Fin 1024) (hn : n ≠ 1) : broadcastTo ⟨2, ![n, 1024]⟩ x h (ix2 i j) = x (ix2 i 0) :=
  broadcastTo_apply x h _ _ fun c => match c with
    | ⟨0, _⟩ => (if_neg hn).symm
    | ⟨1, _⟩ => rfl

theorem brow_at {n : ℕ} (x : FVec Ideal ⟨2, ![1, 1024]⟩ .f32) (h : (⟨2, ![1, 1024]⟩ : Shape).Broadcasts ⟨2, ![n, 1024]⟩)
    (i : Fin n) (j : Fin 1024) : broadcastTo ⟨2, ![n, 1024]⟩ x h (ix2 i j) = x (ix2 0 j) :=
  broadcastTo_apply x h _ _ fun c => match c with
    | ⟨0, _⟩ => rfl
    | ⟨1, _⟩ => rfl

/-- A block's row, as a function of the place. -/
def rowOf {n : ℕ} (X : FVec Ideal ⟨2, ![n, 1024]⟩ .f32) (r : Fin n) (k : Fin 1024) : EReal := X (ix2 r k)

/-- The reciprocal roots of a block's rows, as the kernels compute them. -/
def roots {n : ℕ} (X : FVec Ideal ⟨2, ![n, 1024]⟩ .f32) (h : (⟨2, ![n, 1024]⟩ : Shape).Reduces [1] ⟨1, ![n]⟩) (hφ : FKind.Formats .f32) (hacc : (0x00000000#32 : BitVec 32) = FKind.add.neutral .f32 hφ)
    (hc : (⟨1, ![n]⟩ : Shape).ShapeCasts ⟨2, ![n, 1]⟩) : FVec Ideal ⟨2, ![n, 1]⟩ .f32 :=
  rsqrt (addf (divf (shapeCast ⟨2, ![n, 1]⟩ (multiReduction .add [1] ⟨1, ![n]⟩ (mulf X X) 0x00000000#32 h hφ hacc) hc)
    (broadcast ⟨2, ![n, 1]⟩ (Scalar.ofBits (F := Ideal) .f32 0x44800000#32))) (broadcast ⟨2, ![n, 1]⟩ (Scalar.ofBits (F := Ideal) .f32 0x358637BD#32)))

theorem cast_at {n : ℕ} (x : FVec Ideal ⟨1, ![n]⟩ .f32) (hc : (⟨1, ![n]⟩ : Shape).ShapeCasts ⟨2, ![n, 1]⟩) (r : Fin n) :
    shapeCast ⟨2, ![n, 1]⟩ x hc (ix2 r 0) = x (ix1 r) :=
  shapeCast_apply x hc (ix2 r 0) (ix1 r) (by rewrite [Shape.rowMajor_val_two, Shape.rowMajor_val_one]; show r.val = r.val * 1 + 0; omega)

theorem cast1_at (x : FVec Ideal ⟨1, ![1024]⟩ .f32) (hc : (⟨1, ![1024]⟩ : Shape).ShapeCasts ⟨2, ![1, 1024]⟩) (d : Fin 1024) :
    shapeCast ⟨2, ![1, 1024]⟩ x hc (ix2 0 d) = x (ix1 d) :=
  shapeCast_apply x hc (ix2 0 d) (ix1 d) (by rewrite [Shape.rowMajor_val_two, Shape.rowMajor_val_one]; show d.val = 0 * 1024 + d.val; omega)

theorem roots_at {n : ℕ} (X : FVec Ideal ⟨2, ![n, 1024]⟩ .f32) (h : (⟨2, ![n, 1024]⟩ : Shape).Reduces [1] ⟨1, ![n]⟩) (hφ : FKind.Formats .f32) (hacc : (0x00000000#32 : BitVec 32) = FKind.add.neutral .f32 hφ)
    (hc : (⟨1, ![n]⟩ : Shape).ShapeCasts ⟨2, ![n, 1]⟩) (r : Fin n) : roots X h hφ hacc hc (ix2 r 0) = rs (rowOf X r) :=
  congrArg (fun z : EReal => Ideal.rsqrt (Ideal.div z kk + eps)) ((cast_at _ hc r).trans (rowsum_at (mulf X X) h hφ hacc r))

end Cert.Proof.Norm

end
-- ==== Proof.Hand.MlpUp.lean ====
/-
  The up projection of the normed row: block by block of 256 rows, chunk by chunk of 512 channels. The kernel's operations
  on a row are the reference's, one by one.
-/
module

public import proofs.«01_k».proof.Defs
public import proofs.«01_k».proof.Proof.Hand.Norm
public import proofs.«01_k».proof.Proof.Gen.Kernel6Ideal.Value
public import proofs.«01_k».proof.Proof.Gen.Reference6Ideal.Run
public import proofs.«01_k».proof.Proof.Gen.Reference6Ideal.Read
public import Idealize.ShloMosaic.Lib.MatmulPlain
public import Idealize.ShloMosaic.Lib.Pipeline.ValueKit.Geometry

@[expose] public section

set_option maxRecDepth 16384

noncomputable section

namespace Cert.Proof.MlpUp

open Cert.Kernel6Ideal Cert.Kernel6Ideal.Gen Cert.Kernel6Ideal.Value
open Idealize.ShloMosaic Idealize.ShloMosaic.TcCoe Idealize.ShloMosaic.ValueIdx Idealize.SL.Sem Cert.Proof.Attn Cert.Proof.Product Cert.Proof.Norm

/-! ## A block -/

/-- An element of the normed rows. -/
def nrm {n : ℕ} (x0 : FVec Ideal ⟨2, ![n, 1024]⟩ .f32) (x1 : FVec Ideal S1x1024 .f32) (r : Fin n) (k : Fin 1024) : EReal :=
  x0 (ix2 r k) * rs (rowOf x0 r) * x1 (ix2 0 k)

/-- An element of the product with the projection. -/
def up {n : ℕ} (x0 : FVec Ideal ⟨2, ![n, 1024]⟩ .f32) (x1 : FVec Ideal S1x1024 .f32) (x2 : FVec Ideal S1024x4096 .bf16) (r : Fin n) (d : Fin 4096) : EReal :=
  ∑ k : Fin 1024, nrm x0 x1 r k * x2 (ix2 k d)

theorem pay5_at (x0 : FVec Ideal S256x1024 .f32) (x1 : FVec Ideal S1x1024 .f32) (r : Fin 256) (k : Fin 1024) :
    k0_pay5 (F := Ideal) x0 x1 (ix2 r k) = nrm x0 x1 r k := by
  unfold k0_pay5
  refine congrArg₂ (fun a b : EReal => a * b) (congrArg (fun z : EReal => x0 (ix2 r k) * z) ?_) ?_
  · refine (bcol_at _ broadcasts_S256x1_S256x1024 r k (by decide)).trans ?_
    exact roots_at x0 reduces_S256x1024_S256 (.inl rfl) rfl shapeCasts_S256_S256x1 r
  · exact brow_at x1 broadcasts_S1x1024_S256x1024 r k

/-- A chunk's payload. -/
def chunk (x : FVec Ideal S256x1024 .bf16) (w : FVec Ideal S1024x512 .bf16) : FVec Ideal S256x512 .f32 :=
  matmul dot_S256x1024_S1024x512_S256x512_1_0_0_1_n_n none x w (constant (F := Ideal) S256x512 .f32 0x00000000#32)

theorem chunk_at (x : FVec Ideal S256x1024 .bf16) (w : FVec Ideal S1024x512 .bf16) (r : Fin 256) (s : Fin 512) :
    chunk x w (ix2 r s) = ∑ k : Fin 1024, x (ix2 r k) * w (ix2 k s) := by
  refine (Ideal.matmul_plain_apply none x w _ r s).trans ?_
  rw [zero_f32, zero_add]

/-- A block's element, at any place. -/
def block (x0 : FVec Ideal S256x1024 .f32) (x1 : FVec Ideal S1x1024 .f32) (x2 : FVec Ideal S1024x4096 .bf16) : FVec Ideal S256x4096 .f32 :=
  fun y => up x0 x1 x2 (y 0) (y 1)

/-- The chunk that starts at channel `o` is the block's elements there. -/
theorem piece_at (x0 : FVec Ideal S256x1024 .f32) (x1 : FVec Ideal S1x1024 .f32) (x2 : FVec Ideal S1024x4096 .bf16) (o : ℕ)
    (hw : ∀ a, (![0, o] : Fin 2 → ℕ) a + S1024x512.size a ≤ S1024x4096.size a) (hu : ∀ a, (![0, o] : Fin 2 → ℕ) a + S256x512.size a ≤ S256x4096.size a)
    (y : S256x512.Idx) :
    chunk (k0_pay5 (F := Ideal) x0 x1) (View.ld (Val := Elt Ideal) (e' := .bf16) x2 (Rect.unit (s := S1024x4096) ![0, o] S1024x512.size hw)) y
      = block x0 x1 x2 ((Rect.unit (s := S256x4096) ![0, o] S256x512.size hu).emb y) := by
  have ho : o + 512 ≤ 4096 := hw 1
  have hs : ∀ s : Fin 512, o + s.val < 4096 := fun s => by have := s.isLt; omega
  have hy : y = ix2 (y 0) (y 1) := ext2 _ (y 0) (y 1) rfl rfl
  have e : (Rect.unit (s := S256x4096) ![0, o] S256x512.size hu).emb y = ix2 (y 0) (⟨o + (y 1).val, hs (y 1)⟩ : Fin 4096) :=
    ext2 _ (y 0) ⟨o + (y 1).val, hs (y 1)⟩ (by show 0 + 1 * (y 0).val = _; omega) (by show o + 1 * (y 1).val = o + (y 1).val; omega)
  have ew : ∀ k : Fin 1024, View.ld (Val := Elt Ideal) (e' := .bf16) x2 (Rect.unit (s := S1024x4096) ![0, o] S1024x512.size hw) (ix2 k (y 1))
      = x2 (ix2 k (⟨o + (y 1).val, hs (y 1)⟩ : Fin 4096)) := fun k =>
    congrArg x2 (ext2 _ k ⟨o + (y 1).val, hs (y 1)⟩ (by show 0 + 1 * k.val = _; omega) (by show o + 1 * (y 1).val = o + (y 1).val; omega))
  rw [e]
  refine (congrArg _ hy).trans ((chunk_at _ _ (y 0) (y 1)).trans ?_)
  exact Finset.sum_congr rfl fun k _ => congrArg₂ (fun a b : EReal => a * b) (pay5_at x0 x1 (y 0) k) (ew k)

theorem ld0 (x0 : FVec Ideal S256x1024 .f32) : View.ld (Val := Elt Ideal) (e' := .f32) x0 r0_0 = x0 := funext fun (z : S256x1024.Idx) =>
  congrArg x0 ((ext2 _ (z 0) (z 1) (by show 0 + 1 * (z 0).val = _; omega) (by show 0 + 1 * (z 1).val = _; omega)).trans (ext2 z (z 0) (z 1) rfl rfl).symm)
theorem ld1 (x1 : FVec Ideal S1x1024 .f32) : View.ld (Val := Elt Ideal) (e' := .f32) x1 r0_1 = x1 := funext fun (z : S1x1024.Idx) =>
  congrArg x1 ((ext2 _ (z 0) (z 1) (by show 0 + 1 * (z 0).val = _; omega) (by show 0 + 1 * (z 1).val = _; omega)).trans (ext2 z (z 0) (z 1) rfl rfl).symm)

/-- What the body leaves for a block: every element. -/
theorem out3_eq (x0 : FVec Ideal S256x1024 .f32) (x1 : FVec Ideal S1x1024 .f32) (x2 : FVec Ideal S1024x4096 .bf16) :
    out0_3 (F := Ideal) x0 x1 x2 = block x0 x1 x2 := by
  funext y
  unfold out0_3 k0_pay10
  rw [ld0, ld1]
  refine View.canon_apply_of_pieces (Val := Elt Ideal) (block x0 x1 x2) _ ?_ y (cover0_3 _ _ _ _ _ _ _ _ y)
  refine List.forall_mem_cons.2 ⟨fun z => piece_at x0 x1 x2 3584 inb_S1024x4096_S1024x512_0_3584 inb_S256x4096_S256x512_0_3584 z, ?_⟩
  refine List.forall_mem_cons.2 ⟨fun z => piece_at x0 x1 x2 3072 inb_S1024x4096_S1024x512_0_3072 inb_S256x4096_S256x512_0_3072 z, ?_⟩
  refine List.forall_mem_cons.2 ⟨fun z => piece_at x0 x1 x2 2560 inb_S1024x4096_S1024x512_0_2560 inb_S256x4096_S256x512_0_2560 z, ?_⟩
  refine List.forall_mem_cons.2 ⟨fun z => piece_at x0 x1 x2 2048 inb_S1024x4096_S1024x512_0_2048 inb_S256x4096_S256x512_0_2048 z, ?_⟩
  refine List.forall_mem_cons.2 ⟨fun z => piece_at x0 x1 x2 1536 inb_S1024x4096_S1024x512_0_1536 inb_S256x4096_S256x512_0_1536 z, ?_⟩
  refine List.forall_mem_cons.2 ⟨fun z => piece_at x0 x1 x2 1024 inb_S1024x4096_S1024x512_0_1024 inb_S256x4096_S256x512_0_1024 z, ?_⟩
  refine List.forall_mem_cons.2 ⟨fun z => piece_at x0 x1 x2 512 inb_S1024x4096_S1024x512_0_512 inb_S256x4096_S256x512_0_512 z, ?_⟩
  exact List.forall_mem_cons.2 ⟨fun z => piece_at x0 x1 x2 0 inb_S1024x4096_S1024x512_0_0 inb_S256x4096_S256x512_0_0 z, List.forall_mem_nil _⟩

theorem out4_eq (x0 : FVec Ideal S256x1024 .f32) (x1 : FVec Ideal S1x1024 .f32) (x2 : FVec Ideal S1024x4096 .bf16) :
    out0_4 (F := Ideal) x0 x1 x2 = k0_pay5 (F := Ideal) x0 x1 := by
  funext y
  unfold out0_4
  rw [ld0, ld1]
  refine View.canon_apply_of_pieces (Val := Elt Ideal) (k0_pay5 (F := Ideal) x0 x1) _ ?_ y (cover0_4 _ y)
  refine List.forall_mem_cons.2 ⟨fun z => ?_, List.forall_mem_nil _⟩
  exact (congrFun (ld0 (k0_pay5 (F := Ideal) x0 x1)) z).symm

/-! ## The arrays -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

theorem point_lt (t : Fin cfg0.N) : t.val < 32 := t.isLt
/-- A row of a point's block, among all rows. -/
def place (t : Fin cfg0.N) (r : Fin 256) : Fin 8192 := ⟨256 * t.val + r.val, by have := point_lt t; omega⟩

variable (m : (ℓ : Loc nD τ sig) → Buf (Elt Ideal) ℓ) (c : Dev nD)

/-- The arguments, named. -/
abbrev A0 : FVec Ideal S8192x1024 .f32 := m ((c : Thread nD τ).loc main_arg0)
abbrev A1 : FVec Ideal S1x1024 .f32 := m ((c : Thread nD τ).loc main_arg1)
abbrev A2 : FVec Ideal S1024x4096 .bf16 := m ((c : Thread nD τ).loc main_arg2)

theorem iblk0_at (t : Fin cfg0.N) (r : Fin 256) (k : Fin 1024) : iblk m c 0 t (ix2 r k) = A0 m c (ix2 (place t r) k) := by
  refine Eq.trans ?_ (congrFun (V_main_arg0 m c) (ix2 (place t r) k))
  refine congrArg (V m c main_arg0) (ext2 _ (place t r) k ?_ ?_) <;> blk_simp [idx0] <;> simp [place, Nat.mul_comm]

theorem iblk1_at (t : Fin cfg0.N) (k : Fin 1024) : iblk m c 1 t (ix2 (0 : Fin 1) k) = A1 m c (ix2 0 k) := by
  refine Eq.trans ?_ (congrFun (V_main_arg1 m c) (ix2 0 k))
  refine congrArg (V m c main_arg1) (ext2 _ 0 k ?_ ?_) <;> blk_simp [idx1] <;> simp

theorem iblk2_at (t : Fin cfg0.N) (k : Fin 1024) (d : Fin 4096) : iblk m c 2 t (ix2 k d) = A2 m c (ix2 k d) := by
  refine Eq.trans ?_ (congrFun (V_main_arg2 m c) (ix2 k d))
  refine congrArg (V m c main_arg2) (ext2 _ k d ?_ ?_) <;> blk_simp [idx2] <;> simp

/-- An element depends on its row's entries, the gain and its channel's. -/
theorem nrm_congr {n n' : ℕ} {x0 : FVec Ideal ⟨2, ![n, 1024]⟩ .f32} {x0' : FVec Ideal ⟨2, ![n', 1024]⟩ .f32} {x1 x1' : FVec Ideal S1x1024 .f32}
    {r : Fin n} {r' : Fin n'} (h0 : ∀ k, x0 (ix2 r k) = x0' (ix2 r' k)) (h1 : ∀ k, x1 (ix2 0 k) = x1' (ix2 0 k)) (k : Fin 1024) :
    nrm x0 x1 r k = nrm x0' x1' r' k := by
  have e : rowOf x0 r = rowOf x0' r' := funext h0
  unfold nrm
  rw [e, h0, h1]

theorem up_congr {n n' : ℕ} {x0 : FVec Ideal ⟨2, ![n, 1024]⟩ .f32} {x0' : FVec Ideal ⟨2, ![n', 1024]⟩ .f32} {x1 x1' : FVec Ideal S1x1024 .f32}
    {x2 x2' : FVec Ideal S1024x4096 .bf16} {r : Fin n} {r' : Fin n'} {d : Fin 4096} (h0 : ∀ k, x0 (ix2 r k) = x0' (ix2 r' k))
    (h1 : ∀ k, x1 (ix2 0 k) = x1' (ix2 0 k)) (h2 : ∀ k, x2 (ix2 k d) = x2' (ix2 k d)) : up x0 x1 x2 r d = up x0' x1' x2' r' d := by
  unfold up
  exact Finset.sum_congr rfl fun k _ => congrArg₂ (fun a b : EReal => a * b) (nrm_congr h0 h1 k) (h2 k)

theorem arr3_at (i : Fin 8192) (d : Fin 4096) : (dats m 0 c).arrAt 3 cfg0.N (ix2 i d) = up (A0 m c) (A1 m c) (A2 m c) i d := by
  refine (dats m 0 c).arrAt_forall_of_covers 3 (fun i v => v = up (A0 m c) (A1 m c) (A2 m c) (i 0) (i 1)) (by decide +kernel) (fun t hf y => ?_) (ix2 i d)
  have hemb : ((cfg0.win 3).blk t).view.emb y = ix2 (place t (y 0)) (y 1) := by
    refine ext2 _ (place t (y 0)) (y 1) ?_ ?_ <;> blk_simp [idx3] <;> simp [place, Nat.mul_comm]
  rw [hemb]
  have ha : (dats m 0 c).after 3 t = block (iblk m c 0 t) (iblk m c 1 t) (iblk m c 2 t) := (after0_3 m c t).trans (out3_eq _ _ _)
  exact (congrFun ha y).trans (up_congr (iblk0_at m c t (y 0)) (iblk1_at m c t) fun k => iblk2_at m c t k (y 1))

theorem arr4_at (i : Fin 8192) (d : Fin 1024) : (dats m 0 c).arrAt 4 cfg0.N (ix2 i d) = nrm (A0 m c) (A1 m c) i d := by
  refine (dats m 0 c).arrAt_forall_of_covers 4 (fun i v => v = nrm (A0 m c) (A1 m c) (i 0) (i 1)) (by decide +kernel) (fun t hf y => ?_) (ix2 i d)
  have hy : y = ix2 (y 0) (y 1) := ext2 _ (y 0) (y 1) rfl rfl
  have hemb : ((cfg0.win 4).blk t).view.emb y = ix2 (place t (y 0)) (y 1) := by
    refine ext2 _ (place t (y 0)) (y 1) ?_ ?_ <;> blk_simp [idx4] <;> simp [place, Nat.mul_comm]
  rw [hemb]
  have ha : (dats m 0 c).after 4 t = k0_pay5 (F := Ideal) (iblk m c 0 t) (iblk m c 1 t) := (after0_4 m c t).trans (out4_eq _ _ (iblk m c 2 t))
  exact (congrFun ha y).trans ((congrArg _ hy).trans ((pay5_at _ _ (y 0) (y 1)).trans (nrm_congr (iblk0_at m c t (y 0)) (iblk1_at m c t) (y 1))))

/-! ## The reference -/

open Cert.Reference6Ideal.Read in
theorem ref_norm (x0 : FVec Ideal S8192x1024 .f32) (x1 : FVec Ideal S1x1024 .f32) (i : Fin 8192) (k : Fin 1024) :
    val_main_v11 (F := Ideal) x0 x1 (ix2 i k) = nrm x0 x1 i k := by
  have hsum : val_main_v1 (F := Ideal) x0 (ix1 i) = ∑ k : Fin 1024, rowOf x0 i k * rowOf x0 i k := by
    refine (val_main_v1_apply x0 (ix1 i)).trans ((congrArg₂ (fun a b : EReal => a + b) Ideal.ofBits_zero_f32 ?_).trans (zero_add _))
    refine Finset.sum_congr rfl fun k _ => ?_
    have e : idx_main_v1 (ix1 i) k = ix2 i k := ext2 _ i k rfl rfl
    exact congrArg₂ (fun a b : EReal => a * b) (congrArg x0 e) (congrArg x0 e)
  have e2 : idx_main_v2 (ix2 i 0) = ix1 i := funext fun a => match a with | ⟨0, _⟩ => rfl
  have hm : val_main_v2 (F := Ideal) x0 (ix2 i 0) = ∑ k : Fin 1024, rowOf x0 i k * rowOf x0 i k := by
    rw [val_main_v2_apply, e2, hsum]
  have hrs : val_main_v7 (F := Ideal) x0 (ix2 i 0) = rs (rowOf x0 i) := by
    rw [val_main_v7_apply, val_main_v6_apply, val_main_v4_apply, hm, val_main_v3_apply, val_main_v5_apply]
    rfl
  have e8 : idx_main_v8 (ix2 i k) = ix2 i 0 := ext2 _ i 0 rfl rfl
  have e10 : idx_main_v10 (ix2 i k) = ix2 0 k := ext2 _ 0 k rfl rfl
  rw [val_main_v11_apply, val_main_v9_apply, val_main_v8_apply, e8, hrs, val_main_v10_apply, e10]
  rfl

open Cert.Reference6Ideal.Read in
theorem ref_up (x0 : FVec Ideal S8192x1024 .f32) (x1 : FVec Ideal S1x1024 .f32) (x2 : FVec Ideal S1024x4096 .bf16) (i : Fin 8192) (d : Fin 4096) :
    val_main_v13 (F := Ideal) x0 x1 x2 (ix2 i d) = up x0 x1 x2 i d := by
  refine (val_main_v13_apply x0 x1 x2 (ix2 i d)).trans (Finset.sum_congr rfl fun k _ => ?_)
  exact congrArg₂ (fun a b : EReal => a * b) ((congrArg _ (ext2 _ i k rfl rfl)).trans (ref_norm x0 x1 i k)) (congrArg x2 (ext2 _ k d rfl rfl))

theorem value3 : (dats m 0 c).arrAt 3 cfg0.N = Cert.Reference6Ideal.Read.val_main_v13 (F := Ideal) (A0 m c) (A1 m c) (A2 m c) := funext fun (i : S8192x4096.Idx) => by
  have e : i = ix2 (i 0) (i 1) := ext2 _ (i 0) (i 1) rfl rfl
  exact (congrArg _ e).trans ((arr3_at m c (i 0) (i 1)).trans ((ref_up _ _ _ (i 0) (i 1)).symm.trans (congrArg _ e.symm)))

theorem value4 : (dats m 0 c).arrAt 4 cfg0.N = Cert.Reference6Ideal.Read.val_main_v14 (F := Ideal) (A0 m c) (A1 m c) := funext fun (i : S8192x1024.Idx) => by
  have e : i = ix2 (i 0) (i 1) := ext2 _ (i 0) (i 1) rfl rfl
  exact (congrArg _ e).trans ((arr4_at m c (i 0) (i 1)).trans ((ref_norm _ _ (i 0) (i 1)).symm.trans (congrArg (Cert.Reference6Ideal.Read.val_main_v11 (F := Ideal) (A0 m c) (A1 m c)) e.symm)))

/-! ## The claims -/

theorem ref_run (m' : (ℓ : Loc Cert.Reference6Ideal.nD Cert.Reference6Ideal.τ Cert.Reference6Ideal.sig) → Buf (Elt Ideal) ℓ) (g' : Dev Cert.Reference6Ideal.nD → PrngReg) :
    θ_run (Cert.Reference6Ideal.defs (F := Ideal)) (onTc (τ := Cert.Reference6Ideal.τ) (Cert.Reference6Ideal.main (F := Ideal))) ⟨m', fun _ => 0, g'⟩ (fun r => (∀ c : Dev Cert.Reference6Ideal.nD,
      r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))
      ∧ r.2.sem = fun _ => 0) :=
  (θ_run _ _ _).mono (fun r h => ⟨fun c => (h c).2.2, sem_eq_zero_of_no_sems (by decide) r.2⟩) (Cert.Reference6Ideal.Value.run m' g')

theorem algebraic : Cert.algebraic_Kernel6Ideal_Reference6Ideal := fun m g m' g' _ ha => by
  refine ⟨_, _, (θ_run _ _ _).mono (fun r h c => ⟨(h c).1.trans (value3 m c), (h c).2.1.trans (value4 m c), (h c).2.2⟩) (run_blocks m g),
    (θ_run _ _ _).mono (fun r h c => ⟨(h c).1.trans ((Cert.Reference6Ideal.Read.val_main_v13_eq _ _ _).trans ?_),
      (h c).2.1.trans ((Cert.Reference6Ideal.Read.val_main_v14_eq _ _).trans ?_), (h c).2.2⟩) (Cert.Reference6Ideal.Value.run m' g')⟩
  · obtain ⟨e0, e1, e2⟩ := ha c
    rw [e0, e1, e2]
  · obtain ⟨e0, e1, e2⟩ := ha c
    rw [e0, e1]

end Cert.Proof.MlpUp

end
-- ==== Proof.Hand.GradIn.lean ====
/-
  The gradient of the input projection's columns of the recurrent branch: the kernel's tiles, added up, are the product of the normed
  input, transposed, and the cotangent.
-/
module

public import proofs.«01_k».proof.Defs
public import proofs.«01_k».proof.Proof.Hand.Product
public import proofs.«01_k».proof.Proof.Hand.RefValue
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit.Geometry

@[expose] public section

set_option maxRecDepth 16384

noncomputable section

namespace Cert.Proof.GradIn

open Cert.Kernel7Ideal Cert.Kernel7Ideal.Gen Cert.Kernel7Ideal.Value
open Idealize.ShloMosaic Idealize.ShloMosaic.TcCoe Idealize.ShloMosaic.ValueIdx Idealize.SL.Sem Cert.Proof.Attn Cert.Proof.Product

theorem idx0 : ∀ t : Fin cfg0.N, win0_0.index t = ![t.val % 16, 0] := (by decide +kernel : ∀ t : Fin grid0.N, _)
theorem idx1 : ∀ t : Fin cfg0.N, win0_1.index t = ![t.val % 16, t.val / 16] := (by decide +kernel : ∀ t : Fin grid0.N, _)

theorem point_lt (t : Fin cfg0.N) : t.val < 16 := t.isLt
/-- A point's row block, and a column of its column block. -/
def rb (t : Fin cfg0.N) : Fin 16 := ⟨t.val % 16, by omega⟩
def col (t : Fin cfg0.N) (d : Fin 1024) : Fin 1024 := ⟨1024 * (t.val / 16) + d.val, by have := point_lt t; omega⟩

variable (m : (ℓ : Loc nD τ sig) → Buf (Elt Ideal) ℓ) (c : Dev nD)

/-- The arguments, named. -/
abbrev A0 : FVec Ideal S8192x1024 .bf16 := m ((c : Thread nD τ).loc main_arg0)
abbrev A1 : FVec Ideal S8192x1024 .bf16 := m ((c : Thread nD τ).loc main_arg1)

theorem iblk0_at (t : Fin cfg0.N) (k : Fin 512) (r : Fin 1024) : iblk m c 0 t (ix2 k r) = A0 m c (ix2 (row (rb t) k) r) := by
  refine Eq.trans ?_ (congrFun (V_main_arg0 m c) (ix2 (row (rb t) k) r))
  refine congrArg (V m c main_arg0) (ext2 _ (row (rb t) k) r ?_ ?_) <;> blk_simp [idx0] <;> simp [rb, row, Nat.mul_comm]

theorem iblk1_at (t : Fin cfg0.N) (k : Fin 512) (d : Fin 1024) : iblk m c 1 t (ix2 k d) = A1 m c (ix2 (row (rb t) k) (col t d)) := by
  refine Eq.trans ?_ (congrFun (V_main_arg1 m c) (ix2 (row (rb t) k) (col t d)))
  refine congrArg (V m c main_arg1) (ext2 _ (row (rb t) k) (col t d) ?_ ?_) <;> blk_simp [idx1] <;> simp [rb, row, col, Nat.mul_comm]

/-! ## One tile -/

/-- One step of the accumulation at an element: the accumulator and the tile's product. -/
theorem pay2_at (acc : Vec Ideal S1024x1024 .f32) (x : Vec Ideal S512x1024 .bf16) (y : Vec Ideal S512x1024 .bf16) (r : Fin 1024) (d : Fin 1024) :
    k0_pay2 (F := Ideal) acc x y (ix2 r d) = acc (ix2 r d) + ∑ k : Fin 512, x (ix2 k r) * y (ix2 k d) := by
  unfold k0_pay2
  exact congrArg₂ (fun a b : EReal => a + b) (shapeCast_apply acc shapeCasts_S1024x1024_S1024x1024 (ix2 r d) (ix2 r d) rfl) (tn_at _ x y r d)

theorem pay1_at (j : S1024x1024.Idx) : k0_pay1 (F := Ideal) j = (0 : EReal) := by
  unfold k0_pay1
  exact Ideal.ofBits_zero_f32

/-- A tile's product at an element of the output block. -/
def dotAt (x : Vec Ideal S512x1024 .bf16) (y : Vec Ideal S512x1024 .bf16) (j : S1024x1024.Idx) : EReal :=
  ∑ k : Fin 512, x (ix2 k (j 0)) * y (ix2 k (j 1))

/-- Point `n`'s. -/
def tile (n : ℕ) (y : S1024x1024.Idx) : EReal :=
  if h : n < cfg0.N then dotAt (iblk m c 0 ⟨n, h⟩) (iblk m c 1 ⟨n, h⟩) y else 0

theorem idx_eq (y : S1024x1024.Idx) : y = ix2 (y 0) (y 1) := ext2 _ (y 0) (y 1) rfl rfl

theorem step_at (n : ℕ) (h : n < cfg0.N) (acc : Vec Ideal S1024x1024 .f32) (y : S1024x1024.Idx) :
    step2 m c n h acc y = (acc y : EReal) + tile m c n y := by
  rw [tile, dif_pos h, idx_eq y]
  exact pay2_at acc _ _ (y 0) (y 1)

theorem reset_at (n : ℕ) (h : n < cfg0.N) (y : S1024x1024.Idx) : reset2 m c n h y = (0 : EReal) + tile m c n y := by
  rw [tile, dif_pos h, idx_eq y]
  exact (pay2_at _ _ _ (y 0) (y 1)).trans (congrArg (fun z : EReal => z + _) (pay1_at _))

/-! ## The whole product -/

theorem value_at (r : Fin 1024) (d : Fin 1024) : G2 m c (ix2 r d) = ∑ i : Fin 8192, A0 m c (ix2 i r) * A1 m c (ix2 i d) := by
  have hr : run2Of (ix2 r d) = d.val / 1024 := by
    show 1 * (r.val / 1024 - 0) + 1 * (d.val / 1024 - 0) = _
    have := r.isLt; omega
  have hN : 16 * run2Of (ix2 r d) + 15 < cfg0.N := by
    rw [hr]; show _ < 16; have := d.isLt; omega
  have hl : loc2Of (ix2 r d) = ix2 r (⟨d.val % 1024, Nat.mod_lt _ (by decide)⟩ : Fin 1024) := ext2 _ r _ (Nat.mod_eq_of_lt r.isLt) rfl
  rw [G2, dif_pos hN, hl]
  refine (Pipeline.accAt_add_apply (reset2 m c) (step2 m c) (fun _ => (0 : EReal)) (tile m c) (16 * run2Of (ix2 r d)) 15
    (fun hb y => reset_at m c _ hb y) (fun n hn acc y _ _ => step_at m c n hn acc y) 15 le_rfl hN _).trans ?_
  rw [zero_add]
  refine sum_tiles (fun n => tile m c n _) _ _ fun s => ?_
  have hs : 16 * run2Of (ix2 r d) + s.val < cfg0.N := lt_of_le_of_lt (by omega) hN
  rw [tile, dif_pos hs]
  have e0 : rb ⟨_, hs⟩ = s := Fin.ext (by show (16 * run2Of (ix2 r d) + s.val) % 16 = s.val; omega)
  have e2 : col ⟨_, hs⟩ (⟨d.val % 1024, Nat.mod_lt _ (by decide)⟩ : Fin 1024) = d := Fin.ext (by
    show 1024 * ((16 * run2Of (ix2 r d) + s.val) / 16) + d.val % 1024 = d.val
    rw [hr]; omega)
  refine Finset.sum_congr rfl fun k _ => ?_
  exact congrArg₂ (fun a b : EReal => a * b) ((iblk0_at m c _ k r).trans (by rw [e0])) ((iblk1_at m c _ k _).trans (by rw [e0, e2]))

open Cert.Reference7Ideal.Read in
/-- The reference's element: the same sum, its factors in the other order. -/
theorem ref_at (x0 : FVec Ideal S8192x1024 .bf16) (x1 : FVec Ideal S8192x1024 .bf16) (r : Fin 1024) (d : Fin 1024) :
    val_main_v5 (F := Ideal) x0 x1 (ix2 r d) = ∑ i : Fin 8192, x0 (ix2 i r) * x1 (ix2 i d) := by
  rw [val_main_v5_apply, val_main_v4_apply]
  refine Finset.sum_congr rfl fun i _ => (mul_comm _ _).trans ?_
  exact congrArg₂ (fun a b : EReal => a * b) (congrArg x0 (ext2 _ i r rfl rfl)) (congrArg x1 (ext2 _ i d rfl rfl))

theorem value : G2 m c = Cert.Reference7Ideal.Read.val_main_v5 (F := Ideal) (A0 m c) (A1 m c) := funext fun (i : S1024x1024.Idx) =>
  (congrArg _ (eq_ix2 i)).trans ((value_at m c (i 0) (i 1)).trans ((ref_at _ _ (i 0) (i 1)).symm.trans (congrArg _ (eq_ix2 i).symm)))

/-! ## The claims -/

theorem ref_run (m' : (ℓ : Loc Cert.Reference7Ideal.nD Cert.Reference7Ideal.τ Cert.Reference7Ideal.sig) → Buf (Elt Ideal) ℓ) (g' : Dev Cert.Reference7Ideal.nD → PrngReg) :
    θ_run (Cert.Reference7Ideal.defs (F := Ideal)) (onTc (τ := Cert.Reference7Ideal.τ) (Cert.Reference7Ideal.main (F := Ideal))) ⟨m', fun _ => 0, g'⟩ (fun r => (∀ c : Dev Cert.Reference7Ideal.nD,
      r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))
      ∧ r.2.sem = fun _ => 0) :=
  (θ_run _ _ _).mono (fun r h => ⟨fun c => (h c).2, sem_eq_zero_of_no_sems (by decide) r.2⟩) (Cert.Reference7Ideal.Value.run m' g')

theorem algebraic : Cert.algebraic_Kernel7Ideal_Reference7Ideal := fun m g m' g' _ ha => by
  refine ⟨_, (θ_run _ _ _).mono (fun r h c => ⟨(h c).1.trans (value m c), (h c).2⟩) (run m g),
    (θ_run _ _ _).mono (fun r h c => ⟨(h c).1.trans ((Cert.Reference7Ideal.Read.val_main_v5_eq _ _).trans ?_), (h c).2⟩) (Cert.Reference7Ideal.Value.run m' g')⟩
  obtain ⟨e0, e1⟩ := ha c
  rw [e0, e1]

end Cert.Proof.GradIn

end
-- ==== Proof.Hand.GradGates.lean ====
/-
  The gradient of the input projection's columns of the gates: the kernel's tiles, added up, are the product of the normed
  input, transposed, and the cotangent.
-/
module

public import proofs.«01_k».proof.Defs
public import proofs.«01_k».proof.Proof.Hand.Product
public import proofs.«01_k».proof.Proof.Hand.RefValue
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit.Geometry

@[expose] public section

set_option maxRecDepth 16384

noncomputable section

namespace Cert.Proof.GradGates

open Cert.Kernel8Ideal Cert.Kernel8Ideal.Gen Cert.Kernel8Ideal.Value
open Idealize.ShloMosaic Idealize.ShloMosaic.TcCoe Idealize.ShloMosaic.ValueIdx Idealize.SL.Sem Cert.Proof.Attn Cert.Proof.Product

theorem idx0 : ∀ t : Fin cfg0.N, win0_0.index t = ![t.val % 16, 0] := (by decide +kernel : ∀ t : Fin grid0.N, _)
theorem idx1 : ∀ t : Fin cfg0.N, win0_1.index t = ![t.val % 16, t.val / 16] := (by decide +kernel : ∀ t : Fin grid0.N, _)

theorem point_lt (t : Fin cfg0.N) : t.val < 48 := t.isLt
/-- A point's row block, and a column of its column block. -/
def rb (t : Fin cfg0.N) : Fin 16 := ⟨t.val % 16, by omega⟩
def col (t : Fin cfg0.N) (d : Fin 1024) : Fin 3072 := ⟨1024 * (t.val / 16) + d.val, by have := point_lt t; omega⟩

variable (m : (ℓ : Loc nD τ sig) → Buf (Elt Ideal) ℓ) (c : Dev nD)

/-- The arguments, named. -/
abbrev A0 : FVec Ideal S8192x1024 .bf16 := m ((c : Thread nD τ).loc main_arg0)
abbrev A1 : FVec Ideal S8192x3072 .bf16 := m ((c : Thread nD τ).loc main_arg1)

theorem iblk0_at (t : Fin cfg0.N) (k : Fin 512) (r : Fin 1024) : iblk m c 0 t (ix2 k r) = A0 m c (ix2 (row (rb t) k) r) := by
  refine Eq.trans ?_ (congrFun (V_main_arg0 m c) (ix2 (row (rb t) k) r))
  refine congrArg (V m c main_arg0) (ext2 _ (row (rb t) k) r ?_ ?_) <;> blk_simp [idx0] <;> simp [rb, row, Nat.mul_comm]

theorem iblk1_at (t : Fin cfg0.N) (k : Fin 512) (d : Fin 1024) : iblk m c 1 t (ix2 k d) = A1 m c (ix2 (row (rb t) k) (col t d)) := by
  refine Eq.trans ?_ (congrFun (V_main_arg1 m c) (ix2 (row (rb t) k) (col t d)))
  refine congrArg (V m c main_arg1) (ext2 _ (row (rb t) k) (col t d) ?_ ?_) <;> blk_simp [idx1] <;> simp [rb, row, col, Nat.mul_comm]

/-! ## One tile -/

/-- One step of the accumulation at an element: the accumulator and the tile's product. -/
theorem pay2_at (acc : Vec Ideal S1024x1024 .f32) (x : Vec Ideal S512x1024 .bf16) (y : Vec Ideal S512x1024 .bf16) (r : Fin 1024) (d : Fin 1024) :
    k0_pay2 (F := Ideal) acc x y (ix2 r d) = acc (ix2 r d) + ∑ k : Fin 512, x (ix2 k r) * y (ix2 k d) := by
  unfold k0_pay2
  exact congrArg₂ (fun a b : EReal => a + b) (shapeCast_apply acc shapeCasts_S1024x1024_S1024x1024 (ix2 r d) (ix2 r d) rfl) (tn_at _ x y r d)

theorem pay1_at (j : S1024x1024.Idx) : k0_pay1 (F := Ideal) j = (0 : EReal) := by
  unfold k0_pay1
  exact Ideal.ofBits_zero_f32

/-- A tile's product at an element of the output block. -/
def dotAt (x : Vec Ideal S512x1024 .bf16) (y : Vec Ideal S512x1024 .bf16) (j : S1024x1024.Idx) : EReal :=
  ∑ k : Fin 512, x (ix2 k (j 0)) * y (ix2 k (j 1))

/-- Point `n`'s. -/
def tile (n : ℕ) (y : S1024x1024.Idx) : EReal :=
  if h : n < cfg0.N then dotAt (iblk m c 0 ⟨n, h⟩) (iblk m c 1 ⟨n, h⟩) y else 0

theorem idx_eq (y : S1024x1024.Idx) : y = ix2 (y 0) (y 1) := ext2 _ (y 0) (y 1) rfl rfl

theorem step_at (n : ℕ) (h : n < cfg0.N) (acc : Vec Ideal S1024x1024 .f32) (y : S1024x1024.Idx) :
    step2 m c n h acc y = (acc y : EReal) + tile m c n y := by
  rw [tile, dif_pos h, idx_eq y]
  exact pay2_at acc _ _ (y 0) (y 1)

theorem reset_at (n : ℕ) (h : n < cfg0.N) (y : S1024x1024.Idx) : reset2 m c n h y = (0 : EReal) + tile m c n y := by
  rw [tile, dif_pos h, idx_eq y]
  exact (pay2_at _ _ _ (y 0) (y 1)).trans (congrArg (fun z : EReal => z + _) (pay1_at _))

/-! ## The whole product -/

theorem value_at (r : Fin 1024) (d : Fin 3072) : G2 m c (ix2 r d) = ∑ i : Fin 8192, A0 m c (ix2 i r) * A1 m c (ix2 i d) := by
  have hr : run2Of (ix2 r d) = d.val / 1024 := by
    show 3 * (r.val / 1024 - 0) + 1 * (d.val / 1024 - 0) = _
    have := r.isLt; omega
  have hN : 16 * run2Of (ix2 r d) + 15 < cfg0.N := by
    rw [hr]; show _ < 48; have := d.isLt; omega
  have hl : loc2Of (ix2 r d) = ix2 r (⟨d.val % 1024, Nat.mod_lt _ (by decide)⟩ : Fin 1024) := ext2 _ r _ (Nat.mod_eq_of_lt r.isLt) rfl
  rw [G2, dif_pos hN, hl]
  refine (Pipeline.accAt_add_apply (reset2 m c) (step2 m c) (fun _ => (0 : EReal)) (tile m c) (16 * run2Of (ix2 r d)) 15
    (fun hb y => reset_at m c _ hb y) (fun n hn acc y _ _ => step_at m c n hn acc y) 15 le_rfl hN _).trans ?_
  rw [zero_add]
  refine sum_tiles (fun n => tile m c n _) _ _ fun s => ?_
  have hs : 16 * run2Of (ix2 r d) + s.val < cfg0.N := lt_of_le_of_lt (by omega) hN
  rw [tile, dif_pos hs]
  have e0 : rb ⟨_, hs⟩ = s := Fin.ext (by show (16 * run2Of (ix2 r d) + s.val) % 16 = s.val; omega)
  have e2 : col ⟨_, hs⟩ (⟨d.val % 1024, Nat.mod_lt _ (by decide)⟩ : Fin 1024) = d := Fin.ext (by
    show 1024 * ((16 * run2Of (ix2 r d) + s.val) / 16) + d.val % 1024 = d.val
    rw [hr]; omega)
  refine Finset.sum_congr rfl fun k _ => ?_
  exact congrArg₂ (fun a b : EReal => a * b) ((iblk0_at m c _ k r).trans (by rw [e0])) ((iblk1_at m c _ k _).trans (by rw [e0, e2]))

open Cert.Reference8Ideal.Read in
/-- The reference's element: the same sum, its factors in the other order. -/
theorem ref_at (x0 : FVec Ideal S8192x1024 .bf16) (x1 : FVec Ideal S8192x3072 .bf16) (r : Fin 1024) (d : Fin 3072) :
    val_main_v5 (F := Ideal) x0 x1 (ix2 r d) = ∑ i : Fin 8192, x0 (ix2 i r) * x1 (ix2 i d) := by
  rw [val_main_v5_apply, val_main_v4_apply]
  refine Finset.sum_congr rfl fun i _ => (mul_comm _ _).trans ?_
  exact congrArg₂ (fun a b : EReal => a * b) (congrArg x0 (ext2 _ i r rfl rfl)) (congrArg x1 (ext2 _ i d rfl rfl))

theorem value : G2 m c = Cert.Reference8Ideal.Read.val_main_v5 (F := Ideal) (A0 m c) (A1 m c) := funext fun (i : S1024x3072.Idx) =>
  (congrArg _ (eq_ix2 i)).trans ((value_at m c (i 0) (i 1)).trans ((ref_at _ _ (i 0) (i 1)).symm.trans (congrArg _ (eq_ix2 i).symm)))

/-! ## The claims -/

theorem ref_run (m' : (ℓ : Loc Cert.Reference8Ideal.nD Cert.Reference8Ideal.τ Cert.Reference8Ideal.sig) → Buf (Elt Ideal) ℓ) (g' : Dev Cert.Reference8Ideal.nD → PrngReg) :
    θ_run (Cert.Reference8Ideal.defs (F := Ideal)) (onTc (τ := Cert.Reference8Ideal.τ) (Cert.Reference8Ideal.main (F := Ideal))) ⟨m', fun _ => 0, g'⟩ (fun r => (∀ c : Dev Cert.Reference8Ideal.nD,
      r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))
      ∧ r.2.sem = fun _ => 0) :=
  (θ_run _ _ _).mono (fun r h => ⟨fun c => (h c).2, sem_eq_zero_of_no_sems (by decide) r.2⟩) (Cert.Reference8Ideal.Value.run m' g')

theorem algebraic : Cert.algebraic_Kernel8Ideal_Reference8Ideal := fun m g m' g' _ ha => by
  refine ⟨_, (θ_run _ _ _).mono (fun r h c => ⟨(h c).1.trans (value m c), (h c).2⟩) (run m g),
    (θ_run _ _ _).mono (fun r h c => ⟨(h c).1.trans ((Cert.Reference8Ideal.Read.val_main_v5_eq _ _).trans ?_), (h c).2⟩) (Cert.Reference8Ideal.Value.run m' g')⟩
  obtain ⟨e0, e1⟩ := ha c
  rw [e0, e1]

end Cert.Proof.GradGates

end
-- ==== Proof.Hand.GradMla.lean ====
/-
  The gradient of the input projection's columns of the attention branch: the kernel's tiles, added up, are the product of the normed
  input, transposed, and the cotangent.
-/
module

public import proofs.«01_k».proof.Defs
public import proofs.«01_k».proof.Proof.Hand.Product
public import proofs.«01_k».proof.Proof.Hand.RefValue
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit.Geometry

@[expose] public section

set_option maxRecDepth 16384

noncomputable section

namespace Cert.Proof.GradMla

open Cert.Kernel9Ideal Cert.Kernel9Ideal.Gen Cert.Kernel9Ideal.Value
open Idealize.ShloMosaic Idealize.ShloMosaic.TcCoe Idealize.ShloMosaic.ValueIdx Idealize.SL.Sem Cert.Proof.Attn Cert.Proof.Product

theorem idx0 : ∀ t : Fin cfg0.N, win0_0.index t = ![t.val % 16, 0] := (by decide +kernel : ∀ t : Fin grid0.N, _)
theorem idx1 : ∀ t : Fin cfg0.N, win0_1.index t = ![t.val % 16, t.val / 16] := (by decide +kernel : ∀ t : Fin grid0.N, _)

theorem point_lt (t : Fin cfg0.N) : t.val < 16 := t.isLt
/-- A point's row block, and a column of its column block. -/
def rb (t : Fin cfg0.N) : Fin 16 := ⟨t.val % 16, by omega⟩
def col (t : Fin cfg0.N) (d : Fin 640) : Fin 640 := ⟨640 * (t.val / 16) + d.val, by have := point_lt t; omega⟩

variable (m : (ℓ : Loc nD τ sig) → Buf (Elt Ideal) ℓ) (c : Dev nD)

/-- The arguments, named. -/
abbrev A0 : FVec Ideal S8192x1024 .bf16 := m ((c : Thread nD τ).loc main_arg0)
abbrev A1 : FVec Ideal S8192x640 .bf16 := m ((c : Thread nD τ).loc main_arg1)

theorem iblk0_at (t : Fin cfg0.N) (k : Fin 512) (r : Fin 1024) : iblk m c 0 t (ix2 k r) = A0 m c (ix2 (row (rb t) k) r) := by
  refine Eq.trans ?_ (congrFun (V_main_arg0 m c) (ix2 (row (rb t) k) r))
  refine congrArg (V m c main_arg0) (ext2 _ (row (rb t) k) r ?_ ?_) <;> blk_simp [idx0] <;> simp [rb, row, Nat.mul_comm]

theorem iblk1_at (t : Fin cfg0.N) (k : Fin 512) (d : Fin 640) : iblk m c 1 t (ix2 k d) = A1 m c (ix2 (row (rb t) k) (col t d)) := by
  refine Eq.trans ?_ (congrFun (V_main_arg1 m c) (ix2 (row (rb t) k) (col t d)))
  refine congrArg (V m c main_arg1) (ext2 _ (row (rb t) k) (col t d) ?_ ?_) <;> blk_simp [idx1] <;> simp [rb, row, col, Nat.mul_comm]

/-! ## One tile -/

/-- One step of the accumulation at an element: the accumulator and the tile's product. -/
theorem pay2_at (acc : Vec Ideal S1024x640 .f32) (x : Vec Ideal S512x1024 .bf16) (y : Vec Ideal S512x640 .bf16) (r : Fin 1024) (d : Fin 640) :
    k0_pay2 (F := Ideal) acc x y (ix2 r d) = acc (ix2 r d) + ∑ k : Fin 512, x (ix2 k r) * y (ix2 k d) := by
  unfold k0_pay2
  exact congrArg₂ (fun a b : EReal => a + b) (shapeCast_apply acc shapeCasts_S1024x640_S1024x640 (ix2 r d) (ix2 r d) rfl) (tn_at _ x y r d)

theorem pay1_at (j : S1024x640.Idx) : k0_pay1 (F := Ideal) j = (0 : EReal) := by
  unfold k0_pay1
  exact Ideal.ofBits_zero_f32

/-- A tile's product at an element of the output block. -/
def dotAt (x : Vec Ideal S512x1024 .bf16) (y : Vec Ideal S512x640 .bf16) (j : S1024x640.Idx) : EReal :=
  ∑ k : Fin 512, x (ix2 k (j 0)) * y (ix2 k (j 1))

/-- Point `n`'s. -/
def tile (n : ℕ) (y : S1024x640.Idx) : EReal :=
  if h : n < cfg0.N then dotAt (iblk m c 0 ⟨n, h⟩) (iblk m c 1 ⟨n, h⟩) y else 0

theorem idx_eq (y : S1024x640.Idx) : y = ix2 (y 0) (y 1) := ext2 _ (y 0) (y 1) rfl rfl

theorem step_at (n : ℕ) (h : n < cfg0.N) (acc : Vec Ideal S1024x640 .f32) (y : S1024x640.Idx) :
    step2 m c n h acc y = (acc y : EReal) + tile m c n y := by
  rw [tile, dif_pos h, idx_eq y]
  exact pay2_at acc _ _ (y 0) (y 1)

theorem reset_at (n : ℕ) (h : n < cfg0.N) (y : S1024x640.Idx) : reset2 m c n h y = (0 : EReal) + tile m c n y := by
  rw [tile, dif_pos h, idx_eq y]
  exact (pay2_at _ _ _ (y 0) (y 1)).trans (congrArg (fun z : EReal => z + _) (pay1_at _))

/-! ## The whole product -/

theorem value_at (r : Fin 1024) (d : Fin 640) : G2 m c (ix2 r d) = ∑ i : Fin 8192, A0 m c (ix2 i r) * A1 m c (ix2 i d) := by
  have hr : run2Of (ix2 r d) = d.val / 640 := by
    show 1 * (r.val / 1024 - 0) + 1 * (d.val / 640 - 0) = _
    have := r.isLt; omega
  have hN : 16 * run2Of (ix2 r d) + 15 < cfg0.N := by
    rw [hr]; show _ < 16; have := d.isLt; omega
  have hl : loc2Of (ix2 r d) = ix2 r (⟨d.val % 640, Nat.mod_lt _ (by decide)⟩ : Fin 640) := ext2 _ r _ (Nat.mod_eq_of_lt r.isLt) rfl
  rw [G2, dif_pos hN, hl]
  refine (Pipeline.accAt_add_apply (reset2 m c) (step2 m c) (fun _ => (0 : EReal)) (tile m c) (16 * run2Of (ix2 r d)) 15
    (fun hb y => reset_at m c _ hb y) (fun n hn acc y _ _ => step_at m c n hn acc y) 15 le_rfl hN _).trans ?_
  rw [zero_add]
  refine sum_tiles (fun n => tile m c n _) _ _ fun s => ?_
  have hs : 16 * run2Of (ix2 r d) + s.val < cfg0.N := lt_of_le_of_lt (by omega) hN
  rw [tile, dif_pos hs]
  have e0 : rb ⟨_, hs⟩ = s := Fin.ext (by show (16 * run2Of (ix2 r d) + s.val) % 16 = s.val; omega)
  have e2 : col ⟨_, hs⟩ (⟨d.val % 640, Nat.mod_lt _ (by decide)⟩ : Fin 640) = d := Fin.ext (by
    show 640 * ((16 * run2Of (ix2 r d) + s.val) / 16) + d.val % 640 = d.val
    rw [hr]; omega)
  refine Finset.sum_congr rfl fun k _ => ?_
  exact congrArg₂ (fun a b : EReal => a * b) ((iblk0_at m c _ k r).trans (by rw [e0])) ((iblk1_at m c _ k _).trans (by rw [e0, e2]))

open Cert.Reference9Ideal.Read in
/-- The reference's element: the same sum, its factors in the other order. -/
theorem ref_at (x0 : FVec Ideal S8192x1024 .bf16) (x1 : FVec Ideal S8192x640 .bf16) (r : Fin 1024) (d : Fin 640) :
    val_main_v5 (F := Ideal) x0 x1 (ix2 r d) = ∑ i : Fin 8192, x0 (ix2 i r) * x1 (ix2 i d) := by
  rw [val_main_v5_apply, val_main_v4_apply]
  refine Finset.sum_congr rfl fun i _ => (mul_comm _ _).trans ?_
  exact congrArg₂ (fun a b : EReal => a * b) (congrArg x0 (ext2 _ i r rfl rfl)) (congrArg x1 (ext2 _ i d rfl rfl))

theorem value : G2 m c = Cert.Reference9Ideal.Read.val_main_v5 (F := Ideal) (A0 m c) (A1 m c) := funext fun (i : S1024x640.Idx) =>
  (congrArg _ (eq_ix2 i)).trans ((value_at m c (i 0) (i 1)).trans ((ref_at _ _ (i 0) (i 1)).symm.trans (congrArg _ (eq_ix2 i).symm)))

/-! ## The claims -/

theorem ref_run (m' : (ℓ : Loc Cert.Reference9Ideal.nD Cert.Reference9Ideal.τ Cert.Reference9Ideal.sig) → Buf (Elt Ideal) ℓ) (g' : Dev Cert.Reference9Ideal.nD → PrngReg) :
    θ_run (Cert.Reference9Ideal.defs (F := Ideal)) (onTc (τ := Cert.Reference9Ideal.τ) (Cert.Reference9Ideal.main (F := Ideal))) ⟨m', fun _ => 0, g'⟩ (fun r => (∀ c : Dev Cert.Reference9Ideal.nD,
      r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))
      ∧ r.2.sem = fun _ => 0) :=
  (θ_run _ _ _).mono (fun r h => ⟨fun c => (h c).2, sem_eq_zero_of_no_sems (by decide) r.2⟩) (Cert.Reference9Ideal.Value.run m' g')

theorem algebraic : Cert.algebraic_Kernel9Ideal_Reference9Ideal := fun m g m' g' _ ha => by
  refine ⟨_, (θ_run _ _ _).mono (fun r h c => ⟨(h c).1.trans (value m c), (h c).2⟩) (run m g),
    (θ_run _ _ _).mono (fun r h c => ⟨(h c).1.trans ((Cert.Reference9Ideal.Read.val_main_v5_eq _ _).trans ?_), (h c).2⟩) (Cert.Reference9Ideal.Value.run m' g')⟩
  obtain ⟨e0, e1⟩ := ha c
  rw [e0, e1]

end Cert.Proof.GradMla

end
-- ==== Proof.Hand.NormTiles.lean ====
/-
  The derivative of the norm on a block of 256 rows, and the gain's share of the block; the sum over 32 such blocks.
-/
module

public import proofs.«01_k».proof.Proof.Hand.Norm

@[expose] public section

noncomputable section

namespace Cert.Proof.Norm

open Idealize.ShloMosaic Idealize.ShloMosaic.ValueIdx Cert.Proof.Attn

/-! ## 32 blocks of 256 rows -/

def tileRow (t : Fin 32) (r : Fin 256) : Fin 8192 := ⟨256 * t.val + r.val, by omega⟩

theorem sum_tileRows (f : Fin 8192 → EReal) : ∑ i, f i = ∑ t : Fin 32, ∑ r : Fin 256, f (tileRow t r) := by
  rw [← Fintype.sum_prod_type']
  refine (Equiv.sum_comp (finProdFinEquiv (m := 32) (n := 256)) (fun i : Fin (32 * 256) => f i)).symm.trans ?_
  refine Finset.sum_congr rfl fun y _ => congrArg f (Fin.ext ?_)
  show y.2.val + 256 * y.1.val = 256 * y.1.val + y.2.val
  omega

/-- What starts with the first block's share and adds each later one's holds their sum in the end. -/
theorem fold_tiles (P : (n : ℕ) → n < 32 → EReal) (f : Fin 8192 → EReal)
    (h0 : P 0 (by omega) = ∑ r, f (tileRow 0 r))
    (hs : ∀ (n : ℕ) (h : n + 1 < 32), P (n + 1) h = P n (by omega) + ∑ r, f (tileRow ⟨n + 1, h⟩ r)) :
    P 31 (by omega) = ∑ i, f i := by
  have key : ∀ (n : ℕ) (h : n < 32), P n h = ∑ t ∈ Finset.range (n + 1), if ht : t < 32 then ∑ r, f (tileRow ⟨t, ht⟩ r) else 0 := by
    intro n
    induction n with
    | zero => intro h; rw [h0, Finset.sum_range_one, dif_pos (by omega)]; rfl
    | succ n ih => intro h; rw [hs n h, ih, Finset.sum_range_succ _ (n + 1), dif_pos h]
  rw [key 31 (by omega), sum_tileRows, Finset.sum_range]
  exact Finset.sum_congr rfl fun t _ => dif_pos t.isLt

/-! ## A block -/

abbrev Blk : Shape := ⟨2, ![256, 1024]⟩
abbrev Col : Shape := ⟨2, ![256, 1]⟩
abbrev Row : Shape := ⟨2, ![1, 1024]⟩

/-- The cotangent a block's rows receive through the norm, `P` being the cotangent of the normed rows. -/
def dnorm (P X : FVec Ideal Blk .f32) (G : FVec Ideal Row .f32) (R : FVec Ideal Col .f32) (hg : Row.Broadcasts Blk) (hb : Col.Broadcasts Blk)
    (h : Blk.Reduces [1] ⟨1, ![256]⟩) (hφ : FKind.Formats .f32) (hacc : (0x00000000#32 : BitVec 32) = FKind.add.neutral .f32 hφ)
    (hc : (⟨1, ![256]⟩ : Shape).ShapeCasts Col) : FVec Ideal Blk .f32 :=
  subf (mulf (broadcastTo Blk R hb) (mulf P (broadcastTo Blk G hg)))
    (mulf X (broadcastTo Blk (mulf (mulf (mulf R R) R)
      (divf (shapeCast Col (multiReduction .add [1] ⟨1, ![256]⟩ (mulf (mulf P (broadcastTo Blk G hg)) X) 0x00000000#32 h hφ hacc) hc)
        (broadcast Col (Scalar.ofBits (F := Ideal) .f32 0x44800000#32)))) hb))

theorem dnorm_at (P X : FVec Ideal Blk .f32) (G : FVec Ideal Row .f32) (R : FVec Ideal Col .f32) (hg : Row.Broadcasts Blk) (hb : Col.Broadcasts Blk)
    (h : Blk.Reduces [1] ⟨1, ![256]⟩) (hφ : FKind.Formats .f32) (hacc : (0x00000000#32 : BitVec 32) = FKind.add.neutral .f32 hφ)
    (hc : (⟨1, ![256]⟩ : Shape).ShapeCasts Col) (hR : ∀ r, R (ix2 r 0) = rs (rowOf X r)) (r : Fin 256) (d : Fin 1024) :
    dnorm P X G R hg hb h hφ hacc hc (ix2 r d) = back (rowOf X r) (fun k => P (ix2 r k) * G (ix2 0 k)) d := by
  have hP : ∀ k : Fin 1024, mulf P (broadcastTo Blk G hg) (ix2 r k) = P (ix2 r k) * G (ix2 0 k) := fun k =>
    congrArg (fun z : EReal => P (ix2 r k) * z) (brow_at G hg r k)
  have hB : broadcastTo Blk R hb (ix2 r d) = rs (rowOf X r) := (bcol_at R hb r d (by decide)).trans (hR r)
  have hS : shapeCast Col (multiReduction .add [1] ⟨1, ![256]⟩ (mulf (mulf P (broadcastTo Blk G hg)) X) 0x00000000#32 h hφ hacc) hc (ix2 r 0)
      = ∑ k, P (ix2 r k) * G (ix2 0 k) * rowOf X r k :=
    (cast_at _ hc r).trans ((rowsum_at _ h hφ hacc r).trans (Finset.sum_congr rfl fun k _ => congrArg (fun z : EReal => z * X (ix2 r k)) (hP k)))
  unfold dnorm back
  refine congrArg₂ (fun a b : EReal => a - b) (congrArg₂ (fun a b : EReal => a * b) hB (hP d)) (congrArg (fun z : EReal => X (ix2 r d) * z) ?_)
  refine (bcol_at _ hb r d (by decide)).trans ?_
  exact congrArg₂ (fun a b : EReal => a * a * a * Ideal.div b kk) (hR r) hS

/-- The gain's cotangent after a block. -/
def gsum (P X : FVec Ideal Blk .f32) (R : FVec Ideal Col .f32) (A : FVec Ideal Row .f32) (hb : Col.Broadcasts Blk)
    (h : Blk.Reduces [0] ⟨1, ![1024]⟩) (hφ : FKind.Formats .f32) (hacc : (0x00000000#32 : BitVec 32) = FKind.add.neutral .f32 hφ)
    (hc : (⟨1, ![1024]⟩ : Shape).ShapeCasts Row) (hs : Row.ShapeCasts Row) : FVec Ideal Row .f32 :=
  addf (shapeCast Row A hs) (shapeCast Row (multiReduction .add [0] ⟨1, ![1024]⟩ (mulf P (mulf X (broadcastTo Blk R hb))) 0x00000000#32 h hφ hacc) hc)

theorem gsum_at (P X : FVec Ideal Blk .f32) (R : FVec Ideal Col .f32) (A : FVec Ideal Row .f32) (hb : Col.Broadcasts Blk)
    (h : Blk.Reduces [0] ⟨1, ![1024]⟩) (hφ : FKind.Formats .f32) (hacc : (0x00000000#32 : BitVec 32) = FKind.add.neutral .f32 hφ)
    (hc : (⟨1, ![1024]⟩ : Shape).ShapeCasts Row) (hs : Row.ShapeCasts Row) (hR : ∀ r, R (ix2 r 0) = rs (rowOf X r)) (d : Fin 1024) :
    gsum P X R A hb h hφ hacc hc hs (ix2 0 d) = A (ix2 0 d) + ∑ r : Fin 256, X (ix2 r d) * rs (rowOf X r) * P (ix2 r d) := by
  unfold gsum
  refine congrArg₂ (fun a b : EReal => a + b) (congrFun (shapeCast_self A hs) _) ?_
  refine (cast1_at _ hc d).trans ((colsum_at _ h hφ hacc d).trans (Finset.sum_congr rfl fun r _ => ?_))
  refine Eq.trans ?_ (mul_comm _ _)
  exact congrArg (fun z : EReal => P (ix2 r d) * (X (ix2 r d) * z)) ((bcol_at R hb r d (by decide)).trans (hR r))

end Cert.Proof.Norm

end
-- ==== Proof.Hand.MlpIn.lean ====
/-
  The cotangent of the row the MLP's norm reads and of the norm's gain: blocks of 256 rows, the gain's summed over the 32
  blocks. No entry needs to be finite.
-/
module

public import proofs.«01_k».proof.Defs
public import proofs.«01_k».proof.Proof.Hand.NormTiles
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit.Geometry

@[expose] public section

set_option maxRecDepth 16384

noncomputable section

namespace Cert.Proof.MlpIn

open Cert.Kernel10Ideal Cert.Kernel10Ideal.Gen Cert.Kernel10Ideal.Value
open Idealize.ShloMosaic Idealize.ShloMosaic.TcCoe Idealize.ShloMosaic.ValueIdx Idealize.SL.Sem Cert.Proof.Attn Cert.Proof.Product Cert.Proof.Norm

/-! ## A block -/

/-- The cotangent of the normed rows at a place. -/
def dn {n : ℕ} (x0 : FVec Ideal ⟨2, ![n, 4096]⟩ .bf16) (x3 : FVec Ideal S1024x4096 .bf16) (r : Fin n) (d : Fin 1024) : EReal :=
  ∑ k : Fin 4096, x0 (ix2 r k) * x3 (ix2 d k)

/-- The cotangent of the rows at a place. -/
def dx {n : ℕ} (x0 : FVec Ideal ⟨2, ![n, 4096]⟩ .bf16) (x1 x2 : FVec Ideal ⟨2, ![n, 1024]⟩ .f32) (x3 : FVec Ideal S1024x4096 .bf16)
    (x4 : FVec Ideal S1x1024 .f32) (r : Fin n) (d : Fin 1024) : EReal :=
  x1 (ix2 r d) + back (rowOf x2 r) (fun k => dn x0 x3 r k * x4 (ix2 0 k)) d

/-- A row's share of the gain's cotangent. -/
def dg {n : ℕ} (x0 : FVec Ideal ⟨2, ![n, 4096]⟩ .bf16) (x2 : FVec Ideal ⟨2, ![n, 1024]⟩ .f32) (x3 : FVec Ideal S1024x4096 .bf16)
    (r : Fin n) (d : Fin 1024) : EReal :=
  x2 (ix2 r d) * rs (rowOf x2 r) * dn x0 x3 r d

theorem pay3_at (x0 : FVec Ideal S256x4096 .bf16) (x3 : FVec Ideal S1024x4096 .bf16) (r : Fin 256) (d : Fin 1024) :
    k0_pay3 (F := Ideal) x0 x3 (ix2 r d) = dn x0 x3 r d := by
  refine (Ideal.matmul_transposedRhs_apply none x0 x3 _ r d).trans ?_
  rw [zero_f32, zero_add]; rfl

theorem pay4_at (x2 : FVec Ideal S256x1024 .f32) (r : Fin 256) : k0_pay4 (F := Ideal) x2 (ix2 r 0) = rs (rowOf x2 r) :=
  roots_at x2 reduces_S256x1024_S256 (.inl rfl) rfl shapeCasts_S256_S256x1 r

theorem pay6_at (x0 : FVec Ideal S256x4096 .bf16) (x1 x2 : FVec Ideal S256x1024 .f32) (x3 : FVec Ideal S1024x4096 .bf16) (x4 : FVec Ideal S1x1024 .f32)
    (r : Fin 256) (d : Fin 1024) : k0_pay6 (F := Ideal) x0 x3 x2 x4 x1 (ix2 r d) = dx x0 x1 x2 x3 x4 r d := by
  refine congrArg (fun z : EReal => x1 (ix2 r d) + z) ?_
  refine (dnorm_at (k0_pay3 (F := Ideal) x0 x3) x2 x4 (k0_pay4 (F := Ideal) x2) broadcasts_S1x1024_S256x1024 broadcasts_S256x1_S256x1024
    reduces_S256x1024_S256 (.inl rfl) rfl shapeCasts_S256_S256x1 (pay4_at x2) r d).trans ?_
  exact congrArg (fun f => back (rowOf x2 r) f d) (funext fun k => congrArg (fun z : EReal => z * x4 (ix2 0 k)) (pay3_at x0 x3 r k))

theorem pay1_at (x0 : FVec Ideal S256x4096 .bf16) (x2 : FVec Ideal S256x1024 .f32) (x3 : FVec Ideal S1024x4096 .bf16) (a : FVec Ideal S1x1024 .f32)
    (d : Fin 1024) : k0_pay1 (F := Ideal) (k0_pay5 (F := Ideal) x0 x3 x2) a (ix2 0 d) = a (ix2 0 d) + ∑ r, dg x0 x2 x3 r d := by
  refine (gsum_at (k0_pay3 (F := Ideal) x0 x3) x2 (k0_pay4 (F := Ideal) x2) a broadcasts_S256x1_S256x1024 reduces_S256x1024_S1024 (.inl rfl) rfl
    shapeCasts_S1024_S1x1024 shapeCasts_S1x1024_S1x1024 (pay4_at x2) d).trans ?_
  exact congrArg (fun z : EReal => a (ix2 0 d) + z) (Finset.sum_congr rfl fun r _ => congrArg (fun z : EReal => x2 (ix2 r d) * rs (rowOf x2 r) * z) (pay3_at x0 x3 r d))

theorem pay2_at (d : Fin 1024) : k0_pay2 (F := Ideal) (ix2 0 d) = 0 := Ideal.ofBits_zero_f32

/-! ## What the body leaves -/

theorem z2 : (![0, 0] : Fin 2 → ℕ) = fun _ => 0 := funext fun a => by fin_cases a <;> rfl

section Outs

variable (c : Dev nD) (i : grid0.Coords)
  (a1 : Memref sig .tc .vmem S256x4096 .bf16) (w1 : a1.IsWhole) (a2 : Memref sig .tc .vmem S256x1024 .f32) (w2 : a2.IsWhole)
  (a3 : Memref sig .tc .vmem S256x1024 .f32) (w3 : a3.IsWhole) (a4 : Memref sig .tc .vmem S1024x4096 .bf16) (w4 : a4.IsWhole)
  (a5 : Memref sig .tc .vmem S1x1024 .f32) (w5 : a5.IsWhole) (a6 : Memref sig .tc .vmem S256x1024 .f32) (w6 : a6.IsWhole)
  (a7 : Memref sig .tc .vmem S1x1024 .f32) (w7 : a7.IsWhole)
  (x0 : Vec Ideal S256x4096 .bf16) (x1 x2 : Vec Ideal S256x1024 .f32) (x3 : Vec Ideal S1024x4096 .bf16) (x4 xo : Vec Ideal S1x1024 .f32)

theorem first_rows (h : cond0_0 i) : out0_A_5 (F := Ideal) c i a1 w1 a2 w2 a3 w3 a4 w4 a5 w5 a6 w6 a7 w7 h x0 x1 x2 x3 x4 = k0_pay6 x0 x3 x2 x4 x1 := by
  unfold out0_A_5
  rw [View.read_writes_eq_canon _ _ _ (cover0_A_5 c i a1 w1 a2 w2 a3 w3 a4 w4 a5 w5 a6 w6 a7 w7 h x0 x1 x2 x3 x4)]
  unfold kernelRun0_A
  dsimp only
  try sl_unfold_words
  rw [View.canon_unit_zero z2]
  simp only [View.readAt_eq_ld, w1.read_unread, w2.read_unread, w3.read_unread, w4.read_unread, w5.read_unread, View.ld_unit_zero (S := S256x4096) z2,
    View.ld_unit_zero (S := S256x1024) z2, View.ld_unit_zero (S := S1024x4096) z2, View.ld_unit_zero (S := S1x1024) z2]

theorem later_rows (h : ¬ cond0_0 i) : out0_B_5 (F := Ideal) c i a1 w1 a2 w2 a3 w3 a4 w4 a5 w5 a6 w6 a7 w7 h x0 x1 x2 x3 x4 xo = k0_pay6 x0 x3 x2 x4 x1 := by
  unfold out0_B_5
  rw [View.read_writes_eq_canon _ _ _ (cover0_B_5 c i a1 w1 a2 w2 a3 w3 a4 w4 a5 w5 a6 w6 a7 w7 h x0 x1 x2 x3 x4 xo)]
  unfold kernelRun0_B
  dsimp only
  try sl_unfold_words
  rw [View.canon_unit_zero z2]
  simp only [View.readAt_eq_ld, w1.read_unread, w2.read_unread, w3.read_unread, w4.read_unread, w5.read_unread, View.ld_unit_zero (S := S256x4096) z2,
    View.ld_unit_zero (S := S256x1024) z2, View.ld_unit_zero (S := S1024x4096) z2, View.ld_unit_zero (S := S1x1024) z2]

theorem first_gain (h : cond0_0 i) : out0_A_6 (F := Ideal) c i a1 w1 a2 w2 a3 w3 a4 w4 a5 w5 a6 w6 a7 w7 h x0 x1 x2 x3 x4
    = k0_pay1 (k0_pay5 x0 x3 x2) (k0_pay2 (F := Ideal)) := by
  unfold out0_A_6
  rw [View.read_writes_eq_canon _ _ _ (cover0_A_6 c i a1 w1 a2 w2 a3 w3 a4 w4 a5 w5 a6 w6 a7 w7 h x0 x1 x2 x3 x4)]
  unfold kernelRun0_A
  dsimp only
  try sl_unfold_words
  rw [View.canon_cons_unit_zero (S := S1x1024) z2, View.readCov_unit_zero (S := S1x1024) _ z2]
  simp only [View.readAt_eq_ld, w1.read_unread, w3.read_unread, w4.read_unread, View.ld_unit_zero (S := S256x4096) z2,
    View.ld_unit_zero (S := S256x1024) z2, View.ld_unit_zero (S := S1024x4096) z2, View.ld_unit_zero (S := S1x1024) z2]

theorem later_gain (h : ¬ cond0_0 i) : out0_B_6 (F := Ideal) c i a1 w1 a2 w2 a3 w3 a4 w4 a5 w5 a6 w6 a7 w7 h x0 x1 x2 x3 x4 xo
    = k0_pay1 (k0_pay5 x0 x3 x2) xo := by
  unfold out0_B_6
  rw [View.read_writes_eq_canon _ _ _ (cover0_B_6 c i a1 w1 a2 w2 a3 w3 a4 w4 a5 w5 a6 w6 a7 w7 h x0 x1 x2 x3 x4 xo)]
  unfold kernelRun0_B
  dsimp only
  try sl_unfold_words
  rw [View.canon_unit_zero z2]
  simp only [View.readAt_eq_ld, w1.read_unread, w3.read_unread, w4.read_unread, w7.read_unread, View.ld_unit_zero (S := S256x4096) z2,
    View.ld_unit_zero (S := S256x1024) z2, View.ld_unit_zero (S := S1024x4096) z2, View.ld_unit_zero (S := S1x1024) z2]

end Outs

/-! ## The arrays -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

variable (m : (ℓ : Loc nD τ sig) → Buf (Elt Ideal) ℓ) (c : Dev nD)

/-- The arguments, named. -/
abbrev A0 : FVec Ideal S8192x4096 .bf16 := m ((c : Thread nD τ).loc main_arg0)
abbrev A1 : FVec Ideal S8192x1024 .f32 := m ((c : Thread nD τ).loc main_arg1)
abbrev A2 : FVec Ideal S8192x1024 .f32 := m ((c : Thread nD τ).loc main_arg2)
abbrev A3 : FVec Ideal S1024x4096 .bf16 := m ((c : Thread nD τ).loc main_arg3)
abbrev A4 : FVec Ideal S1x1024 .f32 := m ((c : Thread nD τ).loc main_arg4)

theorem iblk0_at (t : Fin cfg0.N) (r : Fin 256) (k : Fin 4096) : iblk m c 0 t (ix2 r k) = A0 m c (ix2 (tileRow t r) k) := by
  refine Eq.trans ?_ (congrFun (V_main_arg0 m c) (ix2 (tileRow t r) k))
  refine congrArg (V m c main_arg0) (ext2 _ (tileRow t r) k ?_ ?_) <;> blk_simp [idx0] <;> simp [tileRow, Nat.mul_comm]

theorem iblk1_at (t : Fin cfg0.N) (r : Fin 256) (k : Fin 1024) : iblk m c 1 t (ix2 r k) = A1 m c (ix2 (tileRow t r) k) := by
  refine Eq.trans ?_ (congrFun (V_main_arg1 m c) (ix2 (tileRow t r) k))
  refine congrArg (V m c main_arg1) (ext2 _ (tileRow t r) k ?_ ?_) <;> blk_simp [idx1] <;> simp [tileRow, Nat.mul_comm]

theorem iblk2_at (t : Fin cfg0.N) (r : Fin 256) (k : Fin 1024) : iblk m c 2 t (ix2 r k) = A2 m c (ix2 (tileRow t r) k) := by
  refine Eq.trans ?_ (congrFun (V_main_arg2 m c) (ix2 (tileRow t r) k))
  refine congrArg (V m c main_arg2) (ext2 _ (tileRow t r) k ?_ ?_) <;> blk_simp [idx2] <;> simp [tileRow, Nat.mul_comm]

theorem iblk3_at (t : Fin cfg0.N) (d : Fin 1024) (k : Fin 4096) : iblk m c 3 t (ix2 d k) = A3 m c (ix2 d k) := by
  refine Eq.trans ?_ (congrFun (V_main_arg3 m c) (ix2 d k))
  refine congrArg (V m c main_arg3) (ext2 _ d k ?_ ?_) <;> blk_simp [idx3] <;> simp

theorem iblk4_at (t : Fin cfg0.N) (k : Fin 1024) : iblk m c 4 t (ix2 (0 : Fin 1) k) = A4 m c (ix2 0 k) := by
  refine Eq.trans ?_ (congrFun (V_main_arg4 m c) (ix2 0 k))
  refine congrArg (V m c main_arg4) (ext2 _ 0 k ?_ ?_) <;> blk_simp [idx4] <;> simp

theorem dn_blk (t : Fin cfg0.N) (r : Fin 256) (d : Fin 1024) : dn (iblk m c 0 t) (iblk m c 3 t) r d = dn (A0 m c) (A3 m c) (tileRow t r) d :=
  Finset.sum_congr rfl fun k _ => congrArg₂ (fun a b : EReal => a * b) (iblk0_at m c t r k) (iblk3_at m c t d k)

theorem row_blk (t : Fin cfg0.N) (r : Fin 256) : rowOf (iblk m c 2 t) r = rowOf (A2 m c) (tileRow t r) := funext fun k => iblk2_at m c t r k

theorem dx_blk (t : Fin cfg0.N) (r : Fin 256) (d : Fin 1024) : dx (iblk m c 0 t) (iblk m c 1 t) (iblk m c 2 t) (iblk m c 3 t) (iblk m c 4 t) r d
    = dx (A0 m c) (A1 m c) (A2 m c) (A3 m c) (A4 m c) (tileRow t r) d := by
  refine congrArg₂ (fun a b : EReal => a + b) (iblk1_at m c t r d) ?_
  exact congrArg₂ (fun x f => back x f d) (row_blk m c t r) (funext fun k => congrArg₂ (fun a b : EReal => a * b) (dn_blk m c t r k) (iblk4_at m c t k))

theorem dg_blk (t : Fin cfg0.N) (r : Fin 256) (d : Fin 1024) : dg (iblk m c 0 t) (iblk m c 2 t) (iblk m c 3 t) r d
    = dg (A0 m c) (A2 m c) (A3 m c) (tileRow t r) d :=
  congrArg₂ (fun a b : EReal => a * b) (congrArg₂ (fun a b : EReal => a * b) (iblk2_at m c t r d) (congrArg rs (row_blk m c t r))) (dn_blk m c t r d)

theorem rows_eq (t : Fin cfg0.N) : (outsAt0 m c t.val t.isLt).1 = k0_pay6 (iblk m c 0 t) (iblk m c 3 t) (iblk m c 2 t) (iblk m c 4 t) (iblk m c 1 t) := by
  by_cases h : t.val % 32 = 0
  · rw [outsAt0_A m c t h]; dsimp only; rw [first_rows]
  · rw [outsAt0_B m c t h]; dsimp only; rw [later_rows]

theorem gain_first (t : Fin cfg0.N) (h : t.val % 32 = 0) : (outsAt0 m c t.val t.isLt).2
    = k0_pay1 (k0_pay5 (iblk m c 0 t) (iblk m c 3 t) (iblk m c 2 t)) (k0_pay2 (F := Ideal)) := by
  rw [outsAt0_A m c t h]; dsimp only; rw [first_gain]

theorem gain_later (t : Fin cfg0.N) (h : ¬ t.val % 32 = 0) : (outsAt0 m c t.val t.isLt).2
    = k0_pay1 (k0_pay5 (iblk m c 0 t) (iblk m c 3 t) (iblk m c 2 t)) (outsAt0 m c (t.val - 1) (Nat.lt_of_le_of_lt (Nat.sub_le _ _) t.isLt)).2 := by
  rw [outsAt0_B m c t h]; dsimp only; rw [later_gain]

/-- The gain's cotangent after the last block: the sum over all rows. -/
theorem gain_sum (d : Fin 1024) : (outsAt0 m c 31 (by decide)).2 (ix2 0 d) = ∑ i, dg (A0 m c) (A2 m c) (A3 m c) i d := by
  refine fold_tiles (fun n h => (outsAt0 m c n h).2 (ix2 0 d)) (fun i => dg (A0 m c) (A2 m c) (A3 m c) i d) ?_ fun n h => ?_
  · refine (congrFun (gain_first m c ⟨0, by decide⟩ rfl) (ix2 0 d)).trans ((pay1_at _ _ _ _ d).trans ?_)
    rw [pay2_at, zero_add]
    exact Finset.sum_congr rfl fun r _ => dg_blk m c ⟨0, by decide⟩ r d
  · refine (congrFun (gain_later m c ⟨n + 1, h⟩ (by show ¬ (n + 1) % 32 = 0; omega)) (ix2 0 d)).trans ((pay1_at _ _ _ _ d).trans ?_)
    exact congrArg (fun z : EReal => (outsAt0 m c n (Nat.lt_of_succ_lt h)).2 (ix2 0 d) + z) (Finset.sum_congr rfl fun r _ => dg_blk m c ⟨n + 1, h⟩ r d)

theorem arr5_at (i : Fin 8192) (d : Fin 1024) : (dats m 0 c).arrAt 5 cfg0.N (ix2 i d) = dx (A0 m c) (A1 m c) (A2 m c) (A3 m c) (A4 m c) i d := by
  refine (dats m 0 c).arrAt_forall_of_covers 5 (fun i v => v = dx (A0 m c) (A1 m c) (A2 m c) (A3 m c) (A4 m c) (i 0) (i 1)) (by decide +kernel) (fun t hf y => ?_) (ix2 i d)
  have hy : y = ix2 (y 0) (y 1) := ext2 _ (y 0) (y 1) rfl rfl
  have hemb : ((cfg0.win 5).blk t).view.emb y = ix2 (tileRow t (y 0)) (y 1) := by
    refine ext2 _ (tileRow t (y 0)) (y 1) ?_ ?_ <;> blk_simp [idx5] <;> simp [tileRow, Nat.mul_comm]
  rw [hemb]
  have ha := (after0_5 m c t).trans (rows_eq m c t)
  exact (congrFun ha y).trans ((congrArg _ hy).trans ((pay6_at _ _ _ _ _ (y 0) (y 1)).trans (dx_blk m c t (y 0) (y 1))))

theorem arr6_at (d : Fin 1024) : (dats m 0 c).arrAt 6 cfg0.N (ix2 0 d) = ∑ i, dg (A0 m c) (A2 m c) (A3 m c) i d := by
  refine (dats m 0 c).arrAt_forall_of_covers 6 (fun i v => v = ∑ j, dg (A0 m c) (A2 m c) (A3 m c) j (i 1)) (by decide +kernel) (fun t hf y => ?_) (ix2 0 d)
  have hy : y = ix2 0 (y 1) := ext2 _ 0 (y 1) (by have h : (y 0).val < 1 := (y 0).isLt; show (y 0).val = 0; omega) rfl
  have hemb : ((cfg0.win 6).blk t).view.emb y = ix2 0 (y 1) := by
    have h0 : (y 0).val < 1 := (y 0).isLt
    refine ext2 _ 0 (y 1) ?_ ?_ <;> blk_simp [idx6] <;> simp <;> omega
  rw [hemb]
  have ht : t = ⟨31, by decide⟩ := Fin.ext (by
    have h1 := (flush0_6 t).mp hf
    have h2 : t.val < 32 := t.isLt
    show t.val = 31
    omega)
  subst ht
  exact (congrFun (after0_6 m c _) y).trans ((congrArg _ hy).trans (gain_sum m c (y 1)))

/-! ## The reference -/

section Ref
open Cert.Reference10Ideal.Read

variable (x0 : FVec Ideal S8192x4096 .bf16) (x1 x2 : FVec Ideal S8192x1024 .f32) (x3 : FVec Ideal S1024x4096 .bf16) (x4 : FVec Ideal S1x1024 .f32)

theorem ref_ms (i : Fin 8192) : val_main_v6 (F := Ideal) x2 (ix2 i 0) = ms (rowOf x2 i) := by
  have hsum : val_main_v1 (F := Ideal) x2 (ix1 i) = ∑ k : Fin 1024, rowOf x2 i k * rowOf x2 i k := by
    refine (val_main_v1_apply x2 (ix1 i)).trans ((congrArg₂ (fun a b : EReal => a + b) Ideal.ofBits_zero_f32 ?_).trans (zero_add _))
    refine Finset.sum_congr rfl fun k _ => ?_
    have e : idx_main_v1 (ix1 i) k = ix2 i k := ext2 _ i k rfl rfl
    exact congrArg₂ (fun a b : EReal => a * b) (congrArg x2 e) (congrArg x2 e)
  have e2 : idx_main_v2 (ix2 i 0) = ix1 i := funext fun a => match a with | ⟨0, _⟩ => rfl
  have hm : val_main_v2 (F := Ideal) x2 (ix2 i 0) = ∑ k : Fin 1024, rowOf x2 i k * rowOf x2 i k := by
    rw [val_main_v2_apply, e2, hsum]
  rw [val_main_v6_apply, val_main_v4_apply, hm, val_main_v3_apply, val_main_v5_apply]
  rfl

theorem ref_rs (i : Fin 8192) : val_main_v7 (F := Ideal) x2 (ix2 i 0) = rs (rowOf x2 i) := by
  rw [val_main_v7_apply, ref_ms]; rfl

theorem ref_slope (i : Fin 8192) : val_main_v10 (F := Ideal) x2 (ix2 i 0) = half * Ideal.div (rs (rowOf x2 i)) (ms (rowOf x2 i)) := by
  rw [val_main_v10_apply, val_main_v9_apply, val_main_v8_apply, ref_rs, ref_ms]; rfl

theorem ref_dn (i : Fin 8192) (d : Fin 1024) : val_main_v18 (F := Ideal) x0 x3 (ix2 i d) = dn x0 x3 i d := by
  refine (val_main_v18_apply x0 x3 (ix2 i d)).trans (Finset.sum_congr rfl fun k _ => ?_)
  have el : lidx_main_v18 (ix2 i d) k = ix2 i k := ext2 _ i k rfl rfl
  have er : ridx_main_v18 (ix2 i d) k = ix2 d k := ext2 _ d k rfl rfl
  rw [el, er]; rfl

theorem ref_gain (d : Fin 1024) : val_main_v21 (F := Ideal) x0 x2 x3 (ix2 0 d) = ∑ i, dg x0 x2 x3 i d := by
  have e : idx_main_v21 (ix2 0 d) = ix1 d := funext fun a => match a with | ⟨0, _⟩ => Fin.ext (by show 0 * 1024 + d.val = d.val; omega)
  rw [val_main_v21_apply, e]
  refine (val_main_v20_apply x0 x2 x3 (ix1 d)).trans ((congrArg₂ (fun a b : EReal => a + b) Ideal.ofBits_zero_f32 ?_).trans (zero_add _))
  refine Finset.sum_congr rfl fun i _ => ?_
  have e20 : idx_main_v20 (ix1 d) i = ix2 i d := ext2 _ i d rfl rfl
  have e11 : idx_main_v11 (ix2 i d) = ix2 i 0 := ext2 _ i 0 rfl rfl
  rw [e20, val_main_v19_apply, val_main_v12_apply, val_main_v11_apply, e11, ref_rs, ref_dn]
  rfl

theorem ref_gdy (i : Fin 8192) (d : Fin 1024) : val_main_v23 (F := Ideal) x0 x3 x4 (ix2 i d) = dn x0 x3 i d * x4 (ix2 0 d) := by
  have e22 : idx_main_v22 (ix2 i d) = ix2 0 d := ext2 _ 0 d rfl rfl
  rw [val_main_v23_apply, ref_dn, val_main_v22_apply, e22]; rfl

theorem ref_mean (i : Fin 8192) (d : Fin 1024) : val_main_v33 (F := Ideal) x0 x2 x3 x4 (ix2 i d)
    = Ideal.div ((∑ k, rowOf x2 i k * (dn x0 x3 i k * x4 (ix2 0 k))) * (half * Ideal.div (rs (rowOf x2 i)) (ms (rowOf x2 i)))) kk := by
  have h25 : val_main_v25 (F := Ideal) x0 x2 x3 x4 (ix1 i) = ∑ k, rowOf x2 i k * (dn x0 x3 i k * x4 (ix2 0 k)) := by
    refine (val_main_v25_apply x0 x2 x3 x4 (ix1 i)).trans ((congrArg₂ (fun a b : EReal => a + b) Ideal.ofBits_zero_f32 ?_).trans (zero_add _))
    refine Finset.sum_congr rfl fun k _ => ?_
    have e : idx_main_v25 (ix1 i) k = ix2 i k := ext2 _ i k rfl rfl
    rw [e, val_main_v24_apply, ref_gdy]; rfl
  have e26 : idx_main_v26 (ix2 i 0) = ix1 i := funext fun a => match a with | ⟨0, _⟩ => Fin.ext (by show i.val * 1 + 0 = i.val; omega)
  have e33 : idx_main_v33 (ix2 i d) = ix1 i := funext fun a => match a with | ⟨0, _⟩ => rfl
  rw [val_main_v33_apply, e33]
  refine (val_main_v32_apply x0 x2 x3 x4 (ix1 i)).trans ((congrArg₂ (fun a b : EReal => a + b) Ideal.ofBits_zero_f32 (Fin.sum_univ_one _)).trans ((zero_add _).trans ?_))
  have e32 : idx_main_v32 (ix1 i) 0 = ix2 i 0 := ext2 _ i 0 rfl rfl
  rw [e32, val_main_v31_apply, val_main_v29_apply, val_main_v26_apply, e26, h25, ref_slope, val_main_v30_apply]
  rfl

theorem ref_rows (i : Fin 8192) (d : Fin 1024) : val_main_v38 (F := Ideal) x0 x1 x2 x3 x4 (ix2 i d) = dx x0 x1 x2 x3 x4 i d := by
  have e27 : idx_main_v27 (ix2 i d) = ix2 i 0 := ext2 _ i 0 rfl rfl
  rw [val_main_v38_apply, val_main_v37_apply, val_main_v36_apply, val_main_v35_apply, val_main_v34_apply, val_main_v28_apply, val_main_v27_apply, e27,
    ref_rs, ref_gdy, ref_mean]
  exact congrArg (fun z : EReal => x1 (ix2 i d) + z) (back_eq (rowOf x2 i) (fun k => dn x0 x3 i k * x4 (ix2 0 k)) d)

end Ref

theorem value5 : (dats m 0 c).arrAt 5 cfg0.N = Cert.Reference10Ideal.Read.val_main_v38 (F := Ideal) (A0 m c) (A1 m c) (A2 m c) (A3 m c) (A4 m c) := funext fun (i : S8192x1024.Idx) => by
  have e : i = ix2 (i 0) (i 1) := ext2 _ (i 0) (i 1) rfl rfl
  exact (congrArg _ e).trans ((arr5_at m c (i 0) (i 1)).trans ((ref_rows _ _ _ _ _ (i 0) (i 1)).symm.trans (congrArg _ e.symm)))

theorem value6 : (dats m 0 c).arrAt 6 cfg0.N = Cert.Reference10Ideal.Read.val_main_v21 (F := Ideal) (A0 m c) (A2 m c) (A3 m c) := funext fun (i : S1x1024.Idx) => by
  have e : i = ix2 0 (i 1) := ext2 _ 0 (i 1) (by have h : (i 0).val < 1 := (i 0).isLt; show (i 0).val = 0; omega) rfl
  exact (congrArg _ e).trans ((arr6_at m c (i 1)).trans ((ref_gain _ _ _ (i 1)).symm.trans (congrArg _ e.symm)))

/-! ## The claims -/

theorem ref_run (m' : (ℓ : Loc Cert.Reference10Ideal.nD Cert.Reference10Ideal.τ Cert.Reference10Ideal.sig) → Buf (Elt Ideal) ℓ) (g' : Dev Cert.Reference10Ideal.nD → PrngReg) :
    θ_run (Cert.Reference10Ideal.defs (F := Ideal)) (onTc (τ := Cert.Reference10Ideal.τ) (Cert.Reference10Ideal.main (F := Ideal))) ⟨m', fun _ => 0, g'⟩ (fun r => (∀ c : Dev Cert.Reference10Ideal.nD,
      r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))
      ∧ r.2.sem = fun _ => 0) :=
  (θ_run _ _ _).mono (fun r h => ⟨fun c => (h c).2.2, sem_eq_zero_of_no_sems (by decide) r.2⟩) (Cert.Reference10Ideal.Value.run m' g')

theorem algebraic : Cert.algebraic_Kernel10Ideal_Reference10Ideal := fun m g m' g' _ ha => by
  refine ⟨_, _, (θ_run _ _ _).mono (fun r h c => ⟨(h c).1.trans (value5 m c), (h c).2.1.trans (value6 m c), (h c).2.2⟩) (run_blocks m g),
    (θ_run _ _ _).mono (fun r h c => ⟨(h c).1.trans ((Cert.Reference10Ideal.Read.val_main_v38_eq _ _).trans ?_),
      (h c).2.1.trans ((Cert.Reference10Ideal.Read.val_main_v21_eq _ _ _).trans ?_), (h c).2.2⟩) (Cert.Reference10Ideal.Value.run m' g')⟩
  · obtain ⟨e0, e1, e2, e3, e4⟩ := ha c
    rw [e0, e1, e2, e3, e4]
  · obtain ⟨e0, e1, e2, e3, e4⟩ := ha c
    rw [e0, e2, e3]

end Cert.Proof.MlpIn

end
-- ==== Proof.Hand.InprojBwd.lean ====
/-
  The cotangent of the row the input projections' norm reads and of the norm's gain: blocks of 256 rows, the gain's summed
  over the 32 blocks. The kernel takes the gates' product in three chunks of 1024 channels. No entry needs to be finite.
-/
module

public import proofs.«01_k».proof.Defs
public import proofs.«01_k».proof.Proof.Hand.NormTiles
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit.Geometry

@[expose] public section

set_option maxRecDepth 16384

noncomputable section

namespace Cert.Proof.InprojBwd

open Cert.Kernel11Ideal Cert.Kernel11Ideal.Gen Cert.Kernel11Ideal.Value
open Idealize.ShloMosaic Idealize.ShloMosaic.TcCoe Idealize.ShloMosaic.ValueIdx Idealize.SL.Sem Cert.Proof.Attn Cert.Proof.Product Cert.Proof.Norm

/-! ## A block -/

/-- A channel of the gates' chunk `j`, and a column of the weights at offset `o`. -/
def gate (j : Fin 3) (k : Fin 1024) : Fin 3072 := ⟨1024 * j.val + k.val, by omega⟩
def wcol {n : ℕ} (o : ℕ) (k : Fin n) (h : o + n ≤ 4736) : Fin 4736 := ⟨o + k.val, by omega⟩

theorem sum_gates (f : Fin 3072 → EReal) : ∑ k, f k = ∑ j : Fin 3, ∑ k : Fin 1024, f (gate j k) := by
  rw [← Fintype.sum_prod_type']
  refine (Equiv.sum_comp (finProdFinEquiv (m := 3) (n := 1024)) (fun i : Fin (3 * 1024) => f i)).symm.trans ?_
  refine Finset.sum_congr rfl fun y _ => congrArg f (Fin.ext ?_)
  show y.2.val + 1024 * y.1.val = 1024 * y.1.val + y.2.val
  omega

/-- The three parts of the cotangent of the normed rows at a place, and their sum. -/
def viaR {n : ℕ} (x2 : FVec Ideal ⟨2, ![n, 1024]⟩ .bf16) (x5 : FVec Ideal S1024x4736 .bf16) (r : Fin n) (d : Fin 1024) : EReal :=
  ∑ k : Fin 1024, x2 (ix2 r k) * x5 (ix2 d (wcol 0 k (by decide)))
def viaG {n : ℕ} (x3 : FVec Ideal ⟨2, ![n, 3072]⟩ .bf16) (x5 : FVec Ideal S1024x4736 .bf16) (r : Fin n) (d : Fin 1024) : EReal :=
  ∑ k : Fin 3072, x3 (ix2 r k) * x5 (ix2 d (wcol 1024 k (by decide)))
def viaM {n : ℕ} (x4 : FVec Ideal ⟨2, ![n, 640]⟩ .bf16) (x5 : FVec Ideal S1024x4736 .bf16) (r : Fin n) (d : Fin 1024) : EReal :=
  ∑ k : Fin 640, x4 (ix2 r k) * x5 (ix2 d (wcol 4096 k (by decide)))
def dn {n : ℕ} (x2 : FVec Ideal ⟨2, ![n, 1024]⟩ .bf16) (x3 : FVec Ideal ⟨2, ![n, 3072]⟩ .bf16) (x4 : FVec Ideal ⟨2, ![n, 640]⟩ .bf16)
    (x5 : FVec Ideal S1024x4736 .bf16) (r : Fin n) (d : Fin 1024) : EReal :=
  viaM x4 x5 r d + viaG x3 x5 r d + viaR x2 x5 r d

/-- The cotangent of the rows at a place. -/
def dx {n : ℕ} (x0 x1 : FVec Ideal ⟨2, ![n, 1024]⟩ .f32) (x2 : FVec Ideal ⟨2, ![n, 1024]⟩ .bf16) (x3 : FVec Ideal ⟨2, ![n, 3072]⟩ .bf16)
    (x4 : FVec Ideal ⟨2, ![n, 640]⟩ .bf16) (x5 : FVec Ideal S1024x4736 .bf16) (x6 : FVec Ideal S1x1024 .f32) (r : Fin n) (d : Fin 1024) : EReal :=
  x1 (ix2 r d) + back (rowOf x0 r) (fun k => dn x2 x3 x4 x5 r k * x6 (ix2 0 k)) d

/-- A row's share of the gain's cotangent. -/
def dg {n : ℕ} (x0 : FVec Ideal ⟨2, ![n, 1024]⟩ .f32) (x2 : FVec Ideal ⟨2, ![n, 1024]⟩ .bf16) (x3 : FVec Ideal ⟨2, ![n, 3072]⟩ .bf16)
    (x4 : FVec Ideal ⟨2, ![n, 640]⟩ .bf16) (x5 : FVec Ideal S1024x4736 .bf16) (r : Fin n) (d : Fin 1024) : EReal :=
  x0 (ix2 r d) * rs (rowOf x0 r) * dn x2 x3 x4 x5 r d

/-- The parts the body reads: of the weights, of the gates' cotangent. -/
abbrev wAt (x5 : FVec Ideal S1024x4736 .bf16) (o : ℕ) (h : ∀ a, (![0, o] : Fin 2 → ℕ) a + S1024x1024.size a ≤ S1024x4736.size a) : FVec Ideal S1024x1024 .bf16 :=
  View.ld (Val := Elt Ideal) (e' := .bf16) x5 (Rect.unit (s := S1024x4736) ![0, o] S1024x1024.size h)
abbrev wEnd (x5 : FVec Ideal S1024x4736 .bf16) : FVec Ideal S1024x640 .bf16 :=
  View.ld (Val := Elt Ideal) (e' := .bf16) x5 (Rect.unit (s := S1024x4736) ![0, 4096] S1024x640.size inb_S1024x4736_S1024x640_0_4096)
abbrev gAt (x3 : FVec Ideal S256x3072 .bf16) (o : ℕ) (h : ∀ a, (![0, o] : Fin 2 → ℕ) a + S256x1024.size a ≤ S256x3072.size a) : FVec Ideal S256x1024 .bf16 :=
  View.ld (Val := Elt Ideal) (e' := .bf16) x3 (Rect.unit (s := S256x3072) ![0, o] S256x1024.size h)

theorem wAt_at (x5 : FVec Ideal S1024x4736 .bf16) (o : ℕ) (h) (d k : Fin 1024) (ho : o + 1024 ≤ 4736) : wAt x5 o h (ix2 d k) = x5 (ix2 d (wcol o k ho)) :=
  congrArg x5 (ext2 _ d (wcol o k ho) (by show 0 + 1 * d.val = _; omega) (by show o + 1 * k.val = o + k.val; omega))
theorem wEnd_at (x5 : FVec Ideal S1024x4736 .bf16) (d : Fin 1024) (k : Fin 640) : wEnd x5 (ix2 d k) = x5 (ix2 d (wcol 4096 k (by decide))) :=
  congrArg x5 (ext2 _ d (wcol 4096 k (by decide)) (by show 0 + 1 * d.val = _; omega) (by show 4096 + 1 * k.val = 4096 + k.val; omega))
theorem gAt_at (x3 : FVec Ideal S256x3072 .bf16) (j : Fin 3) (o : ℕ) (ho : o = 1024 * j.val) (h) (r : Fin 256) (k : Fin 1024) : gAt x3 o h (ix2 r k) = x3 (ix2 r (gate j k)) :=
  congrArg x3 (ext2 _ r (gate j k) (by show 0 + 1 * r.val = _; omega) (by show o + 1 * k.val = 1024 * j.val + k.val; omega))

/-- The sum of the five products. -/
def sums (x2 : FVec Ideal S256x1024 .bf16) (x3 : FVec Ideal S256x3072 .bf16) (x4 : FVec Ideal S256x640 .bf16) (x5 : FVec Ideal S1024x4736 .bf16) : FVec Ideal S256x1024 .f32 :=
  k0_pay5 (F := Ideal) x2 (wAt x5 0 inb_S1024x4736_S1024x1024_0_0) (gAt x3 0 inb_S256x3072_S256x1024_0_0) (wAt x5 1024 inb_S1024x4736_S1024x1024_0_1024)
    (gAt x3 1024 inb_S256x3072_S256x1024_0_1024) (wAt x5 2048 inb_S1024x4736_S1024x1024_0_2048) (gAt x3 2048 inb_S256x3072_S256x1024_0_2048)
    (wAt x5 3072 inb_S1024x4736_S1024x1024_0_3072) x4 (wEnd x5)

theorem nt_at (A : FVec Ideal S256x1024 .bf16) (B : FVec Ideal S1024x1024 .bf16) (r : Fin 256) (d : Fin 1024) :
    matmul dot_S256x1024_S1024x1024_S256x1024_1_1_0_0_n_n none A B (constant (F := Ideal) S256x1024 .f32 0x00000000#32) (ix2 r d) = ∑ k : Fin 1024, A (ix2 r k) * B (ix2 d k) := by
  refine (Ideal.matmul_transposedRhs_apply none A B _ r d).trans ?_
  rw [zero_f32, zero_add]
theorem ntM_at (A : FVec Ideal S256x640 .bf16) (B : FVec Ideal S1024x640 .bf16) (r : Fin 256) (d : Fin 1024) :
    matmul dot_S256x640_S1024x640_S256x1024_1_1_0_0_n_n none A B (constant (F := Ideal) S256x1024 .f32 0x00000000#32) (ix2 r d) = ∑ k : Fin 640, A (ix2 r k) * B (ix2 d k) := by
  refine (Ideal.matmul_transposedRhs_apply none A B _ r d).trans ?_
  rw [zero_f32, zero_add]

/-- A chunk of the gates' product. -/
theorem chunk_at (x3 : FVec Ideal S256x3072 .bf16) (x5 : FVec Ideal S1024x4736 .bf16) (j : Fin 3) (o o' : ℕ) (ho : o = 1024 * j.val) (ho' : o' = 1024 + o)
    (h) (h') (r : Fin 256) (d : Fin 1024) :
    matmul dot_S256x1024_S1024x1024_S256x1024_1_1_0_0_n_n none (gAt x3 o h) (wAt x5 o' h') (constant (F := Ideal) S256x1024 .f32 0x00000000#32) (ix2 r d)
      = ∑ k : Fin 1024, x3 (ix2 r (gate j k)) * x5 (ix2 d (wcol 1024 (gate j k) (by decide))) := by
  refine (nt_at _ _ r d).trans (Finset.sum_congr rfl fun k _ => congrArg₂ (fun a b : EReal => a * b) (gAt_at x3 j o ho h r k) ?_)
  have hj : o' + 1024 ≤ 4736 := by have := j.isLt; omega
  refine (wAt_at x5 o' h' d k hj).trans (congrArg (fun q => x5 (ix2 d q)) (Fin.ext ?_))
  show o' + k.val = 1024 + (1024 * j.val + k.val)
  omega

theorem order5 (r a b c w : EReal) : r + a + b + c + w = w + (a + b + c) + r := by
  rw [add_comm (w + (a + b + c)) r, add_comm w (a + b + c), ← add_assoc r, ← add_assoc r, ← add_assoc r]

theorem sums_at (x2 : FVec Ideal S256x1024 .bf16) (x3 : FVec Ideal S256x3072 .bf16) (x4 : FVec Ideal S256x640 .bf16) (x5 : FVec Ideal S1024x4736 .bf16)
    (r : Fin 256) (d : Fin 1024) : sums x2 x3 x4 x5 (ix2 r d) = dn x2 x3 x4 x5 r d := by
  have hG : viaG x3 x5 r d = (∑ k : Fin 1024, x3 (ix2 r (gate 0 k)) * x5 (ix2 d (wcol 1024 (gate 0 k) (by decide))))
      + (∑ k : Fin 1024, x3 (ix2 r (gate 1 k)) * x5 (ix2 d (wcol 1024 (gate 1 k) (by decide))))
      + ∑ k : Fin 1024, x3 (ix2 r (gate 2 k)) * x5 (ix2 d (wcol 1024 (gate 2 k) (by decide))) := by
    unfold viaG
    rw [sum_gates, Fin.sum_univ_three]
  have hR := (nt_at x2 (wAt x5 0 inb_S1024x4736_S1024x1024_0_0) r d).trans (Finset.sum_congr rfl fun k _ =>
    congrArg (fun z : EReal => x2 (ix2 r k) * z) (wAt_at x5 0 inb_S1024x4736_S1024x1024_0_0 d k (by decide)))
  have hM := (ntM_at x4 (wEnd x5) r d).trans (Finset.sum_congr rfl fun k _ => congrArg (fun z : EReal => x4 (ix2 r k) * z) (wEnd_at x5 d k))
  have h0 := chunk_at x3 x5 0 0 1024 rfl rfl inb_S256x3072_S256x1024_0_0 inb_S1024x4736_S1024x1024_0_1024 r d
  have h1 := chunk_at x3 x5 1 1024 2048 rfl rfl inb_S256x3072_S256x1024_0_1024 inb_S1024x4736_S1024x1024_0_2048 r d
  have h2 := chunk_at x3 x5 2 2048 3072 rfl rfl inb_S256x3072_S256x1024_0_2048 inb_S1024x4736_S1024x1024_0_3072 r d
  refine (congrArg₂ (fun a b : EReal => a + b) (congrArg₂ (fun a b : EReal => a + b) (congrArg₂ (fun a b : EReal => a + b)
    (congrArg₂ (fun a b : EReal => a + b) hR h0) h1) h2) hM).trans ?_
  unfold dn viaR viaM
  rw [hG]
  exact order5 _ _ _ _ _

theorem root_at (x0 : FVec Ideal S256x1024 .f32) (r : Fin 256) : k0_pay1 (F := Ideal) (k0_pay6 (F := Ideal) x0) (k0_pay7 (F := Ideal)) (ix2 r 0) = rs (rowOf x0 r) :=
  roots_at x0 reduces_S256x1024_S256 (.inl rfl) rfl shapeCasts_S256_S256x1 r

/-- The rows' payload and the gain's, over the blocks the body reads. -/
def rowsOut (x0 x1 : FVec Ideal S256x1024 .f32) (x2 : FVec Ideal S256x1024 .bf16) (x3 : FVec Ideal S256x3072 .bf16) (x4 : FVec Ideal S256x640 .bf16)
    (x5 : FVec Ideal S1024x4736 .bf16) (x6 : FVec Ideal S1x1024 .f32) : FVec Ideal S256x1024 .f32 :=
  k0_pay2 (F := Ideal) (sums x2 x3 x4 x5) x0 (k0_pay6 (F := Ideal) x0) (k0_pay7 (F := Ideal)) x6 x1
def gainOut (x0 : FVec Ideal S256x1024 .f32) (x2 : FVec Ideal S256x1024 .bf16) (x3 : FVec Ideal S256x3072 .bf16) (x4 : FVec Ideal S256x640 .bf16)
    (x5 : FVec Ideal S1024x4736 .bf16) (a : FVec Ideal S1x1024 .f32) : FVec Ideal S1x1024 .f32 :=
  k0_pay3 (F := Ideal) (sums x2 x3 x4 x5) x0 (k0_pay6 (F := Ideal) x0) (k0_pay7 (F := Ideal)) a

theorem rowsOut_at (x0 x1 : FVec Ideal S256x1024 .f32) (x2 : FVec Ideal S256x1024 .bf16) (x3 : FVec Ideal S256x3072 .bf16) (x4 : FVec Ideal S256x640 .bf16)
    (x5 : FVec Ideal S1024x4736 .bf16) (x6 : FVec Ideal S1x1024 .f32) (r : Fin 256) (d : Fin 1024) :
    rowsOut x0 x1 x2 x3 x4 x5 x6 (ix2 r d) = dx x0 x1 x2 x3 x4 x5 x6 r d := by
  refine congrArg (fun z : EReal => x1 (ix2 r d) + z) ?_
  refine (dnorm_at (sums x2 x3 x4 x5) x0 x6 (k0_pay1 (F := Ideal) (k0_pay6 (F := Ideal) x0) (k0_pay7 (F := Ideal))) broadcasts_S1x1024_S256x1024
    broadcasts_S256x1_S256x1024 reduces_S256x1024_S256 (.inl rfl) rfl shapeCasts_S256_S256x1 (root_at x0) r d).trans ?_
  exact congrArg (fun f => back (rowOf x0 r) f d) (funext fun k => congrArg (fun z : EReal => z * x6 (ix2 0 k)) (sums_at x2 x3 x4 x5 r k))

theorem gainOut_at (x0 : FVec Ideal S256x1024 .f32) (x2 : FVec Ideal S256x1024 .bf16) (x3 : FVec Ideal S256x3072 .bf16) (x4 : FVec Ideal S256x640 .bf16)
    (x5 : FVec Ideal S1024x4736 .bf16) (a : FVec Ideal S1x1024 .f32) (d : Fin 1024) :
    gainOut x0 x2 x3 x4 x5 a (ix2 0 d) = a (ix2 0 d) + ∑ r, dg x0 x2 x3 x4 x5 r d := by
  refine (gsum_at (sums x2 x3 x4 x5) x0 (k0_pay1 (F := Ideal) (k0_pay6 (F := Ideal) x0) (k0_pay7 (F := Ideal))) a broadcasts_S256x1_S256x1024
    reduces_S256x1024_S1024 (.inl rfl) rfl shapeCasts_S1024_S1x1024 shapeCasts_S1x1024_S1x1024 (root_at x0) d).trans ?_
  exact congrArg (fun z : EReal => a (ix2 0 d) + z) (Finset.sum_congr rfl fun r _ =>
    congrArg (fun z : EReal => x0 (ix2 r d) * rs (rowOf x0 r) * z) (sums_at x2 x3 x4 x5 r d))

theorem pay4_at (d : Fin 1024) : k0_pay4 (F := Ideal) (ix2 0 d) = 0 := Ideal.ofBits_zero_f32

/-! ## What the body leaves -/

theorem z2 : (![0, 0] : Fin 2 → ℕ) = fun _ => 0 := funext fun a => by fin_cases a <;> rfl

section Outs

variable (c : Dev nD) (i : grid0.Coords)
  (a1 : Memref sig .tc .vmem S256x1024 .f32) (w1 : a1.IsWhole) (a2 : Memref sig .tc .vmem S256x1024 .f32) (w2 : a2.IsWhole)
  (a3 : Memref sig .tc .vmem S256x1024 .bf16) (w3 : a3.IsWhole) (a4 : Memref sig .tc .vmem S256x3072 .bf16) (w4 : a4.IsWhole)
  (a5 : Memref sig .tc .vmem S256x640 .bf16) (w5 : a5.IsWhole) (a6 : Memref sig .tc .vmem S1024x4736 .bf16) (w6 : a6.IsWhole)
  (a7 : Memref sig .tc .vmem S1x1024 .f32) (w7 : a7.IsWhole) (a8 : Memref sig .tc .vmem S256x1024 .f32) (w8 : a8.IsWhole)
  (a9 : Memref sig .tc .vmem S1x1024 .f32) (w9 : a9.IsWhole)
  (x0 x1 : Vec Ideal S256x1024 .f32) (x2 : Vec Ideal S256x1024 .bf16) (x3 : Vec Ideal S256x3072 .bf16) (x4 : Vec Ideal S256x640 .bf16)
  (x5 : Vec Ideal S1024x4736 .bf16) (x6 xo : Vec Ideal S1x1024 .f32)

theorem first_rows (h : cond0_0 i) : out0_A_7 (F := Ideal) c i a1 w1 a2 w2 a3 w3 a4 w4 a5 w5 a6 w6 a7 w7 a8 w8 a9 w9 h x0 x1 x2 x3 x4 x5 x6 = rowsOut x0 x1 x2 x3 x4 x5 x6 := by
  unfold out0_A_7
  rw [View.read_writes_eq_canon _ _ _ (cover0_A_7 c i a1 w1 a2 w2 a3 w3 a4 w4 a5 w5 a6 w6 a7 w7 a8 w8 a9 w9 h x0 x1 x2 x3 x4 x5 x6)]
  unfold kernelRun0_A
  dsimp only
  try sl_unfold_words
  rw [View.canon_unit_zero z2]
  simp only [View.readAt_eq_ld, w1.read_unread, w2.read_unread, w3.read_unread, w4.read_unread, w5.read_unread, w6.read_unread, w7.read_unread, w9.read_unread,
    View.ld_unit_zero (S := S256x1024) z2, View.ld_unit_zero (S := S256x640) z2, View.ld_unit_zero (S := S1x1024) z2]
  rfl

theorem later_rows (h : ¬ cond0_0 i) : out0_B_7 (F := Ideal) c i a1 w1 a2 w2 a3 w3 a4 w4 a5 w5 a6 w6 a7 w7 a8 w8 a9 w9 h x0 x1 x2 x3 x4 x5 x6 xo = rowsOut x0 x1 x2 x3 x4 x5 x6 := by
  unfold out0_B_7
  rw [View.read_writes_eq_canon _ _ _ (cover0_B_7 c i a1 w1 a2 w2 a3 w3 a4 w4 a5 w5 a6 w6 a7 w7 a8 w8 a9 w9 h x0 x1 x2 x3 x4 x5 x6 xo)]
  unfold kernelRun0_B
  dsimp only
  try sl_unfold_words
  rw [View.canon_unit_zero z2]
  simp only [View.readAt_eq_ld, w1.read_unread, w2.read_unread, w3.read_unread, w4.read_unread, w5.read_unread, w6.read_unread, w7.read_unread, w9.read_unread,
    View.ld_unit_zero (S := S256x1024) z2, View.ld_unit_zero (S := S256x640) z2, View.ld_unit_zero (S := S1x1024) z2]
  rfl

theorem first_gain (h : cond0_0 i) : out0_A_8 (F := Ideal) c i a1 w1 a2 w2 a3 w3 a4 w4 a5 w5 a6 w6 a7 w7 a8 w8 a9 w9 h x0 x1 x2 x3 x4 x5 x6 = gainOut x0 x2 x3 x4 x5 (k0_pay4 (F := Ideal)) := by
  unfold out0_A_8
  rw [View.read_writes_eq_canon _ _ _ (cover0_A_8 c i a1 w1 a2 w2 a3 w3 a4 w4 a5 w5 a6 w6 a7 w7 a8 w8 a9 w9 h x0 x1 x2 x3 x4 x5 x6)]
  unfold kernelRun0_A
  dsimp only
  try sl_unfold_words
  rw [View.canon_cons_unit_zero (S := S1x1024) z2, View.readCov_unit_zero (S := S1x1024) _ z2]
  simp only [View.readAt_eq_ld, w1.read_unread, w2.read_unread, w3.read_unread, w4.read_unread, w5.read_unread, w6.read_unread, w7.read_unread, w9.read_unread,
    View.ld_unit_zero (S := S256x1024) z2, View.ld_unit_zero (S := S256x640) z2, View.ld_unit_zero (S := S1x1024) z2]
  rfl

theorem later_gain (h : ¬ cond0_0 i) : out0_B_8 (F := Ideal) c i a1 w1 a2 w2 a3 w3 a4 w4 a5 w5 a6 w6 a7 w7 a8 w8 a9 w9 h x0 x1 x2 x3 x4 x5 x6 xo = gainOut x0 x2 x3 x4 x5 xo := by
  unfold out0_B_8
  rw [View.read_writes_eq_canon _ _ _ (cover0_B_8 c i a1 w1 a2 w2 a3 w3 a4 w4 a5 w5 a6 w6 a7 w7 a8 w8 a9 w9 h x0 x1 x2 x3 x4 x5 x6 xo)]
  unfold kernelRun0_B
  dsimp only
  try sl_unfold_words
  rw [View.canon_unit_zero z2]
  simp only [View.readAt_eq_ld, w1.read_unread, w2.read_unread, w3.read_unread, w4.read_unread, w5.read_unread, w6.read_unread, w7.read_unread, w9.read_unread,
    View.ld_unit_zero (S := S256x1024) z2, View.ld_unit_zero (S := S256x640) z2, View.ld_unit_zero (S := S1x1024) z2]
  rfl

end Outs

/-! ## The arrays -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)

variable (m : (ℓ : Loc nD τ sig) → Buf (Elt Ideal) ℓ) (c : Dev nD)

/-- The arguments, named. -/
abbrev A0 : FVec Ideal S8192x1024 .f32 := m ((c : Thread nD τ).loc main_arg0)
abbrev A1 : FVec Ideal S8192x1024 .f32 := m ((c : Thread nD τ).loc main_arg1)
abbrev A2 : FVec Ideal S8192x1024 .bf16 := m ((c : Thread nD τ).loc main_arg2)
abbrev A3 : FVec Ideal S8192x3072 .bf16 := m ((c : Thread nD τ).loc main_arg3)
abbrev A4 : FVec Ideal S8192x640 .bf16 := m ((c : Thread nD τ).loc main_arg4)
abbrev A5 : FVec Ideal S1024x4736 .bf16 := m ((c : Thread nD τ).loc main_arg5)
abbrev A6 : FVec Ideal S1x1024 .f32 := m ((c : Thread nD τ).loc main_arg6)

theorem iblk0_at (t : Fin cfg0.N) (r : Fin 256) (k : Fin 1024) : iblk m c 0 t (ix2 r k) = A0 m c (ix2 (tileRow t r) k) := by
  refine Eq.trans ?_ (congrFun (V_main_arg0 m c) (ix2 (tileRow t r) k))
  refine congrArg (V m c main_arg0) (ext2 _ (tileRow t r) k ?_ ?_) <;> blk_simp [idx0] <;> simp [tileRow, Nat.mul_comm]

theorem iblk1_at (t : Fin cfg0.N) (r : Fin 256) (k : Fin 1024) : iblk m c 1 t (ix2 r k) = A1 m c (ix2 (tileRow t r) k) := by
  refine Eq.trans ?_ (congrFun (V_main_arg1 m c) (ix2 (tileRow t r) k))
  refine congrArg (V m c main_arg1) (ext2 _ (tileRow t r) k ?_ ?_) <;> blk_simp [idx1] <;> simp [tileRow, Nat.mul_comm]

theorem iblk2_at (t : Fin cfg0.N) (r : Fin 256) (k : Fin 1024) : iblk m c 2 t (ix2 r k) = A2 m c (ix2 (tileRow t r) k) := by
  refine Eq.trans ?_ (congrFun (V_main_arg2 m c) (ix2 (tileRow t r) k))
  refine congrArg (V m c main_arg2) (ext2 _ (tileRow t r) k ?_ ?_) <;> blk_simp [idx2] <;> simp [tileRow, Nat.mul_comm]

theorem iblk3_at (t : Fin cfg0.N) (r : Fin 256) (k : Fin 3072) : iblk m c 3 t (ix2 r k) = A3 m c (ix2 (tileRow t r) k) := by
  refine Eq.trans ?_ (congrFun (V_main_arg3 m c) (ix2 (tileRow t r) k))
  refine congrArg (V m c main_arg3) (ext2 _ (tileRow t r) k ?_ ?_) <;> blk_simp [idx3] <;> simp [tileRow, Nat.mul_comm]

theorem iblk4_at (t : Fin cfg0.N) (r : Fin 256) (k : Fin 640) : iblk m c 4 t (ix2 r k) = A4 m c (ix2 (tileRow t r) k) := by
  refine Eq.trans ?_ (congrFun (V_main_arg4 m c) (ix2 (tileRow t r) k))
  refine congrArg (V m c main_arg4) (ext2 _ (tileRow t r) k ?_ ?_) <;> blk_simp [idx4] <;> simp [tileRow, Nat.mul_comm]

theorem iblk5_at (t : Fin cfg0.N) (d : Fin 1024) (k : Fin 4736) : iblk m c 5 t (ix2 d k) = A5 m c (ix2 d k) := by
  refine Eq.trans ?_ (congrFun (V_main_arg5 m c) (ix2 d k))
  refine congrArg (V m c main_arg5) (ext2 _ d k ?_ ?_) <;> blk_simp [idx5] <;> simp

theorem iblk6_at (t : Fin cfg0.N) (k : Fin 1024) : iblk m c 6 t (ix2 (0 : Fin 1) k) = A6 m c (ix2 0 k) := by
  refine Eq.trans ?_ (congrFun (V_main_arg6 m c) (ix2 0 k))
  refine congrArg (V m c main_arg6) (ext2 _ 0 k ?_ ?_) <;> blk_simp [idx6] <;> simp

theorem dn_blk (t : Fin cfg0.N) (r : Fin 256) (d : Fin 1024) : dn (iblk m c 2 t) (iblk m c 3 t) (iblk m c 4 t) (iblk m c 5 t) r d
    = dn (A2 m c) (A3 m c) (A4 m c) (A5 m c) (tileRow t r) d := by
  refine congrArg₂ (fun a b : EReal => a + b) (congrArg₂ (fun a b : EReal => a + b) ?_ ?_) ?_
  · exact Finset.sum_congr rfl fun k _ => congrArg₂ (fun a b : EReal => a * b) (iblk4_at m c t r k) (iblk5_at m c t d _)
  · exact Finset.sum_congr rfl fun k _ => congrArg₂ (fun a b : EReal => a * b) (iblk3_at m c t r k) (iblk5_at m c t d _)
  · exact Finset.sum_congr rfl fun k _ => congrArg₂ (fun a b : EReal => a * b) (iblk2_at m c t r k) (iblk5_at m c t d _)

theorem row_blk (t : Fin cfg0.N) (r : Fin 256) : rowOf (iblk m c 0 t) r = rowOf (A0 m c) (tileRow t r) := funext fun k => iblk0_at m c t r k

theorem dx_blk (t : Fin cfg0.N) (r : Fin 256) (d : Fin 1024) :
    dx (iblk m c 0 t) (iblk m c 1 t) (iblk m c 2 t) (iblk m c 3 t) (iblk m c 4 t) (iblk m c 5 t) (iblk m c 6 t) r d
      = dx (A0 m c) (A1 m c) (A2 m c) (A3 m c) (A4 m c) (A5 m c) (A6 m c) (tileRow t r) d := by
  refine congrArg₂ (fun a b : EReal => a + b) (iblk1_at m c t r d) ?_
  exact congrArg₂ (fun x f => back x f d) (row_blk m c t r) (funext fun k => congrArg₂ (fun a b : EReal => a * b) (dn_blk m c t r k) (iblk6_at m c t k))

theorem dg_blk (t : Fin cfg0.N) (r : Fin 256) (d : Fin 1024) : dg (iblk m c 0 t) (iblk m c 2 t) (iblk m c 3 t) (iblk m c 4 t) (iblk m c 5 t) r d
    = dg (A0 m c) (A2 m c) (A3 m c) (A4 m c) (A5 m c) (tileRow t r) d :=
  congrArg₂ (fun a b : EReal => a * b) (congrArg₂ (fun a b : EReal => a * b) (iblk0_at m c t r d) (congrArg rs (row_blk m c t r))) (dn_blk m c t r d)

theorem rows_eq (t : Fin cfg0.N) : (outsAt0 m c t.val t.isLt).1 = rowsOut (iblk m c 0 t) (iblk m c 1 t) (iblk m c 2 t) (iblk m c 3 t) (iblk m c 4 t) (iblk m c 5 t) (iblk m c 6 t) := by
  by_cases h : t.val % 32 = 0
  · rw [outsAt0_A m c t h]; dsimp only; rw [first_rows]
  · rw [outsAt0_B m c t h]; dsimp only; rw [later_rows]

theorem gain_first (t : Fin cfg0.N) (h : t.val % 32 = 0) : (outsAt0 m c t.val t.isLt).2
    = gainOut (iblk m c 0 t) (iblk m c 2 t) (iblk m c 3 t) (iblk m c 4 t) (iblk m c 5 t) (k0_pay4 (F := Ideal)) := by
  rw [outsAt0_A m c t h]; dsimp only; rw [first_gain]

theorem gain_later (t : Fin cfg0.N) (h : ¬ t.val % 32 = 0) : (outsAt0 m c t.val t.isLt).2
    = gainOut (iblk m c 0 t) (iblk m c 2 t) (iblk m c 3 t) (iblk m c 4 t) (iblk m c 5 t) (outsAt0 m c (t.val - 1) (Nat.lt_of_le_of_lt (Nat.sub_le _ _) t.isLt)).2 := by
  rw [outsAt0_B m c t h]; dsimp only; rw [later_gain]

/-- The gain's cotangent after the last block: the sum over all rows. -/
theorem gain_sum (d : Fin 1024) : (outsAt0 m c 31 (by decide)).2 (ix2 0 d) = ∑ i, dg (A0 m c) (A2 m c) (A3 m c) (A4 m c) (A5 m c) i d := by
  refine fold_tiles (fun n h => (outsAt0 m c n h).2 (ix2 0 d)) (fun i => dg (A0 m c) (A2 m c) (A3 m c) (A4 m c) (A5 m c) i d) ?_ fun n h => ?_
  · refine (congrFun (gain_first m c ⟨0, by decide⟩ rfl) (ix2 0 d)).trans ((gainOut_at _ _ _ _ _ _ d).trans ?_)
    rw [pay4_at, zero_add]
    exact Finset.sum_congr rfl fun r _ => dg_blk m c ⟨0, by decide⟩ r d
  · refine (congrFun (gain_later m c ⟨n + 1, h⟩ (by show ¬ (n + 1) % 32 = 0; omega)) (ix2 0 d)).trans ((gainOut_at _ _ _ _ _ _ d).trans ?_)
    exact congrArg (fun z : EReal => (outsAt0 m c n (Nat.lt_of_succ_lt h)).2 (ix2 0 d) + z) (Finset.sum_congr rfl fun r _ => dg_blk m c ⟨n + 1, h⟩ r d)

theorem arr7_at (i : Fin 8192) (d : Fin 1024) : (dats m 0 c).arrAt 7 cfg0.N (ix2 i d) = dx (A0 m c) (A1 m c) (A2 m c) (A3 m c) (A4 m c) (A5 m c) (A6 m c) i d := by
  refine (dats m 0 c).arrAt_forall_of_covers 7 (fun i v => v = dx (A0 m c) (A1 m c) (A2 m c) (A3 m c) (A4 m c) (A5 m c) (A6 m c) (i 0) (i 1)) (by decide +kernel) (fun t hf y => ?_) (ix2 i d)
  have hy : y = ix2 (y 0) (y 1) := ext2 _ (y 0) (y 1) rfl rfl
  have hemb : ((cfg0.win 7).blk t).view.emb y = ix2 (tileRow t (y 0)) (y 1) := by
    refine ext2 _ (tileRow t (y 0)) (y 1) ?_ ?_ <;> blk_simp [idx7] <;> simp [tileRow, Nat.mul_comm]
  rw [hemb]
  have ha := (after0_7 m c t).trans (rows_eq m c t)
  exact (congrFun ha y).trans ((congrArg _ hy).trans ((rowsOut_at _ _ _ _ _ _ _ (y 0) (y 1)).trans (dx_blk m c t (y 0) (y 1))))

theorem arr8_at (d : Fin 1024) : (dats m 0 c).arrAt 8 cfg0.N (ix2 0 d) = ∑ i, dg (A0 m c) (A2 m c) (A3 m c) (A4 m c) (A5 m c) i d := by
  refine (dats m 0 c).arrAt_forall_of_covers 8 (fun i v => v = ∑ j, dg (A0 m c) (A2 m c) (A3 m c) (A4 m c) (A5 m c) j (i 1)) (by decide +kernel) (fun t hf y => ?_) (ix2 0 d)
  have hy : y = ix2 0 (y 1) := ext2 _ 0 (y 1) (by have h : (y 0).val < 1 := (y 0).isLt; show (y 0).val = 0; omega) rfl
  have hemb : ((cfg0.win 8).blk t).view.emb y = ix2 0 (y 1) := by
    have h0 : (y 0).val < 1 := (y 0).isLt
    refine ext2 _ 0 (y 1) ?_ ?_ <;> blk_simp [idx8] <;> simp <;> omega
  rw [hemb]
  have ht : t = ⟨31, by decide⟩ := Fin.ext (by
    have h1 := (flush0_8 t).mp hf
    have h2 : t.val < 32 := t.isLt
    show t.val = 31
    omega)
  subst ht
  exact (congrFun (after0_8 m c _) y).trans ((congrArg _ hy).trans (gain_sum m c (y 1)))

/-! ## The reference -/

section Ref
open Cert.Reference11Ideal.Read

variable (x0 x1 : FVec Ideal S8192x1024 .f32) (x2 : FVec Ideal S8192x1024 .bf16) (x3 : FVec Ideal S8192x3072 .bf16) (x4 : FVec Ideal S8192x640 .bf16)
  (x5 : FVec Ideal S1024x4736 .bf16) (x6 : FVec Ideal S1x1024 .f32)

theorem ref_ms (i : Fin 8192) : val_main_v6 (F := Ideal) x0 (ix2 i 0) = ms (rowOf x0 i) := by
  have hsum : val_main_v1 (F := Ideal) x0 (ix1 i) = ∑ k : Fin 1024, rowOf x0 i k * rowOf x0 i k := by
    refine (val_main_v1_apply x0 (ix1 i)).trans ((congrArg₂ (fun a b : EReal => a + b) Ideal.ofBits_zero_f32 ?_).trans (zero_add _))
    refine Finset.sum_congr rfl fun k _ => ?_
    have e : idx_main_v1 (ix1 i) k = ix2 i k := ext2 _ i k rfl rfl
    exact congrArg₂ (fun a b : EReal => a * b) (congrArg x0 e) (congrArg x0 e)
  have e2 : idx_main_v2 (ix2 i 0) = ix1 i := funext fun a => match a with | ⟨0, _⟩ => rfl
  have hm : val_main_v2 (F := Ideal) x0 (ix2 i 0) = ∑ k : Fin 1024, rowOf x0 i k * rowOf x0 i k := by
    rw [val_main_v2_apply, e2, hsum]
  rw [val_main_v6_apply, val_main_v4_apply, hm, val_main_v3_apply, val_main_v5_apply]
  rfl

theorem ref_rs (i : Fin 8192) : val_main_v7 (F := Ideal) x0 (ix2 i 0) = rs (rowOf x0 i) := by
  rw [val_main_v7_apply, ref_ms]; rfl

theorem ref_slope (i : Fin 8192) : val_main_v10 (F := Ideal) x0 (ix2 i 0) = half * Ideal.div (rs (rowOf x0 i)) (ms (rowOf x0 i)) := by
  rw [val_main_v10_apply, val_main_v9_apply, val_main_v8_apply, ref_rs, ref_ms]; rfl

theorem ref_dn (i : Fin 8192) (d : Fin 1024) : val_main_v29 (F := Ideal) x2 x3 x4 x5 (ix2 i d) = dn x2 x3 x4 x5 i d := by
  rw [val_main_v29_apply, val_main_v27_apply]
  refine congrArg₂ (fun a b : EReal => a + b) (congrArg₂ (fun a b : EReal => a + b) ?_ ?_) ?_
  · refine (val_main_v25_apply x4 x5 (ix2 i d)).trans (Finset.sum_congr rfl fun k _ => ?_)
    have el : lidx_main_v25 (ix2 i d) k = ix2 i k := ext2 _ i k rfl rfl
    have er : ridx_main_v25 (ix2 i d) k = ix2 d k := ext2 _ d k rfl rfl
    have ew : idx_main_v20 (ix2 d k) = ix2 d (wcol 4096 k (by decide)) := ext2 _ d (wcol 4096 k (by decide)) rfl rfl
    rw [el, er, val_main_v20_apply, ew]; rfl
  · refine (val_main_v26_apply x3 x5 (ix2 i d)).trans (Finset.sum_congr rfl fun k _ => ?_)
    have el : lidx_main_v26 (ix2 i d) k = ix2 i k := ext2 _ i k rfl rfl
    have er : ridx_main_v26 (ix2 i d) k = ix2 d k := ext2 _ d k rfl rfl
    have ew : idx_main_v18 (ix2 d k) = ix2 d (wcol 1024 k (by decide)) := ext2 _ d (wcol 1024 k (by decide)) rfl rfl
    rw [el, er, val_main_v18_apply, ew]; rfl
  · refine (val_main_v28_apply x2 x5 (ix2 i d)).trans (Finset.sum_congr rfl fun k _ => ?_)
    have el : lidx_main_v28 (ix2 i d) k = ix2 i k := ext2 _ i k rfl rfl
    have er : ridx_main_v28 (ix2 i d) k = ix2 d k := ext2 _ d k rfl rfl
    have ew : idx_main_v16 (ix2 d k) = ix2 d (wcol 0 k (by decide)) := ext2 _ d (wcol 0 k (by decide)) rfl (by show k.val = 0 + k.val; omega)
    rw [el, er, val_main_v16_apply, ew]; rfl

theorem ref_gain (d : Fin 1024) : val_main_v32 (F := Ideal) x0 x2 x3 x4 x5 (ix2 0 d) = ∑ i, dg x0 x2 x3 x4 x5 i d := by
  have e : idx_main_v32 (ix2 0 d) = ix1 d := funext fun a => match a with | ⟨0, _⟩ => Fin.ext (by show 0 * 1024 + d.val = d.val; omega)
  rw [val_main_v32_apply, e]
  refine (val_main_v31_apply x0 x2 x3 x4 x5 (ix1 d)).trans ((congrArg₂ (fun a b : EReal => a + b) Ideal.ofBits_zero_f32 ?_).trans (zero_add _))
  refine Finset.sum_congr rfl fun i _ => ?_
  have e31 : idx_main_v31 (ix1 d) i = ix2 i d := ext2 _ i d rfl rfl
  have e11 : idx_main_v11 (ix2 i d) = ix2 i 0 := ext2 _ i 0 rfl rfl
  rw [e31, val_main_v30_apply, val_main_v12_apply, val_main_v11_apply, e11, ref_rs, ref_dn]
  rfl

theorem ref_gdy (i : Fin 8192) (d : Fin 1024) : val_main_v34 (F := Ideal) x2 x3 x4 x5 x6 (ix2 i d) = dn x2 x3 x4 x5 i d * x6 (ix2 0 d) := by
  have e33 : idx_main_v33 (ix2 i d) = ix2 0 d := ext2 _ 0 d rfl rfl
  rw [val_main_v34_apply, ref_dn, val_main_v33_apply, e33]; rfl

theorem ref_mean (i : Fin 8192) (d : Fin 1024) : val_main_v44 (F := Ideal) x0 x2 x3 x4 x5 x6 (ix2 i d)
    = Ideal.div ((∑ k, rowOf x0 i k * (dn x2 x3 x4 x5 i k * x6 (ix2 0 k))) * (half * Ideal.div (rs (rowOf x0 i)) (ms (rowOf x0 i)))) kk := by
  have h36 : val_main_v36 (F := Ideal) x0 x2 x3 x4 x5 x6 (ix1 i) = ∑ k, rowOf x0 i k * (dn x2 x3 x4 x5 i k * x6 (ix2 0 k)) := by
    refine (val_main_v36_apply x0 x2 x3 x4 x5 x6 (ix1 i)).trans ((congrArg₂ (fun a b : EReal => a + b) Ideal.ofBits_zero_f32 ?_).trans (zero_add _))
    refine Finset.sum_congr rfl fun k _ => ?_
    have e : idx_main_v36 (ix1 i) k = ix2 i k := ext2 _ i k rfl rfl
    rw [e, val_main_v35_apply, ref_gdy]; rfl
  have e37 : idx_main_v37 (ix2 i 0) = ix1 i := funext fun a => match a with | ⟨0, _⟩ => Fin.ext (by show i.val * 1 + 0 = i.val; omega)
  have e44 : idx_main_v44 (ix2 i d) = ix1 i := funext fun a => match a with | ⟨0, _⟩ => rfl
  rw [val_main_v44_apply, e44]
  refine (val_main_v43_apply x0 x2 x3 x4 x5 x6 (ix1 i)).trans ((congrArg₂ (fun a b : EReal => a + b) Ideal.ofBits_zero_f32 (Fin.sum_univ_one _)).trans ((zero_add _).trans ?_))
  have e43 : idx_main_v43 (ix1 i) 0 = ix2 i 0 := ext2 _ i 0 rfl rfl
  rw [e43, val_main_v42_apply, val_main_v40_apply, val_main_v37_apply, e37, h36, ref_slope, val_main_v41_apply]
  rfl

theorem ref_rows (i : Fin 8192) (d : Fin 1024) : val_main_v49 (F := Ideal) x0 x1 x2 x3 x4 x5 x6 (ix2 i d) = dx x0 x1 x2 x3 x4 x5 x6 i d := by
  have e38 : idx_main_v38 (ix2 i d) = ix2 i 0 := ext2 _ i 0 rfl rfl
  rw [val_main_v49_apply, val_main_v48_apply, val_main_v47_apply, val_main_v46_apply, val_main_v45_apply, val_main_v39_apply, val_main_v38_apply, e38,
    ref_rs, ref_gdy, ref_mean]
  exact congrArg (fun z : EReal => x1 (ix2 i d) + z) (back_eq (rowOf x0 i) (fun k => dn x2 x3 x4 x5 i k * x6 (ix2 0 k)) d)

end Ref

theorem value7 : (dats m 0 c).arrAt 7 cfg0.N = Cert.Reference11Ideal.Read.val_main_v49 (F := Ideal) (A0 m c) (A1 m c) (A2 m c) (A3 m c) (A4 m c) (A5 m c) (A6 m c) := funext fun (i : S8192x1024.Idx) => by
  have e : i = ix2 (i 0) (i 1) := ext2 _ (i 0) (i 1) rfl rfl
  exact (congrArg _ e).trans ((arr7_at m c (i 0) (i 1)).trans ((ref_rows _ _ _ _ _ _ _ (i 0) (i 1)).symm.trans (congrArg _ e.symm)))

theorem value8 : (dats m 0 c).arrAt 8 cfg0.N = Cert.Reference11Ideal.Read.val_main_v32 (F := Ideal) (A0 m c) (A2 m c) (A3 m c) (A4 m c) (A5 m c) := funext fun (i : S1x1024.Idx) => by
  have e : i = ix2 0 (i 1) := ext2 _ 0 (i 1) (by have h : (i 0).val < 1 := (i 0).isLt; show (i 0).val = 0; omega) rfl
  exact (congrArg _ e).trans ((arr8_at m c (i 1)).trans ((ref_gain _ _ _ _ _ (i 1)).symm.trans (congrArg _ e.symm)))

/-! ## The claims -/

theorem ref_run (m' : (ℓ : Loc Cert.Reference11Ideal.nD Cert.Reference11Ideal.τ Cert.Reference11Ideal.sig) → Buf (Elt Ideal) ℓ) (g' : Dev Cert.Reference11Ideal.nD → PrngReg) :
    θ_run (Cert.Reference11Ideal.defs (F := Ideal)) (onTc (τ := Cert.Reference11Ideal.τ) (Cert.Reference11Ideal.main (F := Ideal))) ⟨m', fun _ => 0, g'⟩ (fun r => (∀ c : Dev Cert.Reference11Ideal.nD,
      r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))
      ∧ r.2.sem = fun _ => 0) :=
  (θ_run _ _ _).mono (fun r h => ⟨fun c => (h c).2.2, sem_eq_zero_of_no_sems (by decide) r.2⟩) (Cert.Reference11Ideal.Value.run m' g')

theorem algebraic : Cert.algebraic_Kernel11Ideal_Reference11Ideal := fun m g m' g' _ ha => by
  refine ⟨_, _, (θ_run _ _ _).mono (fun r h c => ⟨(h c).1.trans (value7 m c), (h c).2.1.trans (value8 m c), (h c).2.2⟩) (run_blocks m g),
    (θ_run _ _ _).mono (fun r h c => ⟨(h c).1.trans ((Cert.Reference11Ideal.Read.val_main_v49_eq _ _).trans ?_),
      (h c).2.1.trans ((Cert.Reference11Ideal.Read.val_main_v32_eq _ _ _ _ _).trans ?_), (h c).2.2⟩) (Cert.Reference11Ideal.Value.run m' g')⟩
  · obtain ⟨e0, e1, e2, e3, e4, e5, e6⟩ := ha c
    rw [e0, e1, e2, e3, e4, e5, e6]
  · obtain ⟨e0, e1, e2, e3, e4, e5, e6⟩ := ha c
    rw [e0, e2, e3, e4, e5]

end Cert.Proof.InprojBwd

end
-- ==== Proof.Hand.MergeOut.lean ====
/-
  The two branches under their gates, and the residual stream after the product: blocks of 256 rows. The gates and the gelu are
  the same operations in the kernel and in the reference, one element at a time. No entry needs to be finite.
-/
module

public import proofs.«01_k».proof.Defs
public import proofs.«01_k».proof.Proof.Hand.NormTiles
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit.Geometry

@[expose] public section

set_option maxRecDepth 16384

noncomputable section

namespace Cert.Proof.MergeOut

open Cert.Kernel12Ideal Cert.Kernel12Ideal.Gen Cert.Kernel12Ideal.Value
open Idealize.ShloMosaic Idealize.ShloMosaic.TcCoe Idealize.ShloMosaic.ValueIdx Idealize.SL.Sem Cert.Proof.Attn Cert.Proof.Product Cert.Proof.Norm

/-! ## An element -/

/-- A float constant's number. -/
abbrev lit (b : BitVec 32) : EReal := FloatOps.ofBits (F := Ideal) .f32 b

/-- The sigmoid, and the gelu by its tanh. -/
def gate (v : EReal) : EReal := Ideal.div (lit 0x3F800000#32) (lit 0x3F800000#32 + Ideal.exp (-v))
def gel (v : EReal) : EReal :=
  v * (lit 0x3F000000#32 * (lit 0x3F800000#32 + Ideal.tanh (lit 0x3F4C422A#32 * (v + lit 0x3D372713#32 * (v * v * v)))))

/-- The branches `a` and `y` under their gates. -/
def both (a g s t y : EReal) : EReal := gate s * (a * gel g) + gate t * y

/-- A column of the gates' third `j`. -/
def third (j : Fin 3) (k : Fin 1024) : Fin 3072 := ⟨1024 * j.val + k.val, by omega⟩

/-- An element of the merged rows, and of the stream after the product. -/
def merged {n : ℕ} (x1 : FVec Ideal ⟨2, ![n, 1024]⟩ .f32) (x2 : FVec Ideal ⟨2, ![n, 3072]⟩ .f32) (x3 : FVec Ideal ⟨2, ![n, 1024]⟩ .f32)
    (r : Fin n) (k : Fin 1024) : EReal :=
  both (x1 (ix2 r k)) (x2 (ix2 r (third 0 k))) (x2 (ix2 r (third 1 k))) (x2 (ix2 r (third 2 k))) (x3 (ix2 r k))
def stream {n : ℕ} (x0 x1 : FVec Ideal ⟨2, ![n, 1024]⟩ .f32) (x2 : FVec Ideal ⟨2, ![n, 3072]⟩ .f32) (x3 : FVec Ideal ⟨2, ![n, 1024]⟩ .f32)
    (x4 : FVec Ideal S1024x1024 .bf16) (r : Fin n) (d : Fin 1024) : EReal :=
  x0 (ix2 r d) + ∑ k : Fin 1024, merged x1 x2 x3 r k * x4 (ix2 k d)

theorem sub_lit (v : EReal) : lit 0x00000000#32 - v = -v := by
  rw [show lit 0x00000000#32 = 0 from Ideal.ofBits_zero_f32, zero_sub]

/-- The kernel negates by subtracting from zero; beside that its element is the same term. -/
theorem pay2_at (a g s t y : FVec Ideal S256x1024 .f32) (j : S256x1024.Idx) : k0_pay2 (F := Ideal) a g s t y j = both (a j) (g j) (s j) (t j) (y j) := by
  unfold both gate
  rw [← sub_lit (s j), ← sub_lit (t j)]
  rfl

theorem pay1_at (p : FVec Ideal S256x1024 .bf16) (x : FVec Ideal S256x1024 .f32) (w : FVec Ideal S1024x1024 .bf16) (r : Fin 256) (d : Fin 1024) :
    k0_pay1 (F := Ideal) p x w (ix2 r d) = x (ix2 r d) + ∑ k : Fin 1024, p (ix2 r k) * w (ix2 k d) := by
  refine congrArg (fun z : EReal => x (ix2 r d) + z) ((Ideal.matmul_plain_apply none p w _ r d).trans ?_)
  rw [zero_f32, zero_add]

/-! ## A block -/

theorem z2 : (![0, 0] : Fin 2 → ℕ) = fun _ => 0 := funext fun a => by fin_cases a <;> rfl

/-- A third of the gates' block, at a place. -/
theorem third_at (x2 : FVec Ideal S256x3072 .f32) (j : Fin 3) (o : ℕ) (ho : o = 1024 * j.val) (h : ∀ a, (![0, o] : Fin 2 → ℕ) a + S256x1024.size a ≤ S256x3072.size a)
    (r : Fin 256) (k : Fin 1024) : View.ld (Val := Elt Ideal) (e' := .f32) x2 (Rect.unit (s := S256x3072) ![0, o] S256x1024.size h) (ix2 r k) = x2 (ix2 r (third j k)) :=
  congrArg x2 (ext2 _ r (third j k) (by show 0 + 1 * r.val = _; omega) (by show o + 1 * k.val = 1024 * j.val + k.val; omega))

theorem pay3_at (x0 x1 : FVec Ideal S256x1024 .f32) (x2 : FVec Ideal S256x3072 .f32) (x3 : FVec Ideal S256x1024 .f32) (x4 : FVec Ideal S1024x1024 .bf16)
    (r : Fin 256) (k : Fin 1024) : k0_pay3 (F := Ideal) x0 x1 x2 x3 x4 (ix2 r k) = merged x1 x2 x3 r k := by
  unfold k0_pay3
  rw [View.ld_unit_zero (S := S256x1024) z2, View.ld_unit_zero (S := S256x1024) z2, pay2_at]
  unfold merged
  rw [third_at x2 0 0 rfl inb_S256x3072_S256x1024_0_0 r k, third_at x2 1 1024 rfl inb_S256x3072_S256x1024_0_1024 r k,
    third_at x2 2 2048 rfl inb_S256x3072_S256x1024_0_2048 r k]

theorem out5_at (x0 x1 : FVec Ideal S256x1024 .f32) (x2 : FVec Ideal S256x3072 .f32) (x3 : FVec Ideal S256x1024 .f32) (x4 : FVec Ideal S1024x1024 .bf16)
    (r : Fin 256) (d : Fin 1024) : out0_5 (F := Ideal) x0 x1 x2 x3 x4 (ix2 r d) = stream x0 x1 x2 x3 x4 r d := by
  unfold out0_5
  rw [View.canon_unit_zero z2, View.ld_unit_zero (S := S256x1024) z2, View.ld_unit_zero (S := S1024x1024) z2, pay1_at]
  exact congrArg (fun z : EReal => x0 (ix2 r d) + z) (Finset.sum_congr rfl fun k _ => congrArg (fun z : EReal => z * x4 (ix2 k d)) (pay3_at x0 x1 x2 x3 x4 r k))

theorem out6_at (x0 x1 : FVec Ideal S256x1024 .f32) (x2 : FVec Ideal S256x3072 .f32) (x3 : FVec Ideal S256x1024 .f32) (x4 : FVec Ideal S1024x1024 .bf16)
    (r : Fin 256) (k : Fin 1024) : out0_6 (F := Ideal) x0 x1 x2 x3 x4 (ix2 r k) = merged x1 x2 x3 r k := by
  unfold out0_6
  rw [View.canon_unit_zero z2]
  exact pay3_at x0 x1 x2 x3 x4 r k

/-! ## The arrays -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

variable (m : (ℓ : Loc nD τ sig) → Buf (Elt Ideal) ℓ) (c : Dev nD)

/-- The arguments, named. -/
abbrev A0 : FVec Ideal S8192x1024 .f32 := m ((c : Thread nD τ).loc main_arg0)
abbrev A1 : FVec Ideal S8192x1024 .f32 := m ((c : Thread nD τ).loc main_arg1)
abbrev A2 : FVec Ideal S8192x3072 .f32 := m ((c : Thread nD τ).loc main_arg2)
abbrev A3 : FVec Ideal S8192x1024 .f32 := m ((c : Thread nD τ).loc main_arg3)
abbrev A4 : FVec Ideal S1024x1024 .bf16 := m ((c : Thread nD τ).loc main_arg4)

theorem iblk0_at (t : Fin cfg0.N) (r : Fin 256) (k : Fin 1024) : iblk m c 0 t (ix2 r k) = A0 m c (ix2 (tileRow t r) k) := by
  refine Eq.trans ?_ (congrFun (V_main_arg0 m c) (ix2 (tileRow t r) k))
  refine congrArg (V m c main_arg0) (ext2 _ (tileRow t r) k ?_ ?_) <;> blk_simp [idx0] <;> simp [tileRow, Nat.mul_comm]

theorem iblk1_at (t : Fin cfg0.N) (r : Fin 256) (k : Fin 1024) : iblk m c 1 t (ix2 r k) = A1 m c (ix2 (tileRow t r) k) := by
  refine Eq.trans ?_ (congrFun (V_main_arg1 m c) (ix2 (tileRow t r) k))
  refine congrArg (V m c main_arg1) (ext2 _ (tileRow t r) k ?_ ?_) <;> blk_simp [idx1] <;> simp [tileRow, Nat.mul_comm]

theorem iblk2_at (t : Fin cfg0.N) (r : Fin 256) (k : Fin 3072) : iblk m c 2 t (ix2 r k) = A2 m c (ix2 (tileRow t r) k) := by
  refine Eq.trans ?_ (congrFun (V_main_arg2 m c) (ix2 (tileRow t r) k))
  refine congrArg (V m c main_arg2) (ext2 _ (tileRow t r) k ?_ ?_) <;> blk_simp [idx2] <;> simp [tileRow, Nat.mul_comm]

theorem iblk3_at (t : Fin cfg0.N) (r : Fin 256) (k : Fin 1024) : iblk m c 3 t (ix2 r k) = A3 m c (ix2 (tileRow t r) k) := by
  refine Eq.trans ?_ (congrFun (V_main_arg3 m c) (ix2 (tileRow t r) k))
  refine congrArg (V m c main_arg3) (ext2 _ (tileRow t r) k ?_ ?_) <;> blk_simp [idx3] <;> simp [tileRow, Nat.mul_comm]

theorem iblk4_at (t : Fin cfg0.N) (k d : Fin 1024) : iblk m c 4 t (ix2 k d) = A4 m c (ix2 k d) := by
  refine Eq.trans ?_ (congrFun (V_main_arg4 m c) (ix2 k d))
  refine congrArg (V m c main_arg4) (ext2 _ k d ?_ ?_) <;> blk_simp [idx4] <;> simp

theorem merged_blk (t : Fin cfg0.N) (r : Fin 256) (k : Fin 1024) : merged (iblk m c 1 t) (iblk m c 2 t) (iblk m c 3 t) r k
    = merged (A1 m c) (A2 m c) (A3 m c) (tileRow t r) k := by
  unfold merged
  rw [iblk1_at, iblk2_at, iblk2_at, iblk2_at, iblk3_at]

theorem stream_blk (t : Fin cfg0.N) (r : Fin 256) (d : Fin 1024) : stream (iblk m c 0 t) (iblk m c 1 t) (iblk m c 2 t) (iblk m c 3 t) (iblk m c 4 t) r d
    = stream (A0 m c) (A1 m c) (A2 m c) (A3 m c) (A4 m c) (tileRow t r) d :=
  congrArg₂ (fun a b : EReal => a + b) (iblk0_at m c t r d) (Finset.sum_congr rfl fun k _ =>
    congrArg₂ (fun a b : EReal => a * b) (merged_blk m c t r k) (iblk4_at m c t k d))

theorem arr5_at (i : Fin 8192) (d : Fin 1024) : (dats m 0 c).arrAt 5 cfg0.N (ix2 i d) = stream (A0 m c) (A1 m c) (A2 m c) (A3 m c) (A4 m c) i d := by
  refine (dats m 0 c).arrAt_forall_of_covers 5 (fun i v => v = stream (A0 m c) (A1 m c) (A2 m c) (A3 m c) (A4 m c) (i 0) (i 1)) (by decide +kernel) (fun t hf y => ?_) (ix2 i d)
  have hy : y = ix2 (y 0) (y 1) := ext2 _ (y 0) (y 1) rfl rfl
  have hemb : ((cfg0.win 5).blk t).view.emb y = ix2 (tileRow t (y 0)) (y 1) := by
    refine ext2 _ (tileRow t (y 0)) (y 1) ?_ ?_ <;> blk_simp [idx5] <;> simp [tileRow, Nat.mul_comm]
  rw [hemb]
  exact (congrFun (after0_5 m c t) y).trans ((congrArg _ hy).trans ((out5_at _ _ _ _ _ (y 0) (y 1)).trans (stream_blk m c t (y 0) (y 1))))

theorem arr6_at (i : Fin 8192) (d : Fin 1024) : (dats m 0 c).arrAt 6 cfg0.N (ix2 i d) = merged (A1 m c) (A2 m c) (A3 m c) i d := by
  refine (dats m 0 c).arrAt_forall_of_covers 6 (fun i v => v = merged (A1 m c) (A2 m c) (A3 m c) (i 0) (i 1)) (by decide +kernel) (fun t hf y => ?_) (ix2 i d)
  have hy : y = ix2 (y 0) (y 1) := ext2 _ (y 0) (y 1) rfl rfl
  have hemb : ((cfg0.win 6).blk t).view.emb y = ix2 (tileRow t (y 0)) (y 1) := by
    refine ext2 _ (tileRow t (y 0)) (y 1) ?_ ?_ <;> blk_simp [idx6] <;> simp [tileRow, Nat.mul_comm]
  rw [hemb]
  exact (congrFun (after0_6 m c t) y).trans ((congrArg _ hy).trans ((out6_at _ _ _ _ _ (y 0) (y 1)).trans (merged_blk m c t (y 0) (y 1))))

/-! ## The reference -/

section Ref

open Cert.Reference12Ideal.Read

variable (x0 x1 : FVec Ideal S8192x1024 .f32) (x2 : FVec Ideal S8192x3072 .f32) (x3 : FVec Ideal S8192x1024 .f32) (x4 : FVec Ideal S1024x1024 .bf16)

theorem ref_merged (i : Fin 8192) (k : Fin 1024) : val_main_v31 (F := Ideal) x1 x2 x3 (ix2 i k) = merged x1 x2 x3 i k := by
  have e0 : idx_main_v0 (ix2 i k) = ix2 i (third 0 k) := ext2 _ i (third 0 k) rfl (by show k.val = 1024 * 0 + k.val; omega)
  have e1 : idx_main_v1 (ix2 i k) = ix2 i (third 1 k) := ext2 _ i (third 1 k) rfl rfl
  have e2 : idx_main_v2 (ix2 i k) = ix2 i (third 2 k) := ext2 _ i (third 2 k) rfl rfl
  have h0 : val_main_v0 (F := Ideal) x2 (ix2 i k) = x2 (ix2 i (third 0 k)) := by rw [val_main_v0_apply, e0]
  have hg : val_main_v21 (F := Ideal) x2 (ix2 i k) = gel (x2 (ix2 i (third 0 k))) := by
    rw [val_main_v21_apply, val_main_v20_apply, val_main_v19_apply, val_main_v18_apply, val_main_v17_apply, val_main_v16_apply, val_main_v15_apply,
      val_main_v14_apply, val_main_v13_apply, val_main_v12_apply, val_main_v11_apply, val_main_v10_apply, val_main_v9_apply, h0]
    rfl
  have hs : val_main_v8 (F := Ideal) x2 (ix2 i k) = gate (x2 (ix2 i (third 1 k))) := by
    rw [val_main_v8_apply, val_main_v7_apply, val_main_v6_apply, val_main_v5_apply, val_main_v4_apply, val_main_v3_apply, val_main_v1_apply, e1]
    rfl
  have ht : val_main_v29 (F := Ideal) x2 (ix2 i k) = gate (x2 (ix2 i (third 2 k))) := by
    rw [val_main_v29_apply, val_main_v28_apply, val_main_v27_apply, val_main_v26_apply, val_main_v25_apply, val_main_v24_apply, val_main_v2_apply, e2]
    rfl
  rw [val_main_v31_apply, val_main_v30_apply, val_main_v23_apply, val_main_v22_apply, hs, ht, hg]
  rfl

theorem ref_stream (i : Fin 8192) (d : Fin 1024) : val_main_v34 (F := Ideal) x0 x1 x2 x3 x4 (ix2 i d) = stream x0 x1 x2 x3 x4 i d := by
  refine congrArg (fun z : EReal => x0 (ix2 i d) + z) ((val_main_v33_apply x1 x2 x3 x4 (ix2 i d)).trans (Finset.sum_congr rfl fun k _ => ?_))
  exact congrArg₂ (fun a b : EReal => a * b) ((congrArg _ (ext2 _ i k rfl rfl)).trans (ref_merged x1 x2 x3 i k)) (congrArg x4 (ext2 _ k d rfl rfl))

end Ref

theorem value5 : (dats m 0 c).arrAt 5 cfg0.N = Cert.Reference12Ideal.Read.val_main_v34 (F := Ideal) (A0 m c) (A1 m c) (A2 m c) (A3 m c) (A4 m c) := funext fun (i : S8192x1024.Idx) => by
  have e : i = ix2 (i 0) (i 1) := ext2 _ (i 0) (i 1) rfl rfl
  exact (congrArg _ e).trans ((arr5_at m c (i 0) (i 1)).trans ((ref_stream _ _ _ _ _ (i 0) (i 1)).symm.trans (congrArg _ e.symm)))

theorem value6 : (dats m 0 c).arrAt 6 cfg0.N = Cert.Reference12Ideal.Read.val_main_v35 (F := Ideal) (A1 m c) (A2 m c) (A3 m c) := funext fun (i : S8192x1024.Idx) => by
  have e : i = ix2 (i 0) (i 1) := ext2 _ (i 0) (i 1) rfl rfl
  exact (congrArg _ e).trans ((arr6_at m c (i 0) (i 1)).trans ((ref_merged _ _ _ (i 0) (i 1)).symm.trans
    (congrArg (Cert.Reference12Ideal.Read.val_main_v31 (F := Ideal) (A1 m c) (A2 m c) (A3 m c)) e.symm)))

/-! ## The claims -/

theorem ref_run (m' : (ℓ : Loc Cert.Reference12Ideal.nD Cert.Reference12Ideal.τ Cert.Reference12Ideal.sig) → Buf (Elt Ideal) ℓ) (g' : Dev Cert.Reference12Ideal.nD → PrngReg) :
    θ_run (Cert.Reference12Ideal.defs (F := Ideal)) (onTc (τ := Cert.Reference12Ideal.τ) (Cert.Reference12Ideal.main (F := Ideal))) ⟨m', fun _ => 0, g'⟩ (fun r => (∀ c : Dev Cert.Reference12Ideal.nD,
      r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))
      ∧ r.2.sem = fun _ => 0) :=
  (θ_run _ _ _).mono (fun r h => ⟨fun c => (h c).2.2, sem_eq_zero_of_no_sems (by decide) r.2⟩) (Cert.Reference12Ideal.Value.run m' g')

theorem algebraic : Cert.algebraic_Kernel12Ideal_Reference12Ideal := fun m g m' g' _ ha => by
  refine ⟨_, _, (θ_run _ _ _).mono (fun r h c => ⟨(h c).1.trans (value5 m c), (h c).2.1.trans (value6 m c), (h c).2.2⟩) (run_blocks m g),
    (θ_run _ _ _).mono (fun r h c => ⟨(h c).1.trans ((Cert.Reference12Ideal.Read.val_main_v34_eq _ _ _ _ _).trans ?_),
      (h c).2.1.trans ((Cert.Reference12Ideal.Read.val_main_v35_eq _ _ _).trans ?_), (h c).2.2⟩) (Cert.Reference12Ideal.Value.run m' g')⟩
  · obtain ⟨e0, e1, e2, e3, e4⟩ := ha c
    rw [e0, e1, e2, e3, e4]
  · obtain ⟨e0, e1, e2, e3, e4⟩ := ha c
    rw [e1, e2, e3]

end Cert.Proof.MergeOut

end
-- ==== Proof.Hand.MlpDown.lean ====
/-
  The activation the MLP's down projection reads, and the loss's cotangent of the row the final norm reads: blocks of 256
  rows. No entry needs to be finite.
-/
module

public import proofs.«01_k».proof.Defs
public import proofs.«01_k».proof.Proof.Hand.NormTiles
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit.Geometry

@[expose] public section

set_option maxRecDepth 16384

noncomputable section

namespace Cert.Proof.MlpDown

open Cert.Kernel13Ideal Cert.Kernel13Ideal.Gen Cert.Kernel13Ideal.Value
open Idealize.ShloMosaic Idealize.ShloMosaic.TcCoe Idealize.ShloMosaic.ValueIdx Idealize.SL.Sem Cert.Proof.Attn Cert.Proof.Product Cert.Proof.Norm

/-! ## A block -/

/-- The activation of an entry: the square of its positive part. -/
def act (a : EReal) : EReal := max a (Ideal.ofBits .f32 0x00000000#32) * max a (Ideal.ofBits .f32 0x00000000#32)

/-- The loss's share of a place, as the kernel spells it. -/
def share : EReal := Ideal.ofBits .f32 0x3A800000#32

/-- The MLP's output row at a place. -/
def hh {n : ℕ} (x0 : FVec Ideal ⟨2, ![n, 4096]⟩ .f32) (x1 : FVec Ideal ⟨2, ![n, 1024]⟩ .f32) (x3 : FVec Ideal S4096x1024 .bf16) (r : Fin n) (d : Fin 1024) : EReal :=
  x1 (ix2 r d) + ∑ k : Fin 4096, act (x0 (ix2 r k)) * x3 (ix2 k d)

/-- The normed row less the target at a place. -/
def er {n : ℕ} (x0 : FVec Ideal ⟨2, ![n, 4096]⟩ .f32) (x1 x2 : FVec Ideal ⟨2, ![n, 1024]⟩ .f32) (x3 : FVec Ideal S4096x1024 .bf16)
    (x4 : FVec Ideal S1x1024 .f32) (r : Fin n) (d : Fin 1024) : EReal :=
  hh x0 x1 x3 r d * rs (hh x0 x1 x3 r) * x4 (ix2 0 d) - x2 (ix2 r d)

/-- The cotangent of the row at a place. -/
def dh {n : ℕ} (x0 : FVec Ideal ⟨2, ![n, 4096]⟩ .f32) (x1 x2 : FVec Ideal ⟨2, ![n, 1024]⟩ .f32) (x3 : FVec Ideal S4096x1024 .bf16)
    (x4 : FVec Ideal S1x1024 .f32) (r : Fin n) (d : Fin 1024) : EReal :=
  back (hh x0 x1 x3 r) (fun k => er x0 x1 x2 x3 x4 r k * share * x4 (ix2 0 k)) d

theorem pay8_at (x0 : FVec Ideal S256x4096 .f32) (r : Fin 256) (k : Fin 4096) : k0_pay8 (F := Ideal) x0 (ix2 r k) = act (x0 (ix2 r k)) := rfl

theorem pay9_at (x0 : FVec Ideal S256x4096 .f32) (x1 : FVec Ideal S256x1024 .f32) (x3 : FVec Ideal S4096x1024 .bf16) (r : Fin 256) (d : Fin 1024) :
    k0_pay9 (F := Ideal) x0 x1 x3 (ix2 r d) = hh x0 x1 x3 r d := by
  refine congrArg (fun z : EReal => x1 (ix2 r d) + z) ?_
  refine (Ideal.matmul_plain_apply none (k0_pay8 (F := Ideal) x0) x3 _ r d).trans ?_
  rw [zero_f32, zero_add]; rfl

theorem row9 (x0 : FVec Ideal S256x4096 .f32) (x1 : FVec Ideal S256x1024 .f32) (x3 : FVec Ideal S4096x1024 .bf16) (r : Fin 256) :
    rowOf (k0_pay9 (F := Ideal) x0 x1 x3) r = hh x0 x1 x3 r := funext fun d => pay9_at x0 x1 x3 r d

theorem pay10_at (x0 : FVec Ideal S256x4096 .f32) (x1 : FVec Ideal S256x1024 .f32) (x3 : FVec Ideal S4096x1024 .bf16) (r : Fin 256) :
    k0_pay10 (F := Ideal) x0 x1 x3 (ix2 r 0) = rs (rowOf (k0_pay9 (F := Ideal) x0 x1 x3) r) :=
  roots_at (k0_pay9 (F := Ideal) x0 x1 x3) reduces_S256x1024_S256 (.inl rfl) rfl shapeCasts_S256_S256x1 r

theorem pay11_at (x0 : FVec Ideal S256x4096 .f32) (x1 x2 : FVec Ideal S256x1024 .f32) (x3 : FVec Ideal S4096x1024 .bf16) (x4 : FVec Ideal S1x1024 .f32)
    (r : Fin 256) (d : Fin 1024) : k0_pay11 (F := Ideal) x0 x1 x3 x4 x2 (ix2 r d) = er x0 x1 x2 x3 x4 r d := by
  refine congrArg (fun z : EReal => z - x2 (ix2 r d)) (congrArg₂ (fun a b : EReal => a * b) (congrArg₂ (fun a b : EReal => a * b) (pay9_at x0 x1 x3 r d) ?_) ?_)
  · exact (bcol_at (k0_pay10 (F := Ideal) x0 x1 x3) broadcasts_S256x1_S256x1024 r d (by decide)).trans ((pay10_at x0 x1 x3 r).trans (congrArg rs (row9 x0 x1 x3 r)))
  · exact brow_at x4 broadcasts_S1x1024_S256x1024 r d

/-- The block of cotangents the body stores. -/
abbrev rows (x0 : Vec Ideal S256x4096 .f32) (x1 x2 : Vec Ideal S256x1024 .f32) (x3 : Vec Ideal S4096x1024 .bf16) (x4 : Vec Ideal S1x1024 .f32) : FVec Ideal S256x1024 .f32 :=
  k0_pay3 (F := Ideal) (k0_pay9 (F := Ideal) x0 x1 x3) (k0_pay10 (F := Ideal) x0 x1 x3) x4 (k0_pay11 (F := Ideal) x0 x1 x3 x4 x2)

theorem rows_at (x0 : FVec Ideal S256x4096 .f32) (x1 x2 : FVec Ideal S256x1024 .f32) (x3 : FVec Ideal S4096x1024 .bf16) (x4 : FVec Ideal S1x1024 .f32)
    (r : Fin 256) (d : Fin 1024) : rows x0 x1 x2 x3 x4 (ix2 r d) = dh x0 x1 x2 x3 x4 r d := by
  refine (dnorm_at (k0_pay2 (F := Ideal) (k0_pay11 (F := Ideal) x0 x1 x3 x4 x2)) (k0_pay9 (F := Ideal) x0 x1 x3) x4 (k0_pay10 (F := Ideal) x0 x1 x3)
    broadcasts_S1x1024_S256x1024 broadcasts_S256x1_S256x1024 reduces_S256x1024_S256 (.inl rfl) rfl shapeCasts_S256_S256x1 (pay10_at x0 x1 x3) r d).trans ?_
  exact congrArg₂ (fun x f => back x f d) (row9 x0 x1 x3 r) (funext fun k => congrArg (fun z : EReal => z * share * x4 (ix2 0 k)) (pay11_at x0 x1 x2 x3 x4 r k))

/-! ## What the body leaves -/

theorem z2 : (![0, 0] : Fin 2 → ℕ) = fun _ => 0 := funext fun a => by fin_cases a <;> rfl

section Outs

variable (c : Dev nD) (i : grid0.Coords)
  (a1 : Memref sig .tc .vmem S256x4096 .f32) (w1 : a1.IsWhole) (a2 : Memref sig .tc .vmem S256x1024 .f32) (w2 : a2.IsWhole)
  (a3 : Memref sig .tc .vmem S256x1024 .f32) (w3 : a3.IsWhole) (a4 : Memref sig .tc .vmem S4096x1024 .bf16) (w4 : a4.IsWhole)
  (a5 : Memref sig .tc .vmem S1x1024 .f32) (w5 : a5.IsWhole) (a6 : Memref sig .tc .vmem S256x4096 .bf16) (w6 : a6.IsWhole)
  (a7 : Memref sig .tc .vmem S256x1024 .f32) (w7 : a7.IsWhole) (a8 : Memref sig .tc .vmem S8x128 .f32) (w8 : a8.IsWhole)
  (a9 : Memref sig .tc .vmem S1x1024 .f32) (w9 : a9.IsWhole) (a10 : Memref sig .tc .vmem S1x1024 .f32) (w10 : a10.IsWhole)
  (x0 : Vec Ideal S256x4096 .f32) (x1 x2 : Vec Ideal S256x1024 .f32) (x3 : Vec Ideal S4096x1024 .bf16) (x4 xo xs : Vec Ideal S1x1024 .f32)

theorem first_act (h : cond0_0 i) (h' : ¬ cond0_1 i) : out0_A_5 (F := Ideal) c i a1 w1 a2 w2 a3 w3 a4 w4 a5 w5 a6 w6 a7 w7 a8 w8 a9 w9 a10 w10 h h' x0 x1 x2 x3 x4 = k0_pay8 x0 := by
  unfold out0_A_5
  rw [View.read_writes_eq_canon _ _ _ (cover0_A_5 c i a1 w1 a2 w2 a3 w3 a4 w4 a5 w5 a6 w6 a7 w7 a8 w8 a9 w9 a10 w10 h h' x0 x1 x2 x3 x4)]
  unfold kernelRun0_A
  dsimp only
  try sl_unfold_words
  rw [View.canon_unit_zero z2]
  simp only [View.readAt_eq_ld, w1.read_unread, w2.read_unread, w3.read_unread, w4.read_unread, w5.read_unread, View.ld_unit_zero (S := S256x4096) z2,
    View.ld_unit_zero (S := S256x1024) z2, View.ld_unit_zero (S := S4096x1024) z2, View.ld_unit_zero (S := S1x1024) z2]

theorem first_rows (h : cond0_0 i) (h' : ¬ cond0_1 i) : out0_A_6 (F := Ideal) c i a1 w1 a2 w2 a3 w3 a4 w4 a5 w5 a6 w6 a7 w7 a8 w8 a9 w9 a10 w10 h h' x0 x1 x2 x3 x4 = rows x0 x1 x2 x3 x4 := by
  unfold out0_A_6
  rw [View.read_writes_eq_canon _ _ _ (cover0_A_6 c i a1 w1 a2 w2 a3 w3 a4 w4 a5 w5 a6 w6 a7 w7 a8 w8 a9 w9 a10 w10 h h' x0 x1 x2 x3 x4)]
  unfold kernelRun0_A
  dsimp only
  try sl_unfold_words
  rw [View.canon_unit_zero z2]
  simp only [View.readAt_eq_ld, w1.read_unread, w2.read_unread, w3.read_unread, w4.read_unread, w5.read_unread, View.ld_unit_zero (S := S256x4096) z2,
    View.ld_unit_zero (S := S256x1024) z2, View.ld_unit_zero (S := S4096x1024) z2, View.ld_unit_zero (S := S1x1024) z2]

theorem later_act (h : ¬ cond0_0 i) (h' : ¬ cond0_1 i) : out0_B_5 (F := Ideal) c i a1 w1 a2 w2 a3 w3 a4 w4 a5 w5 a6 w6 a7 w7 a8 w8 a9 w9 a10 w10 h h' x0 x1 x2 x3 x4 xo xs = k0_pay8 x0 := by
  unfold out0_B_5
  rw [View.read_writes_eq_canon _ _ _ (cover0_B_5 c i a1 w1 a2 w2 a3 w3 a4 w4 a5 w5 a6 w6 a7 w7 a8 w8 a9 w9 a10 w10 h h' x0 x1 x2 x3 x4 xo xs)]
  unfold kernelRun0_B
  dsimp only
  try sl_unfold_words
  rw [View.canon_unit_zero z2]
  simp only [View.readAt_eq_ld, w1.read_unread, w2.read_unread, w3.read_unread, w4.read_unread, w5.read_unread, View.ld_unit_zero (S := S256x4096) z2,
    View.ld_unit_zero (S := S256x1024) z2, View.ld_unit_zero (S := S4096x1024) z2, View.ld_unit_zero (S := S1x1024) z2]

theorem later_rows (h : ¬ cond0_0 i) (h' : ¬ cond0_1 i) : out0_B_6 (F := Ideal) c i a1 w1 a2 w2 a3 w3 a4 w4 a5 w5 a6 w6 a7 w7 a8 w8 a9 w9 a10 w10 h h' x0 x1 x2 x3 x4 xo xs = rows x0 x1 x2 x3 x4 := by
  unfold out0_B_6
  rw [View.read_writes_eq_canon _ _ _ (cover0_B_6 c i a1 w1 a2 w2 a3 w3 a4 w4 a5 w5 a6 w6 a7 w7 a8 w8 a9 w9 a10 w10 h h' x0 x1 x2 x3 x4 xo xs)]
  unfold kernelRun0_B
  dsimp only
  try sl_unfold_words
  rw [View.canon_unit_zero z2]
  simp only [View.readAt_eq_ld, w1.read_unread, w2.read_unread, w3.read_unread, w4.read_unread, w5.read_unread, View.ld_unit_zero (S := S256x4096) z2,
    View.ld_unit_zero (S := S256x1024) z2, View.ld_unit_zero (S := S4096x1024) z2, View.ld_unit_zero (S := S1x1024) z2]

theorem last_act (h : ¬ cond0_0 i) (h' : cond0_1 i) : out0_C_5 (F := Ideal) c i a1 w1 a2 w2 a3 w3 a4 w4 a5 w5 a6 w6 a7 w7 a8 w8 a9 w9 a10 w10 h h' x0 x1 x2 x3 x4 xo xs = k0_pay8 x0 := by
  unfold out0_C_5
  rw [View.read_writes_eq_canon _ _ _ (cover0_C_5 c i a1 w1 a2 w2 a3 w3 a4 w4 a5 w5 a6 w6 a7 w7 a8 w8 a9 w9 a10 w10 h h' x0 x1 x2 x3 x4 xo xs)]
  unfold kernelRun0_C
  dsimp only
  try sl_unfold_words
  rw [View.canon_unit_zero z2]
  simp only [View.readAt_eq_ld, w1.read_unread, w2.read_unread, w3.read_unread, w4.read_unread, w5.read_unread, View.ld_unit_zero (S := S256x4096) z2,
    View.ld_unit_zero (S := S256x1024) z2, View.ld_unit_zero (S := S4096x1024) z2, View.ld_unit_zero (S := S1x1024) z2]

theorem last_rows (h : ¬ cond0_0 i) (h' : cond0_1 i) : out0_C_6 (F := Ideal) c i a1 w1 a2 w2 a3 w3 a4 w4 a5 w5 a6 w6 a7 w7 a8 w8 a9 w9 a10 w10 h h' x0 x1 x2 x3 x4 xo xs = rows x0 x1 x2 x3 x4 := by
  unfold out0_C_6
  rw [View.read_writes_eq_canon _ _ _ (cover0_C_6 c i a1 w1 a2 w2 a3 w3 a4 w4 a5 w5 a6 w6 a7 w7 a8 w8 a9 w9 a10 w10 h h' x0 x1 x2 x3 x4 xo xs)]
  unfold kernelRun0_C
  dsimp only
  try sl_unfold_words
  rw [View.canon_unit_zero z2]
  simp only [View.readAt_eq_ld, w1.read_unread, w2.read_unread, w3.read_unread, w4.read_unread, w5.read_unread, View.ld_unit_zero (S := S256x4096) z2,
    View.ld_unit_zero (S := S256x1024) z2, View.ld_unit_zero (S := S4096x1024) z2, View.ld_unit_zero (S := S1x1024) z2]

end Outs

/-! ## The arrays -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

variable (m : (ℓ : Loc nD τ sig) → Buf (Elt Ideal) ℓ) (c : Dev nD)

/-- The arguments, named. -/
abbrev A0 : FVec Ideal S8192x4096 .f32 := m ((c : Thread nD τ).loc main_arg0)
abbrev A1 : FVec Ideal S8192x1024 .f32 := m ((c : Thread nD τ).loc main_arg1)
abbrev A2 : FVec Ideal S8192x1024 .f32 := m ((c : Thread nD τ).loc main_arg2)
abbrev A3 : FVec Ideal S4096x1024 .bf16 := m ((c : Thread nD τ).loc main_arg3)
abbrev A4 : FVec Ideal S1x1024 .f32 := m ((c : Thread nD τ).loc main_arg4)

theorem iblk0_at (t : Fin cfg0.N) (r : Fin 256) (k : Fin 4096) : iblk m c 0 t (ix2 r k) = A0 m c (ix2 (tileRow t r) k) := by
  refine Eq.trans ?_ (congrFun (V_main_arg0 m c) (ix2 (tileRow t r) k))
  refine congrArg (V m c main_arg0) (ext2 _ (tileRow t r) k ?_ ?_) <;> blk_simp [idx0] <;> simp [tileRow, Nat.mul_comm]

theorem iblk1_at (t : Fin cfg0.N) (r : Fin 256) (k : Fin 1024) : iblk m c 1 t (ix2 r k) = A1 m c (ix2 (tileRow t r) k) := by
  refine Eq.trans ?_ (congrFun (V_main_arg1 m c) (ix2 (tileRow t r) k))
  refine congrArg (V m c main_arg1) (ext2 _ (tileRow t r) k ?_ ?_) <;> blk_simp [idx1] <;> simp [tileRow, Nat.mul_comm]

theorem iblk2_at (t : Fin cfg0.N) (r : Fin 256) (k : Fin 1024) : iblk m c 2 t (ix2 r k) = A2 m c (ix2 (tileRow t r) k) := by
  refine Eq.trans ?_ (congrFun (V_main_arg2 m c) (ix2 (tileRow t r) k))
  refine congrArg (V m c main_arg2) (ext2 _ (tileRow t r) k ?_ ?_) <;> blk_simp [idx2] <;> simp [tileRow, Nat.mul_comm]

theorem iblk3_at (t : Fin cfg0.N) (k : Fin 4096) (d : Fin 1024) : iblk m c 3 t (ix2 k d) = A3 m c (ix2 k d) := by
  refine Eq.trans ?_ (congrFun (V_main_arg3 m c) (ix2 k d))
  refine congrArg (V m c main_arg3) (ext2 _ k d ?_ ?_) <;> blk_simp [idx3] <;> simp

theorem iblk4_at (t : Fin cfg0.N) (k : Fin 1024) : iblk m c 4 t (ix2 (0 : Fin 1) k) = A4 m c (ix2 0 k) := by
  refine Eq.trans ?_ (congrFun (V_main_arg4 m c) (ix2 0 k))
  refine congrArg (V m c main_arg4) (ext2 _ 0 k ?_ ?_) <;> blk_simp [idx4] <;> simp

theorem hh_blk (t : Fin cfg0.N) (r : Fin 256) (d : Fin 1024) : hh (iblk m c 0 t) (iblk m c 1 t) (iblk m c 3 t) r d
    = hh (A0 m c) (A1 m c) (A3 m c) (tileRow t r) d :=
  congrArg₂ (fun a b : EReal => a + b) (iblk1_at m c t r d)
    (Finset.sum_congr rfl fun k _ => congrArg₂ (fun a b : EReal => act a * b) (iblk0_at m c t r k) (iblk3_at m c t k d))

theorem hrow_blk (t : Fin cfg0.N) (r : Fin 256) : hh (iblk m c 0 t) (iblk m c 1 t) (iblk m c 3 t) r = hh (A0 m c) (A1 m c) (A3 m c) (tileRow t r) :=
  funext fun d => hh_blk m c t r d

theorem er_blk (t : Fin cfg0.N) (r : Fin 256) (d : Fin 1024) : er (iblk m c 0 t) (iblk m c 1 t) (iblk m c 2 t) (iblk m c 3 t) (iblk m c 4 t) r d
    = er (A0 m c) (A1 m c) (A2 m c) (A3 m c) (A4 m c) (tileRow t r) d :=
  congrArg₂ (fun a b : EReal => a - b) (congrArg₂ (fun a b : EReal => a * b) (congrArg₂ (fun a b : EReal => a * b) (hh_blk m c t r d)
    (congrArg rs (hrow_blk m c t r))) (iblk4_at m c t d)) (iblk2_at m c t r d)

theorem dh_blk (t : Fin cfg0.N) (r : Fin 256) (d : Fin 1024) : dh (iblk m c 0 t) (iblk m c 1 t) (iblk m c 2 t) (iblk m c 3 t) (iblk m c 4 t) r d
    = dh (A0 m c) (A1 m c) (A2 m c) (A3 m c) (A4 m c) (tileRow t r) d :=
  congrArg₂ (fun x f => back x f d) (hrow_blk m c t r)
    (funext fun k => congrArg₂ (fun a b : EReal => a * share * b) (er_blk m c t r k) (iblk4_at m c t k))

theorem act_eq (t : Fin cfg0.N) : (outsAt0 m c t.val t.isLt).1 = k0_pay8 (iblk m c 0 t) := by
  by_cases h : t.val % 32 = 0
  · rw [outsAt0_A m c t h (by omega)]; dsimp only; rw [first_act]
  · by_cases h' : t.val % 32 = 31
    · rw [outsAt0_C m c t h h']; dsimp only; rw [last_act]
    · rw [outsAt0_B m c t h h']; dsimp only; rw [later_act]

theorem rows_eq (t : Fin cfg0.N) : (outsAt0 m c t.val t.isLt).2.1 = rows (iblk m c 0 t) (iblk m c 1 t) (iblk m c 2 t) (iblk m c 3 t) (iblk m c 4 t) := by
  by_cases h : t.val % 32 = 0
  · rw [outsAt0_A m c t h (by omega)]; dsimp only; rw [first_rows]
  · by_cases h' : t.val % 32 = 31
    · rw [outsAt0_C m c t h h']; dsimp only; rw [last_rows]
    · rw [outsAt0_B m c t h h']; dsimp only; rw [later_rows]

theorem arr5_at (i : Fin 8192) (k : Fin 4096) : (dats m 0 c).arrAt 5 cfg0.N (ix2 i k) = act (A0 m c (ix2 i k)) := by
  refine (dats m 0 c).arrAt_forall_of_covers 5 (fun i v => v = act (A0 m c (ix2 (i 0) (i 1)))) (by decide +kernel) (fun t hf y => ?_) (ix2 i k)
  have hy : y = ix2 (y 0) (y 1) := ext2 _ (y 0) (y 1) rfl rfl
  have hemb : ((cfg0.win 5).blk t).view.emb y = ix2 (tileRow t (y 0)) (y 1) := by
    refine ext2 _ (tileRow t (y 0)) (y 1) ?_ ?_ <;> blk_simp [idx5] <;> simp [tileRow, Nat.mul_comm]
  rw [hemb]
  have ha := (after0_5 m c t).trans (act_eq m c t)
  exact (congrFun ha y).trans ((congrArg _ hy).trans ((pay8_at _ (y 0) (y 1)).trans (congrArg act (iblk0_at m c t (y 0) (y 1)))))

theorem arr6_at (i : Fin 8192) (d : Fin 1024) : (dats m 0 c).arrAt 6 cfg0.N (ix2 i d) = dh (A0 m c) (A1 m c) (A2 m c) (A3 m c) (A4 m c) i d := by
  refine (dats m 0 c).arrAt_forall_of_covers 6 (fun i v => v = dh (A0 m c) (A1 m c) (A2 m c) (A3 m c) (A4 m c) (i 0) (i 1)) (by decide +kernel) (fun t hf y => ?_) (ix2 i d)
  have hy : y = ix2 (y 0) (y 1) := ext2 _ (y 0) (y 1) rfl rfl
  have hemb : ((cfg0.win 6).blk t).view.emb y = ix2 (tileRow t (y 0)) (y 1) := by
    refine ext2 _ (tileRow t (y 0)) (y 1) ?_ ?_ <;> blk_simp [idx6] <;> simp [tileRow, Nat.mul_comm]
  rw [hemb]
  have ha := (after0_6 m c t).trans (rows_eq m c t)
  exact (congrFun ha y).trans ((congrArg _ hy).trans ((rows_at _ _ _ _ _ (y 0) (y 1)).trans (dh_blk m c t (y 0) (y 1))))

/-! ## The reference -/

section Ref
open Cert.Reference13Ideal.Read

/-- The mean's share of a square's cotangent is the kernel's. -/
theorem share_eq (e : EReal) : Ideal.div (Ideal.ofBits .f32 0x3F000000#32 * Ideal.ofBits .f32 0x3F800000#32) kk * (Ideal.ofBits .f32 0x40000000#32 * e) = e * share := by
  have h1 : Ideal.ofBits .f32 0x3F000000#32 = ((1 / 2 : ℝ) : EReal) := by simp [Ideal.ofBits, Ideal.ieee, -EReal.coe_mul]; norm_num
  have h2 : Ideal.ofBits .f32 0x3F800000#32 = ((1 : ℝ) : EReal) := by simp [Ideal.ofBits, Ideal.ieee, -EReal.coe_mul]; norm_num
  have h3 : Ideal.ofBits .f32 0x40000000#32 = ((2 : ℝ) : EReal) := by simp [Ideal.ofBits, Ideal.ieee, -EReal.coe_mul]; norm_num
  have h4 : share = ((1 / 1024 : ℝ) : EReal) := by unfold share; simp [Ideal.ofBits, Ideal.ieee, -EReal.coe_mul]; norm_num
  rw [div_kk, h1, h2, h3, h4, ← EReal.coe_mul, ← EReal.coe_mul, ← mul_assoc, ← EReal.coe_mul, mul_comm]
  congr 2; norm_num

variable (x0 : FVec Ideal S8192x4096 .f32) (x1 x2 : FVec Ideal S8192x1024 .f32) (x3 : FVec Ideal S4096x1024 .bf16) (x4 : FVec Ideal S1x1024 .f32)

theorem ref_sq (i : Fin 8192) (k : Fin 4096) : val_main_v1 (F := Ideal) x0 (ix2 i k) = act (x0 (ix2 i k)) := by
  rw [val_main_v1_apply, val_main_v0_apply, val_main_call0_v0_apply]; rfl

theorem ref_act (i : Fin 8192) (k : Fin 4096) : val_main_v2 (F := Ideal) x0 (ix2 i k) = act (x0 (ix2 i k)) := by
  rw [val_main_v2_apply, ref_sq]; rfl

theorem ref_hh (i : Fin 8192) (d : Fin 1024) : val_main_v5 (F := Ideal) x0 x1 x3 (ix2 i d) = hh x0 x1 x3 i d := by
  rw [val_main_v5_apply]
  refine congrArg (fun z : EReal => x1 (ix2 i d) + z) ?_
  refine (val_main_v4_apply x0 x3 (ix2 i d)).trans (Finset.sum_congr rfl fun k _ => ?_)
  have el : lidx_main_v4 (ix2 i d) k = ix2 i k := ext2 _ i k rfl rfl
  have er : ridx_main_v4 (ix2 i d) k = ix2 k d := ext2 _ k d rfl rfl
  rw [el, er, ref_sq, val_main_v3_apply]; rfl

theorem ref_ms (i : Fin 8192) : val_main_v12 (F := Ideal) x0 x1 x3 (ix2 i 0) = ms (hh x0 x1 x3 i) := by
  have hsum : val_main_v7 (F := Ideal) x0 x1 x3 (ix1 i) = ∑ k : Fin 1024, hh x0 x1 x3 i k * hh x0 x1 x3 i k := by
    refine (val_main_v7_apply x0 x1 x3 (ix1 i)).trans ((congrArg₂ (fun a b : EReal => a + b) Ideal.ofBits_zero_f32 ?_).trans (zero_add _))
    refine Finset.sum_congr rfl fun k _ => ?_
    have e : idx_main_v7 (ix1 i) k = ix2 i k := ext2 _ i k rfl rfl
    rw [e, val_main_v6_apply, ref_hh]; rfl
  have e8 : idx_main_v8 (ix2 i 0) = ix1 i := funext fun a => match a with | ⟨0, _⟩ => rfl
  have hm : val_main_v8 (F := Ideal) x0 x1 x3 (ix2 i 0) = ∑ k : Fin 1024, hh x0 x1 x3 i k * hh x0 x1 x3 i k := by
    rw [val_main_v8_apply, e8, hsum]
  rw [val_main_v12_apply, val_main_v10_apply, hm, val_main_v9_apply, val_main_v11_apply]
  rfl

theorem ref_rs (i : Fin 8192) : val_main_v13 (F := Ideal) x0 x1 x3 (ix2 i 0) = rs (hh x0 x1 x3 i) := by
  rw [val_main_v13_apply, ref_ms]; rfl

theorem ref_slope (i : Fin 8192) : val_main_v16 (F := Ideal) x0 x1 x3 (ix2 i 0) = half * Ideal.div (rs (hh x0 x1 x3 i)) (ms (hh x0 x1 x3 i)) := by
  rw [val_main_v16_apply, val_main_v15_apply, val_main_v14_apply, ref_rs, ref_ms]; rfl

theorem ref_er (i : Fin 8192) (d : Fin 1024) : val_main_v21 (F := Ideal) x0 x1 x2 x3 x4 (ix2 i d) = er x0 x1 x2 x3 x4 i d := by
  have e17 : idx_main_v17 (ix2 i d) = ix2 i 0 := ext2 _ i 0 rfl rfl
  have e19 : idx_main_v19 (ix2 i d) = ix2 0 d := ext2 _ 0 d rfl rfl
  rw [val_main_v21_apply, val_main_v20_apply, val_main_v18_apply, val_main_v17_apply, e17, val_main_v19_apply, e19, ref_hh, ref_rs]; rfl

theorem ref_dy (i : Fin 8192) (d : Fin 1024) : val_main_v35 (F := Ideal) x0 x1 x2 x3 x4 (ix2 i d) = er x0 x1 x2 x3 x4 i d * share := by
  rw [val_main_v35_apply, val_main_v34_apply, val_main_v33_apply, val_main_v31_apply, val_main_v30_apply, val_main_v32_apply, val_main_v24_apply,
    val_main_v23_apply, ref_er]
  exact share_eq _

theorem ref_gdy (i : Fin 8192) (d : Fin 1024) : val_main_v37 (F := Ideal) x0 x1 x2 x3 x4 (ix2 i d) = er x0 x1 x2 x3 x4 i d * share * x4 (ix2 0 d) := by
  have e36 : idx_main_v36 (ix2 i d) = ix2 0 d := ext2 _ 0 d rfl rfl
  rw [val_main_v37_apply, ref_dy, val_main_v36_apply, e36]; rfl

theorem ref_mean (i : Fin 8192) (d : Fin 1024) : val_main_v47 (F := Ideal) x0 x1 x2 x3 x4 (ix2 i d)
    = Ideal.div ((∑ k, hh x0 x1 x3 i k * (er x0 x1 x2 x3 x4 i k * share * x4 (ix2 0 k))) * (half * Ideal.div (rs (hh x0 x1 x3 i)) (ms (hh x0 x1 x3 i)))) kk := by
  have h39 : val_main_v39 (F := Ideal) x0 x1 x2 x3 x4 (ix1 i) = ∑ k, hh x0 x1 x3 i k * (er x0 x1 x2 x3 x4 i k * share * x4 (ix2 0 k)) := by
    refine (val_main_v39_apply x0 x1 x2 x3 x4 (ix1 i)).trans ((congrArg₂ (fun a b : EReal => a + b) Ideal.ofBits_zero_f32 ?_).trans (zero_add _))
    refine Finset.sum_congr rfl fun k _ => ?_
    have e : idx_main_v39 (ix1 i) k = ix2 i k := ext2 _ i k rfl rfl
    rw [e, val_main_v38_apply, ref_hh, ref_gdy]; rfl
  have e40 : idx_main_v40 (ix2 i 0) = ix1 i := funext fun a => match a with | ⟨0, _⟩ => Fin.ext (by show i.val * 1 + 0 = i.val; omega)
  have e47 : idx_main_v47 (ix2 i d) = ix1 i := funext fun a => match a with | ⟨0, _⟩ => rfl
  rw [val_main_v47_apply, e47]
  refine (val_main_v46_apply x0 x1 x2 x3 x4 (ix1 i)).trans ((congrArg₂ (fun a b : EReal => a + b) Ideal.ofBits_zero_f32 (Fin.sum_univ_one _)).trans ((zero_add _).trans ?_))
  have e46 : idx_main_v46 (ix1 i) 0 = ix2 i 0 := ext2 _ i 0 rfl rfl
  rw [e46, val_main_v45_apply, val_main_v43_apply, val_main_v40_apply, e40, h39, ref_slope, val_main_v44_apply]
  rfl

theorem ref_rows (i : Fin 8192) (d : Fin 1024) : val_main_v51 (F := Ideal) x0 x1 x2 x3 x4 (ix2 i d) = dh x0 x1 x2 x3 x4 i d := by
  have e41 : idx_main_v41 (ix2 i d) = ix2 i 0 := ext2 _ i 0 rfl rfl
  rw [val_main_v51_apply, val_main_v50_apply, val_main_v49_apply, val_main_v48_apply, val_main_v42_apply, val_main_v41_apply, e41, ref_rs, ref_hh,
    ref_gdy, ref_mean]
  exact back_eq (hh x0 x1 x3 i) (fun k => er x0 x1 x2 x3 x4 i k * share * x4 (ix2 0 k)) d

end Ref

theorem value5 : (dats m 0 c).arrAt 5 cfg0.N = Cert.Reference13Ideal.Read.val_main_v2 (F := Ideal) (A0 m c) := funext fun (i : S8192x4096.Idx) => by
  have e : i = ix2 (i 0) (i 1) := ext2 _ (i 0) (i 1) rfl rfl
  exact (congrArg _ e).trans ((arr5_at m c (i 0) (i 1)).trans ((ref_act _ (i 0) (i 1)).symm.trans (congrArg _ e.symm)))

theorem value6 : (dats m 0 c).arrAt 6 cfg0.N = Cert.Reference13Ideal.Read.val_main_v51 (F := Ideal) (A0 m c) (A1 m c) (A2 m c) (A3 m c) (A4 m c) := funext fun (i : S8192x1024.Idx) => by
  have e : i = ix2 (i 0) (i 1) := ext2 _ (i 0) (i 1) rfl rfl
  exact (congrArg _ e).trans ((arr6_at m c (i 0) (i 1)).trans ((ref_rows _ _ _ _ _ (i 0) (i 1)).symm.trans (congrArg _ e.symm)))

/-! ## The claims -/

theorem ref_run (m' : (ℓ : Loc Cert.Reference13Ideal.nD Cert.Reference13Ideal.τ Cert.Reference13Ideal.sig) → Buf (Elt Ideal) ℓ) (g' : Dev Cert.Reference13Ideal.nD → PrngReg) :
    θ_run (Cert.Reference13Ideal.defs (F := Ideal)) (onTc (τ := Cert.Reference13Ideal.τ) (Cert.Reference13Ideal.main (F := Ideal))) ⟨m', fun _ => 0, g'⟩ (fun r => (∀ c : Dev Cert.Reference13Ideal.nD,
      r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))
      ∧ r.2.sem = fun _ => 0) :=
  (θ_run _ _ _).mono (fun r h => ⟨fun c => (h c).2.2, sem_eq_zero_of_no_sems (by decide) r.2⟩) (Cert.Reference13Ideal.Value.run m' g')

theorem algebraic : Cert.algebraic_Kernel13Ideal_Reference13Ideal := fun m g m' g' _ ha => by
  refine ⟨_, _, (θ_run _ _ _).mono (fun r h c => ⟨(h c).1.trans (value5 m c), (h c).2.1.trans (value6 m c), (h c).2.2.2.2⟩) (run_blocks m g),
    (θ_run _ _ _).mono (fun r h c => ⟨(h c).1.trans ((Cert.Reference13Ideal.Read.val_main_v2_eq _).trans ?_),
      (h c).2.1.trans ((Cert.Reference13Ideal.Read.val_main_v51_eq _ _).trans ?_), (h c).2.2⟩) (Cert.Reference13Ideal.Value.run m' g')⟩
  · obtain ⟨e0, e1, e2, e3, e4⟩ := ha c
    rw [e0]
  · obtain ⟨e0, e1, e2, e3, e4⟩ := ha c
    rw [e0, e1, e2, e3, e4]

end Cert.Proof.MlpDown

end
-- ==== Proof.lean ====
/-
  The proof of the claim: the frames of the backward and the forward pass and of their references, the named constants,
  and the equality of each pass and its reference over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Hand.IdealFrame
public import proofs.«01_k».proof.Proof.Hand.WordFrame
public import proofs.«01_k».proof.Proof.Hand.RefFrame
public import proofs.«01_k».proof.Proof.Hand.Finite
public import proofs.«01_k».proof.Proof.Hand.Value
public import proofs.«01_k».proof.Proof.Hand.FwdFrame
public import proofs.«01_k».proof.Proof.Hand.WordFwdFrame
public import proofs.«01_k».proof.Proof.Hand.Ref2Frame
public import proofs.«01_k».proof.Proof.Hand.Finite2
public import proofs.«01_k».proof.Proof.Hand.FwdClaim
public import proofs.«01_k».proof.Proof.Hand.MlpAct
public import proofs.«01_k».proof.Proof.Hand.GradDown
public import proofs.«01_k».proof.Proof.Hand.GradUp
public import proofs.«01_k».proof.Proof.Hand.MlpUp
public import proofs.«01_k».proof.Proof.Hand.GradIn
public import proofs.«01_k».proof.Proof.Hand.GradGates
public import proofs.«01_k».proof.Proof.Hand.GradMla
public import proofs.«01_k».proof.Proof.Hand.MlpIn
public import proofs.«01_k».proof.Proof.Hand.InprojBwd
public import proofs.«01_k».proof.Proof.Hand.MergeOut
public import proofs.«01_k».proof.Proof.Hand.MlpDown

@[expose] public section

noncomputable section

namespace Cert.Proof

open Idealize.ShloMosaic Idealize.SL.Sem

/-- The two named scales stand for their reals. -/
theorem preserves : Cert.preserves_Kernel_KernelIdeal :=
  ⟨IdealRules.named_const.statement Cert.KernelIdeal.κ "scale2" .f32 0x3DD53B95#32 (((Real.sqrt 192)⁻¹ * (Real.log 2)⁻¹ : ℝ) : EReal) rfl,
    IdealRules.named_const.statement Cert.KernelIdeal.κ "scale" .f32 0x3D93CD3A#32 (((Real.sqrt 192)⁻¹ : ℝ) : EReal) rfl⟩

/-- The forward pass's two named constants stand for their reals. -/
theorem preserves_forward : Cert.preserves_Kernel2_Kernel2Ideal :=
  ⟨IdealRules.named_const.statement Cert.Kernel2Ideal.κ "scale2" .f32 0x3DD53B95#32 (((Real.sqrt 192)⁻¹ * (Real.log 2)⁻¹ : ℝ) : EReal) rfl,
    IdealRules.named_const.statement Cert.Kernel2Ideal.κ "log2e" .f32 0x3FB8AA3B#32 (((Real.log 2)⁻¹ : ℝ) : EReal) rfl⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Proof.Finite.facts, Cert.Proof.Finite2.facts,
  fun m ρ _ => Cert.Proof.Kernel.frame m ρ, fun m ρ _ => Cert.Proof.KernelIdeal.frame m ρ, fun m ρ _ => Cert.Proof.KernelIdeal.frame m ρ,
  fun m ρ _ => Cert.Proof.ReferenceIdeal.frame m ρ, fun m ρ _ => Cert.Proof.ReferenceIdeal.frame m ρ,
  fun m ρ _ => Cert.Proof.Kernel2.frame m ρ, fun m ρ _ => Cert.Proof.Kernel2Ideal.frame m ρ, fun m ρ _ => Cert.Proof.Kernel2Ideal.frame m ρ,
  fun m ρ _ => Cert.Proof.Reference2Ideal.frame m ρ, fun m ρ _ => Cert.Proof.Reference2Ideal.frame m ρ,
  fun m ρ _ => Cert.Kernel3.Gen.frame m ρ, fun m ρ _ => Cert.Kernel3Ideal.Gen.frame m ρ, fun m ρ _ => MlpAct.ref_run m ρ,
  fun m ρ _ => Cert.Kernel4.Gen.frame m ρ, fun m ρ _ => Cert.Kernel4Ideal.Gen.frame m ρ, fun m ρ _ => GradDown.ref_run m ρ,
  fun m ρ _ => Cert.Kernel5.Gen.frame m ρ, fun m ρ _ => Cert.Kernel5Ideal.Gen.frame m ρ, fun m ρ _ => GradUp.ref_run m ρ,
  fun m ρ _ => Cert.Kernel6.Gen.frame m ρ, fun m ρ _ => Cert.Kernel6Ideal.Gen.frame m ρ, fun m ρ _ => MlpUp.ref_run m ρ,
  fun m ρ _ => Cert.Kernel7.Gen.frame m ρ, fun m ρ _ => Cert.Kernel7Ideal.Gen.frame m ρ, fun m ρ _ => GradIn.ref_run m ρ,
  fun m ρ _ => Cert.Kernel8.Gen.frame m ρ, fun m ρ _ => Cert.Kernel8Ideal.Gen.frame m ρ, fun m ρ _ => GradGates.ref_run m ρ,
  fun m ρ _ => Cert.Kernel9.Gen.frame m ρ, fun m ρ _ => Cert.Kernel9Ideal.Gen.frame m ρ, fun m ρ _ => GradMla.ref_run m ρ,
  fun m ρ _ => Cert.Kernel10.Gen.frame m ρ, fun m ρ _ => Cert.Kernel10Ideal.Gen.frame m ρ, fun m ρ _ => MlpIn.ref_run m ρ,
  fun m ρ _ => Cert.Kernel11.Gen.frame m ρ, fun m ρ _ => Cert.Kernel11Ideal.Gen.frame m ρ, fun m ρ _ => InprojBwd.ref_run m ρ,
  fun m ρ _ => Cert.Kernel12.Gen.frame m ρ, fun m ρ _ => Cert.Kernel12Ideal.Gen.frame m ρ, fun m ρ _ => MergeOut.ref_run m ρ,
  fun m ρ _ => Cert.Kernel13.Gen.frame m ρ, fun m ρ _ => Cert.Kernel13Ideal.Gen.frame m ρ, fun m ρ _ => MlpDown.ref_run m ρ,
  preserves, algebraic, preserves_forward, algebraic_forward,
  trivial, MlpAct.algebraic, trivial, GradDown.algebraic, trivial, GradUp.algebraic,
  trivial, MlpUp.algebraic, trivial, GradIn.algebraic, trivial, GradGates.algebraic, trivial, GradMla.algebraic,
  trivial, MlpIn.algebraic, trivial, InprojBwd.algebraic, trivial, MergeOut.algebraic, trivial, MlpDown.algebraic⟩

end Cert.Proof

end
